-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  IdealRules.named_const.Statement Cert.Kernel5Ideal.κ "scale" .f32 0x3E38AA3B#32 (((Real.log 256)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v55_0)) (v1 : (c : Dev Cert.Kernel5Ideal.nD) → Buf (Elt Ideal) ((c.tc : Thread Cert.Kernel5Ideal.nD Cert.Kernel5Ideal.τ).loc Cert.Kernel5Ideal.main_v55_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v55_0) = v0 c
          ∧ r.2.mem ((c.tc : Thread Cert.Kernel5Ideal.nD Cert.Kernel5Ideal.τ).loc Cert.Kernel5Ideal.main_v55_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v88) = v0 c
          ∧ r.2.mem ((c.tc : Thread Cert.Reference5Ideal.nD Cert.Reference5Ideal.τ).loc Cert.Reference5Ideal.main_v92) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  IdealRules.named_const.Statement Cert.Kernel6Ideal.κ "scale" .f32 0x3E38AA3B#32 (((Real.log 256)⁻¹ : ℝ) : EReal)
  ∧ IdealRules.named_const.Statement Cert.Kernel6Ideal.κ "latent" .f32 0x3E16C740#32 (((Real.sqrt 96)⁻¹ * (Real.log 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v95_0)) (v1 : (c : Dev Cert.Kernel6Ideal.nD) → Buf (Elt Ideal) ((c.tc : Thread Cert.Kernel6Ideal.nD Cert.Kernel6Ideal.τ).loc Cert.Kernel6Ideal.main_v95_1)) (v2 : (c : Dev Cert.Kernel6Ideal.nD) → Buf (Elt Ideal) ((c.tc : Thread Cert.Kernel6Ideal.nD Cert.Kernel6Ideal.τ).loc Cert.Kernel6Ideal.main_v95_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v95_0) = v0 c
          ∧ r.2.mem ((c.tc : Thread Cert.Kernel6Ideal.nD Cert.Kernel6Ideal.τ).loc Cert.Kernel6Ideal.main_v95_1) = v1 c
          ∧ r.2.mem ((c.tc : Thread Cert.Kernel6Ideal.nD Cert.Kernel6Ideal.τ).loc Cert.Kernel6Ideal.main_v95_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v206) = v0 c
          ∧ r.2.mem ((c.tc : Thread Cert.Reference6Ideal.nD Cert.Reference6Ideal.τ).loc Cert.Reference6Ideal.main_v208) = v1 c
          ∧ r.2.mem ((c.tc : Thread Cert.Reference6Ideal.nD Cert.Reference6Ideal.τ).loc Cert.Reference6Ideal.main_v210) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8x4096x3072 : Shape := ⟨3, ![8, 4096, 3072]⟩
abbrev S8x512x4096 : Shape := ⟨3, ![8, 512, 4096]⟩
abbrev S8x4096x512 : Shape := ⟨3, ![8, 4096, 512]⟩
abbrev S1x2048x256 : Shape := ⟨3, ![1, 2048, 256]⟩
abbrev S1x4096x256 : Shape := ⟨3, ![1, 4096, 256]⟩
abbrev S1x128x4096 : Shape := ⟨3, ![1, 128, 4096]⟩
abbrev S1x2048x128 : Shape := ⟨3, ![1, 2048, 128]⟩
abbrev S2x4096x256 : Shape := ⟨3, ![2, 4096, 256]⟩
abbrev S1x256x128 : Shape := ⟨3, ![1, 256, 128]⟩
abbrev S256x128 : Shape := ⟨2, ![256, 128]⟩
abbrev S8x256 : Shape := ⟨2, ![8, 256]⟩
abbrev S1x1024x128 : Shape := ⟨3, ![1, 1024, 128]⟩
abbrev S1024x128 : Shape := ⟨2, ![1024, 128]⟩
abbrev S1024x256 : Shape := ⟨2, ![1024, 256]⟩
abbrev S1x1024x256 : Shape := ⟨3, ![1, 1024, 256]⟩
abbrev S128x8x256 : Shape := ⟨3, ![128, 8, 256]⟩
abbrev S256 : Shape := ⟨1, ![256]⟩
abbrev S1x256 : Shape := ⟨2, ![1, 256]⟩
abbrev S1x64x4096 : Shape := ⟨3, ![1, 64, 4096]⟩
abbrev S64x4096 : Shape := ⟨2, ![64, 4096]⟩
abbrev S4096x256 : Shape := ⟨2, ![4096, 256]⟩
abbrev S64x256 : Shape := ⟨2, ![64, 256]⟩
abbrev S128x256 : Shape := ⟨2, ![128, 256]⟩

abbrev nBuf : Space → Nat
  | .hbm => 3
  | .vmem => 10
  | .smem => 0
  | _ => 0

abbrev bufTy : (tb : Table) → Fin (tcTables nBuf tb) → BufTy
  | .hbm, ⟨0, _⟩ => ⟨S8x4096x3072, .bf16⟩
  | .hbm, ⟨1, _⟩ => ⟨S8x512x4096, .bf16⟩
  | .hbm, ⟨2, _⟩ => ⟨S8x4096x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x2048x128, .bf16⟩
  | .local _ .vmem, ⟨7, _⟩ => ⟨S1x2048x128, .bf16⟩
  | .local _ .vmem, ⟨8, _⟩ => ⟨S2x4096x256, .f32⟩
  | .local _ .vmem, ⟨9, _⟩ => ⟨S2x4096x256, .bf16⟩
  | _, _ => ⟨S8x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x3072 : Shape := ⟨3, ![8, 4096, 3072]⟩
abbrev S8x512x4096 : Shape := ⟨3, ![8, 512, 4096]⟩
abbrev S8x4096x1024 : Shape := ⟨3, ![8, 4096, 1024]⟩
abbrev S8x4096x8x128 : Shape := ⟨4, ![8, 4096, 8, 128]⟩
abbrev S8x8x64x4096 : Shape := ⟨4, ![8, 8, 64, 4096]⟩
abbrev S8x8x4096x4096 : Shape := ⟨4, ![8, 8, 4096, 4096]⟩
abbrev S_ : Shape := ⟨0, ![]⟩
abbrev S8x8x4096 : Shape := ⟨3, ![8, 8, 4096]⟩
abbrev S8x8x4096x1 : Shape := ⟨4, ![8, 8, 4096, 1]⟩
abbrev S8x8x4096x64 : Shape := ⟨4, ![8, 8, 4096, 64]⟩
abbrev S8x4096x8x64 : Shape := ⟨4, ![8, 4096, 8, 64]⟩
abbrev S8x4096x512 : Shape := ⟨3, ![8, 4096, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x3072, .bf16⟩
  | .hbm, ⟨1, _⟩ => ⟨S8x512x4096, .bf16⟩
  | .hbm, ⟨2, _⟩ => ⟨S8x4096x1024, .bf16⟩
  | .hbm, ⟨3, _⟩ => ⟨S8x4096x1024, .f32⟩
  | .hbm, ⟨4, _⟩ => ⟨S8x4096x8x128, .f32⟩
  | .hbm, ⟨5, _⟩ => ⟨S8x4096x1024, .bf16⟩
  | .hbm, ⟨6, _⟩ => ⟨S8x4096x1024, .f32⟩
  | .hbm, ⟨7, _⟩ => ⟨S8x4096x8x128, .f32⟩
  | .hbm, ⟨8, _⟩ => ⟨S8x512x4096, .f32⟩
  | .hbm, ⟨9, _⟩ => ⟨S8x8x64x4096, .f32⟩
  | .hbm, ⟨10, _⟩ => ⟨S8x8x4096x4096, .f32⟩
  | .hbm, ⟨11, _⟩ => ⟨S_, .f32⟩
  | .hbm, ⟨12, _⟩ => ⟨S_, .f32⟩
  | .hbm, ⟨13, _⟩ => ⟨S8x8x4096x4096, .f32⟩
  | .hbm, ⟨14, _⟩ => ⟨S8x8x4096x4096, .f32⟩
  | .hbm, ⟨15, _⟩ => ⟨S_, .f32⟩
  | .hbm, ⟨16, _⟩ => ⟨S8x8x4096, .f32⟩
  | .hbm, ⟨17, _⟩ => ⟨S8x8x4096x1, .f32⟩
  | .hbm, ⟨18, _⟩ => ⟨S8x8x4096x4096, .f32⟩
  | .hbm, ⟨19, _⟩ => ⟨S8x8x4096x4096, .f32⟩
  | .hbm, ⟨20, _⟩ => ⟨S8x8x4096x4096, .f32⟩
  | .hbm, ⟨21, _⟩ => ⟨S8x8x4096x64, .f32⟩
  | .hbm, ⟨22, _⟩ => ⟨S_, .f32⟩
  | .hbm, ⟨23, _⟩ => ⟨S8x8x4096, .f32⟩
  | .hbm, ⟨24, _⟩ => ⟨S8x8x4096x1, .f32⟩
  | .hbm, ⟨25, _⟩ => ⟨S8x8x4096x64, .f32⟩
  | .hbm, ⟨26, _⟩ => ⟨S8x8x4096x64, .f32⟩
  | .hbm, ⟨27, _⟩ => ⟨S8x4096x8x64, .f32⟩
  | .hbm, ⟨28, _⟩ => ⟨S8x4096x512, .f32⟩
  | .hbm, ⟨29, _⟩ => ⟨S8x4096x512, .bf16⟩
  | _, _ => ⟨S8x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024 : Shape := ⟨2, ![1, 1024]⟩
abbrev S1x1024x1024 : Shape := ⟨3, ![1, 1024, 1024]⟩
abbrev S1024x1024 : Shape := ⟨2, ![1024, 1024]⟩
abbrev S512x1024 : Shape := ⟨2, ![512, 1024]⟩
abbrev S1024x512 : Shape := ⟨2, ![1024, 512]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x2816 : Shape := ⟨2, ![512, 2816]⟩
abbrev S2816x1024 : Shape := ⟨2, ![2816, 1024]⟩

abbrev nBuf : Space → Nat
  | .hbm => 22
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S2x1024x1024, .f32⟩
  | .hbm, ⟨4, _⟩ => ⟨S4x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S4x1024x2816, .bf16⟩
  | .hbm, ⟨13, _⟩ => ⟨S4x1024x2816, .bf16⟩
  | .hbm, ⟨14, _⟩ => ⟨S4x2816x1024, .bf16⟩
  | .hbm, ⟨15, _⟩ => ⟨S1x1024, .f32⟩
  | .hbm, ⟨16, _⟩ => ⟨S1x1024x1024, .f32⟩
  | .hbm, ⟨17, _⟩ => ⟨S1024x1024, .f32⟩
  | .hbm, ⟨18, _⟩ => ⟨S1024x1024, .bf16⟩
  | .hbm, ⟨19, _⟩ => ⟨S512x1024, .bf16⟩
  | .hbm, ⟨20, _⟩ => ⟨S512x1024, .bf16⟩
  | .hbm, ⟨21, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024x2816, .bf16⟩
  | .local _ .vmem, ⟨10, _⟩ => ⟨S1x1024x2816, .bf16⟩
  | .local _ .vmem, ⟨11, _⟩ => ⟨S1x2816x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S32768x1024 : Shape := ⟨2, ![32768, 1024]⟩
abbrev S32768x512 : Shape := ⟨2, ![32768, 512]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩

abbrev nBuf : Space → Nat
  | .hbm => 73
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S2x1024x1024, .f32⟩
  | .hbm, ⟨4, _⟩ => ⟨S4x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024, .f32⟩
  | .hbm, ⟨9, _⟩ => ⟨S32768x512, .f32⟩
  | .hbm, ⟨10, _⟩ => ⟨S32768x512, .f32⟩
  | .hbm, ⟨11, _⟩ => ⟨S32768x1024, .f32⟩
  | .hbm, ⟨12, _⟩ => ⟨S1x1024x1024, .f32⟩
  | .hbm, ⟨13, _⟩ => ⟨S1024x1024, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S1024, .f32⟩
  | .hbm, ⟨18, _⟩ => ⟨S32768x1024, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S1x1024, .f32⟩
  | .hbm, ⟨32, _⟩ => ⟨S32768x1024, .f32⟩
  | .hbm, ⟨33, _⟩ => ⟨S32768x1024, .f32⟩
  | .hbm, ⟨34, _⟩ => ⟨S1x1024x2816, .f32⟩
  | .hbm, ⟨35, _⟩ => ⟨S1024x2816, .f32⟩
  | .hbm, ⟨36, _⟩ => ⟨S1x1024x2816, .f32⟩
  | .hbm, ⟨37, _⟩ => ⟨S1024x2816, .f32⟩
  | .hbm, ⟨38, _⟩ => ⟨S1x2816x1024, .f32⟩
  | .hbm, ⟨39, _⟩ => ⟨S2816x1024, .f32⟩
  | .hbm, ⟨40, _⟩ => ⟨S32768x2816, .f32⟩
  | .hbm, ⟨41, _⟩ => ⟨S32768x2816, .f32⟩
  | .hbm, ⟨42, _⟩ => ⟨S32768x2816, .f32⟩
  | .hbm, ⟨43, _⟩ => ⟨S_, .f32⟩
  | .hbm, ⟨44, _⟩ => ⟨S32768x2816, .f32⟩
  | .hbm, ⟨45, _⟩ => ⟨S32768x2816, .f32⟩
  | .hbm, ⟨46, _⟩ => ⟨S_, .f32⟩
  | .hbm, ⟨47, _⟩ => ⟨S32768x2816, .f32⟩
  | .hbm, ⟨48, _⟩ => ⟨S32768x2816, .f32⟩
  | .hbm, ⟨49, _⟩ => ⟨S32768x2816, .f32⟩
  | .hbm, ⟨50, _⟩ => ⟨S32768x2816, .f32⟩
  | .hbm, ⟨51, _⟩ => ⟨S32768x2816, .f32⟩
  | .hbm, ⟨52, _⟩ => ⟨S32768x1024, .f32⟩
  | .hbm, ⟨53, _⟩ => ⟨S_, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S32768, .f32⟩
  | .hbm, ⟨60, _⟩ => ⟨S32768x1, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S_, .f32⟩
  | .hbm, ⟨65, _⟩ => ⟨S32768x1, .f32⟩
  | .hbm, ⟨66, _⟩ => ⟨S32768x1, .f32⟩
  | .hbm, ⟨67, _⟩ => ⟨S32768x1, .f32⟩
  | .hbm, ⟨68, _⟩ => ⟨S32768x1024, .f32⟩
  | .hbm, ⟨69, _⟩ => ⟨S32768x1024, .f32⟩
  | .hbm, ⟨70, _⟩ => ⟨S1x1024, .f32⟩
  | .hbm, ⟨71, _⟩ => ⟨S32768x1024, .f32⟩
  | .hbm, ⟨72, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_2 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_3 : Ref sig .tc := ⟨.hbm, 58, rfl⟩
abbrev main_v37 : Ref sig .tc := ⟨.hbm, 59, rfl⟩
abbrev main_v38 : Ref sig .tc := ⟨.hbm, 60, rfl⟩
abbrev main_cst_4 : Ref sig .tc := ⟨.hbm, 61, rfl⟩
abbrev main_v39 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== Kernel3.lean ====
abbrev S8x4096x1024 : Shape := ⟨3, ![8, 4096, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S32768x1024 : Shape := ⟨2, ![32768, 1024]⟩
abbrev S1x1024 : Shape := ⟨2, ![1, 1024]⟩
abbrev S1024x1024 : Shape := ⟨2, ![1024, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x2816 : Shape := ⟨2, ![512, 2816]⟩
abbrev S2816x1024 : Shape := ⟨2, ![2816, 1024]⟩

abbrev nBuf : Space → Nat
  | .hbm => 15
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S32768x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S4x1024x2816, .bf16⟩
  | .hbm, ⟨11, _⟩ => ⟨S4x1024x2816, .bf16⟩
  | .hbm, ⟨12, _⟩ => ⟨S4x2816x1024, .bf16⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x4096x1024 : Shape := ⟨3, ![8, 4096, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x4096x2816 : Shape := ⟨3, ![8, 4096, 2816]⟩
abbrev S32768x1024 : Shape := ⟨2, ![32768, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S_, .f32⟩
  | .hbm, ⟨34, _⟩ => ⟨S8x4096x2816, .f32⟩
  | .hbm, ⟨35, _⟩ => ⟨S8x4096x2816, .f32⟩
  | .hbm, ⟨36, _⟩ => ⟨S_, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S8x4096x2816, .f32⟩
  | .hbm, ⟨42, _⟩ => ⟨S8x4096x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== Kernel4.lean ====
abbrev S32768x1024 : Shape := ⟨2, ![32768, 1024]⟩
abbrev S32768x512 : Shape := ⟨2, ![32768, 512]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024 : Shape := ⟨2, ![1, 1024]⟩
abbrev S1x1024x1024 : Shape := ⟨3, ![1, 1024, 1024]⟩
abbrev S1024x1024 : Shape := ⟨2, ![1024, 1024]⟩
abbrev S512x1024 : Shape := ⟨2, ![512, 1024]⟩
abbrev S1024x512 : Shape := ⟨2, ![1024, 512]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S512x2816 : Shape := ⟨2, ![512, 2816]⟩
abbrev S2816x1024 : Shape := ⟨2, ![2816, 1024]⟩

abbrev nBuf : Space → Nat
  | .hbm => 22
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S2x1024x1024, .f32⟩
  | .hbm, ⟨4, _⟩ => ⟨S4x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S4x1024x2816, .bf16⟩
  | .hbm, ⟨13, _⟩ => ⟨S4x1024x2816, .bf16⟩
  | .hbm, ⟨14, _⟩ => ⟨S4x2816x1024, .bf16⟩
  | .hbm, ⟨15, _⟩ => ⟨S1x1024, .f32⟩
  | .hbm, ⟨16, _⟩ => ⟨S1x1024x1024, .f32⟩
  | .hbm, ⟨17, _⟩ => ⟨S1024x1024, .f32⟩
  | .hbm, ⟨18, _⟩ => ⟨S1024x1024, .bf16⟩
  | .hbm, ⟨19, _⟩ => ⟨S512x1024, .bf16⟩
  | .hbm, ⟨20, _⟩ => ⟨S512x1024, .bf16⟩
  | .hbm, ⟨21, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024x2816, .bf16⟩
  | .local _ .vmem, ⟨10, _⟩ => ⟨S1x1024x2816, .bf16⟩
  | .local _ .vmem, ⟨11, _⟩ => ⟨S1x2816x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S32768x1024 : Shape := ⟨2, ![32768, 1024]⟩
abbrev S32768x512 : Shape := ⟨2, ![32768, 512]⟩
abbrev S2x1024x1024 : Shape := ⟨3, ![2, 1024, 1024]⟩
abbrev S4x1024 : Shape := ⟨2, ![4, 1024]⟩
abbrev S4x1024x2816 : Shape := ⟨3, ![4, 1024, 2816]⟩
abbrev S4x2816x1024 : Shape := ⟨3, ![4, 2816, 1024]⟩
abbrev S1024 : Shape := ⟨1, ![1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S32768x2816 : Shape := ⟨2, ![32768, 2816]⟩

abbrev nBuf : Space → Nat
  | .hbm => 57
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S2x1024x1024, .f32⟩
  | .hbm, ⟨4, _⟩ => ⟨S4x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024, .f32⟩
  | .hbm, ⟨9, _⟩ => ⟨S32768x512, .f32⟩
  | .hbm, ⟨10, _⟩ => ⟨S32768x512, .f32⟩
  | .hbm, ⟨11, _⟩ => ⟨S32768x1024, .f32⟩
  | .hbm, ⟨12, _⟩ => ⟨S1x1024x1024, .f32⟩
  | .hbm, ⟨13, _⟩ => ⟨S1024x1024, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S1024, .f32⟩
  | .hbm, ⟨18, _⟩ => ⟨S32768x1024, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S1x1024, .f32⟩
  | .hbm, ⟨32, _⟩ => ⟨S32768x1024, .f32⟩
  | .hbm, ⟨33, _⟩ => ⟨S32768x1024, .f32⟩
  | .hbm, ⟨34, _⟩ => ⟨S1x1024x2816, .f32⟩
  | .hbm, ⟨35, _⟩ => ⟨S1024x2816, .f32⟩
  | .hbm, ⟨36, _⟩ => ⟨S1x1024x2816, .f32⟩
  | .hbm, ⟨37, _⟩ => ⟨S1024x2816, .f32⟩
  | .hbm, ⟨38, _⟩ => ⟨S1x2816x1024, .f32⟩
  | .hbm, ⟨39, _⟩ => ⟨S2816x1024, .f32⟩
  | .hbm, ⟨40, _⟩ => ⟨S32768x2816, .f32⟩
  | .hbm, ⟨41, _⟩ => ⟨S32768x2816, .f32⟩
  | .hbm, ⟨42, _⟩ => ⟨S32768x2816, .f32⟩
  | .hbm, ⟨43, _⟩ => ⟨S_, .f32⟩
  | .hbm, ⟨44, _⟩ => ⟨S32768x2816, .f32⟩
  | .hbm, ⟨45, _⟩ => ⟨S32768x2816, .f32⟩
  | .hbm, ⟨46, _⟩ => ⟨S_, .f32⟩
  | .hbm, ⟨47, _⟩ => ⟨S32768x2816, .f32⟩
  | .hbm, ⟨48, _⟩ => ⟨S32768x2816, .f32⟩
  | .hbm, ⟨49, _⟩ => ⟨S32768x2816, .f32⟩
  | .hbm, ⟨50, _⟩ => ⟨S32768x2816, .f32⟩
  | .hbm, ⟨51, _⟩ => ⟨S32768x2816, .f32⟩
  | .hbm, ⟨52, _⟩ => ⟨S32768x1024, .f32⟩
  | .hbm, ⟨53, _⟩ => ⟨S_, .f32⟩
  | .hbm, ⟨54, _⟩ => ⟨S32768x1024, .f32⟩
  | .hbm, ⟨55, _⟩ => ⟨S32768x1024, .f32⟩
  | .hbm, ⟨56, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_2 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== Kernel5.lean ====
abbrev S32768x1024 : Shape := ⟨2, ![32768, 1024]⟩
abbrev S4x1024 : Shape := ⟨2, ![4, 1024]⟩
abbrev S2x1024x3072 : Shape := ⟨3, ![2, 1024, 3072]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16 : Shape := ⟨1, ![16]⟩
abbrev S1x16 : Shape := ⟨2, ![1, 16]⟩
abbrev S4096x16 : Shape := ⟨2, ![4096, 16]⟩
abbrev S1x1024 : Shape := ⟨2, ![1, 1024]⟩
abbrev S1024 : Shape := ⟨1, ![1024]⟩
abbrev S1x1024x3072 : Shape := ⟨3, ![1, 1024, 3072]⟩
abbrev S1024x3072 : Shape := ⟨2, ![1024, 3072]⟩
abbrev S32768x1536 : Shape := ⟨2, ![32768, 1536]⟩
abbrev S1024x1024 : Shape := ⟨2, ![1024, 1024]⟩
abbrev S1024x128 : Shape := ⟨2, ![1024, 128]⟩
abbrev S1024x1536 : Shape := ⟨2, ![1024, 1536]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1024x256 : Shape := ⟨2, ![1024, 256]⟩
abbrev S512x256 : Shape := ⟨2, ![512, 256]⟩
abbrev S512x1536 : Shape := ⟨2, ![512, 1536]⟩

abbrev nBuf : Space → Nat
  | .hbm => 72
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S4x1024, .f32⟩
  | .hbm, ⟨2, _⟩ => ⟨S2x1024x3072, .f32⟩
  | .hbm, ⟨3, _⟩ => ⟨S4096, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x64, .f32⟩
  | .hbm, ⟨26, _⟩ => ⟨S1x4096x1x64, .f32⟩
  | .hbm, ⟨27, _⟩ => ⟨S1x4096x2x64, .f32⟩
  | .hbm, ⟨28, _⟩ => ⟨S4096x128, .f32⟩
  | .hbm, ⟨29, _⟩ => ⟨S4096x32, .f32⟩
  | .hbm, ⟨30, _⟩ => ⟨S4096x64, .f32⟩
  | .hbm, ⟨31, _⟩ => ⟨S1x4096x1x64, .f32⟩
  | .hbm, ⟨32, _⟩ => ⟨S1x4096x2x64, .f32⟩
  | .hbm, ⟨33, _⟩ => ⟨S4096x128, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S4096x1, .f32⟩
  | .hbm, ⟨49, _⟩ => ⟨S1x16, .f32⟩
  | .hbm, ⟨50, _⟩ => ⟨S4096x16, .f32⟩
  | .hbm, ⟨51, _⟩ => ⟨S4096x16, .f32⟩
  | .hbm, ⟨52, _⟩ => ⟨S4096x16, .f32⟩
  | .hbm, ⟨53, _⟩ => ⟨S4096x16, .f32⟩
  | .hbm, ⟨54, _⟩ => ⟨S4096x16, .f32⟩
  | .hbm, ⟨55, _⟩ => ⟨S4096x32, .f32⟩
  | .hbm, ⟨56, _⟩ => ⟨S_, .f32⟩
  | .hbm, ⟨57, _⟩ => ⟨S_, .f32⟩
  | .hbm, ⟨58, _⟩ => ⟨S4096x128, .f32⟩
  | .hbm, ⟨59, _⟩ => ⟨S4096x16, .f32⟩
  | .hbm, ⟨60, _⟩ => ⟨S4096x32, .f32⟩
  | .hbm, ⟨61, _⟩ => ⟨S_, .i32⟩
  | .hbm, ⟨62, _⟩ => ⟨S_, .f32⟩
  | .hbm, ⟨63, _⟩ => ⟨S4096x128, .f32⟩
  | .hbm, ⟨64, _⟩ => ⟨S1x1024, .f32⟩
  | .hbm, ⟨65, _⟩ => ⟨S1024, .f32⟩
  | .hbm, ⟨66, _⟩ => ⟨S1x1024, .f32⟩
  | .hbm, ⟨67, _⟩ => ⟨S1x1024x3072, .f32⟩
  | .hbm, ⟨68, _⟩ => ⟨S1024x3072, .f32⟩
  | .hbm, ⟨69, _⟩ => ⟨S1024x3072, .bf16⟩
  | .hbm, ⟨70, _⟩ => ⟨S32768x1536, .f32⟩
  | .hbm, ⟨71, _⟩ => ⟨S32768x1536, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1536, .f32⟩
  | .local _ .vmem, ⟨9, _⟩ => ⟨S1024x1536, .f32⟩
  | .local _ .vmem, ⟨10, _⟩ => ⟨S1024x1536, .bf16⟩
  | .local _ .vmem, ⟨11, _⟩ => ⟨S1024x1536, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_call0_v0 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c : Ref sig .tc := ⟨.hbm, 61, rfl⟩
abbrev main_call1_v0 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55_0 : Ref sig .tc := ⟨.hbm, 70, rfl⟩
abbrev main_v55_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel5Ideal.lean ====
variable {F : FTy → Type} [FloatOps F] [Named F]
def κ : String → Option EReal := fun
  | "scale" => some (((Real.log 256)⁻¹ : ℝ) : EReal)
  | _ => none
-- ==== Reference5Ideal.lean ====
abbrev S32768x1024 : Shape := ⟨2, ![32768, 1024]⟩
abbrev S4x1024 : Shape := ⟨2, ![4, 1024]⟩
abbrev S2x1024x3072 : Shape := ⟨3, ![2, 1024, 3072]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x3072 : Shape := ⟨3, ![1, 1024, 3072]⟩
abbrev S1024x3072 : Shape := ⟨2, ![1024, 3072]⟩
abbrev S32768x3072 : Shape := ⟨2, ![32768, 3072]⟩
abbrev S32768x512 : Shape := ⟨2, ![32768, 512]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S8x4096x8x64 : Shape := ⟨4, ![8, 4096, 8, 64]⟩
abbrev S4096x1x32 : Shape := ⟨3, ![4096, 1, 32]⟩
abbrev S8x4096x8x32 : Shape := ⟨4, ![8, 4096, 8, 32]⟩
abbrev S1x4096x1x32 : Shape := ⟨4, ![1, 4096, 1, 32]⟩
abbrev S32768x1536 : Shape := ⟨2, ![32768, 1536]⟩

abbrev nBuf : Space → Nat
  | .hbm => 105
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x1024, .f32⟩
  | .hbm, ⟨2, _⟩ => ⟨S2x1024x3072, .f32⟩
  | .hbm, ⟨3, _⟩ => ⟨S1x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1x1024x3072, .f32⟩
  | .hbm, ⟨22, _⟩ => ⟨S1024x3072, .f32⟩
  | .hbm, ⟨23, _⟩ => ⟨S32768x3072, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S4096, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S4096x1, .f32⟩
  | .hbm, ⟨46, _⟩ => ⟨S1x32, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8x4096x8x64, .f32⟩
  | .hbm, ⟨57, _⟩ => ⟨S4096x1x32, .f32⟩
  | .hbm, ⟨58, _⟩ => ⟨S4096x1x32, .f32⟩
  | .hbm, ⟨59, _⟩ => ⟨S8x4096x8x32, .f32⟩
  | .hbm, ⟨60, _⟩ => ⟨S8x4096x8x32, .f32⟩
  | .hbm, ⟨61, _⟩ => ⟨S1x4096x1x32, .f32⟩
  | .hbm, ⟨62, _⟩ => ⟨S8x4096x8x32, .f32⟩
  | .hbm, ⟨63, _⟩ => ⟨S8x4096x8x32, .f32⟩
  | .hbm, ⟨64, _⟩ => ⟨S1x4096x1x32, .f32⟩
  | .hbm, ⟨65, _⟩ => ⟨S8x4096x8x32, .f32⟩
  | .hbm, ⟨66, _⟩ => ⟨S8x4096x8x32, .f32⟩
  | .hbm, ⟨67, _⟩ => ⟨S8x4096x8x32, .f32⟩
  | .hbm, ⟨68, _⟩ => ⟨S1x4096x1x32, .f32⟩
  | .hbm, ⟨69, _⟩ => ⟨S8x4096x8x32, .f32⟩
  | .hbm, ⟨70, _⟩ => ⟨S8x4096x8x32, .f32⟩
  | .hbm, ⟨71, _⟩ => ⟨S1x4096x1x32, .f32⟩
  | .hbm, ⟨72, _⟩ => ⟨S8x4096x8x32, .f32⟩
  | .hbm, ⟨73, _⟩ => ⟨S8x4096x8x32, .f32⟩
  | .hbm, ⟨74, _⟩ => ⟨S8x4096x8x32, .f32⟩
  | .hbm, ⟨75, _⟩ => ⟨S8x4096x8x64, .f32⟩
  | .hbm, ⟨76, _⟩ => ⟨S32768x512, .f32⟩
  | .hbm, ⟨77, _⟩ => ⟨S32768x512, .f32⟩
  | .hbm, ⟨78, _⟩ => ⟨S32768x512, .f32⟩
  | .hbm, ⟨79, _⟩ => ⟨S8x4096x8x64, .f32⟩
  | .hbm, ⟨80, _⟩ => ⟨S4096x1x32, .f32⟩
  | .hbm, ⟨81, _⟩ => ⟨S4096x1x32, .f32⟩
  | .hbm, ⟨82, _⟩ => ⟨S8x4096x8x32, .f32⟩
  | .hbm, ⟨83, _⟩ => ⟨S8x4096x8x32, .f32⟩
  | .hbm, ⟨84, _⟩ => ⟨S1x4096x1x32, .f32⟩
  | .hbm, ⟨85, _⟩ => ⟨S8x4096x8x32, .f32⟩
  | .hbm, ⟨86, _⟩ => ⟨S8x4096x8x32, .f32⟩
  | .hbm, ⟨87, _⟩ => ⟨S1x4096x1x32, .f32⟩
  | .hbm, ⟨88, _⟩ => ⟨S8x4096x8x32, .f32⟩
  | .hbm, ⟨89, _⟩ => ⟨S8x4096x8x32, .f32⟩
  | .hbm, ⟨90, _⟩ => ⟨S8x4096x8x32, .f32⟩
  | .hbm, ⟨91, _⟩ => ⟨S1x4096x1x32, .f32⟩
  | .hbm, ⟨92, _⟩ => ⟨S8x4096x8x32, .f32⟩
  | .hbm, ⟨93, _⟩ => ⟨S8x4096x8x32, .f32⟩
  | .hbm, ⟨94, _⟩ => ⟨S1x4096x1x32, .f32⟩
  | .hbm, ⟨95, _⟩ => ⟨S8x4096x8x32, .f32⟩
  | .hbm, ⟨96, _⟩ => ⟨S8x4096x8x32, .f32⟩
  | .hbm, ⟨97, _⟩ => ⟨S8x4096x8x32, .f32⟩
  | .hbm, ⟨98, _⟩ => ⟨S8x4096x8x64, .f32⟩
  | .hbm, ⟨99, _⟩ => ⟨S32768x512, .f32⟩
  | .hbm, ⟨100, _⟩ => ⟨S32768x1536, .f32⟩
  | .hbm, ⟨101, _⟩ => ⟨S32768x512, .f32⟩
  | .hbm, ⟨102, _⟩ => ⟨S32768x512, .f32⟩
  | .hbm, ⟨103, _⟩ => ⟨S32768x1536, .f32⟩
  | .hbm, ⟨104, _⟩ => ⟨S32768x1536, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩

abbrev nD : Nat := 1
abbrev τ : Topo := Topo.v7x

variable {F : FTy → Type} [FloatOps F]
-- ==== Kernel6.lean ====
abbrev S32768x1024 : Shape := ⟨2, ![32768, 1024]⟩
abbrev S4x1024 : Shape := ⟨2, ![4, 1024]⟩
abbrev S2x1024x1440 : Shape := ⟨3, ![2, 1024, 1440]⟩
abbrev S2x384 : Shape := ⟨2, ![2, 384]⟩
abbrev S2x384x768 : Shape := ⟨3, ![2, 384, 768]⟩
abbrev S2x256 : Shape := ⟨2, ![2, 256]⟩
abbrev S2x256x1024 : Shape := ⟨3, ![2, 256, 1024]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16 : Shape := ⟨1, ![16]⟩
abbrev S1x16 : Shape := ⟨2, ![1, 16]⟩
abbrev S4096x16 : Shape := ⟨2, ![4096, 16]⟩
abbrev S1x1024x1440 : Shape := ⟨3, ![1, 1024, 1440]⟩
abbrev S1024x1440 : Shape := ⟨2, ![1024, 1440]⟩
abbrev S1x384x768 : Shape := ⟨3, ![1, 384, 768]⟩
abbrev S384x768 : Shape := ⟨2, ![384, 768]⟩
abbrev S1x256x1024 : Shape := ⟨3, ![1, 256, 1024]⟩
abbrev S256x1024 : Shape := ⟨2, ![256, 1024]⟩
abbrev S1024x32 : Shape := ⟨2, ![1024, 32]⟩
abbrev S1024x128 : Shape := ⟨2, ![1024, 128]⟩
abbrev S1024x512 : Shape := ⟨2, ![1024, 512]⟩
abbrev S1024x2x1x64 : Shape := ⟨4, ![1024, 2, 1, 64]⟩
abbrev S1024x2x2x64 : Shape := ⟨4, ![1024, 2, 2, 64]⟩
abbrev S1024x256 : Shape := ⟨2, ![1024, 256]⟩
abbrev S1024x384 : Shape := ⟨2, ![1024, 384]⟩
abbrev S1024x1792 : Shape := ⟨2, ![1024, 1792]⟩
abbrev S384x8x96 : Shape := ⟨3, ![384, 8, 96]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S512x256 : Shape := ⟨2, ![512, 256]⟩
abbrev S128x1024 : Shape := ⟨2, ![128, 1024]⟩
abbrev S1x1024 : Shape := ⟨2, ![1, 1024]⟩
abbrev S1024 : Shape := ⟨1, ![1024]⟩
abbrev S1x384 : Shape := ⟨2, ![1, 384]⟩
abbrev S384 : Shape := ⟨1, ![384]⟩
abbrev S1x256 : Shape := ⟨2, ![1, 256]⟩
abbrev S256 : Shape := ⟨1, ![256]⟩
abbrev S32768x3072 : Shape := ⟨2, ![32768, 3072]⟩
abbrev S8x512x4096 : Shape := ⟨3, ![8, 512, 4096]⟩
abbrev S8x128x4096 : Shape := ⟨3, ![8, 128, 4096]⟩
abbrev S1024x1024 : Shape := ⟨2, ![1024, 1024]⟩
abbrev S1024x3072 : Shape := ⟨2, ![1024, 3072]⟩
abbrev S1x512x1024 : Shape := ⟨3, ![1, 512, 1024]⟩
abbrev S1x128x1024 : Shape := ⟨3, ![1, 128, 1024]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1024x768 : Shape := ⟨2, ![1024, 768]⟩
abbrev S512x768 : Shape := ⟨2, ![512, 768]⟩
abbrev S512x3072 : Shape := ⟨2, ![512, 3072]⟩
abbrev S512x384 : Shape := ⟨2, ![512, 384]⟩
abbrev S384x256 : Shape := ⟨2, ![384, 256]⟩
abbrev S256x256 : Shape := ⟨2, ![256, 256]⟩
abbrev S128x512 : Shape := ⟨2, ![128, 512]⟩
abbrev S1x128x512 : Shape := ⟨3, ![1, 128, 512]⟩
abbrev S512x512 : Shape := ⟨2, ![512, 512]⟩
abbrev S1x512x512 : Shape := ⟨3, ![1, 512, 512]⟩

abbrev nBuf : Space → Nat
  | .hbm => 123
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S4x1024, .f32⟩
  | .hbm, ⟨2, _⟩ => ⟨S2x1024x1440, .f32⟩
  | .hbm, ⟨3, _⟩ => ⟨S2x384, .f32⟩
  | .hbm, ⟨4, _⟩ => ⟨S2x384x768, .f32⟩
  | .hbm, ⟨5, _⟩ => ⟨S2x256, .f32⟩
  | .hbm, ⟨6, _⟩ => ⟨S2x256x1024, .f32⟩
  | .hbm, ⟨7, _⟩ => ⟨S4096, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x64, .f32⟩
  | .hbm, ⟨30, _⟩ => ⟨S1x4096x1x64, .f32⟩
  | .hbm, ⟨31, _⟩ => ⟨S1x4096x2x64, .f32⟩
  | .hbm, ⟨32, _⟩ => ⟨S4096x128, .f32⟩
  | .hbm, ⟨33, _⟩ => ⟨S4096x32, .f32⟩
  | .hbm, ⟨34, _⟩ => ⟨S4096x64, .f32⟩
  | .hbm, ⟨35, _⟩ => ⟨S1x4096x1x64, .f32⟩
  | .hbm, ⟨36, _⟩ => ⟨S1x4096x2x64, .f32⟩
  | .hbm, ⟨37, _⟩ => ⟨S4096x128, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S4096x1, .f32⟩
  | .hbm, ⟨53, _⟩ => ⟨S1x16, .f32⟩
  | .hbm, ⟨54, _⟩ => ⟨S4096x16, .f32⟩
  | .hbm, ⟨55, _⟩ => ⟨S4096x16, .f32⟩
  | .hbm, ⟨56, _⟩ => ⟨S4096x16, .f32⟩
  | .hbm, ⟨57, _⟩ => ⟨S4096x16, .f32⟩
  | .hbm, ⟨58, _⟩ => ⟨S4096x16, .f32⟩
  | .hbm, ⟨59, _⟩ => ⟨S4096x32, .f32⟩
  | .hbm, ⟨60, _⟩ => ⟨S_, .f32⟩
  | .hbm, ⟨61, _⟩ => ⟨S_, .f32⟩
  | .hbm, ⟨62, _⟩ => ⟨S4096x128, .f32⟩
  | .hbm, ⟨63, _⟩ => ⟨S4096x16, .f32⟩
  | .hbm, ⟨64, _⟩ => ⟨S4096x32, .f32⟩
  | .hbm, ⟨65, _⟩ => ⟨S_, .i32⟩
  | .hbm, ⟨66, _⟩ => ⟨S_, .f32⟩
  | .hbm, ⟨67, _⟩ => ⟨S4096x128, .f32⟩
  | .hbm, ⟨68, _⟩ => ⟨S1x1024x1440, .f32⟩
  | .hbm, ⟨69, _⟩ => ⟨S1024x1440, .f32⟩
  | .hbm, ⟨70, _⟩ => ⟨S1x384x768, .f32⟩
  | .hbm, ⟨71, _⟩ => ⟨S384x768, .f32⟩
  | .hbm, ⟨72, _⟩ => ⟨S1x256x1024, .f32⟩
  | .hbm, ⟨73, _⟩ => ⟨S256x1024, .f32⟩
  | .hbm, ⟨74, _⟩ => ⟨S1024x32, .f32⟩
  | .hbm, ⟨75, _⟩ => ⟨S_, .i32⟩
  | .hbm, ⟨76, _⟩ => ⟨S_, .f32⟩
  | .hbm, ⟨77, _⟩ => ⟨S1024x128, .f32⟩
  | .hbm, ⟨78, _⟩ => ⟨S1024x512, .f32⟩
  | .hbm, ⟨79, _⟩ => ⟨S1024x128, .f32⟩
  | .hbm, ⟨80, _⟩ => ⟨S1024x2x1x64, .f32⟩
  | .hbm, ⟨81, _⟩ => ⟨S1024x2x2x64, .f32⟩
  | .hbm, ⟨82, _⟩ => ⟨S1024x256, .f32⟩
  | .hbm, ⟨83, _⟩ => ⟨S1024x128, .f32⟩
  | .hbm, ⟨84, _⟩ => ⟨S1024x2x1x64, .f32⟩
  | .hbm, ⟨85, _⟩ => ⟨S1024x2x2x64, .f32⟩
  | .hbm, ⟨86, _⟩ => ⟨S1024x256, .f32⟩
  | .hbm, ⟨87, _⟩ => ⟨S1024x384, .f32⟩
  | .hbm, ⟨88, _⟩ => ⟨S1024x256, .f32⟩
  | .hbm, ⟨89, _⟩ => ⟨S1024x1792, .f32⟩
  | .hbm, ⟨90, _⟩ => ⟨S1024x1792, .bf16⟩
  | .hbm, ⟨91, _⟩ => ⟨S384x8x96, .f32⟩
  | .hbm, ⟨92, _⟩ => ⟨S_, .i32⟩
  | .hbm, ⟨93, _⟩ => ⟨S_, .f32⟩
  | .hbm, ⟨94, _⟩ => ⟨S384x8x128, .f32⟩
  | .hbm, ⟨95, _⟩ => ⟨S384x1024, .f32⟩
  | .hbm, ⟨96, _⟩ => ⟨S384x1024, .bf16⟩
  | .hbm, ⟨97, _⟩ => ⟨S256x8x128, .f32⟩
  | .hbm, ⟨98, _⟩ => ⟨S256x8x64, .f32⟩
  | .hbm, ⟨99, _⟩ => ⟨S_, .i32⟩
  | .hbm, ⟨100, _⟩ => ⟨S_, .f32⟩
  | .hbm, ⟨101, _⟩ => ⟨S256x8x128, .f32⟩
  | .hbm, ⟨102, _⟩ => ⟨S256x1024, .f32⟩
  | .hbm, ⟨103, _⟩ => ⟨S256x1024, .bf16⟩
  | .hbm, ⟨104, _⟩ => ⟨S256x8x64, .f32⟩
  | .hbm, ⟨105, _⟩ => ⟨S256x512, .f32⟩
  | .hbm, ⟨106, _⟩ => ⟨S512x256, .f32⟩
  | .hbm, ⟨107, _⟩ => ⟨S512x256, .bf16⟩
  | .hbm, ⟨108, _⟩ => ⟨S1024x128, .f32⟩
  | .hbm, ⟨109, _⟩ => ⟨S128x1024, .f32⟩
  | .hbm, ⟨110, _⟩ => ⟨S128x1024, .bf16⟩
  | .hbm, ⟨111, _⟩ => ⟨S1x1024, .f32⟩
  | .hbm, ⟨112, _⟩ => ⟨S1024, .f32⟩
  | .hbm, ⟨113, _⟩ => ⟨S1x1024, .f32⟩
  | .hbm, ⟨114, _⟩ => ⟨S1x384, .f32⟩
  | .hbm, ⟨115, _⟩ => ⟨S384, .f32⟩
  | .hbm, ⟨116, _⟩ => ⟨S1x384, .f32⟩
  | .hbm, ⟨117, _⟩ => ⟨S1x256, .f32⟩
  | .hbm, ⟨118, _⟩ => ⟨S256, .f32⟩
  | .hbm, ⟨119, _⟩ => ⟨S1x256, .f32⟩
  | .hbm, ⟨120, _⟩ => ⟨S32768x3072, .bf16⟩
  | .hbm, ⟨121, _⟩ => ⟨S8x512x4096, .bf16⟩
  | .hbm, ⟨122, _⟩ => ⟨S8x128x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1792, .bf16⟩
  | .local _ .vmem, ⟨4, _⟩ => ⟨S1x384, .f32⟩
  | .local _ .vmem, ⟨5, _⟩ => ⟨S384x1024, .bf16⟩
  | .local _ .vmem, ⟨6, _⟩ => ⟨S1x256, .f32⟩
  | .local _ .vmem, ⟨7, _⟩ => ⟨S256x1024, .bf16⟩
  | .local _ .vmem, ⟨8, _⟩ => ⟨S512x256, .bf16⟩
  | .local _ .vmem, ⟨9, _⟩ => ⟨S128x1024, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x3072, .bf16⟩
  | .local _ .vmem, ⟨19, _⟩ => ⟨S1024x3072, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x128x1024, .bf16⟩
  | .local _ .vmem, ⟨23, _⟩ => ⟨S1x128x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_call0_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_8 : Ref sig .tc := ⟨.hbm, 75, rfl⟩
abbrev main_call2_v0 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c_9 : Ref sig .tc := ⟨.hbm, 92, rfl⟩
abbrev main_call3_v0 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_10 : Ref sig .tc := ⟨.hbm, 99, rfl⟩
abbrev main_call4_v0 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95_0 : Ref sig .tc := ⟨.hbm, 120, rfl⟩
abbrev main_v95_1 : Ref sig .tc := ⟨.hbm, 121, rfl⟩
abbrev main_v95_2 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel6Ideal.lean ====
variable {F : FTy → Type} [FloatOps F] [Named F]
def κ : String → Option EReal := fun
  | "latent" => some (((Real.sqrt 96)⁻¹ * (Real.log 2)⁻¹ : ℝ) : EReal)
  | "scale" => some (((Real.log 256)⁻¹ : ℝ) : EReal)
  | _ => none
-- ==== Reference6Ideal.lean ====
abbrev S32768x1024 : Shape := ⟨2, ![32768, 1024]⟩
abbrev S4x1024 : Shape := ⟨2, ![4, 1024]⟩
abbrev S2x1024x1440 : Shape := ⟨3, ![2, 1024, 1440]⟩
abbrev S2x384 : Shape := ⟨2, ![2, 384]⟩
abbrev S2x384x768 : Shape := ⟨3, ![2, 384, 768]⟩
abbrev S2x256 : Shape := ⟨2, ![2, 256]⟩
abbrev S2x256x1024 : Shape := ⟨3, ![2, 256, 1024]⟩
abbrev S1x1024 : Shape := ⟨2, ![1, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024x1440 : Shape := ⟨3, ![1, 1024, 1440]⟩
abbrev S1024x1440 : Shape := ⟨2, ![1024, 1440]⟩
abbrev S32768x1440 : Shape := ⟨2, ![32768, 1440]⟩
abbrev S8x4096x1440 : Shape := ⟨3, ![8, 4096, 1440]⟩
abbrev S8x4096x512 : Shape := ⟨3, ![8, 4096, 512]⟩
abbrev S8x4096x128 : Shape := ⟨3, ![8, 4096, 128]⟩
abbrev S8x4096x384 : Shape := ⟨3, ![8, 4096, 384]⟩
abbrev S8x4096x256 : Shape := ⟨3, ![8, 4096, 256]⟩
abbrev S8x4096x32 : Shape := ⟨3, ![8, 4096, 32]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S16 : Shape := ⟨1, ![16]⟩
abbrev S1x16 : Shape := ⟨2, ![1, 16]⟩
abbrev S4096x16 : Shape := ⟨2, ![4096, 16]⟩
abbrev S8x4096x8x64 : Shape := ⟨4, ![8, 4096, 8, 64]⟩
abbrev S4096x1x32 : Shape := ⟨3, ![4096, 1, 32]⟩
abbrev S8x4096x8x32 : Shape := ⟨4, ![8, 4096, 8, 32]⟩
abbrev S1x4096x1x32 : Shape := ⟨4, ![1, 4096, 1, 32]⟩
abbrev S8x4096x2x64 : Shape := ⟨4, ![8, 4096, 2, 64]⟩
abbrev S8x4096x2x32 : Shape := ⟨4, ![8, 4096, 2, 32]⟩
abbrev S8x4096x2x128 : Shape := ⟨4, ![8, 4096, 2, 128]⟩
abbrev S1x384 : Shape := ⟨2, ![1, 384]⟩
abbrev S384 : Shape := ⟨1, ![384]⟩
abbrev S8x4096 : Shape := ⟨2, ![8, 4096]⟩
abbrev S8x4096x1 : Shape := ⟨3, ![8, 4096, 1]⟩
abbrev S1x1x384 : Shape := ⟨3, ![1, 1, 384]⟩
abbrev S1x384x768 : Shape := ⟨3, ![1, 384, 768]⟩
abbrev S384x768 : Shape := ⟨2, ![384, 768]⟩
abbrev S8x4096x768 : Shape := ⟨3, ![8, 4096, 768]⟩
abbrev S8x4096x8x96 : Shape := ⟨4, ![8, 4096, 8, 96]⟩
abbrev S4096x1x16 : Shape := ⟨3, ![4096, 1, 16]⟩
abbrev S8x4096x8x16 : Shape := ⟨4, ![8, 4096, 8, 16]⟩
abbrev S1x4096x1x16 : Shape := ⟨4, ![1, 4096, 1, 16]⟩
abbrev S1x256 : Shape := ⟨2, ![1, 256]⟩
abbrev S256 : Shape := ⟨1, ![256]⟩
abbrev S1x1x256 : Shape := ⟨3, ![1, 1, 256]⟩
abbrev S1x256x1024 : Shape := ⟨3, ![1, 256, 1024]⟩
abbrev S256x1024 : Shape := ⟨2, ![256, 1024]⟩
abbrev S8x4096x1024 : Shape := ⟨3, ![8, 4096, 1024]⟩
abbrev S8x4096x8x128 : Shape := ⟨4, ![8, 4096, 8, 128]⟩
abbrev S8x4096x1x32 : Shape := ⟨4, ![8, 4096, 1, 32]⟩
abbrev S8x4096x1x16 : Shape := ⟨4, ![8, 4096, 1, 16]⟩
abbrev S32768x512 : Shape := ⟨2, ![32768, 512]⟩
abbrev S32768x256 : Shape := ⟨2, ![32768, 256]⟩
abbrev S32768x3072 : Shape := ⟨2, ![32768, 3072]⟩
abbrev S8x512x4096 : Shape := ⟨3, ![8, 512, 4096]⟩
abbrev S8x128x4096 : Shape := ⟨3, ![8, 128, 4096]⟩

abbrev nBuf : Space → Nat
  | .hbm => 242
  | .vmem => 0
  | .smem => 0
  | _ => 0

abbrev hbmTy0_0 (i : Nat) : BufTy := match i % 128 with
  | 0 => ⟨S32768x1024, .f32⟩
  | 1 => ⟨S4x1024, .f32⟩
  | 2 => ⟨S2x1024x1440, .f32⟩
  | 3 => ⟨S2x384, .f32⟩
  | 4 => ⟨S2x384x768, .f32⟩
  | 5 => ⟨S2x256, .f32⟩
  | 6 => ⟨S2x256x1024, .f32⟩
  | 7 => ⟨S1x1024, .f32⟩
  | 8 => ⟨S1024, .f32⟩
  | 9 => ⟨S32768x1024, .f32⟩
  | 10 => ⟨S_, .f32⟩
  | 11 => ⟨S32768, .f32⟩
  | 12 => ⟨S32768x1, .f32⟩
  | 13 => ⟨S_, .f32⟩
  | 14 => ⟨S32768x1, .f32⟩
  | 15 => ⟨S32768x1, .f32⟩
  | 16 => ⟨S_, .f32⟩
  | 17 => ⟨S32768x1, .f32⟩
  | 18 => ⟨S32768x1, .f32⟩
  | 19 => ⟨S32768x1, .f32⟩
  | 20 => ⟨S32768x1024, .f32⟩
  | 21 => ⟨S32768x1024, .f32⟩
  | 22 => ⟨S1x1024, .f32⟩
  | 23 => ⟨S32768x1024, .f32⟩
  | 24 => ⟨S32768x1024, .f32⟩
  | 25 => ⟨S1x1024x1440, .f32⟩
  | 26 => ⟨S1024x1440, .f32⟩
  | 27 => ⟨S32768x1440, .f32⟩
  | 28 => ⟨S8x4096x1440, .f32⟩
  | 29 => ⟨S8x4096x512, .f32⟩
  | 30 => ⟨S8x4096x128, .f32⟩
  | 31 => ⟨S8x4096x128, .f32⟩
  | 32 => ⟨S8x4096x384, .f32⟩
  | 33 => ⟨S8x4096x256, .f32⟩
  | 34 => ⟨S8x4096x32, .f32⟩
  | 35 => ⟨S4096, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S4096x1, .f32⟩
  | 51 => ⟨S1x32, .f32⟩
  | 52 => ⟨S4096x32, .f32⟩
  | 53 => ⟨S4096x32, .f32⟩
  | 54 => ⟨S4096x32, .f32⟩
  | 55 => ⟨S4096x32, .f32⟩
  | 56 => ⟨S4096x32, .f32⟩
  | 57 => ⟨S4096, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S4096x1, .f32⟩
  | 73 => ⟨S1x16, .f32⟩
  | 74 => ⟨S4096x16, .f32⟩
  | 75 => ⟨S4096x16, .f32⟩
  | 76 => ⟨S4096x16, .f32⟩
  | 77 => ⟨S4096x16, .f32⟩
  | 78 => ⟨S4096x16, .f32⟩
  | 79 => ⟨S_, .f32⟩
  | 80 => ⟨S_, .f32⟩
  | 81 => ⟨S8x4096x8x64, .f32⟩
  | 82 => ⟨S4096x1x32, .f32⟩
  | 83 => ⟨S4096x1x32, .f32⟩
  | 84 => ⟨S8x4096x8x32, .f32⟩
  | 85 => ⟨S8x4096x8x32, .f32⟩
  | 86 => ⟨S1x4096x1x32, .f32⟩
  | 87 => ⟨S8x4096x8x32, .f32⟩
  | 88 => ⟨S8x4096x8x32, .f32⟩
  | 89 => ⟨S1x4096x1x32, .f32⟩
  | 90 => ⟨S8x4096x8x32, .f32⟩
  | 91 => ⟨S8x4096x8x32, .f32⟩
  | 92 => ⟨S8x4096x8x32, .f32⟩
  | 93 => ⟨S1x4096x1x32, .f32⟩
  | 94 => ⟨S8x4096x8x32, .f32⟩
  | 95 => ⟨S8x4096x8x32, .f32⟩
  | 96 => ⟨S1x4096x1x32, .f32⟩
  | 97 => ⟨S8x4096x8x32, .f32⟩
  | 98 => ⟨S8x4096x8x32, .f32⟩
  | 99 => ⟨S8x4096x8x32, .f32⟩
  | 100 => ⟨S8x4096x8x64, .f32⟩
  | 101 => ⟨S_, .f32⟩
  | 102 => ⟨S_, .f32⟩
  | 103 => ⟨S8x4096x8x64, .f32⟩
  | 104 => ⟨S8x4096x8x64, .f32⟩
  | 105 => ⟨S8x4096x2x64, .f32⟩
  | 106 => ⟨S4096x1x32, .f32⟩
  | 107 => ⟨S4096x1x32, .f32⟩
  | 108 => ⟨S8x4096x2x32, .f32⟩
  | 109 => ⟨S8x4096x2x32, .f32⟩
  | 110 => ⟨S1x4096x1x32, .f32⟩
  | 111 => ⟨S8x4096x2x32, .f32⟩
  | 112 => ⟨S8x4096x2x32, .f32⟩
  | 113 => ⟨S1x4096x1x32, .f32⟩
  | 114 => ⟨S8x4096x2x32, .f32⟩
  | 115 => ⟨S8x4096x2x32, .f32⟩
  | 116 => ⟨S8x4096x2x32, .f32⟩
  | 117 => ⟨S1x4096x1x32, .f32⟩
  | 118 => ⟨S8x4096x2x32, .f32⟩
  | 119 => ⟨S8x4096x2x32, .f32⟩
  | 120 => ⟨S1x4096x1x32, .f32⟩
  | 121 => ⟨S8x4096x2x32, .f32⟩
  | 122 => ⟨S8x4096x2x32, .f32⟩
  | 123 => ⟨S8x4096x2x32, .f32⟩
  | 124 => ⟨S8x4096x2x64, .f32⟩
  | 125 => ⟨S8x4096x2x128, .f32⟩
  | 126 => ⟨S1x384, .f32⟩
  | 127 => ⟨S384, .f32⟩
  | _ => ⟨S32768x1024, .f32⟩

abbrev hbmTy0_1 (i : Nat) : BufTy := match i % 128 with
  | 0 => ⟨S8x4096x384, .f32⟩
  | 1 => ⟨S_, .f32⟩
  | 2 => ⟨S8x4096, .f32⟩
  | 3 => ⟨S8x4096x1, .f32⟩
  | 4 => ⟨S_, .f32⟩
  | 5 => ⟨S8x4096x1, .f32⟩
  | 6 => ⟨S8x4096x1, .f32⟩
  | 7 => ⟨S_, .f32⟩
  | 8 => ⟨S8x4096x1, .f32⟩
  | 9 => ⟨S8x4096x1, .f32⟩
  | 10 => ⟨S8x4096x1, .f32⟩
  | 11 => ⟨S8x4096x384, .f32⟩
  | 12 => ⟨S8x4096x384, .f32⟩
  | 13 => ⟨S1x1x384, .f32⟩
  | 14 => ⟨S8x4096x384, .f32⟩
  | 15 => ⟨S8x4096x384, .f32⟩
  | 16 => ⟨S1x384x768, .f32⟩
  | 17 => ⟨S384x768, .f32⟩
  | 18 => ⟨S8x4096x768, .f32⟩
  | 19 => ⟨S8x4096x8x96, .f32⟩
  | 20 => ⟨S8x4096x8x64, .f32⟩
  | 21 => ⟨S8x4096x8x32, .f32⟩
  | 22 => ⟨S4096x1x16, .f32⟩
  | 23 => ⟨S4096x1x16, .f32⟩
  | 24 => ⟨S8x4096x8x16, .f32⟩
  | 25 => ⟨S8x4096x8x16, .f32⟩
  | 26 => ⟨S1x4096x1x16, .f32⟩
  | 27 => ⟨S8x4096x8x16, .f32⟩
  | 28 => ⟨S8x4096x8x16, .f32⟩
  | 29 => ⟨S1x4096x1x16, .f32⟩
  | 30 => ⟨S8x4096x8x16, .f32⟩
  | 31 => ⟨S8x4096x8x16, .f32⟩
  | 32 => ⟨S8x4096x8x16, .f32⟩
  | 33 => ⟨S1x4096x1x16, .f32⟩
  | 34 => ⟨S8x4096x8x16, .f32⟩
  | 35 => ⟨S8x4096x8x16, .f32⟩
  | 36 => ⟨S1x4096x1x16, .f32⟩
  | 37 => ⟨S8x4096x8x16, .f32⟩
  | 38 => ⟨S8x4096x8x16, .f32⟩
  | 39 => ⟨S8x4096x8x16, .f32⟩
  | 40 => ⟨S8x4096x8x32, .f32⟩
  | 41 => ⟨S8x4096x8x96, .f32⟩
  | 42 => ⟨S_, .f32⟩
  | 43 => ⟨S_, .f32⟩
  | 44 => ⟨S_, .f32⟩
  | 45 => ⟨S_, .f32⟩
  | 46 => ⟨S_, .f32⟩
  | 47 => ⟨S8x4096x8x96, .f32⟩
  | 48 => ⟨S8x4096x8x96, .f32⟩
  | 49 => ⟨S1x256, .f32⟩
  | 50 => ⟨S256, .f32⟩
  | 51 => ⟨S8x4096x256, .f32⟩
  | 52 => ⟨S_, .f32⟩
  | 53 => ⟨S8x4096, .f32⟩
  | 54 => ⟨S8x4096x1, .f32⟩
  | 55 => ⟨S_, .f32⟩
  | 56 => ⟨S8x4096x1, .f32⟩
  | 57 => ⟨S8x4096x1, .f32⟩
  | 58 => ⟨S_, .f32⟩
  | 59 => ⟨S8x4096x1, .f32⟩
  | 60 => ⟨S8x4096x1, .f32⟩
  | 61 => ⟨S8x4096x1, .f32⟩
  | 62 => ⟨S8x4096x256, .f32⟩
  | 63 => ⟨S8x4096x256, .f32⟩
  | 64 => ⟨S1x1x256, .f32⟩
  | 65 => ⟨S8x4096x256, .f32⟩
  | 66 => ⟨S8x4096x256, .f32⟩
  | 67 => ⟨S1x256x1024, .f32⟩
  | 68 => ⟨S256x1024, .f32⟩
  | 69 => ⟨S8x4096x1024, .f32⟩
  | 70 => ⟨S8x4096x8x128, .f32⟩
  | 71 => ⟨S8x4096x1x32, .f32⟩
  | 72 => ⟨S4096x1x16, .f32⟩
  | 73 => ⟨S4096x1x16, .f32⟩
  | 74 => ⟨S8x4096x1x16, .f32⟩
  | 75 => ⟨S8x4096x1x16, .f32⟩
  | 76 => ⟨S1x4096x1x16, .f32⟩
  | 77 => ⟨S8x4096x1x16, .f32⟩
  | 78 => ⟨S8x4096x1x16, .f32⟩
  | 79 => ⟨S1x4096x1x16, .f32⟩
  | 80 => ⟨S8x4096x1x16, .f32⟩
  | 81 => ⟨S8x4096x1x16, .f32⟩
  | 82 => ⟨S8x4096x1x16, .f32⟩
  | 83 => ⟨S1x4096x1x16, .f32⟩
  | 84 => ⟨S8x4096x1x16, .f32⟩
  | 85 => ⟨S8x4096x1x16, .f32⟩
  | 86 => ⟨S1x4096x1x16, .f32⟩
  | 87 => ⟨S8x4096x1x16, .f32⟩
  | 88 => ⟨S8x4096x1x16, .f32⟩
  | 89 => ⟨S8x4096x1x16, .f32⟩
  | 90 => ⟨S8x4096x1x32, .f32⟩
  | 91 => ⟨S8x4096x8x64, .f32⟩
  | 92 => ⟨S8x4096x8x32, .f32⟩
  | 93 => ⟨S8x4096x8x96, .f32⟩
  | 94 => ⟨S32768x512, .f32⟩
  | 95 => ⟨S32768x256, .f32⟩
  | 96 => ⟨S_, .f32⟩
  | 97 => ⟨S32768x256, .f32⟩
  | 98 => ⟨S_, .f32⟩
  | 99 => ⟨S8x4096x8x32, .f32⟩
  | 100 => ⟨S8x4096x8x128, .f32⟩
  | 101 => ⟨S32768x1024, .f32⟩
  | 102 => ⟨S_, .f32⟩
  | 103 => ⟨S8x4096x8x32, .f32⟩
  | 104 => ⟨S8x4096x8x128, .f32⟩
  | 105 => ⟨S32768x1024, .f32⟩
  | 106 => ⟨S32768x3072, .f32⟩
  | 107 => ⟨S8x4096x8x64, .f32⟩
  | 108 => ⟨S8x4096x512, .f32⟩
  | 109 => ⟨S32768x3072, .bf16⟩
  | 110 => ⟨S8x512x4096, .f32⟩
  | 111 => ⟨S8x512x4096, .bf16⟩
  | 112 => ⟨S8x128x4096, .f32⟩
  | 113 => ⟨S8x128x4096, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_11 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_cst_12 : Ref sig .tc := ⟨.hbm, 129, rfl⟩
abbrev main_v109 : Ref sig .tc := ⟨.hbm, 130, rfl⟩
abbrev main_v110 : Ref sig .tc := ⟨.hbm, 131, rfl⟩
abbrev main_cst_13 : Ref sig .tc := ⟨.hbm, 132, rfl⟩
abbrev main_v111 : Ref sig .tc := ⟨.hbm, 133, rfl⟩
abbrev main_v112 : Ref sig .tc := ⟨.hbm, 134, rfl⟩
abbrev main_cst_14 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_cst_15 : Ref sig .tc := ⟨.hbm, 170, rfl⟩
abbrev main_v147 : Ref sig .tc := ⟨.hbm, 171, rfl⟩
abbrev main_cst_16 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_cst_17 : Ref sig .tc := ⟨.hbm, 180, rfl⟩
abbrev main_v155 : Ref sig .tc := ⟨.hbm, 181, rfl⟩
abbrev main_v156 : Ref sig .tc := ⟨.hbm, 182, rfl⟩
abbrev main_cst_18 : Ref sig .tc := ⟨.hbm, 183, rfl⟩
abbrev main_v157 : Ref sig .tc := ⟨.hbm, 184, rfl⟩
abbrev main_v158 : Ref sig .tc := ⟨.hbm, 185, rfl⟩
abbrev main_cst_19 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_cst_20 : Ref sig .tc := ⟨.hbm, 224, rfl⟩
abbrev main_v196 : Ref sig .tc := ⟨.hbm, 225, rfl⟩
abbrev main_cst_21 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_cst_22 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩

abbrev nD : Nat := 1
abbrev τ : Topo := Topo.v7x

variable {F : FTy → Type} [FloatOps F]
-- ==== Proof.Mla.Ops.lean ====
module

public import proofs.«01_k».proof.Proof.Gen.KernelIdeal.Value
public import Idealize.ShloMosaic.Lib.WritesUnit
public import Idealize.ShloMosaic.Lib.Pointwise

@[expose] public section

noncomputable section

/-! The steps of the attention kernel's body as functions of vectors, and the two ways one of its loads meets the pieces
stored before it. -/

namespace Cert.KernelIdeal.Mla

open Cert.KernelIdeal Cert.KernelIdeal.Gen Idealize.ShloMosaic Idealize.ShloMosaic.TcCoe Idealize.SL.Sem

section Loads

variable {sig : RefSig} {κ : Kind} {sp : Space} {s : Shape} {e : EltTy} {Val : EltTy → Type} [∀ e, Nonempty (Val e)]

/-- A load of the box stored last reads what was stored. -/
theorem load_hit (v : View sig κ sp s e) {off size : Fin s.rank → ℕ} (inb inb' : ∀ a, off a + size a ≤ s.size a)
    (w : (Rect.unit off size inb).shape.Idx → Val e) (L : List (View.Piece Val s e)) :
    v.readCov ((⟨Rect.unit off size inb, w⟩ : View.Piece Val s e) :: L) (Rect.unit off size inb').toLoadRect = w := by
  funext x
  exact View.read_writes_cons_unit_of_mem v v.junk inb w L _ x rfl fun a => by
    show off a + 1 * (x a).val = _
    rw [Nat.one_mul]

/-- A load passes over a stored box that one axis keeps apart from it. -/
theorem load_miss (v : View sig κ sp s e) {off size off' size' : Fin s.rank → ℕ} (inb : ∀ a, off a + size a ≤ s.size a)
    (inb' : ∀ a, off' a + size' a ≤ s.size a)
    (w : (Rect.unit off' size' inb').shape.Idx → Val e) (L : List (View.Piece Val s e)) (a : Fin s.rank)
    (h : off a + size a ≤ off' a ∨ off' a + size' a ≤ off a) :
    v.readCov ((⟨Rect.unit off' size' inb', w⟩ : View.Piece Val s e) :: L) (Rect.unit off size inb).toLoadRect
      = v.readCov L (Rect.unit off size inb).toLoadRect := by
  funext x
  refine View.read_writes_cons_unit_of_not_mem v v.junk inb' w L _ rfl a ?_
  have hx : (x a).val < size a := (x a).isLt
  show off a + 1 * (x a).val < off' a ∨ off' a + size' a ≤ off a + 1 * (x a).val
  omega

/-- A load from a whole memory holding `X` reads `X` at the box. -/
theorem load_unread {s : Shape} {e : EltTy} {κ : Kind} {sp : Space} (m : Memref sig κ sp s e) (h : m.IsWhole) (X : s.Idx → Val e) (r : Rect s) :
    m.view.readAt Val r.toLoadRect (h.unread X) = View.ld X r := by
  rw [View.readAt_eq_ld, h.read_unread]

end Loads

variable {F : FTy → Type} [FloatOps F] [Named F]

/-- Scores of one chunk of keys against the unit's queries. -/
def scores (q : Vec F S1x256x128 .bf16) (k : Vec F S1x1024x128 .bf16) : FVec F S1024x256 .f32 :=
  matmul dot_S1024x128_S256x128_S1024x256_1_1_0_0_n_n none (shapeCast S1024x128 k shapeCasts_S1x1024x128_S1024x128)
    (shapeCast S256x128 q shapeCasts_S1x256x128_S256x128) (constant S1024x256 .f32 0x00000000#32)

/-- The scores as the scratch holds them. -/
def kept (q : Vec F S1x256x128 .bf16) (k : Vec F S1x1024x128 .bf16) : Vec F S1x1024x256 .f32 :=
  shapeCast S1x1024x256 (scores q k) shapeCasts_S1024x256_S1x1024x256

/-- The largest of each column of a chunk, eight rows at a time. -/
def foldMax (x : FVec F S1024x256 .f32) : FVec F S8x256 .f32 :=
  multiReduction .maximumf [0] S8x256 (shapeCast S128x8x256 x shapeCasts_S1024x256_S128x8x256) 0xFF800000#32
    reduces_S128x8x256_S8x256 (.inl rfl) rfl

/-- The largest score of each query. -/
def rowMax (q : Vec F S1x256x128 .bf16) (k0 k1 k2 k3 : Vec F S1x1024x128 .bf16) : FVec F S1x256 .f32 :=
  shapeCast S1x256 (multiReduction .maximumf [0] S256
    (maximumf (maximumf (maximumf (maximumf (broadcast S8x256 (Named.named κ "mask" 0xF149F2CA#32)) (foldMax (scores q k0)))
      (foldMax (scores q k1))) (foldMax (scores q k2))) (foldMax (scores q k3)))
    0xFF800000#32 reduces_S8x256_S256 (.inl rfl) rfl) shapeCasts_S256_S1x256

/-- Powers of two of the scores less the largest. -/
def probs (m : FVec F S1x256 .f32) (s : Vec F S1x1024x256 .f32) : FVec F S1024x256 .f32 :=
  exp2 (subf (shapeCast S1024x256 s shapeCasts_S1x1024x256_S1024x256)
    (broadcastTo S1024x256 m broadcasts_S1x256_S1024x256))

/-- The same as the scratch holds them. -/
def keptProbs (m : FVec F S1x256 .f32) (s : Vec F S1x1024x256 .f32) : FVec F S1x1024x256 .bf16 :=
  shapeCast S1x1024x256 (truncf .bf16 (probs m s) bitsLt_bf16_f32) shapeCasts_S1024x256_S1x1024x256

/-- The sum of each column of a chunk, eight rows at a time. -/
def foldSum (x : FVec F S1024x256 .f32) : FVec F S8x256 .f32 :=
  multiReduction .add [0] S8x256 (shapeCast S128x8x256 x shapeCasts_S1024x256_S128x8x256) 0x00000000#32
    reduces_S128x8x256_S8x256 (.inl rfl) rfl

/-- The sum over the keys. -/
def denom (m : FVec F S1x256 .f32) (s0 s1 s2 s3 : Vec F S1x1024x256 .f32) : FVec F S1x256 .f32 :=
  shapeCast S1x256 (multiReduction .add [0] S256
    (addf (addf (addf (addf (broadcast S8x256 (Scalar.ofBits .f32 0x00000000#32)) (foldSum (probs m s0)))
      (foldSum (probs m s1))) (foldSum (probs m s2))) (foldSum (probs m s3)))
    0x00000000#32 reduces_S8x256_S256 (.inl rfl) rfl) shapeCasts_S256_S1x256

/-- Values times probabilities over the sum. -/
def ratio (l : FVec F S1x256 .f32) (v : Vec F S1x64x4096 .bf16) (p : Vec F S1x4096x256 .bf16) : FVec F S64x256 .f32 :=
  divf (matmul dot_S64x4096_S4096x256_S64x256_1_0_0_1_n_n none (shapeCast S64x4096 v shapeCasts_S1x64x4096_S64x4096)
    (shapeCast S4096x256 p shapeCasts_S1x4096x256_S4096x256) (constant S64x256 .f32 0x00000000#32))
    (broadcastTo S64x256 l broadcasts_S1x256_S64x256)

/-- Two heads side by side, turned over into rows. -/
def tile (a b : FVec F S64x256 .f32) : FVec F S1x256x128 .bf16 :=
  shapeCast S1x256x128 (truncf .bf16 (transpose S256x128 [1, 0] (concatenate S128x256 0 [⟨S64x256, a⟩, ⟨S64x256, b⟩]
    concatenates_S64x256_S64x256_S128x256_d0) transposes_S128x256_p1_0_S256x128) bitsLt_bf16_f32)
    shapeCasts_S256x128_S1x256x128

/-- Four chunks one under the other. -/
def stack (w0 w1 w2 w3 : Vec F S1x1024x256 .bf16) : Vec F S1x4096x256 .bf16 := fun x =>
  let at' (w : Vec F S1x1024x256 .bf16) : Elt F .bf16 :=
    w (ix3 (0 : Fin 1) (⟨(x (1 : Fin 3)).val % 1024, Nat.mod_lt _ (by decide)⟩ : Fin 1024) (x (2 : Fin 3) : Fin 256))
  if (x (1 : Fin 3)).val < 1024 then at' w0 else if (x (1 : Fin 3)).val < 2048 then at' w1
    else if (x (1 : Fin 3)).val < 3072 then at' w2 else at' w3

/-- A load of a whole slot whose four chunks were stored last. -/
theorem load_stack {sp : Space} (v : View sig .tc sp S2x4096x256 .bf16) (h : ℕ)
    (i0 : ∀ a, (![h, 0, 0] : Fin 3 → ℕ) a + S1x1024x256.size a ≤ S2x4096x256.size a)
    (i1 : ∀ a, (![h, 1024, 0] : Fin 3 → ℕ) a + S1x1024x256.size a ≤ S2x4096x256.size a)
    (i2 : ∀ a, (![h, 2048, 0] : Fin 3 → ℕ) a + S1x1024x256.size a ≤ S2x4096x256.size a)
    (i3 : ∀ a, (![h, 3072, 0] : Fin 3 → ℕ) a + S1x1024x256.size a ≤ S2x4096x256.size a)
    (ib : ∀ a, (![h, 0, 0] : Fin 3 → ℕ) a + S1x4096x256.size a ≤ S2x4096x256.size a)
    (w0 w1 w2 w3 : Vec F S1x1024x256 .bf16) (L : List (View.Piece (Elt F) S2x4096x256 .bf16)) :
    v.readCov ((⟨Rect.unit ![h, 3072, 0] S1x1024x256.size i3, w3⟩ : View.Piece (Elt F) S2x4096x256 .bf16)
      :: (⟨Rect.unit ![h, 2048, 0] S1x1024x256.size i2, w2⟩ : View.Piece (Elt F) S2x4096x256 .bf16)
      :: (⟨Rect.unit ![h, 1024, 0] S1x1024x256.size i1, w1⟩ : View.Piece (Elt F) S2x4096x256 .bf16)
      :: (⟨Rect.unit ![h, 0, 0] S1x1024x256.size i0, w0⟩ : View.Piece (Elt F) S2x4096x256 .bf16) :: L)
      (Rect.unit (s := S2x4096x256) ![h, 0, 0] S1x4096x256.size ib).toLoadRect = stack w0 w1 w2 w3 := by
  funext x
  have hx0 : (x (0 : Fin 3)).val = 0 := Nat.lt_one_iff.mp (x (0 : Fin 3)).isLt
  have hx : (x (1 : Fin 3)).val < 4096 := (x (1 : Fin 3)).isLt
  -- the index of the slot that position `x` of the box names, axis by axis
  set y : S2x4096x256.Idx := (Rect.unit (s := S2x4096x256) ![h, 0, 0] S1x4096x256.size ib).toLoadRect.idx x with hy
  have hy0 : (y (0 : Fin 3)).val = h := by
    show h + 1 * (x (0 : Fin 3)).val = h
    omega
  have hy1 : (y (1 : Fin 3)).val = (x (1 : Fin 3)).val := by
    show 0 + 1 * (x (1 : Fin 3)).val = _
    omega
  have hy2 : (y (2 : Fin 3)).val = (x (2 : Fin 3)).val := by
    show 0 + 1 * (x (2 : Fin 3)).val = _
    omega
  have miss : ∀ (o : ℕ) (io : ∀ a, (![h, o, 0] : Fin 3 → ℕ) a + S1x1024x256.size a ≤ S2x4096x256.size a)
      (w : Vec F S1x1024x256 .bf16) (L : List (View.Piece (Elt F) S2x4096x256 .bf16)),
      ((x (1 : Fin 3)).val < o ∨ o + 1024 ≤ (x (1 : Fin 3)).val) →
      v.read (Elt F) (v.writes (Elt F) v.junk ((⟨Rect.unit ![h, o, 0] S1x1024x256.size io, w⟩ : View.Piece (Elt F) S2x4096x256 .bf16) :: L)) y
        = v.read (Elt F) (v.writes (Elt F) v.junk L) y := fun o io w L ho =>
    View.read_writes_cons_unit_of_not_mem v v.junk io w L y rfl (1 : Fin 3) (by
      rw [hy1]; exact ho)
  have hit : ∀ (o : ℕ) (io : ∀ a, (![h, o, 0] : Fin 3 → ℕ) a + S1x1024x256.size a ≤ S2x4096x256.size a)
      (w : Vec F S1x1024x256 .bf16) (L : List (View.Piece (Elt F) S2x4096x256 .bf16)),
      (x (1 : Fin 3)).val = o + (x (1 : Fin 3)).val % 1024 →
      v.read (Elt F) (v.writes (Elt F) v.junk ((⟨Rect.unit ![h, o, 0] S1x1024x256.size io, w⟩ : View.Piece (Elt F) S2x4096x256 .bf16) :: L)) y
        = w (ix3 (0 : Fin 1) (⟨(x (1 : Fin 3)).val % 1024, Nat.mod_lt _ (by decide)⟩ : Fin 1024) (x (2 : Fin 3) : Fin 256)) := fun o io w L ho =>
    View.read_writes_cons_unit_of_mem v v.junk io w L y _ rfl (by
      intro a
      fin_cases a
      · exact hy0
      · exact hy1.trans ho
      · show (y (2 : Fin 3)).val = 0 + (x (2 : Fin 3)).val
        rw [hy2, Nat.zero_add])
  show v.read (Elt F) (v.writes (Elt F) v.junk _) y = stack w0 w1 w2 w3 x
  unfold stack
  dsimp only
  split_ifs with h0 h1 h2
  · rw [miss _ i3 _ _ (by omega), miss _ i2 _ _ (by omega), miss _ i1 _ _ (by omega), hit _ i0 _ _ (by omega)]
  · rw [miss _ i3 _ _ (by omega), miss _ i2 _ _ (by omega), hit _ i1 _ _ (by omega)]
  · rw [miss _ i3 _ _ (by omega), hit _ i2 _ _ (by omega)]
  · rw [hit _ i3 _ _ (by omega)]

/-! ## Blocks of the inputs that one unit of work reads: unit `u` is head `u % 2` of the pair for query tile `u / 2` -/

theorem inb_q (u : Fin 16) : ∀ a, (![0, 256 * (u.val / 2), 128 * (u.val % 2)] : Fin 3 → ℕ) a + S1x256x128.size a ≤ S1x2048x256.size a := by
  intro a
  have := u.isLt
  fin_cases a
  · show 0 + 1 ≤ 1; omega
  · show 256 * (u.val / 2) + 256 ≤ 2048; omega
  · show 128 * (u.val % 2) + 128 ≤ 256; omega

theorem inb_k (u : Fin 16) (c : Fin 4) : ∀ a, (![0, 1024 * c.val, 128 * (u.val % 2)] : Fin 3 → ℕ) a + S1x1024x128.size a ≤ S1x4096x256.size a := by
  intro a
  have := c.isLt
  fin_cases a
  · show 0 + 1 ≤ 1; omega
  · show 1024 * c.val + 1024 ≤ 4096; omega
  · show 128 * (u.val % 2) + 128 ≤ 256; omega

theorem inb_v (u : Fin 16) : ∀ a, (![0, 64 * (u.val % 2), 0] : Fin 3 → ℕ) a + S1x64x4096.size a ≤ S1x128x4096.size a := by
  intro a
  fin_cases a
  · show 0 + 1 ≤ 1; omega
  · show 64 * (u.val % 2) + 64 ≤ 128; omega
  · show 0 + 4096 ≤ 4096; omega

/-- Unit `u`'s queries. -/
def qB (x0 : Vec F S1x2048x256 .bf16) (u : Fin 16) : Vec F S1x256x128 .bf16 :=
  View.ld x0 (Rect.unit ![0, 256 * (u.val / 2), 128 * (u.val % 2)] S1x256x128.size (inb_q u))
/-- Chunk `c` of unit `u`'s keys. -/
def kB (x1 : Vec F S1x4096x256 .bf16) (u : Fin 16) (c : Fin 4) : Vec F S1x1024x128 .bf16 :=
  View.ld x1 (Rect.unit ![0, 1024 * c.val, 128 * (u.val % 2)] S1x1024x128.size (inb_k u c))
/-- Unit `u`'s values. -/
def vB (x2 : Vec F S1x128x4096 .bf16) (u : Fin 16) : Vec F S1x64x4096 .bf16 :=
  View.ld x2 (Rect.unit ![0, 64 * (u.val % 2), 0] S1x64x4096.size (inb_v u))

def maxB (x0 : Vec F S1x2048x256 .bf16) (x1 : Vec F S1x4096x256 .bf16) (u : Fin 16) : FVec F S1x256 .f32 :=
  rowMax (qB x0 u) (kB x1 u 0) (kB x1 u 1) (kB x1 u 2) (kB x1 u 3)
def sB (x0 : Vec F S1x2048x256 .bf16) (x1 : Vec F S1x4096x256 .bf16) (u : Fin 16) (c : Fin 4) : Vec F S1x1024x256 .f32 :=
  kept (qB x0 u) (kB x1 u c)
def pB (x0 : Vec F S1x2048x256 .bf16) (x1 : Vec F S1x4096x256 .bf16) (u : Fin 16) : Vec F S1x4096x256 .bf16 :=
  stack (keptProbs (maxB x0 x1 u) (sB x0 x1 u 0)) (keptProbs (maxB x0 x1 u) (sB x0 x1 u 1))
    (keptProbs (maxB x0 x1 u) (sB x0 x1 u 2)) (keptProbs (maxB x0 x1 u) (sB x0 x1 u 3))
/-- What unit `u` computes. -/
def unitB (x0 : Vec F S1x2048x256 .bf16) (x1 : Vec F S1x4096x256 .bf16) (x2 : Vec F S1x128x4096 .bf16) (u : Fin 16) :
    FVec F S64x256 .f32 :=
  ratio (denom (maxB x0 x1 u) (sB x0 x1 u 0) (sB x0 x1 u 1) (sB x0 x1 u 2) (sB x0 x1 u 3)) (vB x2 u) (pB x0 x1 u)

end Cert.KernelIdeal.Mla

end
-- ==== Proof.Mla.Run.lean ====
module

public import proofs.«01_k».proof.Proof.Mla.Ops

@[expose] public section

noncomputable section

/-! What each load of the attention kernel's body reads, and what each of its eight stores leaves in the output block. -/

namespace Cert.KernelIdeal.Mla

open Cert.KernelIdeal Cert.KernelIdeal.Gen Cert.KernelIdeal.Gen.kernelRun0_A Idealize.ShloMosaic Idealize.ShloMosaic.TcCoe Idealize.SL.Sem

variable {F : FTy → Type} [FloatOps F] [Named F]

variable (c : Dev nD) (i : grid0.Coords) (arg3 : Memref sig .tc .vmem S1x2048x256 .bf16) (harg3 : arg3.IsWhole)
  (arg4 : Memref sig .tc .vmem S1x4096x256 .bf16) (harg4 : arg4.IsWhole) (arg5 : Memref sig .tc .vmem S1x128x4096 .bf16)
  (harg5 : arg5.IsWhole) (arg6 : Memref sig .tc .vmem S1x2048x128 .bf16) (harg6 : arg6.IsWhole)
  (arg7 : Memref sig .tc .vmem S2x4096x256 .f32) (harg7 : arg7.IsWhole) (arg8 : Memref sig .tc .vmem S2x4096x256 .bf16)
  (harg8 : arg8.IsWhole) (x0 : Vec F S1x2048x256 .bf16) (x1 : Vec F S1x4096x256 .bf16) (x2 : Vec F S1x128x4096 .bf16)

/-- Unit `u`'s queries as loaded. -/
def qW (u : Fin 16) : Vec F S1x256x128 .bf16 :=
  arg3.view.readAt (Elt F) (Rect.unit (s := S1x2048x256) ![0, 256 * (u.val / 2), 128 * (u.val % 2)] S1x256x128.size (inb_q u)).toLoadRect (harg3.unread x0)
theorem qW_eq (u : Fin 16) : qW arg3 harg3 x0 u = qB x0 u := load_unread arg3 harg3 x0 _
/-- Chunk `k` of unit `u`'s keys as loaded. -/
def kW (u : Fin 16) (k : Fin 4) : Vec F S1x1024x128 .bf16 :=
  arg4.view.readAt (Elt F) (Rect.unit (s := S1x4096x256) ![0, 1024 * k.val, 128 * (u.val % 2)] S1x1024x128.size (inb_k u k)).toLoadRect (harg4.unread x1)
theorem kW_eq (u : Fin 16) (k : Fin 4) : kW arg4 harg4 x1 u k = kB x1 u k := load_unread arg4 harg4 x1 _
/-- Unit `u`'s values as loaded. -/
def vW (u : Fin 16) : Vec F S1x64x4096 .bf16 :=
  arg5.view.readAt (Elt F) (Rect.unit (s := S1x128x4096) ![0, 64 * (u.val % 2), 0] S1x64x4096.size (inb_v u)).toLoadRect (harg5.unread x2)
theorem vW_eq (u : Fin 16) : vW arg5 harg5 x2 u = vB x2 u := load_unread arg5 harg5 x2 _
/-- Unit `u`'s largest scores from what it loads. -/
def mW (u : Fin 16) : FVec F S1x256 .f32 :=
  rowMax (qW arg3 harg3 x0 u) (kW arg4 harg4 x1 u 0) (kW arg4 harg4 x1 u 1) (kW arg4 harg4 x1 u 2) (kW arg4 harg4 x1 u 3)
theorem mW_eq (u : Fin 16) : mW arg3 harg3 arg4 harg4 x0 x1 u = maxB x0 x1 u := by
  unfold mW maxB
  rw [qW_eq, kW_eq, kW_eq, kW_eq, kW_eq]

theorem s_0_0 : sl.v83 c arg3 harg3 arg4 harg4 arg7 x0 x1 = sB x0 x1 0 0 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 0) (kW_eq arg4 harg4 x1 0 0))

theorem s_0_1 : sl.v95 c arg3 harg3 arg4 harg4 arg7 x0 x1 = sB x0 x1 0 1 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 0) (kW_eq arg4 harg4 x1 0 1))

theorem s_0_2 : sl.v107 c arg3 harg3 arg4 harg4 arg7 x0 x1 = sB x0 x1 0 2 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_hit _ _ _ _ _).trans (congrArg₂ kept (qW_eq arg3 harg3 x0 0) (kW_eq arg4 harg4 x1 0 2))

theorem s_0_3 : sl.v119 c arg3 harg3 arg4 harg4 arg7 x0 x1 = sB x0 x1 0 3 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_hit _ _ _ _ _).trans (congrArg₂ kept (qW_eq arg3 harg3 x0 0) (kW_eq arg4 harg4 x1 0 3))

theorem p_0 : sl.v135 c arg3 harg3 arg4 harg4 arg7 arg8 x0 x1 = pB x0 x1 0 := by
  refine (load_stack arg8.view 0 _ _ _ _ _ (keptProbs (mW arg3 harg3 arg4 harg4 x0 x1 0) (sl.v83 c arg3 harg3 arg4 harg4 arg7 x0 x1)) (keptProbs (mW arg3 harg3 arg4 harg4 x0 x1 0) (sl.v95 c arg3 harg3 arg4 harg4 arg7 x0 x1)) (keptProbs (mW arg3 harg3 arg4 harg4 x0 x1 0) (sl.v107 c arg3 harg3 arg4 harg4 arg7 x0 x1)) (keptProbs (mW arg3 harg3 arg4 harg4 x0 x1 0) (sl.v119 c arg3 harg3 arg4 harg4 arg7 x0 x1)) _).trans ?_
  rw [mW_eq, s_0_0, s_0_1, s_0_2, s_0_3]
  rfl

theorem s_1_0 : sl.v182 c arg3 harg3 arg4 harg4 arg7 x0 x1 = sB x0 x1 1 0 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 1) (kW_eq arg4 harg4 x1 1 0))

theorem s_1_1 : sl.v194 c arg3 harg3 arg4 harg4 arg7 x0 x1 = sB x0 x1 1 1 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 1) (kW_eq arg4 harg4 x1 1 1))

theorem s_1_2 : sl.v206 c arg3 harg3 arg4 harg4 arg7 x0 x1 = sB x0 x1 1 2 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_hit _ _ _ _ _).trans (congrArg₂ kept (qW_eq arg3 harg3 x0 1) (kW_eq arg4 harg4 x1 1 2))

theorem s_1_3 : sl.v218 c arg3 harg3 arg4 harg4 arg7 x0 x1 = sB x0 x1 1 3 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_hit _ _ _ _ _).trans (congrArg₂ kept (qW_eq arg3 harg3 x0 1) (kW_eq arg4 harg4 x1 1 3))

theorem p_1 : sl.v234 c arg3 harg3 arg4 harg4 arg7 arg8 x0 x1 = pB x0 x1 1 := by
  refine (load_stack arg8.view 1 _ _ _ _ _ (keptProbs (mW arg3 harg3 arg4 harg4 x0 x1 1) (sl.v182 c arg3 harg3 arg4 harg4 arg7 x0 x1)) (keptProbs (mW arg3 harg3 arg4 harg4 x0 x1 1) (sl.v194 c arg3 harg3 arg4 harg4 arg7 x0 x1)) (keptProbs (mW arg3 harg3 arg4 harg4 x0 x1 1) (sl.v206 c arg3 harg3 arg4 harg4 arg7 x0 x1)) (keptProbs (mW arg3 harg3 arg4 harg4 x0 x1 1) (sl.v218 c arg3 harg3 arg4 harg4 arg7 x0 x1)) _).trans ?_
  rw [mW_eq, s_1_0, s_1_1, s_1_2, s_1_3]
  rfl

theorem s_2_0 : sl.v287 c arg3 harg3 arg4 harg4 arg7 x0 x1 = sB x0 x1 2 0 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 2) (kW_eq arg4 harg4 x1 2 0))

theorem s_2_1 : sl.v299 c arg3 harg3 arg4 harg4 arg7 x0 x1 = sB x0 x1 2 1 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 2) (kW_eq arg4 harg4 x1 2 1))

theorem s_2_2 : sl.v311 c arg3 harg3 arg4 harg4 arg7 x0 x1 = sB x0 x1 2 2 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_hit _ _ _ _ _).trans (congrArg₂ kept (qW_eq arg3 harg3 x0 2) (kW_eq arg4 harg4 x1 2 2))

theorem s_2_3 : sl.v323 c arg3 harg3 arg4 harg4 arg7 x0 x1 = sB x0 x1 2 3 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_hit _ _ _ _ _).trans (congrArg₂ kept (qW_eq arg3 harg3 x0 2) (kW_eq arg4 harg4 x1 2 3))

theorem p_2 : sl.v339 c arg3 harg3 arg4 harg4 arg7 arg8 x0 x1 = pB x0 x1 2 := by
  refine (load_stack arg8.view 0 _ _ _ _ _ (keptProbs (mW arg3 harg3 arg4 harg4 x0 x1 2) (sl.v287 c arg3 harg3 arg4 harg4 arg7 x0 x1)) (keptProbs (mW arg3 harg3 arg4 harg4 x0 x1 2) (sl.v299 c arg3 harg3 arg4 harg4 arg7 x0 x1)) (keptProbs (mW arg3 harg3 arg4 harg4 x0 x1 2) (sl.v311 c arg3 harg3 arg4 harg4 arg7 x0 x1)) (keptProbs (mW arg3 harg3 arg4 harg4 x0 x1 2) (sl.v323 c arg3 harg3 arg4 harg4 arg7 x0 x1)) _).trans ?_
  rw [mW_eq, s_2_0, s_2_1, s_2_2, s_2_3]
  rfl

theorem s_3_0 : sl.v386 c arg3 harg3 arg4 harg4 arg7 x0 x1 = sB x0 x1 3 0 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 3) (kW_eq arg4 harg4 x1 3 0))

theorem s_3_1 : sl.v398 c arg3 harg3 arg4 harg4 arg7 x0 x1 = sB x0 x1 3 1 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 3) (kW_eq arg4 harg4 x1 3 1))

theorem s_3_2 : sl.v410 c arg3 harg3 arg4 harg4 arg7 x0 x1 = sB x0 x1 3 2 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_hit _ _ _ _ _).trans (congrArg₂ kept (qW_eq arg3 harg3 x0 3) (kW_eq arg4 harg4 x1 3 2))

theorem s_3_3 : sl.v422 c arg3 harg3 arg4 harg4 arg7 x0 x1 = sB x0 x1 3 3 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_hit _ _ _ _ _).trans (congrArg₂ kept (qW_eq arg3 harg3 x0 3) (kW_eq arg4 harg4 x1 3 3))

theorem p_3 : sl.v438 c arg3 harg3 arg4 harg4 arg7 arg8 x0 x1 = pB x0 x1 3 := by
  refine (load_stack arg8.view 1 _ _ _ _ _ (keptProbs (mW arg3 harg3 arg4 harg4 x0 x1 3) (sl.v386 c arg3 harg3 arg4 harg4 arg7 x0 x1)) (keptProbs (mW arg3 harg3 arg4 harg4 x0 x1 3) (sl.v398 c arg3 harg3 arg4 harg4 arg7 x0 x1)) (keptProbs (mW arg3 harg3 arg4 harg4 x0 x1 3) (sl.v410 c arg3 harg3 arg4 harg4 arg7 x0 x1)) (keptProbs (mW arg3 harg3 arg4 harg4 x0 x1 3) (sl.v422 c arg3 harg3 arg4 harg4 arg7 x0 x1)) _).trans ?_
  rw [mW_eq, s_3_0, s_3_1, s_3_2, s_3_3]
  rfl

theorem s_4_0 : sl.v491 c arg3 harg3 arg4 harg4 arg7 x0 x1 = sB x0 x1 4 0 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 4) (kW_eq arg4 harg4 x1 4 0))

theorem s_4_1 : sl.v503 c arg3 harg3 arg4 harg4 arg7 x0 x1 = sB x0 x1 4 1 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 4) (kW_eq arg4 harg4 x1 4 1))

theorem s_4_2 : sl.v515 c arg3 harg3 arg4 harg4 arg7 x0 x1 = sB x0 x1 4 2 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_hit _ _ _ _ _).trans (congrArg₂ kept (qW_eq arg3 harg3 x0 4) (kW_eq arg4 harg4 x1 4 2))

theorem s_4_3 : sl.v527 c arg3 harg3 arg4 harg4 arg7 x0 x1 = sB x0 x1 4 3 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_hit _ _ _ _ _).trans (congrArg₂ kept (qW_eq arg3 harg3 x0 4) (kW_eq arg4 harg4 x1 4 3))

theorem p_4 : sl.v543 c arg3 harg3 arg4 harg4 arg7 arg8 x0 x1 = pB x0 x1 4 := by
  refine (load_stack arg8.view 0 _ _ _ _ _ (keptProbs (mW arg3 harg3 arg4 harg4 x0 x1 4) (sl.v491 c arg3 harg3 arg4 harg4 arg7 x0 x1)) (keptProbs (mW arg3 harg3 arg4 harg4 x0 x1 4) (sl.v503 c arg3 harg3 arg4 harg4 arg7 x0 x1)) (keptProbs (mW arg3 harg3 arg4 harg4 x0 x1 4) (sl.v515 c arg3 harg3 arg4 harg4 arg7 x0 x1)) (keptProbs (mW arg3 harg3 arg4 harg4 x0 x1 4) (sl.v527 c arg3 harg3 arg4 harg4 arg7 x0 x1)) _).trans ?_
  rw [mW_eq, s_4_0, s_4_1, s_4_2, s_4_3]
  rfl

theorem s_5_0 : sl.v590 c arg3 harg3 arg4 harg4 arg7 x0 x1 = sB x0 x1 5 0 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 5) (kW_eq arg4 harg4 x1 5 0))

theorem s_5_1 : sl.v602 c arg3 harg3 arg4 harg4 arg7 x0 x1 = sB x0 x1 5 1 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 5) (kW_eq arg4 harg4 x1 5 1))

theorem s_5_2 : sl.v614 c arg3 harg3 arg4 harg4 arg7 x0 x1 = sB x0 x1 5 2 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_hit _ _ _ _ _).trans (congrArg₂ kept (qW_eq arg3 harg3 x0 5) (kW_eq arg4 harg4 x1 5 2))

theorem s_5_3 : sl.v626 c arg3 harg3 arg4 harg4 arg7 x0 x1 = sB x0 x1 5 3 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_hit _ _ _ _ _).trans (congrArg₂ kept (qW_eq arg3 harg3 x0 5) (kW_eq arg4 harg4 x1 5 3))

theorem p_5 : sl.v642 c arg3 harg3 arg4 harg4 arg7 arg8 x0 x1 = pB x0 x1 5 := by
  refine (load_stack arg8.view 1 _ _ _ _ _ (keptProbs (mW arg3 harg3 arg4 harg4 x0 x1 5) (sl.v590 c arg3 harg3 arg4 harg4 arg7 x0 x1)) (keptProbs (mW arg3 harg3 arg4 harg4 x0 x1 5) (sl.v602 c arg3 harg3 arg4 harg4 arg7 x0 x1)) (keptProbs (mW arg3 harg3 arg4 harg4 x0 x1 5) (sl.v614 c arg3 harg3 arg4 harg4 arg7 x0 x1)) (keptProbs (mW arg3 harg3 arg4 harg4 x0 x1 5) (sl.v626 c arg3 harg3 arg4 harg4 arg7 x0 x1)) _).trans ?_
  rw [mW_eq, s_5_0, s_5_1, s_5_2, s_5_3]
  rfl

theorem s_6_0 : sl.v695 c arg3 harg3 arg4 harg4 arg7 x0 x1 = sB x0 x1 6 0 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 6) (kW_eq arg4 harg4 x1 6 0))

theorem s_6_1 : sl.v707 c arg3 harg3 arg4 harg4 arg7 x0 x1 = sB x0 x1 6 1 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 6) (kW_eq arg4 harg4 x1 6 1))

theorem s_6_2 : sl.v719 c arg3 harg3 arg4 harg4 arg7 x0 x1 = sB x0 x1 6 2 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_hit _ _ _ _ _).trans (congrArg₂ kept (qW_eq arg3 harg3 x0 6) (kW_eq arg4 harg4 x1 6 2))

theorem s_6_3 : sl.v731 c arg3 harg3 arg4 harg4 arg7 x0 x1 = sB x0 x1 6 3 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_hit _ _ _ _ _).trans (congrArg₂ kept (qW_eq arg3 harg3 x0 6) (kW_eq arg4 harg4 x1 6 3))

theorem p_6 : sl.v747 c arg3 harg3 arg4 harg4 arg7 arg8 x0 x1 = pB x0 x1 6 := by
  refine (load_stack arg8.view 0 _ _ _ _ _ (keptProbs (mW arg3 harg3 arg4 harg4 x0 x1 6) (sl.v695 c arg3 harg3 arg4 harg4 arg7 x0 x1)) (keptProbs (mW arg3 harg3 arg4 harg4 x0 x1 6) (sl.v707 c arg3 harg3 arg4 harg4 arg7 x0 x1)) (keptProbs (mW arg3 harg3 arg4 harg4 x0 x1 6) (sl.v719 c arg3 harg3 arg4 harg4 arg7 x0 x1)) (keptProbs (mW arg3 harg3 arg4 harg4 x0 x1 6) (sl.v731 c arg3 harg3 arg4 harg4 arg7 x0 x1)) _).trans ?_
  rw [mW_eq, s_6_0, s_6_1, s_6_2, s_6_3]
  rfl

theorem s_7_0 : sl.v794 c arg3 harg3 arg4 harg4 arg7 x0 x1 = sB x0 x1 7 0 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 7) (kW_eq arg4 harg4 x1 7 0))

theorem s_7_1 : sl.v806 c arg3 harg3 arg4 harg4 arg7 x0 x1 = sB x0 x1 7 1 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 7) (kW_eq arg4 harg4 x1 7 1))

theorem s_7_2 : sl.v818 c arg3 harg3 arg4 harg4 arg7 x0 x1 = sB x0 x1 7 2 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_hit _ _ _ _ _).trans (congrArg₂ kept (qW_eq arg3 harg3 x0 7) (kW_eq arg4 harg4 x1 7 2))

theorem s_7_3 : sl.v830 c arg3 harg3 arg4 harg4 arg7 x0 x1 = sB x0 x1 7 3 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_hit _ _ _ _ _).trans (congrArg₂ kept (qW_eq arg3 harg3 x0 7) (kW_eq arg4 harg4 x1 7 3))

theorem p_7 : sl.v846 c arg3 harg3 arg4 harg4 arg7 arg8 x0 x1 = pB x0 x1 7 := by
  refine (load_stack arg8.view 1 _ _ _ _ _ (keptProbs (mW arg3 harg3 arg4 harg4 x0 x1 7) (sl.v794 c arg3 harg3 arg4 harg4 arg7 x0 x1)) (keptProbs (mW arg3 harg3 arg4 harg4 x0 x1 7) (sl.v806 c arg3 harg3 arg4 harg4 arg7 x0 x1)) (keptProbs (mW arg3 harg3 arg4 harg4 x0 x1 7) (sl.v818 c arg3 harg3 arg4 harg4 arg7 x0 x1)) (keptProbs (mW arg3 harg3 arg4 harg4 x0 x1 7) (sl.v830 c arg3 harg3 arg4 harg4 arg7 x0 x1)) _).trans ?_
  rw [mW_eq, s_7_0, s_7_1, s_7_2, s_7_3]
  rfl

theorem s_8_0 : sl.v899 c arg3 harg3 arg4 harg4 arg7 x0 x1 = sB x0 x1 8 0 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 8) (kW_eq arg4 harg4 x1 8 0))

theorem s_8_1 : sl.v911 c arg3 harg3 arg4 harg4 arg7 x0 x1 = sB x0 x1 8 1 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 8) (kW_eq arg4 harg4 x1 8 1))

theorem s_8_2 : sl.v923 c arg3 harg3 arg4 harg4 arg7 x0 x1 = sB x0 x1 8 2 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_hit _ _ _ _ _).trans (congrArg₂ kept (qW_eq arg3 harg3 x0 8) (kW_eq arg4 harg4 x1 8 2))

theorem s_8_3 : sl.v935 c arg3 harg3 arg4 harg4 arg7 x0 x1 = sB x0 x1 8 3 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_hit _ _ _ _ _).trans (congrArg₂ kept (qW_eq arg3 harg3 x0 8) (kW_eq arg4 harg4 x1 8 3))

theorem p_8 : sl.v951 c arg3 harg3 arg4 harg4 arg7 arg8 x0 x1 = pB x0 x1 8 := by
  refine (load_stack arg8.view 0 _ _ _ _ _ (keptProbs (mW arg3 harg3 arg4 harg4 x0 x1 8) (sl.v899 c arg3 harg3 arg4 harg4 arg7 x0 x1)) (keptProbs (mW arg3 harg3 arg4 harg4 x0 x1 8) (sl.v911 c arg3 harg3 arg4 harg4 arg7 x0 x1)) (keptProbs (mW arg3 harg3 arg4 harg4 x0 x1 8) (sl.v923 c arg3 harg3 arg4 harg4 arg7 x0 x1)) (keptProbs (mW arg3 harg3 arg4 harg4 x0 x1 8) (sl.v935 c arg3 harg3 arg4 harg4 arg7 x0 x1)) _).trans ?_
  rw [mW_eq, s_8_0, s_8_1, s_8_2, s_8_3]
  rfl

theorem s_9_0 : sl.v998 c arg3 harg3 arg4 harg4 arg7 x0 x1 = sB x0 x1 9 0 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 9) (kW_eq arg4 harg4 x1 9 0))

theorem s_9_1 : sl.v1010 c arg3 harg3 arg4 harg4 arg7 x0 x1 = sB x0 x1 9 1 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 9) (kW_eq arg4 harg4 x1 9 1))

theorem s_9_2 : sl.v1022 c arg3 harg3 arg4 harg4 arg7 x0 x1 = sB x0 x1 9 2 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_hit _ _ _ _ _).trans (congrArg₂ kept (qW_eq arg3 harg3 x0 9) (kW_eq arg4 harg4 x1 9 2))

theorem s_9_3 : sl.v1034 c arg3 harg3 arg4 harg4 arg7 x0 x1 = sB x0 x1 9 3 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_hit _ _ _ _ _).trans (congrArg₂ kept (qW_eq arg3 harg3 x0 9) (kW_eq arg4 harg4 x1 9 3))

theorem p_9 : sl.v1050 c arg3 harg3 arg4 harg4 arg7 arg8 x0 x1 = pB x0 x1 9 := by
  refine (load_stack arg8.view 1 _ _ _ _ _ (keptProbs (mW arg3 harg3 arg4 harg4 x0 x1 9) (sl.v998 c arg3 harg3 arg4 harg4 arg7 x0 x1)) (keptProbs (mW arg3 harg3 arg4 harg4 x0 x1 9) (sl.v1010 c arg3 harg3 arg4 harg4 arg7 x0 x1)) (keptProbs (mW arg3 harg3 arg4 harg4 x0 x1 9) (sl.v1022 c arg3 harg3 arg4 harg4 arg7 x0 x1)) (keptProbs (mW arg3 harg3 arg4 harg4 x0 x1 9) (sl.v1034 c arg3 harg3 arg4 harg4 arg7 x0 x1)) _).trans ?_
  rw [mW_eq, s_9_0, s_9_1, s_9_2, s_9_3]
  rfl

theorem s_10_0 : sl.v1103 c arg3 harg3 arg4 harg4 arg7 x0 x1 = sB x0 x1 10 0 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 10) (kW_eq arg4 harg4 x1 10 0))

theorem s_10_1 : sl.v1115 c arg3 harg3 arg4 harg4 arg7 x0 x1 = sB x0 x1 10 1 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 10) (kW_eq arg4 harg4 x1 10 1))

theorem s_10_2 : sl.v1127 c arg3 harg3 arg4 harg4 arg7 x0 x1 = sB x0 x1 10 2 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_hit _ _ _ _ _).trans (congrArg₂ kept (qW_eq arg3 harg3 x0 10) (kW_eq arg4 harg4 x1 10 2))

theorem s_10_3 : sl.v1139 c arg3 harg3 arg4 harg4 arg7 x0 x1 = sB x0 x1 10 3 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_hit _ _ _ _ _).trans (congrArg₂ kept (qW_eq arg3 harg3 x0 10) (kW_eq arg4 harg4 x1 10 3))

theorem p_10 : sl.v1155 c arg3 harg3 arg4 harg4 arg7 arg8 x0 x1 = pB x0 x1 10 := by
  refine (load_stack arg8.view 0 _ _ _ _ _ (keptProbs (mW arg3 harg3 arg4 harg4 x0 x1 10) (sl.v1103 c arg3 harg3 arg4 harg4 arg7 x0 x1)) (keptProbs (mW arg3 harg3 arg4 harg4 x0 x1 10) (sl.v1115 c arg3 harg3 arg4 harg4 arg7 x0 x1)) (keptProbs (mW arg3 harg3 arg4 harg4 x0 x1 10) (sl.v1127 c arg3 harg3 arg4 harg4 arg7 x0 x1)) (keptProbs (mW arg3 harg3 arg4 harg4 x0 x1 10) (sl.v1139 c arg3 harg3 arg4 harg4 arg7 x0 x1)) _).trans ?_
  rw [mW_eq, s_10_0, s_10_1, s_10_2, s_10_3]
  rfl

theorem s_11_0 : sl.v1202 c arg3 harg3 arg4 harg4 arg7 x0 x1 = sB x0 x1 11 0 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 11) (kW_eq arg4 harg4 x1 11 0))

theorem s_11_1 : sl.v1214 c arg3 harg3 arg4 harg4 arg7 x0 x1 = sB x0 x1 11 1 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 11) (kW_eq arg4 harg4 x1 11 1))

theorem s_11_2 : sl.v1226 c arg3 harg3 arg4 harg4 arg7 x0 x1 = sB x0 x1 11 2 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_hit _ _ _ _ _).trans (congrArg₂ kept (qW_eq arg3 harg3 x0 11) (kW_eq arg4 harg4 x1 11 2))

theorem s_11_3 : sl.v1238 c arg3 harg3 arg4 harg4 arg7 x0 x1 = sB x0 x1 11 3 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_hit _ _ _ _ _).trans (congrArg₂ kept (qW_eq arg3 harg3 x0 11) (kW_eq arg4 harg4 x1 11 3))

theorem p_11 : sl.v1254 c arg3 harg3 arg4 harg4 arg7 arg8 x0 x1 = pB x0 x1 11 := by
  refine (load_stack arg8.view 1 _ _ _ _ _ (keptProbs (mW arg3 harg3 arg4 harg4 x0 x1 11) (sl.v1202 c arg3 harg3 arg4 harg4 arg7 x0 x1)) (keptProbs (mW arg3 harg3 arg4 harg4 x0 x1 11) (sl.v1214 c arg3 harg3 arg4 harg4 arg7 x0 x1)) (keptProbs (mW arg3 harg3 arg4 harg4 x0 x1 11) (sl.v1226 c arg3 harg3 arg4 harg4 arg7 x0 x1)) (keptProbs (mW arg3 harg3 arg4 harg4 x0 x1 11) (sl.v1238 c arg3 harg3 arg4 harg4 arg7 x0 x1)) _).trans ?_
  rw [mW_eq, s_11_0, s_11_1, s_11_2, s_11_3]
  rfl

theorem s_12_0 : sl.v1307 c arg3 harg3 arg4 harg4 arg7 x0 x1 = sB x0 x1 12 0 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 12) (kW_eq arg4 harg4 x1 12 0))

theorem s_12_1 : sl.v1319 c arg3 harg3 arg4 harg4 arg7 x0 x1 = sB x0 x1 12 1 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 12) (kW_eq arg4 harg4 x1 12 1))

theorem s_12_2 : sl.v1331 c arg3 harg3 arg4 harg4 arg7 x0 x1 = sB x0 x1 12 2 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_hit _ _ _ _ _).trans (congrArg₂ kept (qW_eq arg3 harg3 x0 12) (kW_eq arg4 harg4 x1 12 2))

theorem s_12_3 : sl.v1343 c arg3 harg3 arg4 harg4 arg7 x0 x1 = sB x0 x1 12 3 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_hit _ _ _ _ _).trans (congrArg₂ kept (qW_eq arg3 harg3 x0 12) (kW_eq arg4 harg4 x1 12 3))

theorem p_12 : sl.v1359 c arg3 harg3 arg4 harg4 arg7 arg8 x0 x1 = pB x0 x1 12 := by
  refine (load_stack arg8.view 0 _ _ _ _ _ (keptProbs (mW arg3 harg3 arg4 harg4 x0 x1 12) (sl.v1307 c arg3 harg3 arg4 harg4 arg7 x0 x1)) (keptProbs (mW arg3 harg3 arg4 harg4 x0 x1 12) (sl.v1319 c arg3 harg3 arg4 harg4 arg7 x0 x1)) (keptProbs (mW arg3 harg3 arg4 harg4 x0 x1 12) (sl.v1331 c arg3 harg3 arg4 harg4 arg7 x0 x1)) (keptProbs (mW arg3 harg3 arg4 harg4 x0 x1 12) (sl.v1343 c arg3 harg3 arg4 harg4 arg7 x0 x1)) _).trans ?_
  rw [mW_eq, s_12_0, s_12_1, s_12_2, s_12_3]
  rfl

theorem s_13_0 : sl.v1406 c arg3 harg3 arg4 harg4 arg7 x0 x1 = sB x0 x1 13 0 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 13) (kW_eq arg4 harg4 x1 13 0))

theorem s_13_1 : sl.v1418 c arg3 harg3 arg4 harg4 arg7 x0 x1 = sB x0 x1 13 1 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 13) (kW_eq arg4 harg4 x1 13 1))

theorem s_13_2 : sl.v1430 c arg3 harg3 arg4 harg4 arg7 x0 x1 = sB x0 x1 13 2 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_hit _ _ _ _ _).trans (congrArg₂ kept (qW_eq arg3 harg3 x0 13) (kW_eq arg4 harg4 x1 13 2))

theorem s_13_3 : sl.v1442 c arg3 harg3 arg4 harg4 arg7 x0 x1 = sB x0 x1 13 3 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_hit _ _ _ _ _).trans (congrArg₂ kept (qW_eq arg3 harg3 x0 13) (kW_eq arg4 harg4 x1 13 3))

theorem p_13 : sl.v1458 c arg3 harg3 arg4 harg4 arg7 arg8 x0 x1 = pB x0 x1 13 := by
  refine (load_stack arg8.view 1 _ _ _ _ _ (keptProbs (mW arg3 harg3 arg4 harg4 x0 x1 13) (sl.v1406 c arg3 harg3 arg4 harg4 arg7 x0 x1)) (keptProbs (mW arg3 harg3 arg4 harg4 x0 x1 13) (sl.v1418 c arg3 harg3 arg4 harg4 arg7 x0 x1)) (keptProbs (mW arg3 harg3 arg4 harg4 x0 x1 13) (sl.v1430 c arg3 harg3 arg4 harg4 arg7 x0 x1)) (keptProbs (mW arg3 harg3 arg4 harg4 x0 x1 13) (sl.v1442 c arg3 harg3 arg4 harg4 arg7 x0 x1)) _).trans ?_
  rw [mW_eq, s_13_0, s_13_1, s_13_2, s_13_3]
  rfl

theorem s_14_0 : sl.v1511 c arg3 harg3 arg4 harg4 arg7 x0 x1 = sB x0 x1 14 0 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 14) (kW_eq arg4 harg4 x1 14 0))

theorem s_14_1 : sl.v1523 c arg3 harg3 arg4 harg4 arg7 x0 x1 = sB x0 x1 14 1 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 14) (kW_eq arg4 harg4 x1 14 1))

theorem s_14_2 : sl.v1535 c arg3 harg3 arg4 harg4 arg7 x0 x1 = sB x0 x1 14 2 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_miss _ _ _ _ _ (1 : Fin 3) (by decide)).trans <| (load_hit _ _ _ _ _).trans (congrArg₂ kept (qW_eq arg3 harg3 x0 14) (kW_eq arg4 harg4 x1 14 2))

theorem s_14_3 : sl.v1547 c arg3 harg3 arg4 harg4 arg7 x0 x1 = sB x0 x1 14 3 :=
  (load_miss _ _ _ _ _ (0 : Fin 3) (by decide)).trans <| (load_miss _ _ _ _ _ (0 : Fin 3) (by decide)).trans <| (load_miss _ _ _ _ _ (0 : Fin 3) (by decide)).trans <| (load_miss _ _ _ _ _ (0 : Fin 3) (by decide)).trans <| (load_hit _ _ _ _ _).trans (congrArg₂ kept (qW_eq arg3 harg3 x0 14) (kW_eq arg4 harg4 x1 14 3))

theorem p_14 : sl.v1563 c arg3 harg3 arg4 harg4 arg7 arg8 x0 x1 = pB x0 x1 14 := by
  refine (load_stack arg8.view 0 _ _ _ _ _ (keptProbs (mW arg3 harg3 arg4 harg4 x0 x1 14) (sl.v1511 c arg3 harg3 arg4 harg4 arg7 x0 x1)) (keptProbs (mW arg3 harg3 arg4 harg4 x0 x1 14) (sl.v1523 c arg3 harg3 arg4 harg4 arg7 x0 x1)) (keptProbs (mW arg3 harg3 arg4 harg4 x0 x1 14) (sl.v1535 c arg3 harg3 arg4 harg4 arg7 x0 x1)) (keptProbs (mW arg3 harg3 arg4 harg4 x0 x1 14) (sl.v1547 c arg3 harg3 arg4 harg4 arg7 x0 x1)) _).trans ?_
  rw [mW_eq, s_14_0, s_14_1, s_14_2, s_14_3]
  rfl

theorem s_15_0 : sl.v1569 c arg3 harg3 arg4 harg4 arg7 x0 x1 = sB x0 x1 15 0 :=
  (load_miss _ _ _ _ _ (1 : Fin 3) (by decide)).trans <| (load_miss _ _ _ _ _ (1 : Fin 3) (by decide)).trans <| (load_miss _ _ _ _ _ (1 : Fin 3) (by decide)).trans <| (load_hit _ _ _ _ _).trans (congrArg₂ kept (qW_eq arg3 harg3 x0 15) (kW_eq arg4 harg4 x1 15 0))

theorem s_15_1 : sl.v1581 c arg3 harg3 arg4 harg4 arg7 x0 x1 = sB x0 x1 15 1 :=
  (load_miss _ _ _ _ _ (1 : Fin 3) (by decide)).trans <| (load_miss _ _ _ _ _ (1 : Fin 3) (by decide)).trans <| (load_hit _ _ _ _ _).trans (congrArg₂ kept (qW_eq arg3 harg3 x0 15) (kW_eq arg4 harg4 x1 15 1))

theorem s_15_2 : sl.v1593 c arg3 harg3 arg4 harg4 arg7 x0 x1 = sB x0 x1 15 2 :=
  (load_miss _ _ _ _ _ (1 : Fin 3) (by decide)).trans <| (load_hit _ _ _ _ _).trans (congrArg₂ kept (qW_eq arg3 harg3 x0 15) (kW_eq arg4 harg4 x1 15 2))

theorem s_15_3 : sl.v1605 c arg3 harg3 arg4 harg4 arg7 x0 x1 = sB x0 x1 15 3 :=
  (load_hit _ _ _ _ _).trans (congrArg₂ kept (qW_eq arg3 harg3 x0 15) (kW_eq arg4 harg4 x1 15 3))

theorem p_15 : sl.v1621 c arg3 harg3 arg4 harg4 arg7 arg8 x0 x1 = pB x0 x1 15 := by
  refine (load_stack arg8.view 1 _ _ _ _ _ (keptProbs (mW arg3 harg3 arg4 harg4 x0 x1 15) (sl.v1569 c arg3 harg3 arg4 harg4 arg7 x0 x1)) (keptProbs (mW arg3 harg3 arg4 harg4 x0 x1 15) (sl.v1581 c arg3 harg3 arg4 harg4 arg7 x0 x1)) (keptProbs (mW arg3 harg3 arg4 harg4 x0 x1 15) (sl.v1593 c arg3 harg3 arg4 harg4 arg7 x0 x1)) (keptProbs (mW arg3 harg3 arg4 harg4 x0 x1 15) (sl.v1605 c arg3 harg3 arg4 harg4 arg7 x0 x1)) _).trans ?_
  rw [mW_eq, s_15_0, s_15_1, s_15_2, s_15_3]
  rfl

theorem tile_7 : k0_pay1 (sl.v1567 c arg3 harg3 arg4 harg4 arg5 harg5 arg7 arg8 x0 x1 x2) (sl.r_46 c arg3 harg3 arg4 harg4 arg7 x0 x1) (View.readAt (Elt F) arg5.view (Rect.unit (s := S1x128x4096) ![0, 64, 0] ![1, 64, 4096] inb_S1x128x4096_S1x64x4096_0_64_0).toLoadRect (harg5.unread x2)) (sl.v1621 c arg3 harg3 arg4 harg4 arg7 arg8 x0 x1)
    = tile (unitB x0 x1 x2 14) (unitB x0 x1 x2 15) := by
  refine (rfl : _ = tile (ratio (denom (mW arg3 harg3 arg4 harg4 x0 x1 14) (sl.v1511 c arg3 harg3 arg4 harg4 arg7 x0 x1) (sl.v1523 c arg3 harg3 arg4 harg4 arg7 x0 x1) (sl.v1535 c arg3 harg3 arg4 harg4 arg7 x0 x1) (sl.v1547 c arg3 harg3 arg4 harg4 arg7 x0 x1)) (vW arg5 harg5 x2 14) (sl.v1563 c arg3 harg3 arg4 harg4 arg7 arg8 x0 x1))
    (ratio (denom (mW arg3 harg3 arg4 harg4 x0 x1 15) (sl.v1569 c arg3 harg3 arg4 harg4 arg7 x0 x1) (sl.v1581 c arg3 harg3 arg4 harg4 arg7 x0 x1) (sl.v1593 c arg3 harg3 arg4 harg4 arg7 x0 x1) (sl.v1605 c arg3 harg3 arg4 harg4 arg7 x0 x1)) (vW arg5 harg5 x2 15) (sl.v1621 c arg3 harg3 arg4 harg4 arg7 arg8 x0 x1))).trans ?_
  rw [s_14_0, s_14_1, s_14_2, s_14_3, s_15_0, s_15_1, s_15_2, s_15_3, p_14, p_15, mW_eq, mW_eq, vW_eq, vW_eq]
  rfl

theorem tile_6 : k0_pay340 (sl.v1305 c arg3 harg3 arg4 harg4 x0 x1) (sl.r_42 c arg3 harg3 arg4 harg4 arg5 harg5 arg7 arg8 x0 x1 x2) (sl.v1437 c arg3 harg3 arg4 harg4 arg7 x0 x1) (sl.v1442 c arg3 harg3 arg4 harg4 arg7 x0 x1) (View.readAt (Elt F) arg5.view (Rect.unit (s := S1x128x4096) ![0, 64, 0] S1x64x4096.size inb_S1x128x4096_S1x64x4096_0_64_0).toLoadRect (harg5.unread x2)) (sl.v1458 c arg3 harg3 arg4 harg4 arg7 arg8 x0 x1)
    = tile (unitB x0 x1 x2 12) (unitB x0 x1 x2 13) := by
  refine (rfl : _ = tile (ratio (denom (mW arg3 harg3 arg4 harg4 x0 x1 12) (sl.v1307 c arg3 harg3 arg4 harg4 arg7 x0 x1) (sl.v1319 c arg3 harg3 arg4 harg4 arg7 x0 x1) (sl.v1331 c arg3 harg3 arg4 harg4 arg7 x0 x1) (sl.v1343 c arg3 harg3 arg4 harg4 arg7 x0 x1)) (vW arg5 harg5 x2 12) (sl.v1359 c arg3 harg3 arg4 harg4 arg7 arg8 x0 x1))
    (ratio (denom (mW arg3 harg3 arg4 harg4 x0 x1 13) (sl.v1406 c arg3 harg3 arg4 harg4 arg7 x0 x1) (sl.v1418 c arg3 harg3 arg4 harg4 arg7 x0 x1) (sl.v1430 c arg3 harg3 arg4 harg4 arg7 x0 x1) (sl.v1442 c arg3 harg3 arg4 harg4 arg7 x0 x1)) (vW arg5 harg5 x2 13) (sl.v1458 c arg3 harg3 arg4 harg4 arg7 arg8 x0 x1))).trans ?_
  rw [s_12_0, s_12_1, s_12_2, s_12_3, s_13_0, s_13_1, s_13_2, s_13_3, p_12, p_13, mW_eq, mW_eq, vW_eq, vW_eq]
  rfl

theorem tile_5 : k0_pay295 (sl.r_36 c arg3 harg3 arg4 harg4 arg5 harg5 arg7 arg8 x0 x1 x2) (sl.v1233 c arg3 harg3 arg4 harg4 arg7 x0 x1) (sl.v1243 c arg3 harg3 arg4 harg4 arg7 x0 x1) (View.readAt (Elt F) arg5.view (Rect.unit (s := S1x128x4096) ![0, 64, 0] S1x64x4096.size inb_S1x128x4096_S1x64x4096_0_64_0).toLoadRect (harg5.unread x2)) (sl.v1254 c arg3 harg3 arg4 harg4 arg7 arg8 x0 x1)
    = tile (unitB x0 x1 x2 10) (unitB x0 x1 x2 11) := by
  refine (rfl : _ = tile (ratio (denom (mW arg3 harg3 arg4 harg4 x0 x1 10) (sl.v1103 c arg3 harg3 arg4 harg4 arg7 x0 x1) (sl.v1115 c arg3 harg3 arg4 harg4 arg7 x0 x1) (sl.v1127 c arg3 harg3 arg4 harg4 arg7 x0 x1) (sl.v1139 c arg3 harg3 arg4 harg4 arg7 x0 x1)) (vW arg5 harg5 x2 10) (sl.v1155 c arg3 harg3 arg4 harg4 arg7 arg8 x0 x1))
    (ratio (denom (mW arg3 harg3 arg4 harg4 x0 x1 11) (sl.v1202 c arg3 harg3 arg4 harg4 arg7 x0 x1) (sl.v1214 c arg3 harg3 arg4 harg4 arg7 x0 x1) (sl.v1226 c arg3 harg3 arg4 harg4 arg7 x0 x1) (sl.v1238 c arg3 harg3 arg4 harg4 arg7 x0 x1)) (vW arg5 harg5 x2 11) (sl.v1254 c arg3 harg3 arg4 harg4 arg7 arg8 x0 x1))).trans ?_
  rw [s_10_0, s_10_1, s_10_2, s_10_3, s_11_0, s_11_1, s_11_2, s_11_3, p_10, p_11, mW_eq, mW_eq, vW_eq, vW_eq]
  rfl

theorem tile_4 : k0_pay247 (sl.r_30 c arg3 harg3 arg4 harg4 arg5 harg5 arg7 arg8 x0 x1 x2) (sl.v1046 c arg3 harg3 arg4 harg4 arg7 x0 x1) (View.readAt (Elt F) arg5.view (Rect.unit (s := S1x128x4096) ![0, 64, 0] S1x64x4096.size inb_S1x128x4096_S1x64x4096_0_64_0).toLoadRect (harg5.unread x2)) (sl.v1050 c arg3 harg3 arg4 harg4 arg7 arg8 x0 x1)
    = tile (unitB x0 x1 x2 8) (unitB x0 x1 x2 9) := by
  refine (rfl : _ = tile (ratio (denom (mW arg3 harg3 arg4 harg4 x0 x1 8) (sl.v899 c arg3 harg3 arg4 harg4 arg7 x0 x1) (sl.v911 c arg3 harg3 arg4 harg4 arg7 x0 x1) (sl.v923 c arg3 harg3 arg4 harg4 arg7 x0 x1) (sl.v935 c arg3 harg3 arg4 harg4 arg7 x0 x1)) (vW arg5 harg5 x2 8) (sl.v951 c arg3 harg3 arg4 harg4 arg7 arg8 x0 x1))
    (ratio (denom (mW arg3 harg3 arg4 harg4 x0 x1 9) (sl.v998 c arg3 harg3 arg4 harg4 arg7 x0 x1) (sl.v1010 c arg3 harg3 arg4 harg4 arg7 x0 x1) (sl.v1022 c arg3 harg3 arg4 harg4 arg7 x0 x1) (sl.v1034 c arg3 harg3 arg4 harg4 arg7 x0 x1)) (vW arg5 harg5 x2 9) (sl.v1050 c arg3 harg3 arg4 harg4 arg7 arg8 x0 x1))).trans ?_
  rw [s_8_0, s_8_1, s_8_2, s_8_3, s_9_0, s_9_1, s_9_2, s_9_3, p_8, p_9, mW_eq, mW_eq, vW_eq, vW_eq]
  rfl

theorem tile_3 : k0_pay203 (sl.r_23 c arg3 harg3 arg4 harg4 arg5 harg5 arg7 arg8 x0 x1 x2) (sl.v843 c arg3 harg3 arg4 harg4 arg7 x0 x1) (sl.v641 c arg5 harg5 x2) (sl.v847 c arg3 harg3 arg4 harg4 arg7 arg8 x0 x1) sl.cst_475
    = tile (unitB x0 x1 x2 6) (unitB x0 x1 x2 7) := by
  refine (rfl : _ = tile (ratio (denom (mW arg3 harg3 arg4 harg4 x0 x1 6) (sl.v695 c arg3 harg3 arg4 harg4 arg7 x0 x1) (sl.v707 c arg3 harg3 arg4 harg4 arg7 x0 x1) (sl.v719 c arg3 harg3 arg4 harg4 arg7 x0 x1) (sl.v731 c arg3 harg3 arg4 harg4 arg7 x0 x1)) (vW arg5 harg5 x2 6) (sl.v747 c arg3 harg3 arg4 harg4 arg7 arg8 x0 x1))
    (ratio (denom (mW arg3 harg3 arg4 harg4 x0 x1 7) (sl.v794 c arg3 harg3 arg4 harg4 arg7 x0 x1) (sl.v806 c arg3 harg3 arg4 harg4 arg7 x0 x1) (sl.v818 c arg3 harg3 arg4 harg4 arg7 x0 x1) (sl.v830 c arg3 harg3 arg4 harg4 arg7 x0 x1)) (vW arg5 harg5 x2 7) (sl.v846 c arg3 harg3 arg4 harg4 arg7 arg8 x0 x1))).trans ?_
  rw [s_6_0, s_6_1, s_6_2, s_6_3, s_7_0, s_7_1, s_7_2, s_7_3, p_6, p_7, mW_eq, mW_eq, vW_eq, vW_eq]
  rfl

theorem tile_2 : sl.v652 c arg3 harg3 arg4 harg4 arg5 harg5 arg7 arg8 x0 x1 x2
    = tile (unitB x0 x1 x2 4) (unitB x0 x1 x2 5) := by
  refine (rfl : _ = tile (ratio (denom (mW arg3 harg3 arg4 harg4 x0 x1 4) (sl.v491 c arg3 harg3 arg4 harg4 arg7 x0 x1) (sl.v503 c arg3 harg3 arg4 harg4 arg7 x0 x1) (sl.v515 c arg3 harg3 arg4 harg4 arg7 x0 x1) (sl.v527 c arg3 harg3 arg4 harg4 arg7 x0 x1)) (vW arg5 harg5 x2 4) (sl.v543 c arg3 harg3 arg4 harg4 arg7 arg8 x0 x1))
    (ratio (denom (mW arg3 harg3 arg4 harg4 x0 x1 5) (sl.v590 c arg3 harg3 arg4 harg4 arg7 x0 x1) (sl.v602 c arg3 harg3 arg4 harg4 arg7 x0 x1) (sl.v614 c arg3 harg3 arg4 harg4 arg7 x0 x1) (sl.v626 c arg3 harg3 arg4 harg4 arg7 x0 x1)) (vW arg5 harg5 x2 5) (sl.v642 c arg3 harg3 arg4 harg4 arg7 arg8 x0 x1))).trans ?_
  rw [s_4_0, s_4_1, s_4_2, s_4_3, s_5_0, s_5_1, s_5_2, s_5_3, p_4, p_5, mW_eq, mW_eq, vW_eq, vW_eq]
  rfl

theorem tile_1 : k0_pay105 (sl.v285 c arg3 harg3 arg4 harg4 x0 x1) (sl.r_13 c arg3 harg3 arg4 harg4 arg5 harg5 arg7 arg8 x0 x1 x2) (sl.v417 c arg3 harg3 arg4 harg4 arg7 x0 x1) (sl.v422 c arg3 harg3 arg4 harg4 arg7 x0 x1) (View.readAt (Elt F) arg5.view (Rect.unit (s := S1x128x4096) ![0, 64, 0] S1x64x4096.size inb_S1x128x4096_S1x64x4096_0_64_0).toLoadRect (harg5.unread x2)) (sl.v438 c arg3 harg3 arg4 harg4 arg7 arg8 x0 x1)
    = tile (unitB x0 x1 x2 2) (unitB x0 x1 x2 3) := by
  refine (rfl : _ = tile (ratio (denom (mW arg3 harg3 arg4 harg4 x0 x1 2) (sl.v287 c arg3 harg3 arg4 harg4 arg7 x0 x1) (sl.v299 c arg3 harg3 arg4 harg4 arg7 x0 x1) (sl.v311 c arg3 harg3 arg4 harg4 arg7 x0 x1) (sl.v323 c arg3 harg3 arg4 harg4 arg7 x0 x1)) (vW arg5 harg5 x2 2) (sl.v339 c arg3 harg3 arg4 harg4 arg7 arg8 x0 x1))
    (ratio (denom (mW arg3 harg3 arg4 harg4 x0 x1 3) (sl.v386 c arg3 harg3 arg4 harg4 arg7 x0 x1) (sl.v398 c arg3 harg3 arg4 harg4 arg7 x0 x1) (sl.v410 c arg3 harg3 arg4 harg4 arg7 x0 x1) (sl.v422 c arg3 harg3 arg4 harg4 arg7 x0 x1)) (vW arg5 harg5 x2 3) (sl.v438 c arg3 harg3 arg4 harg4 arg7 arg8 x0 x1))).trans ?_
  rw [s_2_0, s_2_1, s_2_2, s_2_3, s_3_0, s_3_1, s_3_2, s_3_3, p_2, p_3, mW_eq, mW_eq, vW_eq, vW_eq]
  rfl

theorem tile_0 : k0_pay60 (sl.r_7 c arg3 harg3 arg4 harg4 arg5 harg5 arg7 arg8 x0 x1 x2) (sl.v213 c arg3 harg3 arg4 harg4 arg7 x0 x1) (sl.v223 c arg3 harg3 arg4 harg4 arg7 x0 x1) (View.readAt (Elt F) arg5.view (Rect.unit (s := S1x128x4096) ![0, 64, 0] S1x64x4096.size inb_S1x128x4096_S1x64x4096_0_64_0).toLoadRect (harg5.unread x2)) (sl.v234 c arg3 harg3 arg4 harg4 arg7 arg8 x0 x1)
    = tile (unitB x0 x1 x2 0) (unitB x0 x1 x2 1) := by
  refine (rfl : _ = tile (ratio (denom (mW arg3 harg3 arg4 harg4 x0 x1 0) (sl.v83 c arg3 harg3 arg4 harg4 arg7 x0 x1) (sl.v95 c arg3 harg3 arg4 harg4 arg7 x0 x1) (sl.v107 c arg3 harg3 arg4 harg4 arg7 x0 x1) (sl.v119 c arg3 harg3 arg4 harg4 arg7 x0 x1)) (vW arg5 harg5 x2 0) (sl.v135 c arg3 harg3 arg4 harg4 arg7 arg8 x0 x1))
    (ratio (denom (mW arg3 harg3 arg4 harg4 x0 x1 1) (sl.v182 c arg3 harg3 arg4 harg4 arg7 x0 x1) (sl.v194 c arg3 harg3 arg4 harg4 arg7 x0 x1) (sl.v206 c arg3 harg3 arg4 harg4 arg7 x0 x1) (sl.v218 c arg3 harg3 arg4 harg4 arg7 x0 x1)) (vW arg5 harg5 x2 1) (sl.v234 c arg3 harg3 arg4 harg4 arg7 arg8 x0 x1))).trans ?_
  rw [s_0_0, s_0_1, s_0_2, s_0_3, s_1_0, s_1_1, s_1_2, s_1_3, p_0, p_1, mW_eq, mW_eq, vW_eq, vW_eq]
  rfl

/-- The eight stores into the output block, last first. -/
theorem stores_eq : (kernelRun0_A c i arg3 harg3 arg4 harg4 arg5 harg5 arg6 harg6 arg7 harg7 arg8 harg8 x0 x1 x2).1
    = ([⟨Rect.unit (s := S1x2048x128) ![0, 1792, 0] S1x256x128.size inb_S1x2048x128_S1x256x128_0_1792_0, tile (unitB x0 x1 x2 14) (unitB x0 x1 x2 15)⟩, ⟨Rect.unit (s := S1x2048x128) ![0, 1536, 0] S1x256x128.size inb_S1x2048x128_S1x256x128_0_1536_0, tile (unitB x0 x1 x2 12) (unitB x0 x1 x2 13)⟩, ⟨Rect.unit (s := S1x2048x128) ![0, 1280, 0] S1x256x128.size inb_S1x2048x128_S1x256x128_0_1280_0, tile (unitB x0 x1 x2 10) (unitB x0 x1 x2 11)⟩, ⟨Rect.unit (s := S1x2048x128) ![0, 1024, 0] S1x256x128.size inb_S1x2048x128_S1x256x128_0_1024_0, tile (unitB x0 x1 x2 8) (unitB x0 x1 x2 9)⟩, ⟨Rect.unit (s := S1x2048x128) ![0, 768, 0] S1x256x128.size inb_S1x2048x128_S1x256x128_0_768_0, tile (unitB x0 x1 x2 6) (unitB x0 x1 x2 7)⟩, ⟨Rect.unit (s := S1x2048x128) ![0, 512, 0] S1x256x128.size inb_S1x2048x128_S1x256x128_0_512_0, tile (unitB x0 x1 x2 4) (unitB x0 x1 x2 5)⟩, ⟨Rect.unit (s := S1x2048x128) ![0, 256, 0] S1x256x128.size inb_S1x2048x128_S1x256x128_0_256_0, tile (unitB x0 x1 x2 2) (unitB x0 x1 x2 3)⟩, ⟨Rect.unit (s := S1x2048x128) ![0, 0, 0] S1x256x128.size inb_S1x2048x128_S1x256x128_0_0_0, tile (unitB x0 x1 x2 0) (unitB x0 x1 x2 1)⟩] : List (View.Piece (Elt F) S1x2048x128 .bf16)) :=
  congrArg₂ List.cons (congrArg (fun w => (⟨Rect.unit (s := S1x2048x128) ![0, 1792, 0] S1x256x128.size inb_S1x2048x128_S1x256x128_0_1792_0, w⟩ : View.Piece (Elt F) S1x2048x128 .bf16)) (tile_7 c arg3 harg3 arg4 harg4 arg5 harg5 arg7 arg8 x0 x1 x2)) <|
  congrArg₂ List.cons (congrArg (fun w => (⟨Rect.unit (s := S1x2048x128) ![0, 1536, 0] S1x256x128.size inb_S1x2048x128_S1x256x128_0_1536_0, w⟩ : View.Piece (Elt F) S1x2048x128 .bf16)) (tile_6 c arg3 harg3 arg4 harg4 arg5 harg5 arg7 arg8 x0 x1 x2)) <|
  congrArg₂ List.cons (congrArg (fun w => (⟨Rect.unit (s := S1x2048x128) ![0, 1280, 0] S1x256x128.size inb_S1x2048x128_S1x256x128_0_1280_0, w⟩ : View.Piece (Elt F) S1x2048x128 .bf16)) (tile_5 c arg3 harg3 arg4 harg4 arg5 harg5 arg7 arg8 x0 x1 x2)) <|
  congrArg₂ List.cons (congrArg (fun w => (⟨Rect.unit (s := S1x2048x128) ![0, 1024, 0] S1x256x128.size inb_S1x2048x128_S1x256x128_0_1024_0, w⟩ : View.Piece (Elt F) S1x2048x128 .bf16)) (tile_4 c arg3 harg3 arg4 harg4 arg5 harg5 arg7 arg8 x0 x1 x2)) <|
  congrArg₂ List.cons (congrArg (fun w => (⟨Rect.unit (s := S1x2048x128) ![0, 768, 0] S1x256x128.size inb_S1x2048x128_S1x256x128_0_768_0, w⟩ : View.Piece (Elt F) S1x2048x128 .bf16)) (tile_3 c arg3 harg3 arg4 harg4 arg5 harg5 arg7 arg8 x0 x1 x2)) <|
  congrArg₂ List.cons (congrArg (fun w => (⟨Rect.unit (s := S1x2048x128) ![0, 512, 0] S1x256x128.size inb_S1x2048x128_S1x256x128_0_512_0, w⟩ : View.Piece (Elt F) S1x2048x128 .bf16)) (tile_2 c arg3 harg3 arg4 harg4 arg5 harg5 arg7 arg8 x0 x1 x2)) <|
  congrArg₂ List.cons (congrArg (fun w => (⟨Rect.unit (s := S1x2048x128) ![0, 256, 0] S1x256x128.size inb_S1x2048x128_S1x256x128_0_256_0, w⟩ : View.Piece (Elt F) S1x2048x128 .bf16)) (tile_1 c arg3 harg3 arg4 harg4 arg5 harg5 arg7 arg8 x0 x1 x2)) <|
  congrArg₂ List.cons (congrArg (fun w => (⟨Rect.unit (s := S1x2048x128) ![0, 0, 0] S1x256x128.size inb_S1x2048x128_S1x256x128_0_0_0, w⟩ : View.Piece (Elt F) S1x2048x128 .bf16)) (tile_0 c arg3 harg3 arg4 harg4 arg5 harg5 arg7 arg8 x0 x1 x2)) <|
  rfl

end Cert.KernelIdeal.Mla

end
-- ==== Proof.Mla.Soft.lean ====
module

public import Idealize.ShloMosaic.PureOps.Ideal
public import Idealize.ShloMosaic.PureOps.Ideal.Laws
public import Idealize.ShloMosaic.Lib.Pointwise
public import Mathlib.Algebra.BigOperators.Fin
public import Mathlib.Algebra.BigOperators.Pi
public import Mathlib.Data.Finset.Fold
public import Mathlib.Logic.Equiv.Fin.Basic
public import Mathlib.Analysis.SpecialFunctions.Pow.Real
public import Mathlib.Data.EReal.Operations
public import Mathlib.Data.EReal.Inv

@[expose] public section

noncomputable section

/-! Attention for one query over the extended reals: base two on the kernel's side, base e on the reference's. -/

namespace Cert.Soft

open Idealize.ShloMosaic

/-- The largest of a family. -/
def top {n : ℕ} (s : Fin n → EReal) : EReal := (Finset.univ : Finset (Fin n)).fold max ⊥ s

theorem top_le {n : ℕ} (s : Fin n → EReal) (z : EReal) : top s ≤ z ↔ ∀ k, s k ≤ z := by
  unfold top
  rw [Finset.fold_max_le]
  simp

/-- Softmax in base two, applied to values. -/
def attn2 {n : ℕ} (s v : Fin n → EReal) : EReal :=
  Ideal.div (∑ k, v k * Ideal.exp2 (s k - top s)) (∑ k, Ideal.exp2 (s k - top s))

/-- Softmax in base e, applied to values. -/
def attnE {n : ℕ} (s v : Fin n → EReal) : EReal :=
  Ideal.div (∑ k, Ideal.exp (s k - top s) * v k) (∑ k, Ideal.exp (s k - top s))

theorem mul_pos_le_mul (L : ℝ) (hL : 0 < L) (a b : EReal) : a * (L : EReal) ≤ b * L ↔ a ≤ b := by
  have h0 : (0 : EReal) < L := EReal.coe_pos.mpr hL
  induction a with
  | bot => simp [EReal.bot_mul_coe_of_pos hL]
  | top =>
    induction b with
    | bot => simp [EReal.bot_mul_coe_of_pos hL, EReal.top_mul_coe_of_pos hL]
    | top => simp
    | coe b => simp [EReal.top_mul_coe_of_pos hL, ← EReal.coe_mul]
  | coe a =>
    induction b with
    | bot => simp [EReal.bot_mul_coe_of_pos hL, ← EReal.coe_mul]
    | top => simp [EReal.top_mul_coe_of_pos hL]
    | coe b =>
      rw [← EReal.coe_mul, ← EReal.coe_mul, EReal.coe_le_coe_iff, EReal.coe_le_coe_iff]
      exact mul_le_mul_iff_left₀ hL

theorem mul_div_cancel' (L : ℝ) (hL : 0 < L) (z : EReal) : z * (L⁻¹ : ℝ) * (L : EReal) = z := by
  have hi : 0 < L⁻¹ := inv_pos.mpr hL
  induction z with
  | bot => rw [EReal.bot_mul_coe_of_pos hi, EReal.bot_mul_coe_of_pos hL]
  | top => rw [EReal.top_mul_coe_of_pos hi, EReal.top_mul_coe_of_pos hL]
  | coe z =>
    rw [← EReal.coe_mul, ← EReal.coe_mul, mul_assoc, inv_mul_cancel₀ hL.ne', mul_one]

/-- A positive factor comes out of the largest. -/
theorem top_mul {n : ℕ} (s : Fin n → EReal) (L : ℝ) (hL : 0 < L) : top (fun k => s k * L) = top s * L := by
  refine eq_of_forall_ge_iff fun z => ?_
  rw [top_le, ← mul_div_cancel' L hL z, mul_pos_le_mul L hL, top_le]
  exact forall_congr' fun k => mul_pos_le_mul L hL _ _

theorem sub_mul_pos (L : ℝ) (hL : 0 < L) (a b : EReal) : a * L - b * L = (a - b) * L := by
  induction a with
  | bot =>
    rw [EReal.bot_mul_coe_of_pos hL, sub_eq_add_neg, sub_eq_add_neg, EReal.bot_add, EReal.bot_add, EReal.bot_mul_coe_of_pos hL]
  | top =>
    induction b with
    | bot => rw [EReal.bot_mul_coe_of_pos hL, EReal.top_mul_coe_of_pos hL, EReal.top_sub_bot, EReal.top_mul_coe_of_pos hL]
    | top =>
      rw [EReal.top_mul_coe_of_pos hL, sub_eq_add_neg, EReal.neg_top, EReal.add_bot, EReal.bot_mul_coe_of_pos hL]
    | coe b => rw [EReal.top_mul_coe_of_pos hL, ← EReal.coe_mul, EReal.top_sub_coe, EReal.top_sub_coe, EReal.top_mul_coe_of_pos hL]
  | coe a =>
    induction b with
    | bot => rw [EReal.bot_mul_coe_of_pos hL, ← EReal.coe_mul, EReal.coe_sub_bot, EReal.coe_sub_bot, EReal.top_mul_coe_of_pos hL]
    | top => rw [EReal.top_mul_coe_of_pos hL, sub_eq_add_neg, sub_eq_add_neg, EReal.neg_top, EReal.add_bot, EReal.add_bot, EReal.bot_mul_coe_of_pos hL]
    | coe b => rw [← EReal.coe_mul, ← EReal.coe_mul, ← EReal.coe_sub, ← EReal.coe_sub, ← EReal.coe_mul, sub_mul]

theorem exp_mul_log_two (x : EReal) : Ideal.exp (x * (Real.log 2 : ℝ)) = Ideal.exp2 x := by
  have hL : 0 < Real.log 2 := Real.log_pos (by norm_num)
  induction x with
  | bot => rw [EReal.bot_mul_coe_of_pos hL]; rfl
  | top => rw [EReal.top_mul_coe_of_pos hL]; rfl
  | coe x =>
    rw [← EReal.coe_mul]
    show ((Real.exp (x * Real.log 2) : ℝ) : EReal) = ((Real.rpow 2 x : ℝ) : EReal)
    congr 1
    show _ = (2 : ℝ) ^ x
    rw [Real.rpow_def_of_pos (by norm_num), mul_comm]

/-- Scores times `log 2` in base e are the scores in base two. -/
theorem attnE_eq_attn2 {n : ℕ} (s v : Fin n → EReal) : attnE (fun k => s k * (Real.log 2 : ℝ)) v = attn2 s v := by
  have hL : 0 < Real.log 2 := Real.log_pos (by norm_num)
  unfold attnE attn2
  simp only [top_mul s _ hL, sub_mul_pos _ hL, exp_mul_log_two]
  congr 1
  exact Finset.sum_congr rfl fun k _ => mul_comm _ _

/-- A sum over the keys taken as the kernel takes it: eight residues, four chunks of 128 groups of eight each. -/
theorem sum_keys {M : Type*} [AddCommMonoid M] (f : Fin 4096 → M) :
    ∑ k, f k = ∑ a : Fin 8, ((∑ b : Fin 128, f ⟨b.val * 8 + a.val, by omega⟩) + (∑ b : Fin 128, f ⟨1024 + (b.val * 8 + a.val), by omega⟩)
      + (∑ b : Fin 128, f ⟨2048 + (b.val * 8 + a.val), by omega⟩) + (∑ b : Fin 128, f ⟨3072 + (b.val * 8 + a.val), by omega⟩)) := by
  have h1 : ∑ k, f k = ∑ p : (Fin 4 × Fin 128) × Fin 8, f ⟨p.1.1.val * 1024 + (p.1.2.val * 8 + p.2.val), by omega⟩ := by
    refine (Fintype.sum_equiv (((finProdFinEquiv (m := 4) (n := 128)).prodCongr (Equiv.refl (Fin 8))).trans
      (finProdFinEquiv (m := 512) (n := 8))) _ _ fun p => ?_).symm
    congr 1
    apply Fin.ext
    show p.1.1.val * 1024 + (p.1.2.val * 8 + p.2.val) = p.2.val + 8 * (p.1.2.val + 128 * p.1.1.val)
    omega
  rw [h1, Fintype.sum_prod_type_right]
  refine Finset.sum_congr rfl fun a _ => ?_
  rw [Fintype.sum_prod_type, Fin.sum_univ_four]
  simp only [Fin.val_zero, Fin.val_one, Fin.val_two, zero_mul, zero_add, one_mul]
  rfl

/-- The largest over the keys taken the same way. -/
theorem top_keys (f : Fin 4096 → EReal) :
    top f = top fun a : Fin 8 => max (max (max (max ⊥ (top fun b : Fin 128 => f ⟨b.val * 8 + a.val, by omega⟩))
      (top fun b : Fin 128 => f ⟨1024 + (b.val * 8 + a.val), by omega⟩))
      (top fun b : Fin 128 => f ⟨2048 + (b.val * 8 + a.val), by omega⟩)) (top fun b : Fin 128 => f ⟨3072 + (b.val * 8 + a.val), by omega⟩) := by
  refine eq_of_forall_ge_iff fun z => ?_
  simp only [top_le, max_le_iff, bot_le, true_and]
  constructor
  · exact fun h a => ⟨⟨⟨fun b => h _, fun b => h _⟩, fun b => h _⟩, fun b => h _⟩
  · intro h k
    have hk := k.isLt
    obtain ⟨⟨⟨h0, h1⟩, h2⟩, h3⟩ := h ⟨k.val % 8, Nat.mod_lt _ (by decide)⟩
    have e : ∀ (o : ℕ) (hle : o ≤ k.val) (hlt : k.val < o + 1024) (ho : o % 8 = 0),
        ∃ b : Fin 128, k.val = o + (b.val * 8 + k.val % 8) := fun o hle hlt ho =>
      ⟨⟨(k.val - o) / 8, by omega⟩, by show k.val = o + ((k.val - o) / 8 * 8 + k.val % 8); omega⟩
    rcases (by omega : k.val < 1024 ∨ (1024 ≤ k.val ∧ k.val < 2048) ∨ (2048 ≤ k.val ∧ k.val < 3072) ∨ 3072 ≤ k.val) with h | h | h | h
    · obtain ⟨b, hb⟩ := e 0 (by omega) (by omega) (by decide)
      have := h0 b
      rwa [show (⟨b.val * 8 + k.val % 8, by omega⟩ : Fin 4096) = k from Fin.ext (show b.val * 8 + k.val % 8 = k.val by omega)] at this
    · obtain ⟨b, hb⟩ := e 1024 (by omega) (by omega) (by decide)
      have := h1 b
      rwa [show (⟨1024 + (b.val * 8 + k.val % 8), by omega⟩ : Fin 4096) = k from Fin.ext (show 1024 + (b.val * 8 + k.val % 8) = k.val by omega)] at this
    · obtain ⟨b, hb⟩ := e 2048 (by omega) (by omega) (by decide)
      have := h2 b
      rwa [show (⟨2048 + (b.val * 8 + k.val % 8), by omega⟩ : Fin 4096) = k from Fin.ext (show 2048 + (b.val * 8 + k.val % 8) = k.val by omega)] at this
    · obtain ⟨b, hb⟩ := e 3072 (by omega) (by omega) (by decide)
      have := h3 b
      rwa [show (⟨3072 + (b.val * 8 + k.val % 8), by omega⟩ : Fin 4096) = k from Fin.ext (show 3072 + (b.val * 8 + k.val % 8) = k.val by omega)] at this

/-- The kernel's word for the lowest value. -/
theorem lowest : Ideal.ofBits .f32 0xFF800000#32 = ⊥ := by simp [Ideal.ofBits, Ideal.ieee]

theorem two_f32 : Ideal.ofBits .f32 0x40000000#32 = ((2 : ℝ) : EReal) := by
  simp [Ideal.ofBits, Ideal.ieee, -EReal.coe_mul]; norm_num

theorem log_two_f32 : Ideal.log (Ideal.ofBits .f32 0x40000000#32) = ((Real.log 2 : ℝ) : EReal) := by
  rw [two_f32]
  show (if (2 : ℝ) ≤ 0 then (⊥ : EReal) else ((Real.log 2 : ℝ) : EReal)) = _
  rw [if_neg (by norm_num)]

/-- The attention output: query `q`'s column `d` of batch `b`, head `d / 64`, from the projected queries and keys `X` and the
transposed values `V`. -/
def spec (X : (⟨3, ![8, 4096, 3072]⟩ : Shape).Idx → EReal) (V : (⟨3, ![8, 512, 4096]⟩ : Shape).Idx → EReal)
    (b : Fin 8) (q : Fin 4096) (d : Fin 512) : EReal :=
  attn2 (fun k : Fin 4096 => ∑ i : Fin 128, X (ix3 b q ⟨1024 + (d.val / 64 * 128 + i.val), by omega⟩)
    * X (ix3 b k ⟨2048 + (d.val / 64 * 128 + i.val), by omega⟩)) (fun k => V (ix3 b d k))

end Cert.Soft

end
-- ==== Proof.Mla.Math.lean ====
module

public import proofs.«01_k».proof.Proof.Mla.Run
public import proofs.«01_k».proof.Proof.Mla.Soft

@[expose] public section

set_option maxRecDepth 16384

noncomputable section

/-! The attention kernel's output block at an index. -/

namespace Cert.KernelIdeal.Mla

open Cert.KernelIdeal Cert.KernelIdeal.Gen Idealize.ShloMosaic Idealize.ShloMosaic.TcCoe Idealize.SL.Sem

/-- The score of key `k` against row `r` of unit `u`'s queries. -/
def sc (x0 : Vec Ideal S1x2048x256 .bf16) (x1 : Vec Ideal S1x4096x256 .bf16) (u : Fin 16) (r : Fin 256) (k : Fin 4096) : EReal :=
  ∑ i : Fin 128, (x0 (ix3 0 ⟨256 * (u.val / 2) + r.val, by omega⟩ ⟨128 * (u.val % 2) + i.val, by omega⟩)
    * x1 (ix3 0 k ⟨128 * (u.val % 2) + i.val, by omega⟩) : EReal)

theorem scores_apply (q : Vec Ideal S1x256x128 .bf16) (k : Vec Ideal S1x1024x128 .bf16) (j : Fin 1024) (r : Fin 256) :
    scores q k (ix2 j r) = ∑ i : Fin 128, (q (ix3 0 r i) * k (ix3 0 j i) : EReal) := by
  pointwise [scores]
  exact Finset.sum_congr rfl fun i _ => mul_comm _ _

theorem scores_at (x0 : Vec Ideal S1x2048x256 .bf16) (x1 : Vec Ideal S1x4096x256 .bf16) (u : Fin 16) (c : Fin 4)
    (j : Fin 1024) (r : Fin 256) (k : Fin 4096) (hk : k.val = 1024 * c.val + j.val) :
    scores (qB x0 u) (kB x1 u c) (ix2 j r) = sc x0 x1 u r k := by
  rw [scores_apply]
  refine Finset.sum_congr rfl fun i _ => ?_
  pointwise [qB, kB]
  have hk' : k = ⟨1024 * c.val + j.val, by omega⟩ := Fin.ext hk
  rw [hk']

theorem kept_apply (q : Vec Ideal S1x256x128 .bf16) (k : Vec Ideal S1x1024x128 .bf16) (j : Fin 1024) (r : Fin 256) :
    kept q k (ix3 0 j r) = scores q k (ix2 j r) := by
  pointwise [kept]

theorem foldMax_apply (x : FVec Ideal S1024x256 .f32) (a : Fin 8) (r : Fin 256) :
    foldMax x (ix2 a r) = Soft.top fun b : Fin 128 => x (ix2 ⟨b.val * 8 + a.val, by omega⟩ r) := by
  pointwise [foldMax]
  rw [Soft.lowest]
  rfl

theorem foldSum_apply (x : FVec Ideal S1024x256 .f32) (a : Fin 8) (r : Fin 256) :
    foldSum x (ix2 a r) = ∑ b : Fin 128, (x (ix2 ⟨b.val * 8 + a.val, by omega⟩ r) : EReal) := by
  pointwise [foldSum]

theorem rowMax_apply (q : Vec Ideal S1x256x128 .bf16) (k0 k1 k2 k3 : Vec Ideal S1x1024x128 .bf16) (r : Fin 256) :
    rowMax q k0 k1 k2 k3 (ix2 0 r) = Soft.top fun a : Fin 8 => max (max (max (max ⊥ (foldMax (scores q k0) (ix2 a r)))
      (foldMax (scores q k1) (ix2 a r))) (foldMax (scores q k2) (ix2 a r))) (foldMax (scores q k3) (ix2 a r)) := by
  pointwise [rowMax]
  rw [Soft.lowest, IdealRules.named_const.ideal_named_scalar (κ := κ) (name := "mask") (φ := .f32) 0xF149F2CA#32 ⊥ rfl]
  rfl

theorem maxB_apply (x0 : Vec Ideal S1x2048x256 .bf16) (x1 : Vec Ideal S1x4096x256 .bf16) (u : Fin 16) (r : Fin 256) :
    maxB x0 x1 u (ix2 0 r) = Soft.top (sc x0 x1 u r) := by
  unfold maxB
  rw [rowMax_apply, Soft.top_keys]
  refine congrArg Soft.top (funext fun a => ?_)
  refine congrArg₂ max (congrArg₂ max (congrArg₂ max (congrArg₂ max rfl ?_) ?_) ?_) ?_
  · exact (foldMax_apply _ _ _).trans (congrArg Soft.top (funext fun b => scores_at x0 x1 u 0 _ r _ (by
      show b.val * 8 + a.val = 1024 * 0 + (b.val * 8 + a.val); omega)))
  · exact (foldMax_apply _ _ _).trans (congrArg Soft.top (funext fun b => scores_at x0 x1 u 1 _ r _ (by
      show 1024 + (b.val * 8 + a.val) = 1024 * 1 + (b.val * 8 + a.val); omega)))
  · exact (foldMax_apply _ _ _).trans (congrArg Soft.top (funext fun b => scores_at x0 x1 u 2 _ r _ (by
      show 2048 + (b.val * 8 + a.val) = 1024 * 2 + (b.val * 8 + a.val); omega)))
  · exact (foldMax_apply _ _ _).trans (congrArg Soft.top (funext fun b => scores_at x0 x1 u 3 _ r _ (by
      show 3072 + (b.val * 8 + a.val) = 1024 * 3 + (b.val * 8 + a.val); omega)))

theorem probs_apply (m : FVec Ideal S1x256 .f32) (s : Vec Ideal S1x1024x256 .f32) (j : Fin 1024) (r : Fin 256) :
    probs m s (ix2 j r) = Ideal.exp2 (s (ix3 0 j r) - m (ix2 0 r)) := by
  pointwise [probs]
  rfl

theorem probs_at (x0 : Vec Ideal S1x2048x256 .bf16) (x1 : Vec Ideal S1x4096x256 .bf16) (u : Fin 16) (c : Fin 4)
    (j : Fin 1024) (r : Fin 256) (k : Fin 4096) (hk : k.val = 1024 * c.val + j.val) :
    probs (maxB x0 x1 u) (sB x0 x1 u c) (ix2 j r) = Ideal.exp2 (sc x0 x1 u r k - Soft.top (sc x0 x1 u r)) := by
  rw [probs_apply, maxB_apply]
  unfold sB
  rw [kept_apply, scores_at x0 x1 u c j r k hk]

theorem keptProbs_apply (m : FVec Ideal S1x256 .f32) (s : Vec Ideal S1x1024x256 .f32) (j : Fin 1024) (r : Fin 256) :
    keptProbs m s (ix3 0 j r) = probs m s (ix2 j r) := by
  pointwise [keptProbs]

theorem stack_apply (w0 w1 w2 w3 : Vec Ideal S1x1024x256 .bf16) (k : Fin 4096) (r : Fin 256) :
    stack w0 w1 w2 w3 (ix3 0 k r) = if k.val < 1024 then w0 (ix3 0 ⟨k.val % 1024, by omega⟩ r)
      else if k.val < 2048 then w1 (ix3 0 ⟨k.val % 1024, by omega⟩ r)
      else if k.val < 3072 then w2 (ix3 0 ⟨k.val % 1024, by omega⟩ r) else w3 (ix3 0 ⟨k.val % 1024, by omega⟩ r) := rfl

theorem pB_apply (x0 : Vec Ideal S1x2048x256 .bf16) (x1 : Vec Ideal S1x4096x256 .bf16) (u : Fin 16) (k : Fin 4096) (r : Fin 256) :
    pB x0 x1 u (ix3 0 k r) = Ideal.exp2 (sc x0 x1 u r k - Soft.top (sc x0 x1 u r)) := by
  unfold pB
  rw [stack_apply]
  split_ifs with h0 h1 h2
  · exact (keptProbs_apply _ _ _ _).trans (probs_at x0 x1 u 0 _ r k (by show k.val = 1024 * 0 + k.val % 1024; omega))
  · exact (keptProbs_apply _ _ _ _).trans (probs_at x0 x1 u 1 _ r k (by show k.val = 1024 * 1 + k.val % 1024; omega))
  · exact (keptProbs_apply _ _ _ _).trans (probs_at x0 x1 u 2 _ r k (by show k.val = 1024 * 2 + k.val % 1024; omega))
  · exact (keptProbs_apply _ _ _ _).trans (probs_at x0 x1 u 3 _ r k (by
      show k.val = 1024 * 3 + k.val % 1024
      have := k.isLt
      omega))

theorem denom_apply (m : FVec Ideal S1x256 .f32) (s0 s1 s2 s3 : Vec Ideal S1x1024x256 .f32) (r : Fin 256) :
    denom m s0 s1 s2 s3 (ix2 0 r) = ∑ a : Fin 8, (foldSum (probs m s0) (ix2 a r) + foldSum (probs m s1) (ix2 a r)
      + foldSum (probs m s2) (ix2 a r) + foldSum (probs m s3) (ix2 a r) : EReal) := by
  pointwise [denom]

theorem denom_at (x0 : Vec Ideal S1x2048x256 .bf16) (x1 : Vec Ideal S1x4096x256 .bf16) (u : Fin 16) (r : Fin 256) :
    denom (maxB x0 x1 u) (sB x0 x1 u 0) (sB x0 x1 u 1) (sB x0 x1 u 2) (sB x0 x1 u 3) (ix2 0 r)
      = ∑ k : Fin 4096, Ideal.exp2 (sc x0 x1 u r k - Soft.top (sc x0 x1 u r)) := by
  rw [denom_apply, Soft.sum_keys]
  refine Finset.sum_congr rfl fun a _ => ?_
  refine congrArg₂ (· + ·) (congrArg₂ (· + ·) (congrArg₂ (· + ·) ?_ ?_) ?_) ?_
  · exact (foldSum_apply _ _ _).trans (Finset.sum_congr rfl fun b _ => probs_at x0 x1 u 0 _ r _ (by
      show b.val * 8 + a.val = 1024 * 0 + (b.val * 8 + a.val); omega))
  · exact (foldSum_apply _ _ _).trans (Finset.sum_congr rfl fun b _ => probs_at x0 x1 u 1 _ r _ (by
      show 1024 + (b.val * 8 + a.val) = 1024 * 1 + (b.val * 8 + a.val); omega))
  · exact (foldSum_apply _ _ _).trans (Finset.sum_congr rfl fun b _ => probs_at x0 x1 u 2 _ r _ (by
      show 2048 + (b.val * 8 + a.val) = 1024 * 2 + (b.val * 8 + a.val); omega))
  · exact (foldSum_apply _ _ _).trans (Finset.sum_congr rfl fun b _ => probs_at x0 x1 u 3 _ r _ (by
      show 3072 + (b.val * 8 + a.val) = 1024 * 3 + (b.val * 8 + a.val); omega))

theorem ratio_apply (l : FVec Ideal S1x256 .f32) (v : Vec Ideal S1x64x4096 .bf16) (p : Vec Ideal S1x4096x256 .bf16) (e : Fin 64) (r : Fin 256) :
    ratio l v p (ix2 e r) = Ideal.div (∑ k : Fin 4096, (v (ix3 0 e k) * p (ix3 0 k r) : EReal)) (l (ix2 0 r)) := by
  pointwise [ratio]

theorem unitB_apply (x0 : Vec Ideal S1x2048x256 .bf16) (x1 : Vec Ideal S1x4096x256 .bf16) (x2 : Vec Ideal S1x128x4096 .bf16)
    (u : Fin 16) (e : Fin 64) (r : Fin 256) :
    unitB x0 x1 x2 u (ix2 e r) = Soft.attn2 (sc x0 x1 u r) fun k => x2 (ix3 0 ⟨64 * (u.val % 2) + e.val, by omega⟩ k) := by
  unfold unitB
  rw [ratio_apply, denom_at]
  refine congrArg₂ Ideal.div (Finset.sum_congr rfl fun k _ => ?_) rfl
  rw [pB_apply]
  pointwise [vB]

theorem tile_apply (a b : FVec Ideal S64x256 .f32) (r : Fin 256) (d : Fin 128) :
    tile a b (ix3 0 r d) = if h : d.val < 64 then a (ix2 ⟨d.val, h⟩ r) else b (ix2 ⟨d.val - 64, by omega⟩ r) := by
  pointwise [tile]

/-- The output block of input blocks `x0` (queries), `x1` (keys), `x2` (values) at row `R`, column `D`. -/
def specB (x0 : Vec Ideal S1x2048x256 .bf16) (x1 : Vec Ideal S1x4096x256 .bf16) (x2 : Vec Ideal S1x128x4096 .bf16)
    (R : Fin 2048) (D : Fin 128) : EReal :=
  Soft.attn2 (fun k : Fin 4096 => ∑ i : Fin 128, (x0 (ix3 0 R ⟨128 * (D.val / 64) + i.val, by omega⟩)
    * x1 (ix3 0 k ⟨128 * (D.val / 64) + i.val, by omega⟩) : EReal)) fun k => x2 (ix3 0 D k)

theorem unit_spec (x0 : Vec Ideal S1x2048x256 .bf16) (x1 : Vec Ideal S1x4096x256 .bf16) (x2 : Vec Ideal S1x128x4096 .bf16)
    (u : Fin 16) (e : Fin 64) (r : Fin 256) (R : Fin 2048) (D : Fin 128) (hR : R.val = 256 * (u.val / 2) + r.val)
    (hD : D.val = 64 * (u.val % 2) + e.val) :
    unitB x0 x1 x2 u (ix2 e r) = specB x0 x1 x2 R D := by
  rw [unitB_apply]
  have hR' : R = ⟨256 * (u.val / 2) + r.val, by omega⟩ := Fin.ext hR
  have hD' : D = ⟨64 * (u.val % 2) + e.val, by omega⟩ := Fin.ext hD
  have h2 : D.val / 64 = u.val % 2 := by omega
  unfold specB sc
  simp only [h2]
  exact congrArg₂ Soft.attn2 (by rw [hR']) (funext fun k => by rw [← hD'])

theorem tile_spec (x0 : Vec Ideal S1x2048x256 .bf16) (x1 : Vec Ideal S1x4096x256 .bf16) (x2 : Vec Ideal S1x128x4096 .bf16)
    (u u' : Fin 16) (hu : u.val % 2 = 0) (hu' : u'.val = u.val + 1) (r : Fin 256) (R : Fin 2048) (D : Fin 128) (hR : R.val = 256 * (u.val / 2) + r.val) :
    tile (unitB x0 x1 x2 u) (unitB x0 x1 x2 u') (ix3 0 r D) = specB x0 x1 x2 R D := by
  rw [tile_apply]
  split_ifs with h
  · exact unit_spec x0 x1 x2 u _ r R D hR (by show D.val = 64 * (u.val % 2) + D.val; omega)
  · exact unit_spec x0 x1 x2 u' _ r R D (by omega) (by show D.val = 64 * (u'.val % 2) + (D.val - 64); omega)

/-- One store agrees with the block's values. -/
theorem store_spec (x0 : Vec Ideal S1x2048x256 .bf16) (x1 : Vec Ideal S1x4096x256 .bf16) (x2 : Vec Ideal S1x128x4096 .bf16)
    (u u' : Fin 16) (hu : u.val % 2 = 0) (hu' : u'.val = u.val + 1) (o : ℕ) (ho : o = 256 * (u.val / 2))
    (inb : ∀ a, (![0, o, 0] : Fin 3 → ℕ) a + S1x256x128.size a ≤ S1x2048x128.size a)
    (x : (Rect.unit (s := S1x2048x128) ![0, o, 0] S1x256x128.size inb).shape.Idx) :
    tile (unitB x0 x1 x2 u) (unitB x0 x1 x2 u') x
      = (fun y : S1x2048x128.Idx => specB x0 x1 x2 (y 1) (y 2)) ((Rect.unit (s := S1x2048x128) ![0, o, 0] S1x256x128.size inb).emb x) := by
  have hx : x = ix3 (0 : Fin 1) (x 1 : Fin 256) (x 2 : Fin 128) := by
    refine (eq_ix3 x).trans ?_
    congr 1
    exact Subsingleton.elim (α := Fin 1) _ _
  have h2 : ((Rect.unit (s := S1x2048x128) ![0, o, 0] S1x256x128.size inb).emb x) 2 = (x 2 : Fin 128) := Fin.ext (by
    show 0 + 1 * (x 2).val = (x 2).val
    omega)
  refine (congrArg (tile (unitB x0 x1 x2 u) (unitB x0 x1 x2 u')) hx).trans ?_
  refine (tile_spec x0 x1 x2 u u' hu hu' (x 1) (((Rect.unit (s := S1x2048x128) ![0, o, 0] S1x256x128.size inb).emb x) 1) (x 2) ?_).trans ?_
  · show o + 1 * (x 1).val = 256 * (u.val / 2) + (x 1).val
    omega
  · show _ = specB x0 x1 x2 _ _
    rw [h2]

/-- The output block a grid point leaves. -/
theorem out_spec (c : Dev nD) (i : grid0.Coords) (arg3 : Memref sig .tc .vmem S1x2048x256 .bf16) (harg3 : arg3.IsWhole)
    (arg4 : Memref sig .tc .vmem S1x4096x256 .bf16) (harg4 : arg4.IsWhole) (arg5 : Memref sig .tc .vmem S1x128x4096 .bf16)
    (harg5 : arg5.IsWhole) (arg6 : Memref sig .tc .vmem S1x2048x128 .bf16) (harg6 : arg6.IsWhole)
    (arg7 : Memref sig .tc .vmem S2x4096x256 .f32) (harg7 : arg7.IsWhole) (arg8 : Memref sig .tc .vmem S2x4096x256 .bf16)
    (harg8 : arg8.IsWhole) (x0 : Vec Ideal S1x2048x256 .bf16) (x1 : Vec Ideal S1x4096x256 .bf16) (x2 : Vec Ideal S1x128x4096 .bf16)
    (y : S1x2048x128.Idx) :
    out0_A_3 c i arg3 harg3 arg4 harg4 arg5 harg5 arg6 harg6 arg7 harg7 arg8 harg8 x0 x1 x2 y = specB x0 x1 x2 (y 1) (y 2) := by
  have hc := cover0_A_3 (F := Ideal) c i arg3 harg3 arg4 harg4 arg5 harg5 arg6 harg6 arg7 harg7 arg8 harg8 x0 x1 x2
  unfold out0_A_3
  rw [View.read_writes_eq_canon _ _ _ hc]
  rw [stores_eq] at hc ⊢
  refine View.canon_apply_of_pieces (fun y : S1x2048x128.Idx => specB x0 x1 x2 (y 1) (y 2)) _ ?_ y (hc y)
  refine List.forall_mem_cons.2 ⟨fun x => store_spec x0 x1 x2 14 15 rfl rfl 1792 rfl inb_S1x2048x128_S1x256x128_0_1792_0 x, ?_⟩
  refine List.forall_mem_cons.2 ⟨fun x => store_spec x0 x1 x2 12 13 rfl rfl 1536 rfl inb_S1x2048x128_S1x256x128_0_1536_0 x, ?_⟩
  refine List.forall_mem_cons.2 ⟨fun x => store_spec x0 x1 x2 10 11 rfl rfl 1280 rfl inb_S1x2048x128_S1x256x128_0_1280_0 x, ?_⟩
  refine List.forall_mem_cons.2 ⟨fun x => store_spec x0 x1 x2 8 9 rfl rfl 1024 rfl inb_S1x2048x128_S1x256x128_0_1024_0 x, ?_⟩
  refine List.forall_mem_cons.2 ⟨fun x => store_spec x0 x1 x2 6 7 rfl rfl 768 rfl inb_S1x2048x128_S1x256x128_0_768_0 x, ?_⟩
  refine List.forall_mem_cons.2 ⟨fun x => store_spec x0 x1 x2 4 5 rfl rfl 512 rfl inb_S1x2048x128_S1x256x128_0_512_0 x, ?_⟩
  refine List.forall_mem_cons.2 ⟨fun x => store_spec x0 x1 x2 2 3 rfl rfl 256 rfl inb_S1x2048x128_S1x256x128_0_256_0 x, ?_⟩
  refine List.forall_mem_cons.2 ⟨fun x => store_spec x0 x1 x2 0 1 rfl rfl 0 rfl inb_S1x2048x128_S1x256x128_0_0_0 x, ?_⟩
  simp

end Cert.KernelIdeal.Mla

end
-- ==== Proof.Mla.Ref.lean ====
module

public import proofs.«01_k».proof.Proof.Gen.ReferenceIdeal.Read
public import Idealize.ShloMosaic.Lib.Pointwise
public import Idealize.ShloMosaic.Lib.KernelVsHost
public import proofs.«01_k».proof.Proof.Mla.Soft

@[expose] public section

set_option maxRecDepth 16384

noncomputable section

/-! The attention reference's result at an index. -/

namespace Cert.ReferenceIdeal.RefValue

open Cert.ReferenceIdeal Cert.ReferenceIdeal.Gen Cert.ReferenceIdeal.Read Idealize.ShloMosaic Idealize.ShloMosaic.TcCoe Idealize.SL.Sem

variable (x0 : (⟨S8x4096x3072, .bf16⟩ : BufTy).Contents (Elt Ideal)) (x1 : (⟨S8x512x4096, .bf16⟩ : BufTy).Contents (Elt Ideal))

/-- The score of key `k` against query `q`. -/
def score (b : Fin 8) (h : Fin 8) (q k : Fin 4096) : EReal :=
  ∑ i : Fin 128, (x0 (ix3 b q ⟨1024 + (h.val * 128 + i.val), by omega⟩) * x0 (ix3 b k ⟨2048 + (h.val * 128 + i.val), by omega⟩) : EReal)

theorem v8_at (b : Fin 8) (h : Fin 8) (q k : Fin 4096) :
    val_main_v8 (F := Ideal) x0 (ix4 b h q k) = score x0 b h q k := by
  pointwise [val_main_v8, val_main_v5, val_main_v4, val_main_v3, val_main_v2, val_main_v1, val_main_v0]
  rfl

theorem v11_at (b : Fin 8) (h : Fin 8) (q k : Fin 4096) :
    val_main_v11 (F := Ideal) x0 (ix4 b h q k) = score x0 b h q k * (Real.log 2 : ℝ) := by
  pointwise [val_main_v11, val_main_v10, val_main_v9, val_main_cst]
  rw [v8_at, Soft.log_two_f32]

theorem v12_at (b : Fin 8) (h : Fin 8) (q : Fin 4096) :
    val_main_v12 (F := Ideal) x0 (ix3 b h q) = Soft.top fun k : Fin 4096 => score x0 b h q k * (Real.log 2 : ℝ) := by
  unfold val_main_v12 val_main_cst_0
  refine (congrFun (hostReduce_maximumf_eq_multiReduction (F := Ideal) (φ := .f32) (val_main_v11 (F := Ideal) x0) 0xFF800000#32
    reducesTo_S8x8x4096x4096_S8x8x4096_d3 h_S_ (by decide) (.inl rfl) rfl) (ix3 b h q)).trans ?_
  pointwise []
  simp only [v11_at, Soft.lowest]
  rfl

theorem v16_at (b : Fin 8) (h : Fin 8) (q k : Fin 4096) :
    val_main_v16 (F := Ideal) x0 (ix4 b h q k) = Ideal.exp (score x0 b h q k * (Real.log 2 : ℝ)
      - Soft.top fun k : Fin 4096 => score x0 b h q k * (Real.log 2 : ℝ)) := by
  pointwise [val_main_v16, val_main_v15, val_main_v14, val_main_v13]
  rw [v11_at, v12_at]

theorem v24_at (b : Fin 8) (q : Fin 4096) (d : Fin 512) :
    val_main_v24 (F := Ideal) x0 x1 (ix3 b q d) = Soft.spec x0 x1 b q d := by
  pointwise [val_main_v24, val_main_v23, val_main_v22, val_main_v21, val_main_v20, val_main_v19, val_main_v18, val_main_v17, val_main_cst_1, val_main_v7, val_main_v6]
  simp only [v16_at]
  exact Soft.attnE_eq_attn2 (fun k => score x0 b ⟨d.val / 64, by omega⟩ q k) (fun k => x1 (ix3 b d k))

end Cert.ReferenceIdeal.RefValue

end
-- ==== Proof.Mla.Value.lean ====
module

public import proofs.«01_k».proof.Proof.Mla.Math
public import proofs.«01_k».proof.Proof.Mla.Ref
public import Idealize.ShloMosaic.Lib.Pipeline.ValueKit

@[expose] public section

set_option maxRecDepth 16384

noncomputable section

/-! The attention kernel's result array. -/

namespace Cert.KernelIdeal.Mla

open Cert.KernelIdeal Cert.KernelIdeal.Gen Idealize.ShloMosaic Idealize.ShloMosaic.TcCoe Idealize.SL.Sem

/-- Where each window's block lies, from the output's. -/
theorem places : ∀ t : Fin cfg0.N,
    win0_0.index t = ![win0_3.index t 0, win0_3.index t 1, 4 + win0_3.index t 2]
    ∧ win0_1.index t = ![win0_3.index t 0, 0, 8 + win0_3.index t 2]
    ∧ win0_2.index t = ![win0_3.index t 0, win0_3.index t 2, 0]
    ∧ win0_3.index t 0 < 8 ∧ win0_3.index t 1 < 2 ∧ win0_3.index t 2 < 4 :=
  (by decide +kernel : ∀ t : Fin grid0.N, win0_0.index t = ![win0_3.index t 0, win0_3.index t 1, 4 + win0_3.index t 2]
    ∧ win0_1.index t = ![win0_3.index t 0, 0, 8 + win0_3.index t 2]
    ∧ win0_2.index t = ![win0_3.index t 0, win0_3.index t 2, 0]
    ∧ win0_3.index t 0 < 8 ∧ win0_3.index t 1 < 2 ∧ win0_3.index t 2 < 4)

variable (m : (ℓ : Loc nD τ sig) → Buf (Elt Ideal) ℓ)

theorem arr_eq (c : Dev nD) : (dats m 0 c).arrAt 3 cfg0.N
    = fun j : S8x4096x512.Idx => Soft.spec (m ((c : Thread nD τ).loc main_arg0)) (m ((c : Thread nD τ).loc main_arg1)) (j 0) (j 1) (j 2) := by
  refine (dats m 0 c).arrAt_eq_of_covers 3 _ (by decide +kernel) fun t hf y => ?_
  blk_simp
  rw [after0_3]
  unfold outsAt0
  obtain ⟨e0, e1, e2, h0, h1, h2⟩ := places t
  rw [out_spec]
  unfold specB Soft.spec
  have l1 : (y 1).val < 2048 := (y 1).isLt
  have l2 : (y 2).val < 128 := (y 2).isLt
  congr 1
  · funext k
    refine Finset.sum_congr rfl fun i _ => congrArg₂ (· * ·) ?_ ?_
    · blk_ext [iblk, V, e0]
      all_goals omega
    · blk_ext [iblk, V, e1]
      all_goals omega
  · funext k
    blk_ext [iblk, V, e2]
    all_goals omega

end Cert.KernelIdeal.Mla

end
-- ==== Proof.Ffn.Spec.lean ====
module

public import Idealize.ShloMosaic.Lib.Pointwise
public import Idealize.ShloMosaic.Lib.WritesUnit
public import Idealize.ShloMosaic.Lib.Pipeline.ValueKit
public import Mathlib.Algebra.BigOperators.Fin

@[expose] public section

noncomputable section

/-! The feed-forward as a function of one row, and the loads its kernels make. -/

namespace Cert.Ffn

open Idealize.ShloMosaic

/-- One row over its root mean square, times a gain. -/
def rms (h g : Fin 1024 → EReal) (d : Fin 1024) : EReal :=
  h d * Ideal.rsqrt (Ideal.div (∑ e, h e * h e) (Ideal.ofBits .f32 0x44800000#32) + Ideal.ofBits .f32 0x358637BD#32) * g d

/-- The hidden layer's activations of a normalised row. -/
def act (n : Fin 1024 → EReal) (w1 w3 : Fin 1024 → Fin 2816 → EReal) (f : Fin 2816) : EReal :=
  (∑ e, n e * w1 e f) * Ideal.logistic (∑ e, n e * w1 e f) * ∑ e, n e * w3 e f

/-- A row plus half its feed-forward. -/
def half (h g : Fin 1024 → EReal) (w1 w3 : Fin 1024 → Fin 2816 → EReal) (w2 : Fin 2816 → Fin 1024 → EReal) (d : Fin 1024) : EReal :=
  h d + Ideal.ofBits .f32 0x3F000000#32 * ∑ f, act (rms h g) w1 w3 f * w2 f d

/-- A row plus the projection of the two halves of its mixed row. -/
def mix (x : Fin 1024 → EReal) (a b : Fin 512 → EReal) (wa wb : Fin 512 → Fin 1024 → EReal) (d : Fin 1024) : EReal :=
  x d + ∑ k, a k * wa k d + ∑ k, b k * wb k d

/-- Row `R` after the mixer's output projection by matrix `j` of `w`, from the two halves of the mixed row. -/
def mixed (X : (⟨2, ![32768, 1024]⟩ : Shape).Idx → EReal) (a b : (⟨2, ![32768, 512]⟩ : Shape).Idx → EReal)
    (w : (⟨3, ![2, 1024, 1024]⟩ : Shape).Idx → EReal) (j : Fin 2) (R : Fin 32768) : Fin 1024 → EReal :=
  mix (fun e => X (ix2 R e)) (fun k => a (ix2 R k)) (fun k => b (ix2 R k)) (fun k e => w (ix3 j ⟨k.val, by omega⟩ e))
    fun k e => w (ix3 j ⟨512 + k.val, by omega⟩ e)

/-- A row plus half its feed-forward by the weights of layer `l`. -/
def layer (h : Fin 1024 → EReal) (g : (⟨2, ![4, 1024]⟩ : Shape).Idx → EReal) (w1 w3 : (⟨3, ![4, 1024, 2816]⟩ : Shape).Idx → EReal)
    (w2 : (⟨3, ![4, 2816, 1024]⟩ : Shape).Idx → EReal) (l : Fin 4) : Fin 1024 → EReal :=
  half h (fun e => g (ix2 l e)) (fun e f => w1 (ix3 l e f)) (fun e f => w3 (ix3 l e f)) fun f e => w2 (ix3 l f e)

/-- A load from a whole memory holding `X` reads `X` at the box. -/
theorem load_unread {sig : RefSig} {κ : Kind} {sp : Space} {s : Shape} {e : EltTy} {Val : EltTy → Type}
    (m : Memref sig κ sp s e) (h : m.IsWhole) (X : s.Idx → Val e) (r : Rect s) :
    m.view.readAt Val r.toLoadRect (h.unread X) = View.ld X r := by
  rw [View.readAt_eq_ld, h.read_unread]

/-- A load of a box inside stores that each hold `G`'s values, and that cover it, reads `G`. -/
theorem load_of_stores {sig : RefSig} {κ : Kind} {sp : Space} {s : Shape} {e : EltTy} {Val : EltTy → Type} [∀ e, Nonempty (Val e)]
    (v : View sig κ sp s e) (G : s.Idx → Val e) (L : List (View.Piece Val s e)) (B : LoadRect s)
    (hL : ∀ p ∈ L, ∀ x : p.1.shape.Idx, p.2 x = G (p.1.emb x)) (j : B.shape.Idx) (hj : ∃ p ∈ L, B.idx j ∈ p.1.set) :
    v.readCov L B j = G (B.idx j) := by
  rw [View.readCov_eq_canon']
  exact View.canon_apply_of_pieces G L hL _ hj

end Cert.Ffn

end
-- ==== Proof.Ffn.Last.lean ====
module

public import proofs.«01_k».proof.Proof.Gen.Kernel2Ideal.Value
public import proofs.«01_k».proof.Proof.Ffn.Spec

@[expose] public section

set_option maxRecDepth 16384

noncomputable section

/-! What one grid point of the last feed-forward kernel leaves in its output block. -/

namespace Cert.Kernel2Ideal.Ffn

open Cert.Kernel2Ideal Cert.Kernel2Ideal.Gen Idealize.ShloMosaic Idealize.ShloMosaic.TcCoe Idealize.SL.Sem Cert.Ffn

theorem mixed_apply (x : Vec Ideal S512x1024 .f32) (a b : Vec Ideal S512x512 .bf16) (wa wb : Vec Ideal S512x1024 .bf16) (r : Fin 512) (d : Fin 1024) :
    k0_pay2 x a wa b wb (ix2 r d) = mix (fun e => x (ix2 r e)) (fun e => a (ix2 r e)) (fun e => b (ix2 r e))
      (fun k e => wa (ix2 k e)) (fun k e => wb (ix2 k e)) d := by
  unfold mix
  pointwise [k0_pay2]

theorem norm_apply (x : Vec Ideal S512x1024 .f32) (a b : Vec Ideal S512x512 .bf16) (wa wb : Vec Ideal S512x1024 .bf16) (g : Vec Ideal S1x1024 .f32) (r : Fin 512) (d : Fin 1024) :
    k0_pay3 x a wa b wb g (ix2 r d) = rms (fun e => k0_pay2 x a wa b wb (ix2 r e)) (fun e => g (ix2 0 e)) d := by
  unfold rms
  pointwise [k0_pay3]

theorem chunk_apply (n : Vec Ideal S512x1024 .bf16) (a b : Vec Ideal S1x1024x256 .bf16) (r : Fin 512) (j : Fin 256) :
    k0_pay7 n a b (ix2 r j) = (∑ e, n (ix2 r e) * a (ix3 0 e j)) * Ideal.logistic (∑ e, n (ix2 r e) * a (ix3 0 e j))
      * ∑ e, n (ix2 r e) * b (ix3 0 e j) := by
  pointwise [k0_pay7]

theorem end_apply (h : Vec Ideal S512x1024 .f32) (p : Vec Ideal S512x2816 .bf16) (w : Vec Ideal S1x2816x1024 .bf16) (g : Vec Ideal S1x1024 .f32)
    (r : Fin 512) (d : Fin 1024) :
    k0_pay21 h p w g (ix2 r d) = rms (fun e => h (ix2 r e) + Ideal.ofBits .f32 0x3F000000#32 * ∑ f, p (ix2 r f) * w (ix3 0 f e))
      (fun e => g (ix2 0 e)) d := by
  unfold rms
  pointwise [k0_pay21]

section Rows

variable (x0 : Vec Ideal S1024x1024 .f32) (x1 x2 : Vec Ideal S1024x512 .bf16) (x3 x4 : Vec Ideal S512x1024 .bf16)
  (x5 : Vec Ideal S1x1024 .f32) (x6 x7 : Vec Ideal S1x1024x2816 .bf16) (x8 : Vec Ideal S1x2816x1024 .bf16) (x9 : Vec Ideal S1x1024 .f32)

/-- Row `R` of the block after the mixer's projection. -/
def row (R : Fin 1024) : Fin 1024 → EReal :=
  mix (fun e => x0 (ix2 R e)) (fun k => x1 (ix2 R k)) (fun k => x2 (ix2 R k)) (fun k e => x3 (ix2 k e)) (fun k e => x4 (ix2 k e))

/-- Row `R`'s activations. -/
def acts (R : Fin 1024) : Fin 2816 → EReal :=
  act (rms (row x0 x1 x2 x3 x4 R) fun e => x5 (ix2 0 e)) (fun e f => x6 (ix3 0 e f)) fun e f => x7 (ix3 0 e f)

/-- Row `R` of the output block. -/
def outRow (R : Fin 1024) : Fin 1024 → EReal :=
  rms (half (row x0 x1 x2 x3 x4 R) (fun e => x5 (ix2 0 e)) (fun e f => x6 (ix3 0 e f)) (fun e f => x7 (ix3 0 e f)) fun f e => x8 (ix3 0 f e))
    fun e => x9 (ix2 0 e)

/-- The rows from `o` on after the mixer's projection. -/
def rowsAt (o : ℕ) (i : ∀ a, (![o, 0] : Fin 2 → ℕ) a + S512x1024.size a ≤ S1024x1024.size a)
    (i' : ∀ a, (![o, 0] : Fin 2 → ℕ) a + S512x512.size a ≤ S1024x512.size a) : Vec Ideal S512x1024 .f32 :=
  k0_pay2 (View.ld x0 (Rect.unit (s := S1024x1024) ![o, 0] S512x1024.size i)) (View.ld x1 (Rect.unit (s := S1024x512) ![o, 0] S512x512.size i'))
    (View.ld x3 (Rect.unit (s := S512x1024) ![0, 0] S512x1024.size inb_S512x1024_S512x1024_0_0))
    (View.ld x2 (Rect.unit (s := S1024x512) ![o, 0] S512x512.size i'))
    (View.ld x4 (Rect.unit (s := S512x1024) ![0, 0] S512x1024.size inb_S512x1024_S512x1024_0_0))

/-- The same rows normalised. -/
def normAt (o : ℕ) (i : ∀ a, (![o, 0] : Fin 2 → ℕ) a + S512x1024.size a ≤ S1024x1024.size a)
    (i' : ∀ a, (![o, 0] : Fin 2 → ℕ) a + S512x512.size a ≤ S1024x512.size a) : Vec Ideal S512x1024 .bf16 :=
  k0_pay3 (View.ld x0 (Rect.unit (s := S1024x1024) ![o, 0] S512x1024.size i)) (View.ld x1 (Rect.unit (s := S1024x512) ![o, 0] S512x512.size i'))
    (View.ld x3 (Rect.unit (s := S512x1024) ![0, 0] S512x1024.size inb_S512x1024_S512x1024_0_0))
    (View.ld x2 (Rect.unit (s := S1024x512) ![o, 0] S512x512.size i'))
    (View.ld x4 (Rect.unit (s := S512x1024) ![0, 0] S512x1024.size inb_S512x1024_S512x1024_0_0))
    (View.ld x5 (Rect.unit (s := S1x1024) ![0, 0] S1x1024.size inb_S1x1024_S1x1024_0_0))

/-- Columns `o'` to `o' + 255` of the activations of normalised rows. -/
def colsAt (n : Vec Ideal S512x1024 .bf16) (o' : ℕ) (i : ∀ a, (![0, 0, o'] : Fin 3 → ℕ) a + S1x1024x256.size a ≤ S1x1024x2816.size a) : Vec Ideal S512x256 .bf16 :=
  k0_pay7 n (View.ld x6 (Rect.unit (s := S1x1024x2816) ![0, 0, o'] S1x1024x256.size i))
    (View.ld x7 (Rect.unit (s := S1x1024x2816) ![0, 0, o'] S1x1024x256.size i))

theorem rowsAt_apply (o : ℕ) (i) (i') (r : Fin 512) (d : Fin 1024) (R : Fin 1024) (hR : R.val = o + r.val) :
    rowsAt x0 x1 x2 x3 x4 o i i' (ix2 r d) = row x0 x1 x2 x3 x4 R d := by
  obtain ⟨R, hlt⟩ := R
  obtain rfl : R = o + r.val := hR
  unfold rowsAt row
  rw [mixed_apply]
  unfold mix
  pointwise []

theorem normAt_apply (o : ℕ) (i) (i') (r : Fin 512) (d : Fin 1024) (R : Fin 1024) (hR : R.val = o + r.val) :
    normAt x0 x1 x2 x3 x4 x5 o i i' (ix2 r d) = rms (row x0 x1 x2 x3 x4 R) (fun e => x5 (ix2 0 e)) d := by
  unfold normAt
  rw [norm_apply]
  refine congrFun (congrArg₂ rms (funext fun e => ?_) (funext fun e => ?_)) d
  · exact rowsAt_apply x0 x1 x2 x3 x4 o i i' r e R hR
  · pointwise []

theorem colsAt_apply (o : ℕ) (i) (i') (o' : ℕ) (i'') (r : Fin 512) (j : Fin 256) (R : Fin 1024) (f : Fin 2816) (hR : R.val = o + r.val)
    (hf : f.val = o' + j.val) :
    colsAt x6 x7 (normAt x0 x1 x2 x3 x4 x5 o i i') o' i'' (ix2 r j) = acts x0 x1 x2 x3 x4 x5 x6 x7 R f := by
  obtain ⟨f, hlt⟩ := f
  obtain rfl : f = o' + j.val := hf
  unfold colsAt acts act
  rw [chunk_apply]
  simp only [normAt_apply x0 x1 x2 x3 x4 x5 o i i' r _ R hR]
  have e6 : ∀ e : Fin 1024, View.ld x6 (Rect.unit (s := S1x1024x2816) ![0, 0, o'] S1x1024x256.size i'') (ix3 0 e j) = x6 (ix3 0 e ⟨o' + j.val, hlt⟩) := fun e => by
    pointwise []
  have e7 : ∀ e : Fin 1024, View.ld x7 (Rect.unit (s := S1x1024x2816) ![0, 0, o'] S1x1024x256.size i'') (ix3 0 e j) = x7 (ix3 0 e ⟨o' + j.val, hlt⟩) := fun e => by
    pointwise []
  simp only [e6, e7]

/-- One store of activations agrees with the rows' activations. -/
theorem cols_store (o : ℕ) (i) (i') (o' : ℕ) (i'') (inb : ∀ a, (![o, o'] : Fin 2 → ℕ) a + S512x256.size a ≤ S1024x2816.size a)
    (x : (Rect.unit (s := S1024x2816) ![o, o'] S512x256.size inb).shape.Idx) :
    colsAt x6 x7 (normAt x0 x1 x2 x3 x4 x5 o i i') o' i'' x
      = (fun y : S1024x2816.Idx => acts x0 x1 x2 x3 x4 x5 x6 x7 (y 0) (y 1)) ((Rect.unit (s := S1024x2816) ![o, o'] S512x256.size inb).emb x) := by
  have hx : x = ix2 (x 0 : Fin 512) (x 1 : Fin 256) := eq_ix2 x
  refine (congrArg (colsAt x6 x7 (normAt x0 x1 x2 x3 x4 x5 o i i') o' i'') hx).trans ?_
  refine colsAt_apply x0 x1 x2 x3 x4 x5 x6 x7 o i i' o' i'' (x 0) (x 1) _ _ ?_ ?_
  · show o + 1 * (x 0).val = o + (x 0).val
    omega
  · show o' + 1 * (x 1).val = o' + (x 1).val
    omega

end Rows

section Stores

variable (x0 : Vec Ideal S1024x1024 .f32) (x1 x2 : Vec Ideal S1024x512 .bf16) (x3 x4 : Vec Ideal S512x1024 .bf16)
  (x5 : Vec Ideal S1x1024 .f32) (x6 x7 : Vec Ideal S1x1024x2816 .bf16) (x8 : Vec Ideal S1x2816x1024 .bf16) (x9 : Vec Ideal S1x1024 .f32)

/-- The store of columns `o'` to `o' + 255` of rows `o` to `o + 511` of the activations. -/
def store (o : ℕ) (i : ∀ a, (![o, 0] : Fin 2 → ℕ) a + S512x1024.size a ≤ S1024x1024.size a)
    (i' : ∀ a, (![o, 0] : Fin 2 → ℕ) a + S512x512.size a ≤ S1024x512.size a) (o' : ℕ)
    (i'' : ∀ a, (![0, 0, o'] : Fin 3 → ℕ) a + S1x1024x256.size a ≤ S1x1024x2816.size a)
    (inb : ∀ a, (![o, o'] : Fin 2 → ℕ) a + S512x256.size a ≤ S1024x2816.size a) : View.Piece (Elt Ideal) S1024x2816 .bf16 :=
  ⟨Rect.unit (s := S1024x2816) ![o, o'] S512x256.size inb, colsAt x6 x7 (normAt x0 x1 x2 x3 x4 x5 o i i') o' i''⟩

theorem store_mem (o : ℕ) (i) (i') (o' : ℕ) (i'') (inb) (y : S1024x2816.Idx) :
    y ∈ (store x0 x1 x2 x3 x4 x5 x6 x7 o i i' o' i'' inb).1.set ↔ (o ≤ (y 0).val ∧ (y 0).val < o + 512) ∧ o' ≤ (y 1).val ∧ (y 1).val < o' + 256 := by
  unfold store
  rw [Rect.mem_set_unit]
  exact Fin.forall_fin_two

theorem store_ok (o : ℕ) (i) (i') (o' : ℕ) (i'') (inb) (x) :
    (store x0 x1 x2 x3 x4 x5 x6 x7 o i i' o' i'' inb).2 x = (fun y : S1024x2816.Idx => acts x0 x1 x2 x3 x4 x5 x6 x7 (y 0) (y 1)) ((store x0 x1 x2 x3 x4 x5 x6 x7 o i i' o' i'' inb).1.emb x) :=
  cols_store x0 x1 x2 x3 x4 x5 x6 x7 o i i' o' i'' inb x

/-- The stores of the first 512 rows, the last one first. -/
def storesLo : List (View.Piece (Elt Ideal) S1024x2816 .bf16) :=
  [store x0 x1 x2 x3 x4 x5 x6 x7 0 inb_S1024x1024_S512x1024_0_0 inb_S1024x512_S512x512_0_0 2560 inb_S1x1024x2816_S1x1024x256_0_0_2560 inb_S1024x2816_S512x256_0_2560,
   store x0 x1 x2 x3 x4 x5 x6 x7 0 inb_S1024x1024_S512x1024_0_0 inb_S1024x512_S512x512_0_0 2304 inb_S1x1024x2816_S1x1024x256_0_0_2304 inb_S1024x2816_S512x256_0_2304,
   store x0 x1 x2 x3 x4 x5 x6 x7 0 inb_S1024x1024_S512x1024_0_0 inb_S1024x512_S512x512_0_0 2048 inb_S1x1024x2816_S1x1024x256_0_0_2048 inb_S1024x2816_S512x256_0_2048,
   store x0 x1 x2 x3 x4 x5 x6 x7 0 inb_S1024x1024_S512x1024_0_0 inb_S1024x512_S512x512_0_0 1792 inb_S1x1024x2816_S1x1024x256_0_0_1792 inb_S1024x2816_S512x256_0_1792,
   store x0 x1 x2 x3 x4 x5 x6 x7 0 inb_S1024x1024_S512x1024_0_0 inb_S1024x512_S512x512_0_0 1536 inb_S1x1024x2816_S1x1024x256_0_0_1536 inb_S1024x2816_S512x256_0_1536,
   store x0 x1 x2 x3 x4 x5 x6 x7 0 inb_S1024x1024_S512x1024_0_0 inb_S1024x512_S512x512_0_0 1280 inb_S1x1024x2816_S1x1024x256_0_0_1280 inb_S1024x2816_S512x256_0_1280,
   store x0 x1 x2 x3 x4 x5 x6 x7 0 inb_S1024x1024_S512x1024_0_0 inb_S1024x512_S512x512_0_0 1024 inb_S1x1024x2816_S1x1024x256_0_0_1024 inb_S1024x2816_S512x256_0_1024,
   store x0 x1 x2 x3 x4 x5 x6 x7 0 inb_S1024x1024_S512x1024_0_0 inb_S1024x512_S512x512_0_0 768 inb_S1x1024x2816_S1x1024x256_0_0_768 inb_S1024x2816_S512x256_0_768,
   store x0 x1 x2 x3 x4 x5 x6 x7 0 inb_S1024x1024_S512x1024_0_0 inb_S1024x512_S512x512_0_0 512 inb_S1x1024x2816_S1x1024x256_0_0_512 inb_S1024x2816_S512x256_0_512,
   store x0 x1 x2 x3 x4 x5 x6 x7 0 inb_S1024x1024_S512x1024_0_0 inb_S1024x512_S512x512_0_0 256 inb_S1x1024x2816_S1x1024x256_0_0_256 inb_S1024x2816_S512x256_0_256,
   store x0 x1 x2 x3 x4 x5 x6 x7 0 inb_S1024x1024_S512x1024_0_0 inb_S1024x512_S512x512_0_0 0 inb_S1x1024x2816_S1x1024x256_0_0_0 inb_S1024x2816_S512x256_0_0]

/-- All stores of the activations, the last one first. -/
def storesHi : List (View.Piece (Elt Ideal) S1024x2816 .bf16) :=
  store x0 x1 x2 x3 x4 x5 x6 x7 512 inb_S1024x1024_S512x1024_512_0 inb_S1024x512_S512x512_512_0 2560 inb_S1x1024x2816_S1x1024x256_0_0_2560 inb_S1024x2816_S512x256_512_2560 ::
   store x0 x1 x2 x3 x4 x5 x6 x7 512 inb_S1024x1024_S512x1024_512_0 inb_S1024x512_S512x512_512_0 2304 inb_S1x1024x2816_S1x1024x256_0_0_2304 inb_S1024x2816_S512x256_512_2304 ::
   store x0 x1 x2 x3 x4 x5 x6 x7 512 inb_S1024x1024_S512x1024_512_0 inb_S1024x512_S512x512_512_0 2048 inb_S1x1024x2816_S1x1024x256_0_0_2048 inb_S1024x2816_S512x256_512_2048 ::
   store x0 x1 x2 x3 x4 x5 x6 x7 512 inb_S1024x1024_S512x1024_512_0 inb_S1024x512_S512x512_512_0 1792 inb_S1x1024x2816_S1x1024x256_0_0_1792 inb_S1024x2816_S512x256_512_1792 ::
   store x0 x1 x2 x3 x4 x5 x6 x7 512 inb_S1024x1024_S512x1024_512_0 inb_S1024x512_S512x512_512_0 1536 inb_S1x1024x2816_S1x1024x256_0_0_1536 inb_S1024x2816_S512x256_512_1536 ::
   store x0 x1 x2 x3 x4 x5 x6 x7 512 inb_S1024x1024_S512x1024_512_0 inb_S1024x512_S512x512_512_0 1280 inb_S1x1024x2816_S1x1024x256_0_0_1280 inb_S1024x2816_S512x256_512_1280 ::
   store x0 x1 x2 x3 x4 x5 x6 x7 512 inb_S1024x1024_S512x1024_512_0 inb_S1024x512_S512x512_512_0 1024 inb_S1x1024x2816_S1x1024x256_0_0_1024 inb_S1024x2816_S512x256_512_1024 ::
   store x0 x1 x2 x3 x4 x5 x6 x7 512 inb_S1024x1024_S512x1024_512_0 inb_S1024x512_S512x512_512_0 768 inb_S1x1024x2816_S1x1024x256_0_0_768 inb_S1024x2816_S512x256_512_768 ::
   store x0 x1 x2 x3 x4 x5 x6 x7 512 inb_S1024x1024_S512x1024_512_0 inb_S1024x512_S512x512_512_0 512 inb_S1x1024x2816_S1x1024x256_0_0_512 inb_S1024x2816_S512x256_512_512 ::
   store x0 x1 x2 x3 x4 x5 x6 x7 512 inb_S1024x1024_S512x1024_512_0 inb_S1024x512_S512x512_512_0 256 inb_S1x1024x2816_S1x1024x256_0_0_256 inb_S1024x2816_S512x256_512_256 ::
   store x0 x1 x2 x3 x4 x5 x6 x7 512 inb_S1024x1024_S512x1024_512_0 inb_S1024x512_S512x512_512_0 0 inb_S1x1024x2816_S1x1024x256_0_0_0 inb_S1024x2816_S512x256_512_0 ::
  storesLo x0 x1 x2 x3 x4 x5 x6 x7

theorem storesLo_ok : ∀ p ∈ storesLo x0 x1 x2 x3 x4 x5 x6 x7, ∀ x : p.1.shape.Idx, p.2 x = (fun y : S1024x2816.Idx => acts x0 x1 x2 x3 x4 x5 x6 x7 (y 0) (y 1)) (p.1.emb x) := by
  unfold storesLo
  iterate 11 refine List.forall_mem_cons.2 ⟨store_ok x0 x1 x2 x3 x4 x5 x6 x7 _ _ _ _ _ _, ?_⟩
  simp

theorem storesHi_ok : ∀ p ∈ storesHi x0 x1 x2 x3 x4 x5 x6 x7, ∀ x : p.1.shape.Idx, p.2 x = (fun y : S1024x2816.Idx => acts x0 x1 x2 x3 x4 x5 x6 x7 (y 0) (y 1)) (p.1.emb x) := by
  unfold storesHi
  iterate 11 refine List.forall_mem_cons.2 ⟨store_ok x0 x1 x2 x3 x4 x5 x6 x7 _ _ _ _ _ _, ?_⟩
  exact storesLo_ok x0 x1 x2 x3 x4 x5 x6 x7

theorem storesLo_cover (y : S1024x2816.Idx) (hy : (y 0).val < 512) : ∃ p ∈ storesLo x0 x1 x2 x3 x4 x5 x6 x7, y ∈ p.1.set := by
  have h1 : (y 1).val < 2816 := (y 1).isLt
  unfold storesLo
  simp only [List.mem_cons, exists_eq_or_imp, store_mem]
  omega

theorem storesHi_cover (y : S1024x2816.Idx) (hy : 512 ≤ (y 0).val) : ∃ p ∈ storesHi x0 x1 x2 x3 x4 x5 x6 x7, y ∈ p.1.set := by
  have h0 : (y 0).val < 1024 := (y 0).isLt
  have h1 : (y 1).val < 2816 := (y 1).isLt
  unfold storesHi
  simp only [List.mem_cons, exists_eq_or_imp, store_mem]
  omega

/-- The rows from `o` on of the output block, from the activations read back. -/
def endAt (o : ℕ) (i : ∀ a, (![o, 0] : Fin 2 → ℕ) a + S512x1024.size a ≤ S1024x1024.size a)
    (i' : ∀ a, (![o, 0] : Fin 2 → ℕ) a + S512x512.size a ≤ S1024x512.size a) (p : Vec Ideal S512x2816 .bf16) : Vec Ideal S512x1024 .f32 :=
  k0_pay21 (rowsAt x0 x1 x2 x3 x4 o i i') p (View.ld x8 (Rect.unit (s := S1x2816x1024) ![0, 0, 0] S1x2816x1024.size inb_S1x2816x1024_S1x2816x1024_0_0_0))
    (View.ld x9 (Rect.unit (s := S1x1024) ![0, 0] S1x1024.size inb_S1x1024_S1x1024_0_0))

theorem endAt_apply (o : ℕ) (i) (i') (p : Vec Ideal S512x2816 .bf16)
    (hp : ∀ (r : Fin 512) (f : Fin 2816) (R : Fin 1024), R.val = o + r.val → p (ix2 r f) = acts x0 x1 x2 x3 x4 x5 x6 x7 R f)
    (r : Fin 512) (d : Fin 1024) (R : Fin 1024) (hR : R.val = o + r.val) :
    endAt x0 x1 x2 x3 x4 x8 x9 o i i' p (ix2 r d) = outRow x0 x1 x2 x3 x4 x5 x6 x7 x8 x9 R d := by
  unfold endAt outRow
  rw [end_apply]
  refine congrFun (congrArg₂ rms (funext fun e => ?_) (funext fun e => ?_)) _
  · unfold half
    rw [rowsAt_apply x0 x1 x2 x3 x4 o i i' r e R hR]
    refine congrArg (HAdd.hAdd _) (congrArg (HMul.hMul _) (Finset.sum_congr rfl fun f _ => ?_))
    rw [hp r f R hR]
    refine congrArg (HMul.hMul _) ?_
    pointwise []
  · pointwise []

/-- One store of output rows agrees with the block's rows. -/
theorem end_store (o : ℕ) (i) (i') (p : Vec Ideal S512x2816 .bf16)
    (hp : ∀ (r : Fin 512) (f : Fin 2816) (R : Fin 1024), R.val = o + r.val → p (ix2 r f) = acts x0 x1 x2 x3 x4 x5 x6 x7 R f)
    (x : (Rect.unit (s := S1024x1024) ![o, 0] S512x1024.size i).shape.Idx) :
    endAt x0 x1 x2 x3 x4 x8 x9 o i i' p x
      = (fun y : S1024x1024.Idx => outRow x0 x1 x2 x3 x4 x5 x6 x7 x8 x9 (y 0) (y 1)) ((Rect.unit (s := S1024x1024) ![o, 0] S512x1024.size i).emb x) := by
  have hx : x = ix2 (x 0 : Fin 512) (x 1 : Fin 1024) := eq_ix2 x
  refine (congrArg (endAt x0 x1 x2 x3 x4 x8 x9 o i i' p) hx).trans ?_
  have hd : (Rect.unit (s := S1024x1024) ![o, 0] S512x1024.size i).emb x 1 = (x 1 : Fin 1024) := Fin.ext (by
    show 0 + 1 * (x 1).val = (x 1).val
    omega)
  refine (endAt_apply x0 x1 x2 x3 x4 x5 x6 x7 x8 x9 o i i' p hp (x 0) (x 1) ((Rect.unit (s := S1024x1024) ![o, 0] S512x1024.size i).emb x 0) ?_).trans ?_
  · show o + 1 * (x 0).val = o + (x 0).val
    omega
  · show _ = outRow x0 x1 x2 x3 x4 x5 x6 x7 x8 x9 _ _
    rw [hd]

end Stores

section Run

variable (c : Dev nD)
    (arg1 : Memref sig .tc .vmem S1024x1024 .f32) (harg1 : arg1.IsWhole)
    (arg2 : Memref sig .tc .vmem S1024x512 .bf16) (harg2 : arg2.IsWhole)
    (arg3 : Memref sig .tc .vmem S1024x512 .bf16) (harg3 : arg3.IsWhole)
    (arg4 : Memref sig .tc .vmem S512x1024 .bf16) (harg4 : arg4.IsWhole)
    (arg5 : Memref sig .tc .vmem S512x1024 .bf16) (harg5 : arg5.IsWhole)
    (arg6 : Memref sig .tc .vmem S1x1024 .f32) (harg6 : arg6.IsWhole)
    (arg7 : Memref sig .tc .vmem S1x1024x2816 .bf16) (harg7 : arg7.IsWhole)
    (arg8 : Memref sig .tc .vmem S1x1024x2816 .bf16) (harg8 : arg8.IsWhole)
    (arg9 : Memref sig .tc .vmem S1x2816x1024 .bf16) (harg9 : arg9.IsWhole)
    (arg10 : Memref sig .tc .vmem S1x1024 .f32) (harg10 : arg10.IsWhole)
    (arg11 : Memref sig .tc .vmem S1024x1024 .f32) (harg11 : arg11.IsWhole)
    (arg12 : Memref sig .tc .vmem S1024x2816 .bf16) (harg12 : arg12.IsWhole)
    (x0 : Vec Ideal S1024x1024 .f32) (x1 x2 : Vec Ideal S1024x512 .bf16) (x3 x4 : Vec Ideal S512x1024 .bf16)
    (x5 : Vec Ideal S1x1024 .f32) (x6 x7 : Vec Ideal S1x1024x2816 .bf16) (x8 : Vec Ideal S1x2816x1024 .bf16) (x9 : Vec Ideal S1x1024 .f32)

theorem lo_eq : kernelRun0_A.sl.HS0_11 (F := Ideal) c arg1 harg1 arg2 harg2 arg3 harg3 arg4 harg4 arg5 harg5 arg6 harg6 arg7 harg7 arg8 harg8 x0 x1 x2 x3 x4 x5 x6 x7 = storesLo x0 x1 x2 x3 x4 x5 x6 x7 := by
  simp only [kernelRun0_A.sl.HS0_11, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, load_unread]
  rfl

theorem hi_eq : kernelRun0_A.sl.HS0_22 (F := Ideal) c arg1 harg1 arg2 harg2 arg3 harg3 arg4 harg4 arg5 harg5 arg6 harg6 arg7 harg7 arg8 harg8 x0 x1 x2 x3 x4 x5 x6 x7 = storesHi x0 x1 x2 x3 x4 x5 x6 x7 := by
  unfold kernelRun0_A.sl.HS0_22
  rw [lo_eq]
  simp only [kernelRun0_A.sl.r_10, kernelRun0_A.sl.r_12, kernelRun0_A.sl.r_13, kernelRun0_A.sl.r_14, kernelRun0_A.sl.r_15, kernelRun0_A.sl.r_16, load_unread]
  rfl

/-- The activations of the first 512 rows, read back. -/
theorem lo_read (r : Fin 512) (f : Fin 2816) (R : Fin 1024) (hR : R.val = 0 + r.val) :
    kernelRun0_A.sl.v169 (F := Ideal) c arg1 harg1 arg2 harg2 arg3 harg3 arg4 harg4 arg5 harg5 arg6 harg6 arg7 harg7 arg8 harg8 arg12 x0 x1 x2 x3 x4 x5 x6 x7 (ix2 r f) = acts x0 x1 x2 x3 x4 x5 x6 x7 R f := by
  unfold kernelRun0_A.sl.v169
  rw [lo_eq]
  have e0 : (Rect.unit (s := S1024x2816) ![0, 0] S512x2816.size inb_S1024x2816_S512x2816_0_0).toLoadRect.idx (ix2 r f) 0 = R := Fin.ext (by
    show 0 + 1 * r.val = R.val
    omega)
  have e1 : (Rect.unit (s := S1024x2816) ![0, 0] S512x2816.size inb_S1024x2816_S512x2816_0_0).toLoadRect.idx (ix2 r f) 1 = f := Fin.ext (by
    show 0 + 1 * f.val = f.val
    omega)
  refine (load_of_stores arg12.view (fun y : S1024x2816.Idx => acts x0 x1 x2 x3 x4 x5 x6 x7 (y 0) (y 1)) _ _ (storesLo_ok x0 x1 x2 x3 x4 x5 x6 x7) _ (storesLo_cover x0 x1 x2 x3 x4 x5 x6 x7 _ (by rw [e0]; omega))).trans ?_
  show acts x0 x1 x2 x3 x4 x5 x6 x7 _ _ = _
  rw [e0, e1]

/-- The activations of the other rows, read back. -/
theorem hi_read (r : Fin 512) (f : Fin 2816) (R : Fin 1024) (hR : R.val = 512 + r.val) :
    kernelRun0_A.sl.v360 (F := Ideal) c arg1 harg1 arg2 harg2 arg3 harg3 arg4 harg4 arg5 harg5 arg6 harg6 arg7 harg7 arg8 harg8 arg12 x0 x1 x2 x3 x4 x5 x6 x7 (ix2 r f) = acts x0 x1 x2 x3 x4 x5 x6 x7 R f := by
  unfold kernelRun0_A.sl.v360
  rw [hi_eq]
  have e0 : (Rect.unit (s := S1024x2816) ![512, 0] S512x2816.size inb_S1024x2816_S512x2816_512_0).toLoadRect.idx (ix2 r f) 0 = R := Fin.ext (by
    show 512 + 1 * r.val = R.val
    omega)
  have e1 : (Rect.unit (s := S1024x2816) ![512, 0] S512x2816.size inb_S1024x2816_S512x2816_512_0).toLoadRect.idx (ix2 r f) 1 = f := Fin.ext (by
    show 0 + 1 * f.val = f.val
    omega)
  refine (load_of_stores arg12.view (fun y : S1024x2816.Idx => acts x0 x1 x2 x3 x4 x5 x6 x7 (y 0) (y 1)) _ _ (storesHi_ok x0 x1 x2 x3 x4 x5 x6 x7) _ (storesHi_cover x0 x1 x2 x3 x4 x5 x6 x7 _ (by rw [e0]; omega))).trans ?_
  show acts x0 x1 x2 x3 x4 x5 x6 x7 _ _ = _
  rw [e0, e1]

/-- What the body stores in the output block. -/
theorem out_stores (i : grid0.Coords) : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9).1
    = [⟨Rect.unit (s := S1024x1024) ![512, 0] S512x1024.size inb_S1024x1024_S512x1024_512_0,
        endAt x0 x1 x2 x3 x4 x8 x9 512 inb_S1024x1024_S512x1024_512_0 inb_S1024x512_S512x512_512_0 (kernelRun0_A.sl.v360 (F := Ideal) c arg1 harg1 arg2 harg2 arg3 harg3 arg4 harg4 arg5 harg5 arg6 harg6 arg7 harg7 arg8 harg8 arg12 x0 x1 x2 x3 x4 x5 x6 x7)⟩,
      ⟨Rect.unit (s := S1024x1024) ![0, 0] S512x1024.size inb_S1024x1024_S512x1024_0_0,
        endAt x0 x1 x2 x3 x4 x8 x9 0 inb_S1024x1024_S512x1024_0_0 inb_S1024x512_S512x512_0_0 (kernelRun0_A.sl.v169 (F := Ideal) c arg1 harg1 arg2 harg2 arg3 harg3 arg4 harg4 arg5 harg5 arg6 harg6 arg7 harg7 arg8 harg8 arg12 x0 x1 x2 x3 x4 x5 x6 x7)⟩] := by
  unfold endAt rowsAt
  simp only [← load_unread arg1 harg1 x0, ← load_unread arg2 harg2 x1, ← load_unread arg3 harg3 x2, ← load_unread arg4 harg4 x3,
    ← load_unread arg5 harg5 x4, ← load_unread arg9 harg9 x8, ← load_unread arg10 harg10 x9]
  rfl

/-- The output block a grid point leaves. -/
theorem out_spec (i : grid0.Coords) (y : S1024x1024.Idx) :
    out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 y = outRow x0 x1 x2 x3 x4 x5 x6 x7 x8 x9 (y 0) (y 1) := by
  have hc := cover0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9
  unfold out0_A_10
  rw [View.read_writes_eq_canon _ _ _ hc]
  rw [out_stores] at hc ⊢
  refine View.canon_apply_of_pieces (fun y : S1024x1024.Idx => outRow x0 x1 x2 x3 x4 x5 x6 x7 x8 x9 (y 0) (y 1)) _ ?_ y (hc y)
  refine List.forall_mem_cons.2 ⟨fun x => end_store x0 x1 x2 x3 x4 x5 x6 x7 x8 x9 512 _ _ _ (hi_read c arg1 harg1 arg2 harg2 arg3 harg3 arg4 harg4 arg5 harg5 arg6 harg6 arg7 harg7 arg8 harg8 arg12 x0 x1 x2 x3 x4 x5 x6 x7) x, ?_⟩
  refine List.forall_mem_cons.2 ⟨fun x => end_store x0 x1 x2 x3 x4 x5 x6 x7 x8 x9 0 _ _ _ (lo_read c arg1 harg1 arg2 harg2 arg3 harg3 arg4 harg4 arg5 harg5 arg6 harg6 arg7 harg7 arg8 harg8 arg12 x0 x1 x2 x3 x4 x5 x6 x7) x, ?_⟩
  simp

end Run

end Cert.Kernel2Ideal.Ffn

end
-- ==== Proof.Ffn.LastValue.lean ====
module

public import proofs.«01_k».proof.Proof.Ffn.Last
public import Idealize.ShloMosaic.Lib.Claim

@[expose] public section

set_option maxRecDepth 16384

noncomputable section

/-! The last feed-forward kernel's result array. -/

namespace Cert.Kernel2Ideal.Ffn

open Cert.Kernel2Ideal Cert.Kernel2Ideal.Gen Idealize.ShloMosaic Idealize.ShloMosaic.TcCoe Idealize.SL.Sem Cert.Ffn

variable (m : (ℓ : Loc nD τ sig) → Buf (Elt Ideal) ℓ) (c : Dev nD)

/-! What the kernel finds in the arrays that the host prepares. -/

theorem entry3 (k : Fin 512) (e : Fin 1024) : (V m c main_v10 : S512x1024.Idx → EReal) (ix2 k e) = m ((c : Thread nD τ).loc main_arg3) (ix3 1 ⟨k.val, by omega⟩ e) := by
  entry_read
  pointwise []

theorem entry4 (k : Fin 512) (e : Fin 1024) : (V m c main_v11 : S512x1024.Idx → EReal) (ix2 k e) = m ((c : Thread nD τ).loc main_arg3) (ix3 1 ⟨512 + k.val, by omega⟩ e) := by
  entry_read
  pointwise []

theorem entry5 (e : Fin 1024) : (V m c main_v2 : S1x1024.Idx → EReal) (ix2 0 e) = m ((c : Thread nD τ).loc main_arg4) (ix2 3 e) := by
  entry_read
  pointwise []

theorem entry6 (l : Fin 4) (e : Fin 1024) (f : Fin 2816) : (V m c main_v3 : S4x1024x2816.Idx → EReal) (ix3 l e f) = m ((c : Thread nD τ).loc main_arg5) (ix3 l e f) := by
  entry_read
  pointwise []

theorem entry7 (l : Fin 4) (e : Fin 1024) (f : Fin 2816) : (V m c main_v4 : S4x1024x2816.Idx → EReal) (ix3 l e f) = m ((c : Thread nD τ).loc main_arg6) (ix3 l e f) := by
  entry_read
  pointwise []

theorem entry8 (l : Fin 4) (f : Fin 2816) (e : Fin 1024) : (V m c main_v5 : S4x2816x1024.Idx → EReal) (ix3 l f e) = m ((c : Thread nD τ).loc main_arg7) (ix3 l f e) := by
  entry_read
  pointwise []

theorem entry9 (e : Fin 1024) : (V m c main_v6 : S1x1024.Idx → EReal) (ix2 0 e) = m ((c : Thread nD τ).loc main_arg8) (ix1 e) := by
  entry_read
  pointwise []

/-- Where each window's block lies, from the output's. -/
theorem places : ∀ t : Fin cfg0.N,
    (win0_0.index t = ![win0_10.index t 0, 0] ∧ win0_1.index t = ![win0_10.index t 0, 0] ∧ win0_2.index t = ![win0_10.index t 0, 0])
    ∧ (win0_3.index t = ![0, 0] ∧ win0_4.index t = ![0, 0] ∧ win0_5.index t = ![0, 0] ∧ win0_9.index t = ![0, 0])
    ∧ (win0_6.index t = ![3, 0, 0] ∧ win0_7.index t = ![3, 0, 0] ∧ win0_8.index t = ![3, 0, 0])
    ∧ win0_10.index t 0 < 32 ∧ win0_10.index t 1 = 0 :=
  (by decide +kernel : ∀ t : Fin grid0.N,
    (win0_0.index t = ![win0_10.index t 0, 0] ∧ win0_1.index t = ![win0_10.index t 0, 0] ∧ win0_2.index t = ![win0_10.index t 0, 0])
    ∧ (win0_3.index t = ![0, 0] ∧ win0_4.index t = ![0, 0] ∧ win0_5.index t = ![0, 0] ∧ win0_9.index t = ![0, 0])
    ∧ (win0_6.index t = ![3, 0, 0] ∧ win0_7.index t = ![3, 0, 0] ∧ win0_8.index t = ![3, 0, 0])
    ∧ win0_10.index t 0 < 32 ∧ win0_10.index t 1 = 0)

/-! The blocks that a grid point finds, from the arguments. -/

theorem block0 (t : Fin cfg0.N) (r : Fin 1024) (e : Fin 1024) (R : Fin 32768) (hR : R.val = win0_10.index t 0 * 1024 + r.val) :
    iblk m c 0 t (ix2 r e) = m ((c : Thread nD τ).loc main_arg0) (ix2 R e) := by
  obtain ⟨⟨p0, p1, p2⟩, ⟨p3, p4, p5, p9⟩, ⟨p6, p7, p8⟩, q0, q1⟩ := places t
  blk_ext [iblk, V, p0]
  all_goals omega

theorem block1 (t : Fin cfg0.N) (r : Fin 1024) (e : Fin 512) (R : Fin 32768) (hR : R.val = win0_10.index t 0 * 1024 + r.val) :
    iblk m c 1 t (ix2 r e) = m ((c : Thread nD τ).loc main_arg1) (ix2 R e) := by
  obtain ⟨⟨p0, p1, p2⟩, ⟨p3, p4, p5, p9⟩, ⟨p6, p7, p8⟩, q0, q1⟩ := places t
  blk_ext [iblk, V, p1]
  all_goals omega

theorem block2 (t : Fin cfg0.N) (r : Fin 1024) (e : Fin 512) (R : Fin 32768) (hR : R.val = win0_10.index t 0 * 1024 + r.val) :
    iblk m c 2 t (ix2 r e) = m ((c : Thread nD τ).loc main_arg2) (ix2 R e) := by
  obtain ⟨⟨p0, p1, p2⟩, ⟨p3, p4, p5, p9⟩, ⟨p6, p7, p8⟩, q0, q1⟩ := places t
  blk_ext [iblk, V, p2]
  all_goals omega

theorem block3 (t : Fin cfg0.N) (k : Fin 512) (e : Fin 1024) :
    iblk m c 3 t (ix2 k e) = m ((c : Thread nD τ).loc main_arg3) (ix3 1 ⟨k.val, by omega⟩ e) := by
  obtain ⟨⟨p0, p1, p2⟩, ⟨p3, p4, p5, p9⟩, ⟨p6, p7, p8⟩, q0, q1⟩ := places t
  rw [← entry3 m c k e]
  blk_ext [iblk, p3]
  all_goals omega

theorem block4 (t : Fin cfg0.N) (k : Fin 512) (e : Fin 1024) :
    iblk m c 4 t (ix2 k e) = m ((c : Thread nD τ).loc main_arg3) (ix3 1 ⟨512 + k.val, by omega⟩ e) := by
  obtain ⟨⟨p0, p1, p2⟩, ⟨p3, p4, p5, p9⟩, ⟨p6, p7, p8⟩, q0, q1⟩ := places t
  rw [← entry4 m c k e]
  blk_ext [iblk, p4]
  all_goals omega

theorem block5 (t : Fin cfg0.N) (e : Fin 1024) :
    iblk m c 5 t (ix2 0 e) = m ((c : Thread nD τ).loc main_arg4) (ix2 3 e) := by
  obtain ⟨⟨p0, p1, p2⟩, ⟨p3, p4, p5, p9⟩, ⟨p6, p7, p8⟩, q0, q1⟩ := places t
  rw [← entry5 m c e]
  blk_ext [iblk, p5]
  all_goals omega

theorem block6 (t : Fin cfg0.N) (e : Fin 1024) (f : Fin 2816) :
    iblk m c 6 t (ix3 0 e f) = m ((c : Thread nD τ).loc main_arg5) (ix3 3 e f) := by
  obtain ⟨⟨p0, p1, p2⟩, ⟨p3, p4, p5, p9⟩, ⟨p6, p7, p8⟩, q0, q1⟩ := places t
  rw [← entry6 m c 3 e f]
  blk_ext [iblk, p6]
  all_goals omega

theorem block7 (t : Fin cfg0.N) (e : Fin 1024) (f : Fin 2816) :
    iblk m c 7 t (ix3 0 e f) = m ((c : Thread nD τ).loc main_arg6) (ix3 3 e f) := by
  obtain ⟨⟨p0, p1, p2⟩, ⟨p3, p4, p5, p9⟩, ⟨p6, p7, p8⟩, q0, q1⟩ := places t
  rw [← entry7 m c 3 e f]
  blk_ext [iblk, p7]
  all_goals omega

theorem block8 (t : Fin cfg0.N) (f : Fin 2816) (e : Fin 1024) :
    iblk m c 8 t (ix3 0 f e) = m ((c : Thread nD τ).loc main_arg7) (ix3 3 f e) := by
  obtain ⟨⟨p0, p1, p2⟩, ⟨p3, p4, p5, p9⟩, ⟨p6, p7, p8⟩, q0, q1⟩ := places t
  rw [← entry8 m c 3 f e]
  blk_ext [iblk, p8]
  all_goals omega

theorem block9 (t : Fin cfg0.N) (e : Fin 1024) :
    iblk m c 9 t (ix2 0 e) = m ((c : Thread nD τ).loc main_arg8) (ix1 e) := by
  obtain ⟨⟨p0, p1, p2⟩, ⟨p3, p4, p5, p9⟩, ⟨p6, p7, p8⟩, q0, q1⟩ := places t
  rw [← entry9 m c e]
  blk_ext [iblk, p9]
  all_goals omega

theorem arr_eq : (dats m 0 c).arrAt 10 cfg0.N
    = fun j : S32768x1024.Idx => rms (layer (mixed (m ((c : Thread nD τ).loc main_arg0)) (m ((c : Thread nD τ).loc main_arg1))
        (m ((c : Thread nD τ).loc main_arg2)) (m ((c : Thread nD τ).loc main_arg3)) 1 (j 0))
        (m ((c : Thread nD τ).loc main_arg4)) (m ((c : Thread nD τ).loc main_arg5)) (m ((c : Thread nD τ).loc main_arg6))
        (m ((c : Thread nD τ).loc main_arg7)) 3) (fun e => m ((c : Thread nD τ).loc main_arg8) (ix1 e)) (j 1) := by
  refine (dats m 0 c).arrAt_eq_of_covers 10 _ (by decide +kernel) fun t hf y => ?_
  blk_simp
  rw [after0_10]
  unfold outsAt0
  rw [out_spec]
  have l0 : (y 0).val < 1024 := (y 0).isLt
  have h0 : ((win0_10.blk t).view.emb y 0).val = win0_10.index t 0 * 1024 + (y 0).val := by
    blk_simp
  have h1 : (win0_10.blk t).view.emb y 1 = (y 1 : Fin 1024) := Fin.ext (by
    blk_simp [(places t).2.2.2.2]
    try omega)
  unfold outRow row layer mixed
  simp only [fun e => block0 m c t (y 0) e _ h0, fun e => block1 m c t (y 0) e _ h0, fun e => block2 m c t (y 0) e _ h0,
    block3 m c t, block4 m c t, block5 m c t, block6 m c t, block7 m c t, block8 m c t, block9 m c t]
  rw [h1]

end Cert.Kernel2Ideal.Ffn

end
-- ==== Proof.Ffn.LastRef.lean ====
module

public import proofs.«01_k».proof.Proof.Gen.Reference2Ideal.Read
public import proofs.«01_k».proof.Proof.Ffn.Spec
public import Idealize.ShloMosaic.Lib.IdealHost

@[expose] public section

set_option maxRecDepth 16384

noncomputable section

/-! The value of the reference of the last feed-forward. -/

namespace Cert.Reference2Ideal.RefValue

open Cert.Reference2Ideal Cert.Reference2Ideal.Read Idealize.ShloMosaic Cert.Ffn

variable (x0 : (⟨S32768x1024, .f32⟩ : BufTy).Contents (Elt Ideal)) (x1 x2 : (⟨S32768x512, .bf16⟩ : BufTy).Contents (Elt Ideal))
  (x3 : (⟨S2x1024x1024, .f32⟩ : BufTy).Contents (Elt Ideal)) (x4 : (⟨S4x1024, .f32⟩ : BufTy).Contents (Elt Ideal))
  (x5 x6 : (⟨S4x1024x2816, .f32⟩ : BufTy).Contents (Elt Ideal)) (x7 : (⟨S4x2816x1024, .f32⟩ : BufTy).Contents (Elt Ideal))
  (x8 : (⟨S1024, .f32⟩ : BufTy).Contents (Elt Ideal))

theorem mixed_at (R : Fin 32768) (d : Fin 1024) : val_main_v6 (F := Ideal) x0 x1 x2 x3 (ix2 R d) = mixed x0 x1 x2 x3 1 R d := by
  have h : val_main_v6 (F := Ideal) x0 x1 x2 x3 (ix2 R d) = x0 (ix2 R d) + ∑ k : Fin 1024,
      (if h : k.val < 512 then x1 (ix2 R ⟨k.val, h⟩) else x2 (ix2 R ⟨k.val - 512, by omega⟩)) * x3 (ix3 1 k d) := by
    pointwise [val_main_v6, val_main_v5, val_main_v4, val_main_v3, val_main_v2, val_main_v1, val_main_v0]
  rw [h]
  unfold mixed mix
  rw [add_assoc]
  refine congrArg (HAdd.hAdd _) ((Fin.sum_univ_add (a := 512) (b := 512) _).trans (congrArg₂ HAdd.hAdd (Finset.sum_congr rfl fun k _ => ?_)
    (Finset.sum_congr rfl fun k _ => ?_)))
  · have hk : (Fin.castAdd 512 k).val < 512 := k.isLt
    rw [dif_pos hk]
    rfl
  · have hk : ¬ (Fin.natAdd 512 k).val < 512 := by simp
    rw [dif_neg hk]
    congr 3
    simp

theorem norm_at (R : Fin 32768) (d : Fin 1024) : val_main_v21 (F := Ideal) x0 x1 x2 x3 x4 (ix2 R d)
    = rms (mixed x0 x1 x2 x3 1 R) (fun e => x4 (ix2 3 e)) d := by
  unfold rms
  simp only [← mixed_at]
  pointwise [val_main_v21, val_main_v20, val_main_v19, val_main_v18, val_main_v17, val_main_v16, val_main_v15, val_main_v14, val_main_v13,
    val_main_v12, val_main_v11, val_main_v10, val_main_v9, val_main_v8, val_main_v7, val_main_cst, val_main_cst_0, val_main_cst_1]

theorem hidden_at (R : Fin 32768) (f : Fin 2816) : val_main_v31 (F := Ideal) x0 x1 x2 x3 x4 x5 x6 (ix2 R f)
    = act (rms (mixed x0 x1 x2 x3 1 R) fun e => x4 (ix2 3 e)) (fun e f => x5 (ix3 3 e f)) (fun e f => x6 (ix3 3 e f)) f := by
  unfold act Ideal.logistic
  rw [← Ideal.ofBits_one_f32]
  simp only [← norm_at]
  pointwise [val_main_v31, val_main_v30, val_main_v29, val_main_v28, val_main_v25, val_main_v24, val_main_v23, val_main_v22,
    val_main_call0_v0, val_main_call0_v1, val_main_call0_v2, val_main_call0_v3, val_main_call0_v4, val_main_call0_v5,
    val_main_call0_cst, val_main_call0_cst_0]

theorem half_at (R : Fin 32768) (d : Fin 1024) : val_main_v35 (F := Ideal) x0 x1 x2 x3 x4 x5 x6 x7 (ix2 R d)
    = layer (mixed x0 x1 x2 x3 1 R) x4 x5 x6 x7 3 d := by
  unfold layer half
  simp only [← hidden_at, ← mixed_at]
  pointwise [val_main_v35, val_main_v34, val_main_v33, val_main_v32, val_main_v27, val_main_v26, val_main_cst_2]

/-- The reference's result. -/
theorem result_at (R : Fin 32768) (d : Fin 1024) : val_main_v48 (F := Ideal) x0 x1 x2 x3 x4 x5 x6 x7 x8 (ix2 R d)
    = rms (layer (mixed x0 x1 x2 x3 1 R) x4 x5 x6 x7 3) (fun e => x8 (ix1 e)) d := by
  unfold rms
  simp only [← half_at]
  pointwise [val_main_v48, val_main_v47, val_main_v46, val_main_v45, val_main_v44, val_main_v43, val_main_v42, val_main_v41, val_main_v40,
    val_main_v39, val_main_v38, val_main_v37, val_main_v36, val_main_cst_3, val_main_cst_4, val_main_cst_5]

end Cert.Reference2Ideal.RefValue

end
-- ==== Proof.Ffn.Plain.lean ====
module

public import proofs.«01_k».proof.Proof.Gen.Kernel3Ideal.Value
public import proofs.«01_k».proof.Proof.Ffn.Spec

@[expose] public section

set_option maxRecDepth 16384

noncomputable section

/-! What one grid point of the feed-forward kernel without a mixer before it leaves in its output block. -/

namespace Cert.Kernel3Ideal.Ffn

open Cert.Kernel3Ideal Cert.Kernel3Ideal.Gen Idealize.ShloMosaic Idealize.ShloMosaic.TcCoe Idealize.SL.Sem Cert.Ffn

theorem norm_apply (x : Vec Ideal S512x1024 .f32) (g : Vec Ideal S1x1024 .f32) (r : Fin 512) (d : Fin 1024) :
    k0_pay3 x g (ix2 r d) = rms (fun e => x (ix2 r e)) (fun e => g (ix2 0 e)) d := by
  unfold rms
  pointwise [k0_pay3, k0_pay2]

theorem chunk_apply (n : Vec Ideal S512x1024 .bf16) (a b : Vec Ideal S1x1024x256 .bf16) (r : Fin 512) (j : Fin 256) :
    k0_pay7 n a b (ix2 r j) = (∑ e, n (ix2 r e) * a (ix3 0 e j)) * Ideal.logistic (∑ e, n (ix2 r e) * a (ix3 0 e j))
      * ∑ e, n (ix2 r e) * b (ix3 0 e j) := by
  pointwise [k0_pay7]

theorem end_apply (h : Vec Ideal S512x1024 .f32) (p : Vec Ideal S512x2816 .bf16) (w : Vec Ideal S1x2816x1024 .bf16) (r : Fin 512) (d : Fin 1024) :
    k0_pay1 h p w (ix2 r d) = h (ix2 r d) + Ideal.ofBits .f32 0x3F000000#32 * ∑ f, p (ix2 r f) * w (ix3 0 f d) := by
  pointwise [k0_pay1]

section Rows

variable (x0 : Vec Ideal S1024x1024 .f32) (x1 : Vec Ideal S1x1024 .f32) (x2 x3 : Vec Ideal S1x1024x2816 .bf16) (x4 : Vec Ideal S1x2816x1024 .bf16)

/-- Row `R` of the block of rows. -/
def row (R : Fin 1024) : Fin 1024 → EReal := fun e => x0 (ix2 R e)

/-- Row `R`'s activations. -/
def acts (R : Fin 1024) : Fin 2816 → EReal :=
  act (rms (row x0 R) fun e => x1 (ix2 0 e)) (fun e f => x2 (ix3 0 e f)) fun e f => x3 (ix3 0 e f)

/-- Row `R` of the output block. -/
def outRow (R : Fin 1024) : Fin 1024 → EReal :=
  half (row x0 R) (fun e => x1 (ix2 0 e)) (fun e f => x2 (ix3 0 e f)) (fun e f => x3 (ix3 0 e f)) fun f e => x4 (ix3 0 f e)

/-- The rows from `o` on of that block. -/
def rowsAt (o : ℕ) (i : ∀ a, (![o, 0] : Fin 2 → ℕ) a + S512x1024.size a ≤ S1024x1024.size a) : Vec Ideal S512x1024 .f32 :=
  k0_pay2 (View.ld x0 (Rect.unit (s := S1024x1024) ![o, 0] S512x1024.size i))

/-- The same rows normalised. -/
def normAt (o : ℕ) (i : ∀ a, (![o, 0] : Fin 2 → ℕ) a + S512x1024.size a ≤ S1024x1024.size a) : Vec Ideal S512x1024 .bf16 :=
  k0_pay3 (View.ld x0 (Rect.unit (s := S1024x1024) ![o, 0] S512x1024.size i))
    (View.ld x1 (Rect.unit (s := S1x1024) ![0, 0] S1x1024.size inb_S1x1024_S1x1024_0_0))

/-- Columns `o'` to `o' + 255` of the activations of normalised rows. -/
def colsAt (n : Vec Ideal S512x1024 .bf16) (o' : ℕ) (i : ∀ a, (![0, 0, o'] : Fin 3 → ℕ) a + S1x1024x256.size a ≤ S1x1024x2816.size a) : Vec Ideal S512x256 .bf16 :=
  k0_pay7 n (View.ld x2 (Rect.unit (s := S1x1024x2816) ![0, 0, o'] S1x1024x256.size i))
    (View.ld x3 (Rect.unit (s := S1x1024x2816) ![0, 0, o'] S1x1024x256.size i))

theorem rowsAt_apply (o : ℕ) (i) (r : Fin 512) (d : Fin 1024) (R : Fin 1024) (hR : R.val = o + r.val) :
    rowsAt x0 o i (ix2 r d) = row x0 R d := by
  obtain ⟨R, hlt⟩ := R
  obtain rfl : R = o + r.val := hR
  unfold rowsAt row
  pointwise [k0_pay2]

theorem normAt_apply (o : ℕ) (i) (r : Fin 512) (d : Fin 1024) (R : Fin 1024) (hR : R.val = o + r.val) :
    normAt x0 x1 o i (ix2 r d) = rms (row x0 R) (fun e => x1 (ix2 0 e)) d := by
  obtain ⟨R, hlt⟩ := R
  obtain rfl : R = o + r.val := hR
  unfold normAt
  rw [norm_apply]
  refine congrFun (congrArg₂ rms (funext fun e => ?_) (funext fun e => ?_)) d
  · unfold row
    pointwise []
  · pointwise []

theorem colsAt_apply (o : ℕ) (i) (o' : ℕ) (i'') (r : Fin 512) (j : Fin 256) (R : Fin 1024) (f : Fin 2816) (hR : R.val = o + r.val)
    (hf : f.val = o' + j.val) :
    colsAt x2 x3 (normAt x0 x1 o i) o' i'' (ix2 r j) = acts x0 x1 x2 x3 R f := by
  obtain ⟨f, hlt⟩ := f
  obtain rfl : f = o' + j.val := hf
  unfold colsAt acts act
  rw [chunk_apply]
  simp only [normAt_apply x0 x1 o i r _ R hR]
  have e2 : ∀ e : Fin 1024, View.ld x2 (Rect.unit (s := S1x1024x2816) ![0, 0, o'] S1x1024x256.size i'') (ix3 0 e j) = x2 (ix3 0 e ⟨o' + j.val, hlt⟩) := fun e => by
    pointwise []
  have e3 : ∀ e : Fin 1024, View.ld x3 (Rect.unit (s := S1x1024x2816) ![0, 0, o'] S1x1024x256.size i'') (ix3 0 e j) = x3 (ix3 0 e ⟨o' + j.val, hlt⟩) := fun e => by
    pointwise []
  simp only [e2, e3]

/-- One store of activations agrees with the rows' activations. -/
theorem cols_store (o : ℕ) (i) (o' : ℕ) (i'') (inb : ∀ a, (![o, o'] : Fin 2 → ℕ) a + S512x256.size a ≤ S1024x2816.size a)
    (x : (Rect.unit (s := S1024x2816) ![o, o'] S512x256.size inb).shape.Idx) :
    colsAt x2 x3 (normAt x0 x1 o i) o' i'' x
      = (fun y : S1024x2816.Idx => acts x0 x1 x2 x3 (y 0) (y 1)) ((Rect.unit (s := S1024x2816) ![o, o'] S512x256.size inb).emb x) := by
  have hx : x = ix2 (x 0 : Fin 512) (x 1 : Fin 256) := eq_ix2 x
  refine (congrArg (colsAt x2 x3 (normAt x0 x1 o i) o' i'') hx).trans ?_
  refine colsAt_apply x0 x1 x2 x3 o i o' i'' (x 0) (x 1) _ _ ?_ ?_
  · show o + 1 * (x 0).val = o + (x 0).val
    omega
  · show o' + 1 * (x 1).val = o' + (x 1).val
    omega

end Rows

section Stores

variable (x0 : Vec Ideal S1024x1024 .f32) (x1 : Vec Ideal S1x1024 .f32) (x2 x3 : Vec Ideal S1x1024x2816 .bf16) (x4 : Vec Ideal S1x2816x1024 .bf16)

/-- The store of columns `o'` to `o' + 255` of rows `o` to `o + 511` of the activations. -/
def store (o : ℕ) (i : ∀ a, (![o, 0] : Fin 2 → ℕ) a + S512x1024.size a ≤ S1024x1024.size a) (o' : ℕ)
    (i'' : ∀ a, (![0, 0, o'] : Fin 3 → ℕ) a + S1x1024x256.size a ≤ S1x1024x2816.size a)
    (inb : ∀ a, (![o, o'] : Fin 2 → ℕ) a + S512x256.size a ≤ S1024x2816.size a) : View.Piece (Elt Ideal) S1024x2816 .bf16 :=
  ⟨Rect.unit (s := S1024x2816) ![o, o'] S512x256.size inb, colsAt x2 x3 (normAt x0 x1 o i) o' i''⟩

theorem store_mem (o : ℕ) (i) (o' : ℕ) (i'') (inb) (y : S1024x2816.Idx) :
    y ∈ (store x0 x1 x2 x3 o i o' i'' inb).1.set ↔ (o ≤ (y 0).val ∧ (y 0).val < o + 512) ∧ o' ≤ (y 1).val ∧ (y 1).val < o' + 256 := by
  unfold store
  rw [Rect.mem_set_unit]
  exact Fin.forall_fin_two

theorem store_ok (o : ℕ) (i) (o' : ℕ) (i'') (inb) (x) :
    (store x0 x1 x2 x3 o i o' i'' inb).2 x = (fun y : S1024x2816.Idx => acts x0 x1 x2 x3 (y 0) (y 1)) ((store x0 x1 x2 x3 o i o' i'' inb).1.emb x) :=
  cols_store x0 x1 x2 x3 o i o' i'' inb x

/-- The stores of the first 512 rows, the last one first. -/
def storesLo : List (View.Piece (Elt Ideal) S1024x2816 .bf16) :=
  [store x0 x1 x2 x3 0 inb_S1024x1024_S512x1024_0_0 2560 inb_S1x1024x2816_S1x1024x256_0_0_2560 inb_S1024x2816_S512x256_0_2560,
   store x0 x1 x2 x3 0 inb_S1024x1024_S512x1024_0_0 2304 inb_S1x1024x2816_S1x1024x256_0_0_2304 inb_S1024x2816_S512x256_0_2304,
   store x0 x1 x2 x3 0 inb_S1024x1024_S512x1024_0_0 2048 inb_S1x1024x2816_S1x1024x256_0_0_2048 inb_S1024x2816_S512x256_0_2048,
   store x0 x1 x2 x3 0 inb_S1024x1024_S512x1024_0_0 1792 inb_S1x1024x2816_S1x1024x256_0_0_1792 inb_S1024x2816_S512x256_0_1792,
   store x0 x1 x2 x3 0 inb_S1024x1024_S512x1024_0_0 1536 inb_S1x1024x2816_S1x1024x256_0_0_1536 inb_S1024x2816_S512x256_0_1536,
   store x0 x1 x2 x3 0 inb_S1024x1024_S512x1024_0_0 1280 inb_S1x1024x2816_S1x1024x256_0_0_1280 inb_S1024x2816_S512x256_0_1280,
   store x0 x1 x2 x3 0 inb_S1024x1024_S512x1024_0_0 1024 inb_S1x1024x2816_S1x1024x256_0_0_1024 inb_S1024x2816_S512x256_0_1024,
   store x0 x1 x2 x3 0 inb_S1024x1024_S512x1024_0_0 768 inb_S1x1024x2816_S1x1024x256_0_0_768 inb_S1024x2816_S512x256_0_768,
   store x0 x1 x2 x3 0 inb_S1024x1024_S512x1024_0_0 512 inb_S1x1024x2816_S1x1024x256_0_0_512 inb_S1024x2816_S512x256_0_512,
   store x0 x1 x2 x3 0 inb_S1024x1024_S512x1024_0_0 256 inb_S1x1024x2816_S1x1024x256_0_0_256 inb_S1024x2816_S512x256_0_256,
   store x0 x1 x2 x3 0 inb_S1024x1024_S512x1024_0_0 0 inb_S1x1024x2816_S1x1024x256_0_0_0 inb_S1024x2816_S512x256_0_0]

/-- All stores of the activations, the last one first. -/
def storesHi : List (View.Piece (Elt Ideal) S1024x2816 .bf16) :=
  store x0 x1 x2 x3 512 inb_S1024x1024_S512x1024_512_0 2560 inb_S1x1024x2816_S1x1024x256_0_0_2560 inb_S1024x2816_S512x256_512_2560 ::
   store x0 x1 x2 x3 512 inb_S1024x1024_S512x1024_512_0 2304 inb_S1x1024x2816_S1x1024x256_0_0_2304 inb_S1024x2816_S512x256_512_2304 ::
   store x0 x1 x2 x3 512 inb_S1024x1024_S512x1024_512_0 2048 inb_S1x1024x2816_S1x1024x256_0_0_2048 inb_S1024x2816_S512x256_512_2048 ::
   store x0 x1 x2 x3 512 inb_S1024x1024_S512x1024_512_0 1792 inb_S1x1024x2816_S1x1024x256_0_0_1792 inb_S1024x2816_S512x256_512_1792 ::
   store x0 x1 x2 x3 512 inb_S1024x1024_S512x1024_512_0 1536 inb_S1x1024x2816_S1x1024x256_0_0_1536 inb_S1024x2816_S512x256_512_1536 ::
   store x0 x1 x2 x3 512 inb_S1024x1024_S512x1024_512_0 1280 inb_S1x1024x2816_S1x1024x256_0_0_1280 inb_S1024x2816_S512x256_512_1280 ::
   store x0 x1 x2 x3 512 inb_S1024x1024_S512x1024_512_0 1024 inb_S1x1024x2816_S1x1024x256_0_0_1024 inb_S1024x2816_S512x256_512_1024 ::
   store x0 x1 x2 x3 512 inb_S1024x1024_S512x1024_512_0 768 inb_S1x1024x2816_S1x1024x256_0_0_768 inb_S1024x2816_S512x256_512_768 ::
   store x0 x1 x2 x3 512 inb_S1024x1024_S512x1024_512_0 512 inb_S1x1024x2816_S1x1024x256_0_0_512 inb_S1024x2816_S512x256_512_512 ::
   store x0 x1 x2 x3 512 inb_S1024x1024_S512x1024_512_0 256 inb_S1x1024x2816_S1x1024x256_0_0_256 inb_S1024x2816_S512x256_512_256 ::
   store x0 x1 x2 x3 512 inb_S1024x1024_S512x1024_512_0 0 inb_S1x1024x2816_S1x1024x256_0_0_0 inb_S1024x2816_S512x256_512_0 ::
  storesLo x0 x1 x2 x3

theorem storesLo_ok : ∀ p ∈ storesLo x0 x1 x2 x3, ∀ x : p.1.shape.Idx, p.2 x = (fun y : S1024x2816.Idx => acts x0 x1 x2 x3 (y 0) (y 1)) (p.1.emb x) := by
  unfold storesLo
  iterate 11 refine List.forall_mem_cons.2 ⟨store_ok x0 x1 x2 x3 _ _ _ _ _, ?_⟩
  simp

theorem storesHi_ok : ∀ p ∈ storesHi x0 x1 x2 x3, ∀ x : p.1.shape.Idx, p.2 x = (fun y : S1024x2816.Idx => acts x0 x1 x2 x3 (y 0) (y 1)) (p.1.emb x) := by
  unfold storesHi
  iterate 11 refine List.forall_mem_cons.2 ⟨store_ok x0 x1 x2 x3 _ _ _ _ _, ?_⟩
  exact storesLo_ok x0 x1 x2 x3

theorem storesLo_cover (y : S1024x2816.Idx) (hy : (y 0).val < 512) : ∃ p ∈ storesLo x0 x1 x2 x3, y ∈ p.1.set := by
  have h1 : (y 1).val < 2816 := (y 1).isLt
  unfold storesLo
  simp only [List.mem_cons, exists_eq_or_imp, store_mem]
  omega

theorem storesHi_cover (y : S1024x2816.Idx) (hy : 512 ≤ (y 0).val) : ∃ p ∈ storesHi x0 x1 x2 x3, y ∈ p.1.set := by
  have h0 : (y 0).val < 1024 := (y 0).isLt
  have h1 : (y 1).val < 2816 := (y 1).isLt
  unfold storesHi
  simp only [List.mem_cons, exists_eq_or_imp, store_mem]
  omega

/-- The rows from `o` on of the output block, from the activations read back. -/
def endAt (o : ℕ) (i : ∀ a, (![o, 0] : Fin 2 → ℕ) a + S512x1024.size a ≤ S1024x1024.size a) (p : Vec Ideal S512x2816 .bf16) : Vec Ideal S512x1024 .f32 :=
  k0_pay1 (rowsAt x0 o i) p (View.ld x4 (Rect.unit (s := S1x2816x1024) ![0, 0, 0] S1x2816x1024.size inb_S1x2816x1024_S1x2816x1024_0_0_0))

theorem endAt_apply (o : ℕ) (i) (p : Vec Ideal S512x2816 .bf16)
    (hp : ∀ (r : Fin 512) (f : Fin 2816) (R : Fin 1024), R.val = o + r.val → p (ix2 r f) = acts x0 x1 x2 x3 R f)
    (r : Fin 512) (d : Fin 1024) (R : Fin 1024) (hR : R.val = o + r.val) :
    endAt x0 x4 o i p (ix2 r d) = outRow x0 x1 x2 x3 x4 R d := by
  unfold endAt outRow half
  rw [end_apply, rowsAt_apply x0 o i r d R hR]
  refine congrArg (HAdd.hAdd _) (congrArg (HMul.hMul _) (Finset.sum_congr rfl fun f _ => ?_))
  rw [hp r f R hR]
  refine congrArg (HMul.hMul _) ?_
  pointwise []

/-- One store of output rows agrees with the block's rows. -/
theorem end_store (o : ℕ) (i) (p : Vec Ideal S512x2816 .bf16)
    (hp : ∀ (r : Fin 512) (f : Fin 2816) (R : Fin 1024), R.val = o + r.val → p (ix2 r f) = acts x0 x1 x2 x3 R f)
    (x : (Rect.unit (s := S1024x1024) ![o, 0] S512x1024.size i).shape.Idx) :
    endAt x0 x4 o i p x
      = (fun y : S1024x1024.Idx => outRow x0 x1 x2 x3 x4 (y 0) (y 1)) ((Rect.unit (s := S1024x1024) ![o, 0] S512x1024.size i).emb x) := by
  have hx : x = ix2 (x 0 : Fin 512) (x 1 : Fin 1024) := eq_ix2 x
  refine (congrArg (endAt x0 x4 o i p) hx).trans ?_
  have hd : (Rect.unit (s := S1024x1024) ![o, 0] S512x1024.size i).emb x 1 = (x 1 : Fin 1024) := Fin.ext (by
    show 0 + 1 * (x 1).val = (x 1).val
    omega)
  refine (endAt_apply x0 x1 x2 x3 x4 o i p hp (x 0) (x 1) ((Rect.unit (s := S1024x1024) ![o, 0] S512x1024.size i).emb x 0) ?_).trans ?_
  · show o + 1 * (x 0).val = o + (x 0).val
    omega
  · show _ = outRow x0 x1 x2 x3 x4 _ _
    rw [hd]

end Stores

section Run

variable (c : Dev nD)
    (arg1 : Memref sig .tc .vmem S1024x1024 .f32) (harg1 : arg1.IsWhole)
    (arg2 : Memref sig .tc .vmem S1x1024 .f32) (harg2 : arg2.IsWhole)
    (arg3 : Memref sig .tc .vmem S1x1024x2816 .bf16) (harg3 : arg3.IsWhole)
    (arg4 : Memref sig .tc .vmem S1x1024x2816 .bf16) (harg4 : arg4.IsWhole)
    (arg5 : Memref sig .tc .vmem S1x2816x1024 .bf16) (harg5 : arg5.IsWhole)
    (arg6 : Memref sig .tc .vmem S1x1024 .f32) (harg6 : arg6.IsWhole)
    (arg7 : Memref sig .tc .vmem S1024x1024 .f32) (harg7 : arg7.IsWhole)
    (arg8 : Memref sig .tc .vmem S1024x2816 .bf16) (harg8 : arg8.IsWhole)
    (x0 : Vec Ideal S1024x1024 .f32) (x1 : Vec Ideal S1x1024 .f32) (x2 x3 : Vec Ideal S1x1024x2816 .bf16) (x4 : Vec Ideal S1x2816x1024 .bf16)
    (x5 : Vec Ideal S1x1024 .f32)

theorem lo_eq : kernelRun0_A.sl.HS0_11 (F := Ideal) c arg1 harg1 arg2 harg2 arg3 harg3 arg4 harg4 x0 x1 x2 x3 = storesLo x0 x1 x2 x3 := by
  simp only [kernelRun0_A.sl.HS0_11, kernelRun0_A.sl.r_1, kernelRun0_A.sl.r_2, kernelRun0_A.sl.r_3, kernelRun0_A.sl.r_4, kernelRun0_A.sl.r_5, kernelRun0_A.sl.r_6, kernelRun0_A.sl.r_7, load_unread]
  rfl

theorem hi_eq : kernelRun0_A.sl.HS0_22 (F := Ideal) c arg1 harg1 arg2 harg2 arg3 harg3 arg4 harg4 x0 x1 x2 x3 = storesHi x0 x1 x2 x3 := by
  unfold kernelRun0_A.sl.HS0_22
  rw [lo_eq]
  simp only [kernelRun0_A.sl.r_10, kernelRun0_A.sl.r_11, kernelRun0_A.sl.r_12, kernelRun0_A.sl.r_13, kernelRun0_A.sl.r_14, load_unread]
  rfl

/-- The activations of the first 512 rows, read back. -/
theorem lo_read (r : Fin 512) (f : Fin 2816) (R : Fin 1024) (hR : R.val = 0 + r.val) :
    kernelRun0_A.sl.v160 (F := Ideal) c arg1 harg1 arg2 harg2 arg3 harg3 arg4 harg4 arg8 x0 x1 x2 x3 (ix2 r f) = acts x0 x1 x2 x3 R f := by
  unfold kernelRun0_A.sl.v160
  rw [lo_eq]
  have e0 : (Rect.unit (s := S1024x2816) ![0, 0] S512x2816.size inb_S1024x2816_S512x2816_0_0).toLoadRect.idx (ix2 r f) 0 = R := Fin.ext (by
    show 0 + 1 * r.val = R.val
    omega)
  have e1 : (Rect.unit (s := S1024x2816) ![0, 0] S512x2816.size inb_S1024x2816_S512x2816_0_0).toLoadRect.idx (ix2 r f) 1 = f := Fin.ext (by
    show 0 + 1 * f.val = f.val
    omega)
  refine (load_of_stores arg8.view (fun y : S1024x2816.Idx => acts x0 x1 x2 x3 (y 0) (y 1)) _ _ (storesLo_ok x0 x1 x2 x3) _ (storesLo_cover x0 x1 x2 x3 _ (by rw [e0]; omega))).trans ?_
  show acts x0 x1 x2 x3 _ _ = _
  rw [e0, e1]

/-- The activations of the other rows, read back. -/
theorem hi_read (r : Fin 512) (f : Fin 2816) (R : Fin 1024) (hR : R.val = 512 + r.val) :
    kernelRun0_A.sl.v328 (F := Ideal) c arg1 harg1 arg2 harg2 arg3 harg3 arg4 harg4 arg8 x0 x1 x2 x3 (ix2 r f) = acts x0 x1 x2 x3 R f := by
  unfold kernelRun0_A.sl.v328
  rw [hi_eq]
  have e0 : (Rect.unit (s := S1024x2816) ![512, 0] S512x2816.size inb_S1024x2816_S512x2816_512_0).toLoadRect.idx (ix2 r f) 0 = R := Fin.ext (by
    show 512 + 1 * r.val = R.val
    omega)
  have e1 : (Rect.unit (s := S1024x2816) ![512, 0] S512x2816.size inb_S1024x2816_S512x2816_512_0).toLoadRect.idx (ix2 r f) 1 = f := Fin.ext (by
    show 0 + 1 * f.val = f.val
    omega)
  refine (load_of_stores arg8.view (fun y : S1024x2816.Idx => acts x0 x1 x2 x3 (y 0) (y 1)) _ _ (storesHi_ok x0 x1 x2 x3) _ (storesHi_cover x0 x1 x2 x3 _ (by rw [e0]; omega))).trans ?_
  show acts x0 x1 x2 x3 _ _ = _
  rw [e0, e1]

/-- What the body stores in the output block. -/
theorem out_stores (i : grid0.Coords) : (kernelRun0_A (F := Ideal) c i arg1 harg1 arg2 harg2 arg3 harg3 arg4 harg4 arg5 harg5 arg6 harg6 arg7 harg7 arg8 harg8 x0 x1 x2 x3 x4 x5).1
    = [⟨Rect.unit (s := S1024x1024) ![512, 0] S512x1024.size inb_S1024x1024_S512x1024_512_0,
        endAt x0 x4 512 inb_S1024x1024_S512x1024_512_0 (kernelRun0_A.sl.v328 (F := Ideal) c arg1 harg1 arg2 harg2 arg3 harg3 arg4 harg4 arg8 x0 x1 x2 x3)⟩,
      ⟨Rect.unit (s := S1024x1024) ![0, 0] S512x1024.size inb_S1024x1024_S512x1024_0_0,
        endAt x0 x4 0 inb_S1024x1024_S512x1024_0_0 (kernelRun0_A.sl.v160 (F := Ideal) c arg1 harg1 arg2 harg2 arg3 harg3 arg4 harg4 arg8 x0 x1 x2 x3)⟩] := by
  unfold endAt rowsAt
  simp only [← load_unread arg1 harg1 x0, ← load_unread arg5 harg5 x4]
  rfl

/-- The output block a grid point leaves. -/
theorem out_spec (i : grid0.Coords) (y : S1024x1024.Idx) :
    out0_A_6 (F := Ideal) c i arg1 harg1 arg2 harg2 arg3 harg3 arg4 harg4 arg5 harg5 arg6 harg6 arg7 harg7 arg8 harg8 x0 x1 x2 x3 x4 x5 y = outRow x0 x1 x2 x3 x4 (y 0) (y 1) := by
  have hc := cover0_A_6 (F := Ideal) c i arg1 harg1 arg2 harg2 arg3 harg3 arg4 harg4 arg5 harg5 arg6 harg6 arg7 harg7 arg8 harg8 x0 x1 x2 x3 x4 x5
  unfold out0_A_6
  rw [View.read_writes_eq_canon _ _ _ hc]
  rw [out_stores] at hc ⊢
  refine View.canon_apply_of_pieces (fun y : S1024x1024.Idx => outRow x0 x1 x2 x3 x4 (y 0) (y 1)) _ ?_ y (hc y)
  refine List.forall_mem_cons.2 ⟨fun x => end_store x0 x1 x2 x3 x4 512 _ _ (hi_read c arg1 harg1 arg2 harg2 arg3 harg3 arg4 harg4 arg8 x0 x1 x2 x3) x, ?_⟩
  refine List.forall_mem_cons.2 ⟨fun x => end_store x0 x1 x2 x3 x4 0 _ _ (lo_read c arg1 harg1 arg2 harg2 arg3 harg3 arg4 harg4 arg8 x0 x1 x2 x3) x, ?_⟩
  simp

end Run

end Cert.Kernel3Ideal.Ffn

end
-- ==== Proof.Ffn.PlainValue.lean ====
module

public import proofs.«01_k».proof.Proof.Ffn.Plain
public import Idealize.ShloMosaic.Lib.Claim

@[expose] public section

set_option maxRecDepth 16384

noncomputable section

/-! The result array of the feed-forward kernel without a mixer before it. -/

namespace Cert.Kernel3Ideal.Ffn

open Cert.Kernel3Ideal Cert.Kernel3Ideal.Gen Idealize.ShloMosaic Idealize.ShloMosaic.TcCoe Idealize.SL.Sem Cert.Ffn

variable (m : (ℓ : Loc nD τ sig) → Buf (Elt Ideal) ℓ) (c : Dev nD)

/-! What the kernel finds in the arrays that the host prepares. -/

theorem entry0 (R : Fin 32768) (e : Fin 1024) : (V m c main_v0 : S32768x1024.Idx → EReal) (ix2 R e) = m ((c : Thread nD τ).loc main_arg0) (ix3 ⟨R.val / 4096, by omega⟩ ⟨R.val % 4096, by omega⟩ e) := by
  entry_read
  pointwise []

theorem entry1 (e : Fin 1024) : (V m c main_v3 : S1x1024.Idx → EReal) (ix2 0 e) = m ((c : Thread nD τ).loc main_arg1) (ix2 0 e) := by
  entry_read
  pointwise []

theorem entry2 (l : Fin 4) (e : Fin 1024) (f : Fin 2816) : (V m c main_v4 : S4x1024x2816.Idx → EReal) (ix3 l e f) = m ((c : Thread nD τ).loc main_arg2) (ix3 l e f) := by
  entry_read
  pointwise []

theorem entry3 (l : Fin 4) (e : Fin 1024) (f : Fin 2816) : (V m c main_v5 : S4x1024x2816.Idx → EReal) (ix3 l e f) = m ((c : Thread nD τ).loc main_arg3) (ix3 l e f) := by
  entry_read
  pointwise []

theorem entry4 (l : Fin 4) (f : Fin 2816) (e : Fin 1024) : (V m c main_v6 : S4x2816x1024.Idx → EReal) (ix3 l f e) = m ((c : Thread nD τ).loc main_arg4) (ix3 l f e) := by
  entry_read
  pointwise []

/-- Where each window's block lies, from the output's. -/
theorem places : ∀ t : Fin cfg0.N,
    (win0_0.index t = ![win0_6.index t 0, 0] ∧ win0_1.index t = ![0, 0])
    ∧ (win0_2.index t = ![0, 0, 0] ∧ win0_3.index t = ![0, 0, 0] ∧ win0_4.index t = ![0, 0, 0])
    ∧ win0_6.index t 0 < 32 ∧ win0_6.index t 1 = 0 :=
  (by decide +kernel : ∀ t : Fin grid0.N,
    (win0_0.index t = ![win0_6.index t 0, 0] ∧ win0_1.index t = ![0, 0])
    ∧ (win0_2.index t = ![0, 0, 0] ∧ win0_3.index t = ![0, 0, 0] ∧ win0_4.index t = ![0, 0, 0])
    ∧ win0_6.index t 0 < 32 ∧ win0_6.index t 1 = 0)

/-! The blocks that a grid point finds, from the arguments. -/

theorem block0 (t : Fin cfg0.N) (r : Fin 1024) (e : Fin 1024) (R : Fin 32768) (hR : R.val = win0_6.index t 0 * 1024 + r.val) :
    iblk m c 0 t (ix2 r e) = m ((c : Thread nD τ).loc main_arg0) (ix3 ⟨R.val / 4096, by omega⟩ ⟨R.val % 4096, by omega⟩ e) := by
  obtain ⟨⟨p0, p1⟩, ⟨p2, p3, p4⟩, q0, q1⟩ := places t
  rw [← entry0 m c R e]
  blk_ext [iblk, p0]
  all_goals omega

theorem block1 (t : Fin cfg0.N) (e : Fin 1024) : iblk m c 1 t (ix2 0 e) = m ((c : Thread nD τ).loc main_arg1) (ix2 0 e) := by
  obtain ⟨⟨p0, p1⟩, ⟨p2, p3, p4⟩, q0, q1⟩ := places t
  rw [← entry1 m c e]
  blk_ext [iblk, p1]
  all_goals omega

theorem block2 (t : Fin cfg0.N) (e : Fin 1024) (f : Fin 2816) : iblk m c 2 t (ix3 0 e f) = m ((c : Thread nD τ).loc main_arg2) (ix3 0 e f) := by
  obtain ⟨⟨p0, p1⟩, ⟨p2, p3, p4⟩, q0, q1⟩ := places t
  rw [← entry2 m c 0 e f]
  blk_ext [iblk, p2]
  all_goals omega

theorem block3 (t : Fin cfg0.N) (e : Fin 1024) (f : Fin 2816) : iblk m c 3 t (ix3 0 e f) = m ((c : Thread nD τ).loc main_arg3) (ix3 0 e f) := by
  obtain ⟨⟨p0, p1⟩, ⟨p2, p3, p4⟩, q0, q1⟩ := places t
  rw [← entry3 m c 0 e f]
  blk_ext [iblk, p3]
  all_goals omega

theorem block4 (t : Fin cfg0.N) (f : Fin 2816) (e : Fin 1024) : iblk m c 4 t (ix3 0 f e) = m ((c : Thread nD τ).loc main_arg4) (ix3 0 f e) := by
  obtain ⟨⟨p0, p1⟩, ⟨p2, p3, p4⟩, q0, q1⟩ := places t
  rw [← entry4 m c 0 f e]
  blk_ext [iblk, p4]
  all_goals omega

theorem arr_eq : (dats m 0 c).arrAt 6 cfg0.N
    = fun j : S32768x1024.Idx => layer (fun e => m ((c : Thread nD τ).loc main_arg0) (ix3 ⟨(j 0).val / 4096, Nat.div_lt_of_lt_mul (j 0).isLt⟩ ⟨(j 0).val % 4096, Nat.mod_lt _ (by decide)⟩ e))
        (m ((c : Thread nD τ).loc main_arg1)) (m ((c : Thread nD τ).loc main_arg2)) (m ((c : Thread nD τ).loc main_arg3)) (m ((c : Thread nD τ).loc main_arg4)) 0 (j 1) := by
  refine (dats m 0 c).arrAt_eq_of_covers 6 _ (by decide +kernel) fun t hf y => ?_
  blk_simp
  rw [after0_6]
  unfold outsAt0
  rw [out_spec]
  have l0 : (y 0).val < 1024 := (y 0).isLt
  have h0 : ((win0_6.blk t).view.emb y 0).val = win0_6.index t 0 * 1024 + (y 0).val := by
    blk_simp
  have h1 : (win0_6.blk t).view.emb y 1 = (y 1 : Fin 1024) := Fin.ext (by
    blk_simp [(places t).2.2.2]
    try omega)
  unfold outRow row layer
  simp only [fun e => block0 m c t (y 0) e _ h0, block1 m c t, block2 m c t, block3 m c t, block4 m c t]
  rw [h1]
  simp only [show (((View.whole main_v8).slice (win0_6.rect t)).emb y 0).val = _ from h0]

end Cert.Kernel3Ideal.Ffn

end
-- ==== Proof.Ffn.PlainRef.lean ====
module

public import proofs.«01_k».proof.Proof.Gen.Reference3Ideal.Read
public import proofs.«01_k».proof.Proof.Ffn.Spec
public import Idealize.ShloMosaic.Lib.IdealHost

@[expose] public section

set_option maxRecDepth 16384

noncomputable section

/-! The value of the reference of the feed-forward without a mixer before it. -/

namespace Cert.Reference3Ideal.RefValue

open Cert.Reference3Ideal Cert.Reference3Ideal.Read Idealize.ShloMosaic Cert.Ffn

variable (x0 : (⟨S8x4096x1024, .f32⟩ : BufTy).Contents (Elt Ideal)) (x1 : (⟨S4x1024, .f32⟩ : BufTy).Contents (Elt Ideal))
  (x2 x3 : (⟨S4x1024x2816, .f32⟩ : BufTy).Contents (Elt Ideal)) (x4 : (⟨S4x2816x1024, .f32⟩ : BufTy).Contents (Elt Ideal))

theorem norm_at (b : Fin 8) (s : Fin 4096) (d : Fin 1024) : val_main_v14 (F := Ideal) x0 x1 (ix3 b s d)
    = rms (fun e => x0 (ix3 b s e)) (fun e => x1 (ix2 0 e)) d := by
  unfold rms
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

theorem hidden_at (b : Fin 8) (s : Fin 4096) (f : Fin 2816) : val_main_v24 (F := Ideal) x0 x1 x2 x3 (ix3 b s f)
    = act (rms (fun e => x0 (ix3 b s e)) fun e => x1 (ix2 0 e)) (fun e f => x2 (ix3 0 e f)) (fun e f => x3 (ix3 0 e f)) f := by
  unfold act Ideal.logistic
  rw [← Ideal.ofBits_one_f32]
  simp only [← norm_at]
  pointwise [val_main_v24, val_main_v23, val_main_v22, val_main_v21, val_main_v18, val_main_v17, val_main_v16, val_main_v15,
    val_main_call0_v0, val_main_call0_v1, val_main_call0_v2, val_main_call0_v3, val_main_call0_v4, val_main_call0_v5,
    val_main_call0_cst, val_main_call0_cst_0]

theorem half_at (b : Fin 8) (s : Fin 4096) (d : Fin 1024) : val_main_v28 (F := Ideal) x0 x1 x2 x3 x4 (ix3 b s d)
    = layer (fun e => x0 (ix3 b s e)) x1 x2 x3 x4 0 d := by
  unfold layer half
  simp only [← hidden_at]
  pointwise [val_main_v28, val_main_v27, val_main_v26, val_main_v25, val_main_v20, val_main_v19, val_main_cst_2]

/-- The reference's result. -/
theorem result_at (R : Fin 32768) (d : Fin 1024) : val_main_v29 (F := Ideal) x0 x1 x2 x3 x4 (ix2 R d)
    = layer (fun e => x0 (ix3 ⟨R.val / 4096, by omega⟩ ⟨R.val % 4096, by omega⟩ e)) x1 x2 x3 x4 0 d := by
  rw [← half_at]
  pointwise [val_main_v29]

end Cert.Reference3Ideal.RefValue

end
-- ==== Proof.Ffn.Mix.lean ====
module

public import proofs.«01_k».proof.Proof.Gen.Kernel4Ideal.Value
public import proofs.«01_k».proof.Proof.Ffn.Spec

@[expose] public section

set_option maxRecDepth 16384

noncomputable section

/-! What one grid point of the feed-forward kernel with a mixer before it leaves in its output block. -/

namespace Cert.Kernel4Ideal.Ffn

open Cert.Kernel4Ideal Cert.Kernel4Ideal.Gen Idealize.ShloMosaic Idealize.ShloMosaic.TcCoe Idealize.SL.Sem Cert.Ffn

theorem mixed_apply (x : Vec Ideal S512x1024 .f32) (a b : Vec Ideal S512x512 .bf16) (wa wb : Vec Ideal S512x1024 .bf16) (r : Fin 512) (d : Fin 1024) :
    k0_pay1 x a wa b wb (ix2 r d) = mix (fun e => x (ix2 r e)) (fun e => a (ix2 r e)) (fun e => b (ix2 r e))
      (fun k e => wa (ix2 k e)) (fun k e => wb (ix2 k e)) d := by
  unfold mix
  pointwise [k0_pay1]

theorem norm_apply (x : Vec Ideal S512x1024 .f32) (a b : Vec Ideal S512x512 .bf16) (wa wb : Vec Ideal S512x1024 .bf16) (g : Vec Ideal S1x1024 .f32) (r : Fin 512) (d : Fin 1024) :
    k0_pay2 x a wa b wb g (ix2 r d) = rms (fun e => k0_pay1 x a wa b wb (ix2 r e)) (fun e => g (ix2 0 e)) d := by
  unfold rms
  pointwise [k0_pay2]

theorem chunk_apply (n : Vec Ideal S512x1024 .bf16) (a b : Vec Ideal S1x1024x256 .bf16) (r : Fin 512) (j : Fin 256) :
    k0_pay6 n a b (ix2 r j) = (∑ e, n (ix2 r e) * a (ix3 0 e j)) * Ideal.logistic (∑ e, n (ix2 r e) * a (ix3 0 e j))
      * ∑ e, n (ix2 r e) * b (ix3 0 e j) := by
  pointwise [k0_pay6]

theorem end_apply (h : Vec Ideal S512x1024 .f32) (p : Vec Ideal S512x2816 .bf16) (w : Vec Ideal S1x2816x1024 .bf16) (r : Fin 512) (d : Fin 1024) :
    k0_pay20 h p w (ix2 r d) = h (ix2 r d) + Ideal.ofBits .f32 0x3F000000#32 * ∑ f, p (ix2 r f) * w (ix3 0 f d) := by
  pointwise [k0_pay20]

section Rows

variable (x0 : Vec Ideal S1024x1024 .f32) (x1 x2 : Vec Ideal S1024x512 .bf16) (x3 x4 : Vec Ideal S512x1024 .bf16)
  (x5 : Vec Ideal S1x1024 .f32) (x6 x7 : Vec Ideal S1x1024x2816 .bf16) (x8 : Vec Ideal S1x2816x1024 .bf16)

/-- Row `R` of the block after the mixer's projection. -/
def row (R : Fin 1024) : Fin 1024 → EReal :=
  mix (fun e => x0 (ix2 R e)) (fun k => x1 (ix2 R k)) (fun k => x2 (ix2 R k)) (fun k e => x3 (ix2 k e)) (fun k e => x4 (ix2 k e))

/-- Row `R`'s activations. -/
def acts (R : Fin 1024) : Fin 2816 → EReal :=
  act (rms (row x0 x1 x2 x3 x4 R) fun e => x5 (ix2 0 e)) (fun e f => x6 (ix3 0 e f)) fun e f => x7 (ix3 0 e f)

/-- Row `R` of the output block. -/
def outRow (R : Fin 1024) : Fin 1024 → EReal :=
  half (row x0 x1 x2 x3 x4 R) (fun e => x5 (ix2 0 e)) (fun e f => x6 (ix3 0 e f)) (fun e f => x7 (ix3 0 e f)) fun f e => x8 (ix3 0 f e)

/-- The rows from `o` on after the mixer's projection. -/
def rowsAt (o : ℕ) (i : ∀ a, (![o, 0] : Fin 2 → ℕ) a + S512x1024.size a ≤ S1024x1024.size a)
    (i' : ∀ a, (![o, 0] : Fin 2 → ℕ) a + S512x512.size a ≤ S1024x512.size a) : Vec Ideal S512x1024 .f32 :=
  k0_pay1 (View.ld x0 (Rect.unit (s := S1024x1024) ![o, 0] S512x1024.size i)) (View.ld x1 (Rect.unit (s := S1024x512) ![o, 0] S512x512.size i'))
    (View.ld x3 (Rect.unit (s := S512x1024) ![0, 0] S512x1024.size inb_S512x1024_S512x1024_0_0))
    (View.ld x2 (Rect.unit (s := S1024x512) ![o, 0] S512x512.size i'))
    (View.ld x4 (Rect.unit (s := S512x1024) ![0, 0] S512x1024.size inb_S512x1024_S512x1024_0_0))

/-- The same rows normalised. -/
def normAt (o : ℕ) (i : ∀ a, (![o, 0] : Fin 2 → ℕ) a + S512x1024.size a ≤ S1024x1024.size a)
    (i' : ∀ a, (![o, 0] : Fin 2 → ℕ) a + S512x512.size a ≤ S1024x512.size a) : Vec Ideal S512x1024 .bf16 :=
  k0_pay2 (View.ld x0 (Rect.unit (s := S1024x1024) ![o, 0] S512x1024.size i)) (View.ld x1 (Rect.unit (s := S1024x512) ![o, 0] S512x512.size i'))
    (View.ld x3 (Rect.unit (s := S512x1024) ![0, 0] S512x1024.size inb_S512x1024_S512x1024_0_0))
    (View.ld x2 (Rect.unit (s := S1024x512) ![o, 0] S512x512.size i'))
    (View.ld x4 (Rect.unit (s := S512x1024) ![0, 0] S512x1024.size inb_S512x1024_S512x1024_0_0))
    (View.ld x5 (Rect.unit (s := S1x1024) ![0, 0] S1x1024.size inb_S1x1024_S1x1024_0_0))

/-- Columns `o'` to `o' + 255` of the activations of normalised rows. -/
def colsAt (n : Vec Ideal S512x1024 .bf16) (o' : ℕ) (i : ∀ a, (![0, 0, o'] : Fin 3 → ℕ) a + S1x1024x256.size a ≤ S1x1024x2816.size a) : Vec Ideal S512x256 .bf16 :=
  k0_pay6 n (View.ld x6 (Rect.unit (s := S1x1024x2816) ![0, 0, o'] S1x1024x256.size i))
    (View.ld x7 (Rect.unit (s := S1x1024x2816) ![0, 0, o'] S1x1024x256.size i))

theorem rowsAt_apply (o : ℕ) (i) (i') (r : Fin 512) (d : Fin 1024) (R : Fin 1024) (hR : R.val = o + r.val) :
    rowsAt x0 x1 x2 x3 x4 o i i' (ix2 r d) = row x0 x1 x2 x3 x4 R d := by
  obtain ⟨R, hlt⟩ := R
  obtain rfl : R = o + r.val := hR
  unfold rowsAt row
  rw [mixed_apply]
  unfold mix
  pointwise []

theorem normAt_apply (o : ℕ) (i) (i') (r : Fin 512) (d : Fin 1024) (R : Fin 1024) (hR : R.val = o + r.val) :
    normAt x0 x1 x2 x3 x4 x5 o i i' (ix2 r d) = rms (row x0 x1 x2 x3 x4 R) (fun e => x5 (ix2 0 e)) d := by
  unfold normAt
  rw [norm_apply]
  refine congrFun (congrArg₂ rms (funext fun e => ?_) (funext fun e => ?_)) d
  · exact rowsAt_apply x0 x1 x2 x3 x4 o i i' r e R hR
  · pointwise []

theorem colsAt_apply (o : ℕ) (i) (i') (o' : ℕ) (i'') (r : Fin 512) (j : Fin 256) (R : Fin 1024) (f : Fin 2816) (hR : R.val = o + r.val)
    (hf : f.val = o' + j.val) :
    colsAt x6 x7 (normAt x0 x1 x2 x3 x4 x5 o i i') o' i'' (ix2 r j) = acts x0 x1 x2 x3 x4 x5 x6 x7 R f := by
  obtain ⟨f, hlt⟩ := f
  obtain rfl : f = o' + j.val := hf
  unfold colsAt acts act
  rw [chunk_apply]
  simp only [normAt_apply x0 x1 x2 x3 x4 x5 o i i' r _ R hR]
  have e6 : ∀ e : Fin 1024, View.ld x6 (Rect.unit (s := S1x1024x2816) ![0, 0, o'] S1x1024x256.size i'') (ix3 0 e j) = x6 (ix3 0 e ⟨o' + j.val, hlt⟩) := fun e => by
    pointwise []
  have e7 : ∀ e : Fin 1024, View.ld x7 (Rect.unit (s := S1x1024x2816) ![0, 0, o'] S1x1024x256.size i'') (ix3 0 e j) = x7 (ix3 0 e ⟨o' + j.val, hlt⟩) := fun e => by
    pointwise []
  simp only [e6, e7]

/-- One store of activations agrees with the rows' activations. -/
theorem cols_store (o : ℕ) (i) (i') (o' : ℕ) (i'') (inb : ∀ a, (![o, o'] : Fin 2 → ℕ) a + S512x256.size a ≤ S1024x2816.size a)
    (x : (Rect.unit (s := S1024x2816) ![o, o'] S512x256.size inb).shape.Idx) :
    colsAt x6 x7 (normAt x0 x1 x2 x3 x4 x5 o i i') o' i'' x
      = (fun y : S1024x2816.Idx => acts x0 x1 x2 x3 x4 x5 x6 x7 (y 0) (y 1)) ((Rect.unit (s := S1024x2816) ![o, o'] S512x256.size inb).emb x) := by
  have hx : x = ix2 (x 0 : Fin 512) (x 1 : Fin 256) := eq_ix2 x
  refine (congrArg (colsAt x6 x7 (normAt x0 x1 x2 x3 x4 x5 o i i') o' i'') hx).trans ?_
  refine colsAt_apply x0 x1 x2 x3 x4 x5 x6 x7 o i i' o' i'' (x 0) (x 1) _ _ ?_ ?_
  · show o + 1 * (x 0).val = o + (x 0).val
    omega
  · show o' + 1 * (x 1).val = o' + (x 1).val
    omega

end Rows

section Stores

variable (x0 : Vec Ideal S1024x1024 .f32) (x1 x2 : Vec Ideal S1024x512 .bf16) (x3 x4 : Vec Ideal S512x1024 .bf16)
  (x5 : Vec Ideal S1x1024 .f32) (x6 x7 : Vec Ideal S1x1024x2816 .bf16) (x8 : Vec Ideal S1x2816x1024 .bf16)

/-- The store of columns `o'` to `o' + 255` of rows `o` to `o + 511` of the activations. -/
def store (o : ℕ) (i : ∀ a, (![o, 0] : Fin 2 → ℕ) a + S512x1024.size a ≤ S1024x1024.size a)
    (i' : ∀ a, (![o, 0] : Fin 2 → ℕ) a + S512x512.size a ≤ S1024x512.size a) (o' : ℕ)
    (i'' : ∀ a, (![0, 0, o'] : Fin 3 → ℕ) a + S1x1024x256.size a ≤ S1x1024x2816.size a)
    (inb : ∀ a, (![o, o'] : Fin 2 → ℕ) a + S512x256.size a ≤ S1024x2816.size a) : View.Piece (Elt Ideal) S1024x2816 .bf16 :=
  ⟨Rect.unit (s := S1024x2816) ![o, o'] S512x256.size inb, colsAt x6 x7 (normAt x0 x1 x2 x3 x4 x5 o i i') o' i''⟩

theorem store_mem (o : ℕ) (i) (i') (o' : ℕ) (i'') (inb) (y : S1024x2816.Idx) :
    y ∈ (store x0 x1 x2 x3 x4 x5 x6 x7 o i i' o' i'' inb).1.set ↔ (o ≤ (y 0).val ∧ (y 0).val < o + 512) ∧ o' ≤ (y 1).val ∧ (y 1).val < o' + 256 := by
  unfold store
  rw [Rect.mem_set_unit]
  exact Fin.forall_fin_two

theorem store_ok (o : ℕ) (i) (i') (o' : ℕ) (i'') (inb) (x) :
    (store x0 x1 x2 x3 x4 x5 x6 x7 o i i' o' i'' inb).2 x = (fun y : S1024x2816.Idx => acts x0 x1 x2 x3 x4 x5 x6 x7 (y 0) (y 1)) ((store x0 x1 x2 x3 x4 x5 x6 x7 o i i' o' i'' inb).1.emb x) :=
  cols_store x0 x1 x2 x3 x4 x5 x6 x7 o i i' o' i'' inb x

/-- The stores of the first 512 rows, the last one first. -/
def storesLo : List (View.Piece (Elt Ideal) S1024x2816 .bf16) :=
  [store x0 x1 x2 x3 x4 x5 x6 x7 0 inb_S1024x1024_S512x1024_0_0 inb_S1024x512_S512x512_0_0 2560 inb_S1x1024x2816_S1x1024x256_0_0_2560 inb_S1024x2816_S512x256_0_2560,
   store x0 x1 x2 x3 x4 x5 x6 x7 0 inb_S1024x1024_S512x1024_0_0 inb_S1024x512_S512x512_0_0 2304 inb_S1x1024x2816_S1x1024x256_0_0_2304 inb_S1024x2816_S512x256_0_2304,
   store x0 x1 x2 x3 x4 x5 x6 x7 0 inb_S1024x1024_S512x1024_0_0 inb_S1024x512_S512x512_0_0 2048 inb_S1x1024x2816_S1x1024x256_0_0_2048 inb_S1024x2816_S512x256_0_2048,
   store x0 x1 x2 x3 x4 x5 x6 x7 0 inb_S1024x1024_S512x1024_0_0 inb_S1024x512_S512x512_0_0 1792 inb_S1x1024x2816_S1x1024x256_0_0_1792 inb_S1024x2816_S512x256_0_1792,
   store x0 x1 x2 x3 x4 x5 x6 x7 0 inb_S1024x1024_S512x1024_0_0 inb_S1024x512_S512x512_0_0 1536 inb_S1x1024x2816_S1x1024x256_0_0_1536 inb_S1024x2816_S512x256_0_1536,
   store x0 x1 x2 x3 x4 x5 x6 x7 0 inb_S1024x1024_S512x1024_0_0 inb_S1024x512_S512x512_0_0 1280 inb_S1x1024x2816_S1x1024x256_0_0_1280 inb_S1024x2816_S512x256_0_1280,
   store x0 x1 x2 x3 x4 x5 x6 x7 0 inb_S1024x1024_S512x1024_0_0 inb_S1024x512_S512x512_0_0 1024 inb_S1x1024x2816_S1x1024x256_0_0_1024 inb_S1024x2816_S512x256_0_1024,
   store x0 x1 x2 x3 x4 x5 x6 x7 0 inb_S1024x1024_S512x1024_0_0 inb_S1024x512_S512x512_0_0 768 inb_S1x1024x2816_S1x1024x256_0_0_768 inb_S1024x2816_S512x256_0_768,
   store x0 x1 x2 x3 x4 x5 x6 x7 0 inb_S1024x1024_S512x1024_0_0 inb_S1024x512_S512x512_0_0 512 inb_S1x1024x2816_S1x1024x256_0_0_512 inb_S1024x2816_S512x256_0_512,
   store x0 x1 x2 x3 x4 x5 x6 x7 0 inb_S1024x1024_S512x1024_0_0 inb_S1024x512_S512x512_0_0 256 inb_S1x1024x2816_S1x1024x256_0_0_256 inb_S1024x2816_S512x256_0_256,
   store x0 x1 x2 x3 x4 x5 x6 x7 0 inb_S1024x1024_S512x1024_0_0 inb_S1024x512_S512x512_0_0 0 inb_S1x1024x2816_S1x1024x256_0_0_0 inb_S1024x2816_S512x256_0_0]

/-- All stores of the activations, the last one first. -/
def storesHi : List (View.Piece (Elt Ideal) S1024x2816 .bf16) :=
  store x0 x1 x2 x3 x4 x5 x6 x7 512 inb_S1024x1024_S512x1024_512_0 inb_S1024x512_S512x512_512_0 2560 inb_S1x1024x2816_S1x1024x256_0_0_2560 inb_S1024x2816_S512x256_512_2560 ::
   store x0 x1 x2 x3 x4 x5 x6 x7 512 inb_S1024x1024_S512x1024_512_0 inb_S1024x512_S512x512_512_0 2304 inb_S1x1024x2816_S1x1024x256_0_0_2304 inb_S1024x2816_S512x256_512_2304 ::
   store x0 x1 x2 x3 x4 x5 x6 x7 512 inb_S1024x1024_S512x1024_512_0 inb_S1024x512_S512x512_512_0 2048 inb_S1x1024x2816_S1x1024x256_0_0_2048 inb_S1024x2816_S512x256_512_2048 ::
   store x0 x1 x2 x3 x4 x5 x6 x7 512 inb_S1024x1024_S512x1024_512_0 inb_S1024x512_S512x512_512_0 1792 inb_S1x1024x2816_S1x1024x256_0_0_1792 inb_S1024x2816_S512x256_512_1792 ::
   store x0 x1 x2 x3 x4 x5 x6 x7 512 inb_S1024x1024_S512x1024_512_0 inb_S1024x512_S512x512_512_0 1536 inb_S1x1024x2816_S1x1024x256_0_0_1536 inb_S1024x2816_S512x256_512_1536 ::
   store x0 x1 x2 x3 x4 x5 x6 x7 512 inb_S1024x1024_S512x1024_512_0 inb_S1024x512_S512x512_512_0 1280 inb_S1x1024x2816_S1x1024x256_0_0_1280 inb_S1024x2816_S512x256_512_1280 ::
   store x0 x1 x2 x3 x4 x5 x6 x7 512 inb_S1024x1024_S512x1024_512_0 inb_S1024x512_S512x512_512_0 1024 inb_S1x1024x2816_S1x1024x256_0_0_1024 inb_S1024x2816_S512x256_512_1024 ::
   store x0 x1 x2 x3 x4 x5 x6 x7 512 inb_S1024x1024_S512x1024_512_0 inb_S1024x512_S512x512_512_0 768 inb_S1x1024x2816_S1x1024x256_0_0_768 inb_S1024x2816_S512x256_512_768 ::
   store x0 x1 x2 x3 x4 x5 x6 x7 512 inb_S1024x1024_S512x1024_512_0 inb_S1024x512_S512x512_512_0 512 inb_S1x1024x2816_S1x1024x256_0_0_512 inb_S1024x2816_S512x256_512_512 ::
   store x0 x1 x2 x3 x4 x5 x6 x7 512 inb_S1024x1024_S512x1024_512_0 inb_S1024x512_S512x512_512_0 256 inb_S1x1024x2816_S1x1024x256_0_0_256 inb_S1024x2816_S512x256_512_256 ::
   store x0 x1 x2 x3 x4 x5 x6 x7 512 inb_S1024x1024_S512x1024_512_0 inb_S1024x512_S512x512_512_0 0 inb_S1x1024x2816_S1x1024x256_0_0_0 inb_S1024x2816_S512x256_512_0 ::
  storesLo x0 x1 x2 x3 x4 x5 x6 x7

theorem storesLo_ok : ∀ p ∈ storesLo x0 x1 x2 x3 x4 x5 x6 x7, ∀ x : p.1.shape.Idx, p.2 x = (fun y : S1024x2816.Idx => acts x0 x1 x2 x3 x4 x5 x6 x7 (y 0) (y 1)) (p.1.emb x) := by
  unfold storesLo
  iterate 11 refine List.forall_mem_cons.2 ⟨store_ok x0 x1 x2 x3 x4 x5 x6 x7 _ _ _ _ _ _, ?_⟩
  simp

theorem storesHi_ok : ∀ p ∈ storesHi x0 x1 x2 x3 x4 x5 x6 x7, ∀ x : p.1.shape.Idx, p.2 x = (fun y : S1024x2816.Idx => acts x0 x1 x2 x3 x4 x5 x6 x7 (y 0) (y 1)) (p.1.emb x) := by
  unfold storesHi
  iterate 11 refine List.forall_mem_cons.2 ⟨store_ok x0 x1 x2 x3 x4 x5 x6 x7 _ _ _ _ _ _, ?_⟩
  exact storesLo_ok x0 x1 x2 x3 x4 x5 x6 x7

theorem storesLo_cover (y : S1024x2816.Idx) (hy : (y 0).val < 512) : ∃ p ∈ storesLo x0 x1 x2 x3 x4 x5 x6 x7, y ∈ p.1.set := by
  have h1 : (y 1).val < 2816 := (y 1).isLt
  unfold storesLo
  simp only [List.mem_cons, exists_eq_or_imp, store_mem]
  omega

theorem storesHi_cover (y : S1024x2816.Idx) (hy : 512 ≤ (y 0).val) : ∃ p ∈ storesHi x0 x1 x2 x3 x4 x5 x6 x7, y ∈ p.1.set := by
  have h0 : (y 0).val < 1024 := (y 0).isLt
  have h1 : (y 1).val < 2816 := (y 1).isLt
  unfold storesHi
  simp only [List.mem_cons, exists_eq_or_imp, store_mem]
  omega

/-- The rows from `o` on of the output block, from the activations read back. -/
def endAt (o : ℕ) (i : ∀ a, (![o, 0] : Fin 2 → ℕ) a + S512x1024.size a ≤ S1024x1024.size a)
    (i' : ∀ a, (![o, 0] : Fin 2 → ℕ) a + S512x512.size a ≤ S1024x512.size a) (p : Vec Ideal S512x2816 .bf16) : Vec Ideal S512x1024 .f32 :=
  k0_pay20 (rowsAt x0 x1 x2 x3 x4 o i i') p (View.ld x8 (Rect.unit (s := S1x2816x1024) ![0, 0, 0] S1x2816x1024.size inb_S1x2816x1024_S1x2816x1024_0_0_0))

theorem endAt_apply (o : ℕ) (i) (i') (p : Vec Ideal S512x2816 .bf16)
    (hp : ∀ (r : Fin 512) (f : Fin 2816) (R : Fin 1024), R.val = o + r.val → p (ix2 r f) = acts x0 x1 x2 x3 x4 x5 x6 x7 R f)
    (r : Fin 512) (d : Fin 1024) (R : Fin 1024) (hR : R.val = o + r.val) :
    endAt x0 x1 x2 x3 x4 x8 o i i' p (ix2 r d) = outRow x0 x1 x2 x3 x4 x5 x6 x7 x8 R d := by
  unfold endAt outRow half
  rw [end_apply, rowsAt_apply x0 x1 x2 x3 x4 o i i' r d R hR]
  refine congrArg (HAdd.hAdd _) (congrArg (HMul.hMul _) (Finset.sum_congr rfl fun f _ => ?_))
  rw [hp r f R hR]
  refine congrArg (HMul.hMul _) ?_
  pointwise []

/-- One store of output rows agrees with the block's rows. -/
theorem end_store (o : ℕ) (i) (i') (p : Vec Ideal S512x2816 .bf16)
    (hp : ∀ (r : Fin 512) (f : Fin 2816) (R : Fin 1024), R.val = o + r.val → p (ix2 r f) = acts x0 x1 x2 x3 x4 x5 x6 x7 R f)
    (x : (Rect.unit (s := S1024x1024) ![o, 0] S512x1024.size i).shape.Idx) :
    endAt x0 x1 x2 x3 x4 x8 o i i' p x
      = (fun y : S1024x1024.Idx => outRow x0 x1 x2 x3 x4 x5 x6 x7 x8 (y 0) (y 1)) ((Rect.unit (s := S1024x1024) ![o, 0] S512x1024.size i).emb x) := by
  have hx : x = ix2 (x 0 : Fin 512) (x 1 : Fin 1024) := eq_ix2 x
  refine (congrArg (endAt x0 x1 x2 x3 x4 x8 o i i' p) hx).trans ?_
  have hd : (Rect.unit (s := S1024x1024) ![o, 0] S512x1024.size i).emb x 1 = (x 1 : Fin 1024) := Fin.ext (by
    show 0 + 1 * (x 1).val = (x 1).val
    omega)
  refine (endAt_apply x0 x1 x2 x3 x4 x5 x6 x7 x8 o i i' p hp (x 0) (x 1) ((Rect.unit (s := S1024x1024) ![o, 0] S512x1024.size i).emb x 0) ?_).trans ?_
  · show o + 1 * (x 0).val = o + (x 0).val
    omega
  · show _ = outRow x0 x1 x2 x3 x4 x5 x6 x7 x8 _ _
    rw [hd]

end Stores

section Run

variable (c : Dev nD)
    (arg1 : Memref sig .tc .vmem S1024x1024 .f32) (harg1 : arg1.IsWhole)
    (arg2 : Memref sig .tc .vmem S1024x512 .bf16) (harg2 : arg2.IsWhole)
    (arg3 : Memref sig .tc .vmem S1024x512 .bf16) (harg3 : arg3.IsWhole)
    (arg4 : Memref sig .tc .vmem S512x1024 .bf16) (harg4 : arg4.IsWhole)
    (arg5 : Memref sig .tc .vmem S512x1024 .bf16) (harg5 : arg5.IsWhole)
    (arg6 : Memref sig .tc .vmem S1x1024 .f32) (harg6 : arg6.IsWhole)
    (arg7 : Memref sig .tc .vmem S1x1024x2816 .bf16) (harg7 : arg7.IsWhole)
    (arg8 : Memref sig .tc .vmem S1x1024x2816 .bf16) (harg8 : arg8.IsWhole)
    (arg9 : Memref sig .tc .vmem S1x2816x1024 .bf16) (harg9 : arg9.IsWhole)
    (arg10 : Memref sig .tc .vmem S1x1024 .f32) (harg10 : arg10.IsWhole)
    (arg11 : Memref sig .tc .vmem S1024x1024 .f32) (harg11 : arg11.IsWhole)
    (arg12 : Memref sig .tc .vmem S1024x2816 .bf16) (harg12 : arg12.IsWhole)
    (x0 : Vec Ideal S1024x1024 .f32) (x1 x2 : Vec Ideal S1024x512 .bf16) (x3 x4 : Vec Ideal S512x1024 .bf16)
    (x5 : Vec Ideal S1x1024 .f32) (x6 x7 : Vec Ideal S1x1024x2816 .bf16) (x8 : Vec Ideal S1x2816x1024 .bf16) (x9 : Vec Ideal S1x1024 .f32)

theorem lo_eq : kernelRun0_A.sl.HS0_11 (F := Ideal) c arg1 harg1 arg2 harg2 arg3 harg3 arg4 harg4 arg5 harg5 arg6 harg6 arg7 harg7 arg8 harg8 x0 x1 x2 x3 x4 x5 x6 x7 = storesLo x0 x1 x2 x3 x4 x5 x6 x7 := by
  simp only [kernelRun0_A.sl.HS0_11, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, load_unread]
  rfl

theorem hi_eq : kernelRun0_A.sl.HS0_22 (F := Ideal) c arg1 harg1 arg2 harg2 arg3 harg3 arg4 harg4 arg5 harg5 arg6 harg6 arg7 harg7 arg8 harg8 x0 x1 x2 x3 x4 x5 x6 x7 = storesHi x0 x1 x2 x3 x4 x5 x6 x7 := by
  unfold kernelRun0_A.sl.HS0_22
  rw [lo_eq]
  simp only [kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, load_unread]
  rfl

/-- The activations of the first 512 rows, read back. -/
theorem lo_read (r : Fin 512) (f : Fin 2816) (R : Fin 1024) (hR : R.val = 0 + r.val) :
    kernelRun0_A.sl.v169 (F := Ideal) c arg1 harg1 arg2 harg2 arg3 harg3 arg4 harg4 arg5 harg5 arg6 harg6 arg7 harg7 arg8 harg8 arg12 x0 x1 x2 x3 x4 x5 x6 x7 (ix2 r f) = acts x0 x1 x2 x3 x4 x5 x6 x7 R f := by
  unfold kernelRun0_A.sl.v169
  rw [lo_eq]
  have e0 : (Rect.unit (s := S1024x2816) ![0, 0] S512x2816.size inb_S1024x2816_S512x2816_0_0).toLoadRect.idx (ix2 r f) 0 = R := Fin.ext (by
    show 0 + 1 * r.val = R.val
    omega)
  have e1 : (Rect.unit (s := S1024x2816) ![0, 0] S512x2816.size inb_S1024x2816_S512x2816_0_0).toLoadRect.idx (ix2 r f) 1 = f := Fin.ext (by
    show 0 + 1 * f.val = f.val
    omega)
  refine (load_of_stores arg12.view (fun y : S1024x2816.Idx => acts x0 x1 x2 x3 x4 x5 x6 x7 (y 0) (y 1)) _ _ (storesLo_ok x0 x1 x2 x3 x4 x5 x6 x7) _ (storesLo_cover x0 x1 x2 x3 x4 x5 x6 x7 _ (by rw [e0]; omega))).trans ?_
  show acts x0 x1 x2 x3 x4 x5 x6 x7 _ _ = _
  rw [e0, e1]

/-- The activations of the other rows, read back. -/
theorem hi_read (r : Fin 512) (f : Fin 2816) (R : Fin 1024) (hR : R.val = 512 + r.val) :
    kernelRun0_A.sl.v346 (F := Ideal) c arg1 harg1 arg2 harg2 arg3 harg3 arg4 harg4 arg5 harg5 arg6 harg6 arg7 harg7 arg8 harg8 arg12 x0 x1 x2 x3 x4 x5 x6 x7 (ix2 r f) = acts x0 x1 x2 x3 x4 x5 x6 x7 R f := by
  unfold kernelRun0_A.sl.v346
  rw [hi_eq]
  have e0 : (Rect.unit (s := S1024x2816) ![512, 0] S512x2816.size inb_S1024x2816_S512x2816_512_0).toLoadRect.idx (ix2 r f) 0 = R := Fin.ext (by
    show 512 + 1 * r.val = R.val
    omega)
  have e1 : (Rect.unit (s := S1024x2816) ![512, 0] S512x2816.size inb_S1024x2816_S512x2816_512_0).toLoadRect.idx (ix2 r f) 1 = f := Fin.ext (by
    show 0 + 1 * f.val = f.val
    omega)
  refine (load_of_stores arg12.view (fun y : S1024x2816.Idx => acts x0 x1 x2 x3 x4 x5 x6 x7 (y 0) (y 1)) _ _ (storesHi_ok x0 x1 x2 x3 x4 x5 x6 x7) _ (storesHi_cover x0 x1 x2 x3 x4 x5 x6 x7 _ (by rw [e0]; omega))).trans ?_
  show acts x0 x1 x2 x3 x4 x5 x6 x7 _ _ = _
  rw [e0, e1]

/-- What the body stores in the output block. -/
theorem out_stores (i : grid0.Coords) : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9).1
    = [⟨Rect.unit (s := S1024x1024) ![512, 0] S512x1024.size inb_S1024x1024_S512x1024_512_0,
        endAt x0 x1 x2 x3 x4 x8 512 inb_S1024x1024_S512x1024_512_0 inb_S1024x512_S512x512_512_0 (kernelRun0_A.sl.v346 (F := Ideal) c arg1 harg1 arg2 harg2 arg3 harg3 arg4 harg4 arg5 harg5 arg6 harg6 arg7 harg7 arg8 harg8 arg12 x0 x1 x2 x3 x4 x5 x6 x7)⟩,
      ⟨Rect.unit (s := S1024x1024) ![0, 0] S512x1024.size inb_S1024x1024_S512x1024_0_0,
        endAt x0 x1 x2 x3 x4 x8 0 inb_S1024x1024_S512x1024_0_0 inb_S1024x512_S512x512_0_0 (kernelRun0_A.sl.v169 (F := Ideal) c arg1 harg1 arg2 harg2 arg3 harg3 arg4 harg4 arg5 harg5 arg6 harg6 arg7 harg7 arg8 harg8 arg12 x0 x1 x2 x3 x4 x5 x6 x7)⟩] := by
  unfold endAt rowsAt
  simp only [← load_unread arg1 harg1 x0, ← load_unread arg2 harg2 x1, ← load_unread arg3 harg3 x2, ← load_unread arg4 harg4 x3,
    ← load_unread arg5 harg5 x4, ← load_unread arg9 harg9 x8]
  rfl

/-- The output block a grid point leaves. -/
theorem out_spec (i : grid0.Coords) (y : S1024x1024.Idx) :
    out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 y = outRow x0 x1 x2 x3 x4 x5 x6 x7 x8 (y 0) (y 1) := by
  have hc := cover0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9
  unfold out0_A_10
  rw [View.read_writes_eq_canon _ _ _ hc]
  rw [out_stores] at hc ⊢
  refine View.canon_apply_of_pieces (fun y : S1024x1024.Idx => outRow x0 x1 x2 x3 x4 x5 x6 x7 x8 (y 0) (y 1)) _ ?_ y (hc y)
  refine List.forall_mem_cons.2 ⟨fun x => end_store x0 x1 x2 x3 x4 x5 x6 x7 x8 512 _ _ _ (hi_read c arg1 harg1 arg2 harg2 arg3 harg3 arg4 harg4 arg5 harg5 arg6 harg6 arg7 harg7 arg8 harg8 arg12 x0 x1 x2 x3 x4 x5 x6 x7) x, ?_⟩
  refine List.forall_mem_cons.2 ⟨fun x => end_store x0 x1 x2 x3 x4 x5 x6 x7 x8 0 _ _ _ (lo_read c arg1 harg1 arg2 harg2 arg3 harg3 arg4 harg4 arg5 harg5 arg6 harg6 arg7 harg7 arg8 harg8 arg12 x0 x1 x2 x3 x4 x5 x6 x7) x, ?_⟩
  simp

end Run

end Cert.Kernel4Ideal.Ffn

end
-- ==== Proof.Ffn.MixValue.lean ====
module

public import proofs.«01_k».proof.Proof.Ffn.Mix
public import Idealize.ShloMosaic.Lib.Claim

@[expose] public section

set_option maxRecDepth 16384

noncomputable section

/-! The result array of the feed-forward kernel with a mixer before it. -/

namespace Cert.Kernel4Ideal.Ffn

open Cert.Kernel4Ideal Cert.Kernel4Ideal.Gen Idealize.ShloMosaic Idealize.ShloMosaic.TcCoe Idealize.SL.Sem Cert.Ffn

variable (m : (ℓ : Loc nD τ sig) → Buf (Elt Ideal) ℓ) (c : Dev nD)

/-! What the kernel finds in the arrays that the host prepares. -/

theorem entry3 (k : Fin 512) (e : Fin 1024) : (V m c main_v10 : S512x1024.Idx → EReal) (ix2 k e) = m ((c : Thread nD τ).loc main_arg3) (ix3 0 ⟨k.val, by omega⟩ e) := by
  entry_read
  pointwise []

theorem entry4 (k : Fin 512) (e : Fin 1024) : (V m c main_v11 : S512x1024.Idx → EReal) (ix2 k e) = m ((c : Thread nD τ).loc main_arg3) (ix3 0 ⟨512 + k.val, by omega⟩ e) := by
  entry_read
  pointwise []

theorem entry5 (e : Fin 1024) : (V m c main_v2 : S1x1024.Idx → EReal) (ix2 0 e) = m ((c : Thread nD τ).loc main_arg4) (ix2 0 e) := by
  entry_read
  pointwise []

theorem entry6 (l : Fin 4) (e : Fin 1024) (f : Fin 2816) : (V m c main_v3 : S4x1024x2816.Idx → EReal) (ix3 l e f) = m ((c : Thread nD τ).loc main_arg5) (ix3 l e f) := by
  entry_read
  pointwise []

theorem entry7 (l : Fin 4) (e : Fin 1024) (f : Fin 2816) : (V m c main_v4 : S4x1024x2816.Idx → EReal) (ix3 l e f) = m ((c : Thread nD τ).loc main_arg6) (ix3 l e f) := by
  entry_read
  pointwise []

theorem entry8 (l : Fin 4) (f : Fin 2816) (e : Fin 1024) : (V m c main_v5 : S4x2816x1024.Idx → EReal) (ix3 l f e) = m ((c : Thread nD τ).loc main_arg7) (ix3 l f e) := by
  entry_read
  pointwise []

/-- Where each window's block lies, from the output's. -/
theorem places : ∀ t : Fin cfg0.N,
    (win0_0.index t = ![win0_10.index t 0, 0] ∧ win0_1.index t = ![win0_10.index t 0, 0] ∧ win0_2.index t = ![win0_10.index t 0, 0])
    ∧ (win0_3.index t = ![0, 0] ∧ win0_4.index t = ![0, 0] ∧ win0_5.index t = ![0, 0] ∧ win0_9.index t = ![0, 0])
    ∧ (win0_6.index t = ![0, 0, 0] ∧ win0_7.index t = ![0, 0, 0] ∧ win0_8.index t = ![0, 0, 0])
    ∧ win0_10.index t 0 < 32 ∧ win0_10.index t 1 = 0 :=
  (by decide +kernel : ∀ t : Fin grid0.N,
    (win0_0.index t = ![win0_10.index t 0, 0] ∧ win0_1.index t = ![win0_10.index t 0, 0] ∧ win0_2.index t = ![win0_10.index t 0, 0])
    ∧ (win0_3.index t = ![0, 0] ∧ win0_4.index t = ![0, 0] ∧ win0_5.index t = ![0, 0] ∧ win0_9.index t = ![0, 0])
    ∧ (win0_6.index t = ![0, 0, 0] ∧ win0_7.index t = ![0, 0, 0] ∧ win0_8.index t = ![0, 0, 0])
    ∧ win0_10.index t 0 < 32 ∧ win0_10.index t 1 = 0)

/-! The blocks that a grid point finds, from the arguments. -/

theorem block0 (t : Fin cfg0.N) (r : Fin 1024) (e : Fin 1024) (R : Fin 32768) (hR : R.val = win0_10.index t 0 * 1024 + r.val) :
    iblk m c 0 t (ix2 r e) = m ((c : Thread nD τ).loc main_arg0) (ix2 R e) := by
  obtain ⟨⟨p0, p1, p2⟩, ⟨p3, p4, p5, p9⟩, ⟨p6, p7, p8⟩, q0, q1⟩ := places t
  blk_ext [iblk, V, p0]
  all_goals omega

theorem block1 (t : Fin cfg0.N) (r : Fin 1024) (e : Fin 512) (R : Fin 32768) (hR : R.val = win0_10.index t 0 * 1024 + r.val) :
    iblk m c 1 t (ix2 r e) = m ((c : Thread nD τ).loc main_arg1) (ix2 R e) := by
  obtain ⟨⟨p0, p1, p2⟩, ⟨p3, p4, p5, p9⟩, ⟨p6, p7, p8⟩, q0, q1⟩ := places t
  blk_ext [iblk, V, p1]
  all_goals omega

theorem block2 (t : Fin cfg0.N) (r : Fin 1024) (e : Fin 512) (R : Fin 32768) (hR : R.val = win0_10.index t 0 * 1024 + r.val) :
    iblk m c 2 t (ix2 r e) = m ((c : Thread nD τ).loc main_arg2) (ix2 R e) := by
  obtain ⟨⟨p0, p1, p2⟩, ⟨p3, p4, p5, p9⟩, ⟨p6, p7, p8⟩, q0, q1⟩ := places t
  blk_ext [iblk, V, p2]
  all_goals omega

theorem block3 (t : Fin cfg0.N) (k : Fin 512) (e : Fin 1024) :
    iblk m c 3 t (ix2 k e) = m ((c : Thread nD τ).loc main_arg3) (ix3 0 ⟨k.val, by omega⟩ e) := by
  obtain ⟨⟨p0, p1, p2⟩, ⟨p3, p4, p5, p9⟩, ⟨p6, p7, p8⟩, q0, q1⟩ := places t
  rw [← entry3 m c k e]
  blk_ext [iblk, p3]
  all_goals omega

theorem block4 (t : Fin cfg0.N) (k : Fin 512) (e : Fin 1024) :
    iblk m c 4 t (ix2 k e) = m ((c : Thread nD τ).loc main_arg3) (ix3 0 ⟨512 + k.val, by omega⟩ e) := by
  obtain ⟨⟨p0, p1, p2⟩, ⟨p3, p4, p5, p9⟩, ⟨p6, p7, p8⟩, q0, q1⟩ := places t
  rw [← entry4 m c k e]
  blk_ext [iblk, p4]
  all_goals omega

theorem block5 (t : Fin cfg0.N) (e : Fin 1024) :
    iblk m c 5 t (ix2 0 e) = m ((c : Thread nD τ).loc main_arg4) (ix2 0 e) := by
  obtain ⟨⟨p0, p1, p2⟩, ⟨p3, p4, p5, p9⟩, ⟨p6, p7, p8⟩, q0, q1⟩ := places t
  rw [← entry5 m c e]
  blk_ext [iblk, p5]
  all_goals omega

theorem block6 (t : Fin cfg0.N) (e : Fin 1024) (f : Fin 2816) :
    iblk m c 6 t (ix3 0 e f) = m ((c : Thread nD τ).loc main_arg5) (ix3 0 e f) := by
  obtain ⟨⟨p0, p1, p2⟩, ⟨p3, p4, p5, p9⟩, ⟨p6, p7, p8⟩, q0, q1⟩ := places t
  rw [← entry6 m c 0 e f]
  blk_ext [iblk, p6]
  all_goals omega

theorem block7 (t : Fin cfg0.N) (e : Fin 1024) (f : Fin 2816) :
    iblk m c 7 t (ix3 0 e f) = m ((c : Thread nD τ).loc main_arg6) (ix3 0 e f) := by
  obtain ⟨⟨p0, p1, p2⟩, ⟨p3, p4, p5, p9⟩, ⟨p6, p7, p8⟩, q0, q1⟩ := places t
  rw [← entry7 m c 0 e f]
  blk_ext [iblk, p7]
  all_goals omega

theorem block8 (t : Fin cfg0.N) (f : Fin 2816) (e : Fin 1024) :
    iblk m c 8 t (ix3 0 f e) = m ((c : Thread nD τ).loc main_arg7) (ix3 0 f e) := by
  obtain ⟨⟨p0, p1, p2⟩, ⟨p3, p4, p5, p9⟩, ⟨p6, p7, p8⟩, q0, q1⟩ := places t
  rw [← entry8 m c 0 f e]
  blk_ext [iblk, p8]
  all_goals omega

theorem arr_eq : (dats m 0 c).arrAt 10 cfg0.N
    = fun j : S32768x1024.Idx => layer (mixed (m ((c : Thread nD τ).loc main_arg0)) (m ((c : Thread nD τ).loc main_arg1))
        (m ((c : Thread nD τ).loc main_arg2)) (m ((c : Thread nD τ).loc main_arg3)) 0 (j 0))
        (m ((c : Thread nD τ).loc main_arg4)) (m ((c : Thread nD τ).loc main_arg5)) (m ((c : Thread nD τ).loc main_arg6))
        (m ((c : Thread nD τ).loc main_arg7)) 0 (j 1) := by
  refine (dats m 0 c).arrAt_eq_of_covers 10 _ (by decide +kernel) fun t hf y => ?_
  blk_simp
  rw [after0_10]
  unfold outsAt0
  rw [out_spec]
  have l0 : (y 0).val < 1024 := (y 0).isLt
  have h0 : ((win0_10.blk t).view.emb y 0).val = win0_10.index t 0 * 1024 + (y 0).val := by
    blk_simp
  have h1 : (win0_10.blk t).view.emb y 1 = (y 1 : Fin 1024) := Fin.ext (by
    blk_simp [(places t).2.2.2.2]
    try omega)
  unfold outRow row layer mixed
  simp only [fun e => block0 m c t (y 0) e _ h0, fun e => block1 m c t (y 0) e _ h0, fun e => block2 m c t (y 0) e _ h0,
    block3 m c t, block4 m c t, block5 m c t, block6 m c t, block7 m c t, block8 m c t]
  rw [h1]

end Cert.Kernel4Ideal.Ffn

end
-- ==== Proof.Ffn.MixRef.lean ====
module

public import proofs.«01_k».proof.Proof.Gen.Reference4Ideal.Read
public import proofs.«01_k».proof.Proof.Ffn.Spec
public import Idealize.ShloMosaic.Lib.IdealHost

@[expose] public section

set_option maxRecDepth 16384

noncomputable section

/-! The value of the reference of the feed-forward with a mixer before it. -/

namespace Cert.Reference4Ideal.RefValue

open Cert.Reference4Ideal Cert.Reference4Ideal.Read Idealize.ShloMosaic Cert.Ffn

variable (x0 : (⟨S32768x1024, .f32⟩ : BufTy).Contents (Elt Ideal)) (x1 x2 : (⟨S32768x512, .bf16⟩ : BufTy).Contents (Elt Ideal))
  (x3 : (⟨S2x1024x1024, .f32⟩ : BufTy).Contents (Elt Ideal)) (x4 : (⟨S4x1024, .f32⟩ : BufTy).Contents (Elt Ideal))
  (x5 x6 : (⟨S4x1024x2816, .f32⟩ : BufTy).Contents (Elt Ideal)) (x7 : (⟨S4x2816x1024, .f32⟩ : BufTy).Contents (Elt Ideal))

theorem mixed_at (R : Fin 32768) (d : Fin 1024) : val_main_v6 (F := Ideal) x0 x1 x2 x3 (ix2 R d) = mixed x0 x1 x2 x3 0 R d := by
  have h : val_main_v6 (F := Ideal) x0 x1 x2 x3 (ix2 R d) = x0 (ix2 R d) + ∑ k : Fin 1024,
      (if h : k.val < 512 then x1 (ix2 R ⟨k.val, h⟩) else x2 (ix2 R ⟨k.val - 512, by omega⟩)) * x3 (ix3 0 k d) := by
    pointwise [val_main_v6, val_main_v5, val_main_v4, val_main_v3, val_main_v2, val_main_v1, val_main_v0]
  rw [h]
  unfold mixed mix
  rw [add_assoc]
  refine congrArg (HAdd.hAdd _) ((Fin.sum_univ_add (a := 512) (b := 512) _).trans (congrArg₂ HAdd.hAdd (Finset.sum_congr rfl fun k _ => ?_)
    (Finset.sum_congr rfl fun k _ => ?_)))
  · have hk : (Fin.castAdd 512 k).val < 512 := k.isLt
    rw [dif_pos hk]
    rfl
  · have hk : ¬ (Fin.natAdd 512 k).val < 512 := by simp
    rw [dif_neg hk]
    congr 3
    simp

theorem norm_at (R : Fin 32768) (d : Fin 1024) : val_main_v21 (F := Ideal) x0 x1 x2 x3 x4 (ix2 R d)
    = rms (mixed x0 x1 x2 x3 0 R) (fun e => x4 (ix2 0 e)) d := by
  unfold rms
  simp only [← mixed_at]
  pointwise [val_main_v21, val_main_v20, val_main_v19, val_main_v18, val_main_v17, val_main_v16, val_main_v15, val_main_v14, val_main_v13,
    val_main_v12, val_main_v11, val_main_v10, val_main_v9, val_main_v8, val_main_v7, val_main_cst, val_main_cst_0, val_main_cst_1]

theorem hidden_at (R : Fin 32768) (f : Fin 2816) : val_main_v31 (F := Ideal) x0 x1 x2 x3 x4 x5 x6 (ix2 R f)
    = act (rms (mixed x0 x1 x2 x3 0 R) fun e => x4 (ix2 0 e)) (fun e f => x5 (ix3 0 e f)) (fun e f => x6 (ix3 0 e f)) f := by
  unfold act Ideal.logistic
  rw [← Ideal.ofBits_one_f32]
  simp only [← norm_at]
  pointwise [val_main_v31, val_main_v30, val_main_v29, val_main_v28, val_main_v25, val_main_v24, val_main_v23, val_main_v22,
    val_main_call0_v0, val_main_call0_v1, val_main_call0_v2, val_main_call0_v3, val_main_call0_v4, val_main_call0_v5,
    val_main_call0_cst, val_main_call0_cst_0]

/-- The reference's result. -/
theorem result_at (R : Fin 32768) (d : Fin 1024) : val_main_v35 (F := Ideal) x0 x1 x2 x3 x4 x5 x6 x7 (ix2 R d)
    = layer (mixed x0 x1 x2 x3 0 R) x4 x5 x6 x7 0 d := by
  unfold layer half
  simp only [← hidden_at, ← mixed_at]
  pointwise [val_main_v35, val_main_v34, val_main_v33, val_main_v32, val_main_v27, val_main_v26, val_main_cst_2]

end Cert.Reference4Ideal.RefValue

end
-- ==== Proof.Even.Spec.lean ====
module

public import proofs.«01_k».proof.Proof.Ffn.Spec

@[expose] public section

noncomputable section

/-! The projections of an even layer as a function of one row. -/

namespace Cert.Even

open Idealize.ShloMosaic Cert.Ffn

/-- Column `j` of a normalised row's projection. -/
def proj (h g : Fin 1024 → EReal) (w : Fin 1024 → Fin 3072 → EReal) (j : Fin 3072) : EReal := ∑ e, rms h g e * w e j

/-- The angle of position `s` at frequency `k`. -/
def angle (s k : ℕ) : EReal := FloatOps.sitofp (F := Ideal) (φ := .f32) (BitVec.ofNat 32 s)
  * Ideal.pow (Ideal.ofBits .f32 0x461C4000#32) (Ideal.div (-(Ideal.ofBits .f32 0x40000000#32 * FloatOps.sitofp (F := Ideal) (φ := .f32) (BitVec.ofNat 32 k))) (Ideal.ofBits .f32 0x42800000#32))

/-- Position `s`'s cosines, two heads wide. -/
def cosRow (s : ℕ) (l : Fin 128) : EReal := if l.val % 64 < 32 then Ideal.cos (angle s (l.val % 64)) else Ideal.cos (angle s (l.val % 64 - 32))

/-- Position `s`'s sines, two heads wide, negated in the first half of a head. -/
def sinRow (s : ℕ) (l : Fin 128) : EReal := if l.val % 64 < 32 then -Ideal.sin (angle s (l.val % 64)) else Ideal.sin (angle s (l.val % 64 - 32))

/-- The column that the rotation pairs with column `j`: 32 to the right in the first half of a head, 32 to the left in the second. -/
def partner (j : Fin 3072) : Fin 3072 := if j.val % 64 < 32 then ⟨(j.val + 32) % 3072, Nat.mod_lt _ (by decide)⟩ else ⟨j.val - 32, by omega⟩

/-- The rotated column `j`, from a row's table of cosines and its table of signed sines. -/
def rope (p : Fin 3072 → EReal) (co si : Fin 128 → EReal) (j : Fin 3072) : EReal :=
  p j * co ⟨j.val % 128, Nat.mod_lt _ (by decide)⟩ + p (partner j) * si ⟨j.val % 128, Nat.mod_lt _ (by decide)⟩

/-- Column `j` of the first output: rotated and scaled queries, rotated keys, values. -/
def first (sc : EReal) (p : Fin 3072 → EReal) (co si : Fin 128 → EReal) (j : Fin 1536) : EReal :=
  if j.val < 512 then rope p co si ⟨j.val, by omega⟩ * sc else if j.val < 1024 then rope p co si ⟨j.val, by omega⟩ else p ⟨j.val, by omega⟩

/-- Column `j` of the second output: scaled queries, keys, values. -/
def second (sc : EReal) (p : Fin 3072 → EReal) (j : Fin 1536) : EReal :=
  if j.val < 512 then p ⟨1536 + j.val, by omega⟩ * sc else p ⟨1536 + j.val, by omega⟩

end Cert.Even

end
-- ==== Proof.Even.Run.lean ====
module

public import proofs.«01_k».proof.Proof.Gen.Kernel5Ideal.Value
public import proofs.«01_k».proof.Proof.Even.Spec

@[expose] public section

set_option maxRecDepth 16384

noncomputable section

/-! What one grid point of the even layers' projection kernel leaves in its two output blocks. -/

namespace Cert.Kernel5Ideal.Even

open Cert.Kernel5Ideal Cert.Kernel5Ideal.Gen Idealize.ShloMosaic Idealize.ShloMosaic.TcCoe Idealize.SL.Sem Cert.Ffn Cert.Even

/-- The scale of the queries. -/
abbrev scale : EReal := Named.named (F := Ideal) κ "scale" (φ := .f32) 0x3E38AA3B#32

theorem norm_apply (x : Vec Ideal S512x1024 .f32) (g : Vec Ideal S1x1024 .f32) (r : Fin 512) (d : Fin 1024) :
    k0_pay4 x g (ix2 r d) = rms (fun e => x (ix2 r e)) (fun e => g (ix2 0 e)) d := by
  unfold rms
  pointwise [k0_pay4]

/-- The mask of the first halves of the heads. -/
theorem mask_apply (r : Fin 512) (l : Fin 128) : k0_pay7 (ix2 r l) = if l.val % 64 < 32 then 1#1 else 0#1 := by
  pointwise [k0_pay7]
  revert l
  decide +kernel

section Pieces

variable (n : Vec Ideal S512x1024 .bf16) (co si : Vec Ideal S512x128 .f32) (w : Vec Ideal S1024x256 .bf16) (r : Fin 512) (l : Fin 128)

theorem left_apply : k0_pay21 n w (ix2 r l) = ∑ e, n (ix2 r e) * w (ix2 e ⟨l.val, by omega⟩) := by
  pointwise [k0_pay21, k0_pay20]

theorem right_apply : k0_pay22 n w (ix2 r l) = ∑ e, n (ix2 r e) * w (ix2 e ⟨128 + l.val, by omega⟩) := by
  pointwise [k0_pay22, k0_pay20]

end Pieces

/-- A block of columns after the rotation. -/
def ropeBlock (b co si : Vec Ideal S512x128 .f32) : Vec Ideal S512x128 .f32 :=
  addf (F := Ideal) (φ := .f32) (mulf (F := Ideal) (φ := .f32) b co)
    (mulf (F := Ideal) (φ := .f32) (select k0_pay7 (dynamicRotate 1 96#32 none b rotates_S512x128_d1) (dynamicRotate 1 32#32 none b rotates_S512x128_d1)) si)

theorem ropeBlock_apply (b co si : Vec Ideal S512x128 .f32) (r : Fin 512) (l : Fin 128) : ropeBlock b co si (ix2 r l) = b (ix2 r l) * co (ix2 r l)
    + (if l.val % 64 < 32 then b (ix2 r ⟨(l.val + 128 - 96) % 128, Nat.mod_lt _ (by decide)⟩) else b (ix2 r ⟨(l.val + 128 - 32) % 128, Nat.mod_lt _ (by decide)⟩)) * si (ix2 r l) := by
  pointwise [ropeBlock, mask_apply]
  split_ifs <;> rfl

/-- A block of columns times the scale. -/
def scaled (b : Vec Ideal S512x128 .f32) : Vec Ideal S512x128 .f32 :=
  mulf (F := Ideal) (φ := .f32) b (broadcast S512x128 scale)

theorem scaled_apply (b : Vec Ideal S512x128 .f32) (i : S512x128.Idx) : scaled b i = b i * scale := rfl

section Rows

variable (x0 : Vec Ideal S1024x1024 .f32) (x1 : Vec Ideal S1x1024 .f32) (x2 : Vec Ideal S1024x3072 .bf16) (x3 x4 : Vec Ideal S1024x128 .f32)

/-- The projections of row `R` of the block of rows. -/
def prj (R : Fin 1024) : Fin 3072 → EReal := proj (fun e => x0 (ix2 R e)) (fun e => x1 (ix2 0 e)) fun e j => x2 (ix2 e j)

/-- Row `R` of a table. -/
def tab (x : Vec Ideal S1024x128 .f32) (R : Fin 1024) : Fin 128 → EReal := fun l => x (ix2 R l)

/-- The rows from `o` on, normalised. -/
def normAt (o : ℕ) (i : ∀ a, (![o, 0] : Fin 2 → ℕ) a + S512x1024.size a ≤ S1024x1024.size a) : Vec Ideal S512x1024 .bf16 :=
  k0_pay4 (View.ld x0 (Rect.unit (s := S1024x1024) ![o, 0] S512x1024.size i))
    (View.ld x1 (Rect.unit (s := S1x1024) ![0, 0] S1x1024.size inb_S1x1024_S1x1024_0_0))

/-- The rows from `o` on of a table. -/
def tabAt (x : Vec Ideal S1024x128 .f32) (o : ℕ) (i : ∀ a, (![o, 0] : Fin 2 → ℕ) a + S512x128.size a ≤ S1024x128.size a) : Vec Ideal S512x128 .f32 :=
  k0_pay5 (View.ld x (Rect.unit (s := S1024x128) ![o, 0] S512x128.size i))

/-- The weights' columns `o'` to `o' + 255`. -/
def colsAt (o' : ℕ) (i : ∀ a, (![0, o'] : Fin 2 → ℕ) a + S1024x256.size a ≤ S1024x3072.size a) : Vec Ideal S1024x256 .bf16 :=
  View.ld x2 (Rect.unit (s := S1024x3072) ![0, o'] S1024x256.size i)

theorem normAt_apply (o : ℕ) (i) (r : Fin 512) (d : Fin 1024) (R : Fin 1024) (hR : R.val = o + r.val) :
    normAt x0 x1 o i (ix2 r d) = rms (fun e => x0 (ix2 R e)) (fun e => x1 (ix2 0 e)) d := by
  obtain ⟨R, hlt⟩ := R
  obtain rfl : R = o + r.val := hR
  unfold normAt
  rw [norm_apply]
  refine congrFun (congrArg₂ rms (funext fun e => ?_) (funext fun e => ?_)) d
  · pointwise []
  · pointwise []

theorem tabAt_apply (x : Vec Ideal S1024x128 .f32) (o : ℕ) (i) (r : Fin 512) (l : Fin 128) (R : Fin 1024) (hR : R.val = o + r.val) :
    tabAt x o i (ix2 r l) = tab x R l := by
  obtain ⟨R, hlt⟩ := R
  obtain rfl : R = o + r.val := hR
  unfold tabAt tab
  pointwise [k0_pay5]

/-- The block holds `G`'s columns from `j0` on of the rows from `o` on. -/
def Holds (b : Vec Ideal S512x128 .f32) (o j0 : ℕ) (G : Fin 1024 → Fin 3072 → EReal) : Prop :=
  ∀ (r : Fin 512) (l : Fin 128) (R : Fin 1024) (j : Fin 3072), R.val = o + r.val → j.val = j0 + l.val → b (ix2 r l) = G R j

theorem holds_left (o : ℕ) (i) (o' : ℕ) (i') : Holds (k0_pay21 (normAt x0 x1 o i) (colsAt x2 o' i')) o o' (prj x0 x1 x2) := by
  intro r l R j hR hj
  obtain ⟨j, hlt⟩ := j
  obtain rfl : j = o' + l.val := hj
  rw [left_apply]
  unfold prj proj colsAt
  refine Finset.sum_congr rfl fun e _ => ?_
  rw [normAt_apply x0 x1 o i r e R hR]
  refine congrArg (HMul.hMul _) ?_
  pointwise []

theorem holds_right (o : ℕ) (i) (o' j0 : ℕ) (i') (h : j0 = o' + 128) : Holds (k0_pay22 (normAt x0 x1 o i) (colsAt x2 o' i')) o j0 (prj x0 x1 x2) := by
  intro r l R j hR hj
  subst h
  obtain ⟨j, hlt⟩ := j
  obtain rfl : j = o' + 128 + l.val := hj
  rw [right_apply]
  unfold prj proj colsAt
  refine Finset.sum_congr rfl fun e _ => ?_
  rw [normAt_apply x0 x1 o i r e R hR]
  refine congrArg (HMul.hMul _) ?_
  pointwise []
  exact congrArg x2 (congrArg (ix2 e) (Fin.ext (Nat.add_assoc o' 128 l.val).symm))

theorem holds_rope {b : Vec Ideal S512x128 .f32} {o j0 : ℕ} {G : Fin 1024 → Fin 3072 → EReal} (hb : Holds b o j0 G) (hd : j0 % 128 = 0) (hj0 : j0 + 128 ≤ 3072) (i) :
    Holds (ropeBlock b (tabAt x3 o i) (tabAt x4 o i)) o j0 fun R => rope (G R) (tab x3 R) (tab x4 R) := by
  intro r l R j hR hj
  have hl := l.isLt
  have e : (⟨j.val % 128, Nat.mod_lt _ (by decide)⟩ : Fin 128) = l := Fin.ext (by show j.val % 128 = l.val; omega)
  have e' : j.val % 64 = l.val % 64 := by omega
  rw [ropeBlock_apply, tabAt_apply x3 o i r l R hR, tabAt_apply x4 o i r l R hR, hb r l R j hR hj]
  beta_reduce
  unfold rope partner
  rw [e, e']
  split_ifs with h
  · rw [hb r ⟨(l.val + 128 - 96) % 128, _⟩ R ⟨(j.val + 32) % 3072, Nat.mod_lt _ (by decide)⟩ hR (by show (j.val + 32) % 3072 = j0 + (l.val + 128 - 96) % 128; omega)]
  · rw [hb r ⟨(l.val + 128 - 32) % 128, _⟩ R ⟨j.val - 32, by omega⟩ hR (by show j.val - 32 = j0 + (l.val + 128 - 32) % 128; omega)]

theorem holds_scaled {b : Vec Ideal S512x128 .f32} {o j0 : ℕ} {G : Fin 1024 → Fin 3072 → EReal} (hb : Holds b o j0 G) :
    Holds (scaled b) o j0 fun R j => G R j * scale := fun r l R j hR hj => by
  rw [scaled_apply, hb r l R j hR hj]

/-- Row `R` of the first output block. -/
def outFirst (R : Fin 1024) : Fin 1536 → EReal := first scale (prj x0 x1 x2 R) (tab x3 R) (tab x4 R)

/-- Row `R` of the second output block. -/
def outSecond (R : Fin 1024) : Fin 1536 → EReal := second scale (prj x0 x1 x2 R)

/-- A store of the first output. -/
def storeFirst (o : ℕ) (i : ∀ a, (![o, 0] : Fin 2 → ℕ) a + S512x1536.size a ≤ S1024x1536.size a) (j0 : ℕ)
    (i' : ∀ a, (![0, j0] : Fin 2 → ℕ) a + S512x128.size a ≤ S512x1536.size a) (b : Vec Ideal S512x128 .f32) : View.Piece (Elt Ideal) S1024x1536 .f32 :=
  ⟨(Rect.unit (s := S1024x1536) ![o, 0] S512x1536.size i).within (Rect.unit (s := S512x1536) ![0, j0] S512x128.size i') (fun _ => rfl), b⟩

/-- A store of the second output. -/
def storeSecond (o j0 : ℕ) (i : ∀ a, (![o, j0] : Fin 2 → ℕ) a + S512x128.size a ≤ S1024x1536.size a) (b : Vec Ideal S512x128 .f32) : View.Piece (Elt Ideal) S1024x1536 .bf16 :=
  ⟨Rect.unit (s := S1024x1536) ![o, j0] S512x128.size i, b⟩

theorem storeFirst_ok (o : ℕ) (i) (j0 : ℕ) (i') {b : Vec Ideal S512x128 .f32} {G : Fin 1024 → Fin 3072 → EReal} (hb : Holds b o j0 G) (H : Fin 1024 → Fin 1536 → EReal)
    (hG : ∀ (R : Fin 1024) (j : Fin 1536), j0 ≤ j.val → j.val < j0 + 128 → G R ⟨j.val, by omega⟩ = H R j)
    (x : (storeFirst o i j0 i' b).1.shape.Idx) : (storeFirst o i j0 i' b).2 x = (fun y : S1024x1536.Idx => H (y 0) (y 1)) ((storeFirst o i j0 i' b).1.emb x) := by
  have hx : x = ix2 (x 0 : Fin 512) (x 1 : Fin 128) := eq_ix2 x
  have l1 : (x 1).val < 128 := (x 1).isLt
  have h0 : ((storeFirst o i j0 i' b).1.emb x 0).val = o + (x 0).val := by
    show o + 0 + 1 * (x 0).val = o + (x 0).val
    omega
  have h1 : ((storeFirst o i j0 i' b).1.emb x 1).val = j0 + (x 1).val := by
    show 0 + j0 + 1 * (x 1).val = j0 + (x 1).val
    omega
  refine (congrArg b hx).trans ((hb (x 0) (x 1) _ ⟨((storeFirst o i j0 i' b).1.emb x 1).val, Nat.lt_trans ((storeFirst o i j0 i' b).1.emb x 1).isLt (by decide)⟩ h0 h1).trans ?_)
  exact hG ((storeFirst o i j0 i' b).1.emb x 0) ((storeFirst o i j0 i' b).1.emb x 1) (by rw [h1]; omega) (by rw [h1]; omega)

theorem storeSecond_ok (o j0 : ℕ) (i) {b : Vec Ideal S512x128 .f32} {G : Fin 1024 → Fin 3072 → EReal} (j1 : ℕ) (hj : j1 = 1536 + j0) (hb : Holds b o j1 G) (H : Fin 1024 → Fin 1536 → EReal)
    (hG : ∀ (R : Fin 1024) (j : Fin 1536), j0 ≤ j.val → j.val < j0 + 128 → G R ⟨1536 + j.val, by omega⟩ = H R j)
    (x : (storeSecond o j0 i b).1.shape.Idx) : (storeSecond o j0 i b).2 x = (fun y : S1024x1536.Idx => H (y 0) (y 1)) ((storeSecond o j0 i b).1.emb x) := by
  have hx : x = ix2 (x 0 : Fin 512) (x 1 : Fin 128) := eq_ix2 x
  have l1 : (x 1).val < 128 := (x 1).isLt
  have h0 : ((storeSecond o j0 i b).1.emb x 0).val = o + (x 0).val := by
    show o + 1 * (x 0).val = o + (x 0).val
    omega
  have h1 : ((storeSecond o j0 i b).1.emb x 1).val = j0 + (x 1).val := by
    show j0 + 1 * (x 1).val = j0 + (x 1).val
    omega
  have h2 : ((storeSecond o j0 i b).1.emb x 1).val < 1536 := ((storeSecond o j0 i b).1.emb x 1).isLt
  refine (congrArg b hx).trans ((hb (x 0) (x 1) _ ⟨1536 + ((storeSecond o j0 i b).1.emb x 1).val, by omega⟩ h0 (by show 1536 + _ = _; omega)).trans ?_)
  exact hG ((storeSecond o j0 i b).1.emb x 0) ((storeSecond o j0 i b).1.emb x 1) (by rw [h1]; omega) (by rw [h1]; omega)

theorem first_query (R : Fin 1024) (j : Fin 1536) (h : j.val < 512) :
    rope (prj x0 x1 x2 R) (tab x3 R) (tab x4 R) ⟨j.val, by omega⟩ * scale = outFirst x0 x1 x2 x3 x4 R j := by
  unfold outFirst first
  rw [if_pos h]

theorem first_key (R : Fin 1024) (j : Fin 1536) (h : 512 ≤ j.val) (h' : j.val < 1024) :
    rope (prj x0 x1 x2 R) (tab x3 R) (tab x4 R) ⟨j.val, by omega⟩ = outFirst x0 x1 x2 x3 x4 R j := by
  unfold outFirst first
  rw [if_neg (by omega), if_pos h']

theorem first_value (R : Fin 1024) (j : Fin 1536) (h : 1024 ≤ j.val) : prj x0 x1 x2 R ⟨j.val, by omega⟩ = outFirst x0 x1 x2 x3 x4 R j := by
  unfold outFirst first
  rw [if_neg (by omega), if_neg (by omega)]

theorem second_query (R : Fin 1024) (j : Fin 1536) (h : j.val < 512) : prj x0 x1 x2 R ⟨1536 + j.val, by omega⟩ * scale = outSecond x0 x1 x2 R j := by
  unfold outSecond second
  rw [if_pos h]

theorem second_rest (R : Fin 1024) (j : Fin 1536) (h : 512 ≤ j.val) : prj x0 x1 x2 R ⟨1536 + j.val, by omega⟩ = outSecond x0 x1 x2 R j := by
  unfold outSecond second
  rw [if_neg (by omega)]

/-- The stores of the first output, the last one first. -/
def storesFirst : List (View.Piece (Elt Ideal) S1024x1536 .f32) :=
  [storeFirst 512 inb_S1024x1536_S512x1536_512_0 1408 inb_S512x1536_S512x128_0_1408 (k0_pay22 (normAt x0 x1 512 inb_S1024x1024_S512x1024_512_0) (colsAt x2 1280 inb_S1024x3072_S1024x256_0_1280)),
   storeFirst 512 inb_S1024x1536_S512x1536_512_0 1280 inb_S512x1536_S512x128_0_1280 (k0_pay21 (normAt x0 x1 512 inb_S1024x1024_S512x1024_512_0) (colsAt x2 1280 inb_S1024x3072_S1024x256_0_1280)),
   storeFirst 512 inb_S1024x1536_S512x1536_512_0 1152 inb_S512x1536_S512x128_0_1152 (k0_pay22 (normAt x0 x1 512 inb_S1024x1024_S512x1024_512_0) (colsAt x2 1024 inb_S1024x3072_S1024x256_0_1024)),
   storeFirst 512 inb_S1024x1536_S512x1536_512_0 1024 inb_S512x1536_S512x128_0_1024 (k0_pay21 (normAt x0 x1 512 inb_S1024x1024_S512x1024_512_0) (colsAt x2 1024 inb_S1024x3072_S1024x256_0_1024)),
   storeFirst 512 inb_S1024x1536_S512x1536_512_0 896 inb_S512x1536_S512x128_0_896 (ropeBlock (k0_pay22 (normAt x0 x1 512 inb_S1024x1024_S512x1024_512_0) (colsAt x2 768 inb_S1024x3072_S1024x256_0_768)) (tabAt x3 512 inb_S1024x128_S512x128_512_0) (tabAt x4 512 inb_S1024x128_S512x128_512_0)),
   storeFirst 512 inb_S1024x1536_S512x1536_512_0 768 inb_S512x1536_S512x128_0_768 (ropeBlock (k0_pay21 (normAt x0 x1 512 inb_S1024x1024_S512x1024_512_0) (colsAt x2 768 inb_S1024x3072_S1024x256_0_768)) (tabAt x3 512 inb_S1024x128_S512x128_512_0) (tabAt x4 512 inb_S1024x128_S512x128_512_0)),
   storeFirst 512 inb_S1024x1536_S512x1536_512_0 640 inb_S512x1536_S512x128_0_640 (ropeBlock (k0_pay22 (normAt x0 x1 512 inb_S1024x1024_S512x1024_512_0) (colsAt x2 512 inb_S1024x3072_S1024x256_0_512)) (tabAt x3 512 inb_S1024x128_S512x128_512_0) (tabAt x4 512 inb_S1024x128_S512x128_512_0)),
   storeFirst 512 inb_S1024x1536_S512x1536_512_0 512 inb_S512x1536_S512x128_0_512 (ropeBlock (k0_pay21 (normAt x0 x1 512 inb_S1024x1024_S512x1024_512_0) (colsAt x2 512 inb_S1024x3072_S1024x256_0_512)) (tabAt x3 512 inb_S1024x128_S512x128_512_0) (tabAt x4 512 inb_S1024x128_S512x128_512_0)),
   storeFirst 512 inb_S1024x1536_S512x1536_512_0 384 inb_S512x1536_S512x128_0_384 (scaled (ropeBlock (k0_pay22 (normAt x0 x1 512 inb_S1024x1024_S512x1024_512_0) (colsAt x2 256 inb_S1024x3072_S1024x256_0_256)) (tabAt x3 512 inb_S1024x128_S512x128_512_0) (tabAt x4 512 inb_S1024x128_S512x128_512_0))),
   storeFirst 512 inb_S1024x1536_S512x1536_512_0 256 inb_S512x1536_S512x128_0_256 (scaled (ropeBlock (k0_pay21 (normAt x0 x1 512 inb_S1024x1024_S512x1024_512_0) (colsAt x2 256 inb_S1024x3072_S1024x256_0_256)) (tabAt x3 512 inb_S1024x128_S512x128_512_0) (tabAt x4 512 inb_S1024x128_S512x128_512_0))),
   storeFirst 512 inb_S1024x1536_S512x1536_512_0 128 inb_S512x1536_S512x128_0_128 (scaled (ropeBlock (k0_pay22 (normAt x0 x1 512 inb_S1024x1024_S512x1024_512_0) (colsAt x2 0 inb_S1024x3072_S1024x256_0_0)) (tabAt x3 512 inb_S1024x128_S512x128_512_0) (tabAt x4 512 inb_S1024x128_S512x128_512_0))),
   storeFirst 512 inb_S1024x1536_S512x1536_512_0 0 inb_S512x1536_S512x128_0_0 (scaled (ropeBlock (k0_pay21 (normAt x0 x1 512 inb_S1024x1024_S512x1024_512_0) (colsAt x2 0 inb_S1024x3072_S1024x256_0_0)) (tabAt x3 512 inb_S1024x128_S512x128_512_0) (tabAt x4 512 inb_S1024x128_S512x128_512_0))),
   storeFirst 0 inb_S1024x1536_S512x1536_0_0 1408 inb_S512x1536_S512x128_0_1408 (k0_pay22 (normAt x0 x1 0 inb_S1024x1024_S512x1024_0_0) (colsAt x2 1280 inb_S1024x3072_S1024x256_0_1280)),
   storeFirst 0 inb_S1024x1536_S512x1536_0_0 1280 inb_S512x1536_S512x128_0_1280 (k0_pay21 (normAt x0 x1 0 inb_S1024x1024_S512x1024_0_0) (colsAt x2 1280 inb_S1024x3072_S1024x256_0_1280)),
   storeFirst 0 inb_S1024x1536_S512x1536_0_0 1152 inb_S512x1536_S512x128_0_1152 (k0_pay22 (normAt x0 x1 0 inb_S1024x1024_S512x1024_0_0) (colsAt x2 1024 inb_S1024x3072_S1024x256_0_1024)),
   storeFirst 0 inb_S1024x1536_S512x1536_0_0 1024 inb_S512x1536_S512x128_0_1024 (k0_pay21 (normAt x0 x1 0 inb_S1024x1024_S512x1024_0_0) (colsAt x2 1024 inb_S1024x3072_S1024x256_0_1024)),
   storeFirst 0 inb_S1024x1536_S512x1536_0_0 896 inb_S512x1536_S512x128_0_896 (ropeBlock (k0_pay22 (normAt x0 x1 0 inb_S1024x1024_S512x1024_0_0) (colsAt x2 768 inb_S1024x3072_S1024x256_0_768)) (tabAt x3 0 inb_S1024x128_S512x128_0_0) (tabAt x4 0 inb_S1024x128_S512x128_0_0)),
   storeFirst 0 inb_S1024x1536_S512x1536_0_0 768 inb_S512x1536_S512x128_0_768 (ropeBlock (k0_pay21 (normAt x0 x1 0 inb_S1024x1024_S512x1024_0_0) (colsAt x2 768 inb_S1024x3072_S1024x256_0_768)) (tabAt x3 0 inb_S1024x128_S512x128_0_0) (tabAt x4 0 inb_S1024x128_S512x128_0_0)),
   storeFirst 0 inb_S1024x1536_S512x1536_0_0 640 inb_S512x1536_S512x128_0_640 (ropeBlock (k0_pay22 (normAt x0 x1 0 inb_S1024x1024_S512x1024_0_0) (colsAt x2 512 inb_S1024x3072_S1024x256_0_512)) (tabAt x3 0 inb_S1024x128_S512x128_0_0) (tabAt x4 0 inb_S1024x128_S512x128_0_0)),
   storeFirst 0 inb_S1024x1536_S512x1536_0_0 512 inb_S512x1536_S512x128_0_512 (ropeBlock (k0_pay21 (normAt x0 x1 0 inb_S1024x1024_S512x1024_0_0) (colsAt x2 512 inb_S1024x3072_S1024x256_0_512)) (tabAt x3 0 inb_S1024x128_S512x128_0_0) (tabAt x4 0 inb_S1024x128_S512x128_0_0)),
   storeFirst 0 inb_S1024x1536_S512x1536_0_0 384 inb_S512x1536_S512x128_0_384 (scaled (ropeBlock (k0_pay22 (normAt x0 x1 0 inb_S1024x1024_S512x1024_0_0) (colsAt x2 256 inb_S1024x3072_S1024x256_0_256)) (tabAt x3 0 inb_S1024x128_S512x128_0_0) (tabAt x4 0 inb_S1024x128_S512x128_0_0))),
   storeFirst 0 inb_S1024x1536_S512x1536_0_0 256 inb_S512x1536_S512x128_0_256 (scaled (ropeBlock (k0_pay21 (normAt x0 x1 0 inb_S1024x1024_S512x1024_0_0) (colsAt x2 256 inb_S1024x3072_S1024x256_0_256)) (tabAt x3 0 inb_S1024x128_S512x128_0_0) (tabAt x4 0 inb_S1024x128_S512x128_0_0))),
   storeFirst 0 inb_S1024x1536_S512x1536_0_0 128 inb_S512x1536_S512x128_0_128 (scaled (ropeBlock (k0_pay22 (normAt x0 x1 0 inb_S1024x1024_S512x1024_0_0) (colsAt x2 0 inb_S1024x3072_S1024x256_0_0)) (tabAt x3 0 inb_S1024x128_S512x128_0_0) (tabAt x4 0 inb_S1024x128_S512x128_0_0))),
   storeFirst 0 inb_S1024x1536_S512x1536_0_0 0 inb_S512x1536_S512x128_0_0 (scaled (ropeBlock (k0_pay21 (normAt x0 x1 0 inb_S1024x1024_S512x1024_0_0) (colsAt x2 0 inb_S1024x3072_S1024x256_0_0)) (tabAt x3 0 inb_S1024x128_S512x128_0_0) (tabAt x4 0 inb_S1024x128_S512x128_0_0)))]

/-- The stores of the second output, the last one first. -/
def storesSecond : List (View.Piece (Elt Ideal) S1024x1536 .bf16) :=
  [storeSecond 512 1408 inb_S1024x1536_S512x128_512_1408 (k0_pay22 (normAt x0 x1 512 inb_S1024x1024_S512x1024_512_0) (colsAt x2 2816 inb_S1024x3072_S1024x256_0_2816)),
   storeSecond 512 1280 inb_S1024x1536_S512x128_512_1280 (k0_pay21 (normAt x0 x1 512 inb_S1024x1024_S512x1024_512_0) (colsAt x2 2816 inb_S1024x3072_S1024x256_0_2816)),
   storeSecond 512 1152 inb_S1024x1536_S512x128_512_1152 (k0_pay22 (normAt x0 x1 512 inb_S1024x1024_S512x1024_512_0) (colsAt x2 2560 inb_S1024x3072_S1024x256_0_2560)),
   storeSecond 512 1024 inb_S1024x1536_S512x128_512_1024 (k0_pay21 (normAt x0 x1 512 inb_S1024x1024_S512x1024_512_0) (colsAt x2 2560 inb_S1024x3072_S1024x256_0_2560)),
   storeSecond 512 896 inb_S1024x1536_S512x128_512_896 (k0_pay22 (normAt x0 x1 512 inb_S1024x1024_S512x1024_512_0) (colsAt x2 2304 inb_S1024x3072_S1024x256_0_2304)),
   storeSecond 512 768 inb_S1024x1536_S512x128_512_768 (k0_pay21 (normAt x0 x1 512 inb_S1024x1024_S512x1024_512_0) (colsAt x2 2304 inb_S1024x3072_S1024x256_0_2304)),
   storeSecond 512 640 inb_S1024x1536_S512x128_512_640 (k0_pay22 (normAt x0 x1 512 inb_S1024x1024_S512x1024_512_0) (colsAt x2 2048 inb_S1024x3072_S1024x256_0_2048)),
   storeSecond 512 512 inb_S1024x1536_S512x128_512_512 (k0_pay21 (normAt x0 x1 512 inb_S1024x1024_S512x1024_512_0) (colsAt x2 2048 inb_S1024x3072_S1024x256_0_2048)),
   storeSecond 512 384 inb_S1024x1536_S512x128_512_384 (scaled (k0_pay22 (normAt x0 x1 512 inb_S1024x1024_S512x1024_512_0) (colsAt x2 1792 inb_S1024x3072_S1024x256_0_1792))),
   storeSecond 512 256 inb_S1024x1536_S512x128_512_256 (scaled (k0_pay21 (normAt x0 x1 512 inb_S1024x1024_S512x1024_512_0) (colsAt x2 1792 inb_S1024x3072_S1024x256_0_1792))),
   storeSecond 512 128 inb_S1024x1536_S512x128_512_128 (scaled (k0_pay22 (normAt x0 x1 512 inb_S1024x1024_S512x1024_512_0) (colsAt x2 1536 inb_S1024x3072_S1024x256_0_1536))),
   storeSecond 512 0 inb_S1024x1536_S512x128_512_0 (scaled (k0_pay21 (normAt x0 x1 512 inb_S1024x1024_S512x1024_512_0) (colsAt x2 1536 inb_S1024x3072_S1024x256_0_1536))),
   storeSecond 0 1408 inb_S1024x1536_S512x128_0_1408 (k0_pay22 (normAt x0 x1 0 inb_S1024x1024_S512x1024_0_0) (colsAt x2 2816 inb_S1024x3072_S1024x256_0_2816)),
   storeSecond 0 1280 inb_S1024x1536_S512x128_0_1280 (k0_pay21 (normAt x0 x1 0 inb_S1024x1024_S512x1024_0_0) (colsAt x2 2816 inb_S1024x3072_S1024x256_0_2816)),
   storeSecond 0 1152 inb_S1024x1536_S512x128_0_1152 (k0_pay22 (normAt x0 x1 0 inb_S1024x1024_S512x1024_0_0) (colsAt x2 2560 inb_S1024x3072_S1024x256_0_2560)),
   storeSecond 0 1024 inb_S1024x1536_S512x128_0_1024 (k0_pay21 (normAt x0 x1 0 inb_S1024x1024_S512x1024_0_0) (colsAt x2 2560 inb_S1024x3072_S1024x256_0_2560)),
   storeSecond 0 896 inb_S1024x1536_S512x128_0_896 (k0_pay22 (normAt x0 x1 0 inb_S1024x1024_S512x1024_0_0) (colsAt x2 2304 inb_S1024x3072_S1024x256_0_2304)),
   storeSecond 0 768 inb_S1024x1536_S512x128_0_768 (k0_pay21 (normAt x0 x1 0 inb_S1024x1024_S512x1024_0_0) (colsAt x2 2304 inb_S1024x3072_S1024x256_0_2304)),
   storeSecond 0 640 inb_S1024x1536_S512x128_0_640 (k0_pay22 (normAt x0 x1 0 inb_S1024x1024_S512x1024_0_0) (colsAt x2 2048 inb_S1024x3072_S1024x256_0_2048)),
   storeSecond 0 512 inb_S1024x1536_S512x128_0_512 (k0_pay21 (normAt x0 x1 0 inb_S1024x1024_S512x1024_0_0) (colsAt x2 2048 inb_S1024x3072_S1024x256_0_2048)),
   storeSecond 0 384 inb_S1024x1536_S512x128_0_384 (scaled (k0_pay22 (normAt x0 x1 0 inb_S1024x1024_S512x1024_0_0) (colsAt x2 1792 inb_S1024x3072_S1024x256_0_1792))),
   storeSecond 0 256 inb_S1024x1536_S512x128_0_256 (scaled (k0_pay21 (normAt x0 x1 0 inb_S1024x1024_S512x1024_0_0) (colsAt x2 1792 inb_S1024x3072_S1024x256_0_1792))),
   storeSecond 0 128 inb_S1024x1536_S512x128_0_128 (scaled (k0_pay22 (normAt x0 x1 0 inb_S1024x1024_S512x1024_0_0) (colsAt x2 1536 inb_S1024x3072_S1024x256_0_1536))),
   storeSecond 0 0 inb_S1024x1536_S512x128_0_0 (scaled (k0_pay21 (normAt x0 x1 0 inb_S1024x1024_S512x1024_0_0) (colsAt x2 1536 inb_S1024x3072_S1024x256_0_1536)))]

theorem storesFirst_ok : ∀ p ∈ storesFirst x0 x1 x2 x3 x4, ∀ x : p.1.shape.Idx, p.2 x = (fun y : S1024x1536.Idx => outFirst x0 x1 x2 x3 x4 (y 0) (y 1)) (p.1.emb x) := by
  unfold storesFirst
  refine List.forall_mem_cons.2 ⟨storeFirst_ok 512 _ 1408 _ (holds_right x0 x1 x2 512 _ 1280 1408 _ rfl) (outFirst x0 x1 x2 x3 x4) fun R j h h' => first_value x0 x1 x2 x3 x4 R j (by omega), ?_⟩
  refine List.forall_mem_cons.2 ⟨storeFirst_ok 512 _ 1280 _ (holds_left x0 x1 x2 512 _ 1280 _) (outFirst x0 x1 x2 x3 x4) fun R j h h' => first_value x0 x1 x2 x3 x4 R j (by omega), ?_⟩
  refine List.forall_mem_cons.2 ⟨storeFirst_ok 512 _ 1152 _ (holds_right x0 x1 x2 512 _ 1024 1152 _ rfl) (outFirst x0 x1 x2 x3 x4) fun R j h h' => first_value x0 x1 x2 x3 x4 R j (by omega), ?_⟩
  refine List.forall_mem_cons.2 ⟨storeFirst_ok 512 _ 1024 _ (holds_left x0 x1 x2 512 _ 1024 _) (outFirst x0 x1 x2 x3 x4) fun R j h h' => first_value x0 x1 x2 x3 x4 R j (by omega), ?_⟩
  refine List.forall_mem_cons.2 ⟨storeFirst_ok 512 _ 896 _ (holds_rope x3 x4 (holds_right x0 x1 x2 512 _ 768 896 _ rfl) rfl (by decide) _) (outFirst x0 x1 x2 x3 x4) fun R j h h' => first_key x0 x1 x2 x3 x4 R j (by omega) (by omega), ?_⟩
  refine List.forall_mem_cons.2 ⟨storeFirst_ok 512 _ 768 _ (holds_rope x3 x4 (holds_left x0 x1 x2 512 _ 768 _) rfl (by decide) _) (outFirst x0 x1 x2 x3 x4) fun R j h h' => first_key x0 x1 x2 x3 x4 R j (by omega) (by omega), ?_⟩
  refine List.forall_mem_cons.2 ⟨storeFirst_ok 512 _ 640 _ (holds_rope x3 x4 (holds_right x0 x1 x2 512 _ 512 640 _ rfl) rfl (by decide) _) (outFirst x0 x1 x2 x3 x4) fun R j h h' => first_key x0 x1 x2 x3 x4 R j (by omega) (by omega), ?_⟩
  refine List.forall_mem_cons.2 ⟨storeFirst_ok 512 _ 512 _ (holds_rope x3 x4 (holds_left x0 x1 x2 512 _ 512 _) rfl (by decide) _) (outFirst x0 x1 x2 x3 x4) fun R j h h' => first_key x0 x1 x2 x3 x4 R j (by omega) (by omega), ?_⟩
  refine List.forall_mem_cons.2 ⟨storeFirst_ok 512 _ 384 _ (holds_scaled (holds_rope x3 x4 (holds_right x0 x1 x2 512 _ 256 384 _ rfl) rfl (by decide) _)) (outFirst x0 x1 x2 x3 x4) fun R j h h' => first_query x0 x1 x2 x3 x4 R j (by omega), ?_⟩
  refine List.forall_mem_cons.2 ⟨storeFirst_ok 512 _ 256 _ (holds_scaled (holds_rope x3 x4 (holds_left x0 x1 x2 512 _ 256 _) rfl (by decide) _)) (outFirst x0 x1 x2 x3 x4) fun R j h h' => first_query x0 x1 x2 x3 x4 R j (by omega), ?_⟩
  refine List.forall_mem_cons.2 ⟨storeFirst_ok 512 _ 128 _ (holds_scaled (holds_rope x3 x4 (holds_right x0 x1 x2 512 _ 0 128 _ rfl) rfl (by decide) _)) (outFirst x0 x1 x2 x3 x4) fun R j h h' => first_query x0 x1 x2 x3 x4 R j (by omega), ?_⟩
  refine List.forall_mem_cons.2 ⟨storeFirst_ok 512 _ 0 _ (holds_scaled (holds_rope x3 x4 (holds_left x0 x1 x2 512 _ 0 _) rfl (by decide) _)) (outFirst x0 x1 x2 x3 x4) fun R j h h' => first_query x0 x1 x2 x3 x4 R j (by omega), ?_⟩
  refine List.forall_mem_cons.2 ⟨storeFirst_ok 0 _ 1408 _ (holds_right x0 x1 x2 0 _ 1280 1408 _ rfl) (outFirst x0 x1 x2 x3 x4) fun R j h h' => first_value x0 x1 x2 x3 x4 R j (by omega), ?_⟩
  refine List.forall_mem_cons.2 ⟨storeFirst_ok 0 _ 1280 _ (holds_left x0 x1 x2 0 _ 1280 _) (outFirst x0 x1 x2 x3 x4) fun R j h h' => first_value x0 x1 x2 x3 x4 R j (by omega), ?_⟩
  refine List.forall_mem_cons.2 ⟨storeFirst_ok 0 _ 1152 _ (holds_right x0 x1 x2 0 _ 1024 1152 _ rfl) (outFirst x0 x1 x2 x3 x4) fun R j h h' => first_value x0 x1 x2 x3 x4 R j (by omega), ?_⟩
  refine List.forall_mem_cons.2 ⟨storeFirst_ok 0 _ 1024 _ (holds_left x0 x1 x2 0 _ 1024 _) (outFirst x0 x1 x2 x3 x4) fun R j h h' => first_value x0 x1 x2 x3 x4 R j (by omega), ?_⟩
  refine List.forall_mem_cons.2 ⟨storeFirst_ok 0 _ 896 _ (holds_rope x3 x4 (holds_right x0 x1 x2 0 _ 768 896 _ rfl) rfl (by decide) _) (outFirst x0 x1 x2 x3 x4) fun R j h h' => first_key x0 x1 x2 x3 x4 R j (by omega) (by omega), ?_⟩
  refine List.forall_mem_cons.2 ⟨storeFirst_ok 0 _ 768 _ (holds_rope x3 x4 (holds_left x0 x1 x2 0 _ 768 _) rfl (by decide) _) (outFirst x0 x1 x2 x3 x4) fun R j h h' => first_key x0 x1 x2 x3 x4 R j (by omega) (by omega), ?_⟩
  refine List.forall_mem_cons.2 ⟨storeFirst_ok 0 _ 640 _ (holds_rope x3 x4 (holds_right x0 x1 x2 0 _ 512 640 _ rfl) rfl (by decide) _) (outFirst x0 x1 x2 x3 x4) fun R j h h' => first_key x0 x1 x2 x3 x4 R j (by omega) (by omega), ?_⟩
  refine List.forall_mem_cons.2 ⟨storeFirst_ok 0 _ 512 _ (holds_rope x3 x4 (holds_left x0 x1 x2 0 _ 512 _) rfl (by decide) _) (outFirst x0 x1 x2 x3 x4) fun R j h h' => first_key x0 x1 x2 x3 x4 R j (by omega) (by omega), ?_⟩
  refine List.forall_mem_cons.2 ⟨storeFirst_ok 0 _ 384 _ (holds_scaled (holds_rope x3 x4 (holds_right x0 x1 x2 0 _ 256 384 _ rfl) rfl (by decide) _)) (outFirst x0 x1 x2 x3 x4) fun R j h h' => first_query x0 x1 x2 x3 x4 R j (by omega), ?_⟩
  refine List.forall_mem_cons.2 ⟨storeFirst_ok 0 _ 256 _ (holds_scaled (holds_rope x3 x4 (holds_left x0 x1 x2 0 _ 256 _) rfl (by decide) _)) (outFirst x0 x1 x2 x3 x4) fun R j h h' => first_query x0 x1 x2 x3 x4 R j (by omega), ?_⟩
  refine List.forall_mem_cons.2 ⟨storeFirst_ok 0 _ 128 _ (holds_scaled (holds_rope x3 x4 (holds_right x0 x1 x2 0 _ 0 128 _ rfl) rfl (by decide) _)) (outFirst x0 x1 x2 x3 x4) fun R j h h' => first_query x0 x1 x2 x3 x4 R j (by omega), ?_⟩
  refine List.forall_mem_cons.2 ⟨storeFirst_ok 0 _ 0 _ (holds_scaled (holds_rope x3 x4 (holds_left x0 x1 x2 0 _ 0 _) rfl (by decide) _)) (outFirst x0 x1 x2 x3 x4) fun R j h h' => first_query x0 x1 x2 x3 x4 R j (by omega), ?_⟩
  simp

theorem storesSecond_ok : ∀ p ∈ storesSecond x0 x1 x2, ∀ x : p.1.shape.Idx, p.2 x = (fun y : S1024x1536.Idx => outSecond x0 x1 x2 (y 0) (y 1)) (p.1.emb x) := by
  unfold storesSecond
  refine List.forall_mem_cons.2 ⟨storeSecond_ok 512 1408 _ 2944 rfl (holds_right x0 x1 x2 512 _ 2816 2944 _ rfl) (outSecond x0 x1 x2) fun R j h h' => second_rest x0 x1 x2 R j (by omega), ?_⟩
  refine List.forall_mem_cons.2 ⟨storeSecond_ok 512 1280 _ 2816 rfl (holds_left x0 x1 x2 512 _ 2816 _) (outSecond x0 x1 x2) fun R j h h' => second_rest x0 x1 x2 R j (by omega), ?_⟩
  refine List.forall_mem_cons.2 ⟨storeSecond_ok 512 1152 _ 2688 rfl (holds_right x0 x1 x2 512 _ 2560 2688 _ rfl) (outSecond x0 x1 x2) fun R j h h' => second_rest x0 x1 x2 R j (by omega), ?_⟩
  refine List.forall_mem_cons.2 ⟨storeSecond_ok 512 1024 _ 2560 rfl (holds_left x0 x1 x2 512 _ 2560 _) (outSecond x0 x1 x2) fun R j h h' => second_rest x0 x1 x2 R j (by omega), ?_⟩
  refine List.forall_mem_cons.2 ⟨storeSecond_ok 512 896 _ 2432 rfl (holds_right x0 x1 x2 512 _ 2304 2432 _ rfl) (outSecond x0 x1 x2) fun R j h h' => second_rest x0 x1 x2 R j (by omega), ?_⟩
  refine List.forall_mem_cons.2 ⟨storeSecond_ok 512 768 _ 2304 rfl (holds_left x0 x1 x2 512 _ 2304 _) (outSecond x0 x1 x2) fun R j h h' => second_rest x0 x1 x2 R j (by omega), ?_⟩
  refine List.forall_mem_cons.2 ⟨storeSecond_ok 512 640 _ 2176 rfl (holds_right x0 x1 x2 512 _ 2048 2176 _ rfl) (outSecond x0 x1 x2) fun R j h h' => second_rest x0 x1 x2 R j (by omega), ?_⟩
  refine List.forall_mem_cons.2 ⟨storeSecond_ok 512 512 _ 2048 rfl (holds_left x0 x1 x2 512 _ 2048 _) (outSecond x0 x1 x2) fun R j h h' => second_rest x0 x1 x2 R j (by omega), ?_⟩
  refine List.forall_mem_cons.2 ⟨storeSecond_ok 512 384 _ 1920 rfl (holds_scaled (holds_right x0 x1 x2 512 _ 1792 1920 _ rfl)) (outSecond x0 x1 x2) fun R j h h' => second_query x0 x1 x2 R j (by omega), ?_⟩
  refine List.forall_mem_cons.2 ⟨storeSecond_ok 512 256 _ 1792 rfl (holds_scaled (holds_left x0 x1 x2 512 _ 1792 _)) (outSecond x0 x1 x2) fun R j h h' => second_query x0 x1 x2 R j (by omega), ?_⟩
  refine List.forall_mem_cons.2 ⟨storeSecond_ok 512 128 _ 1664 rfl (holds_scaled (holds_right x0 x1 x2 512 _ 1536 1664 _ rfl)) (outSecond x0 x1 x2) fun R j h h' => second_query x0 x1 x2 R j (by omega), ?_⟩
  refine List.forall_mem_cons.2 ⟨storeSecond_ok 512 0 _ 1536 rfl (holds_scaled (holds_left x0 x1 x2 512 _ 1536 _)) (outSecond x0 x1 x2) fun R j h h' => second_query x0 x1 x2 R j (by omega), ?_⟩
  refine List.forall_mem_cons.2 ⟨storeSecond_ok 0 1408 _ 2944 rfl (holds_right x0 x1 x2 0 _ 2816 2944 _ rfl) (outSecond x0 x1 x2) fun R j h h' => second_rest x0 x1 x2 R j (by omega), ?_⟩
  refine List.forall_mem_cons.2 ⟨storeSecond_ok 0 1280 _ 2816 rfl (holds_left x0 x1 x2 0 _ 2816 _) (outSecond x0 x1 x2) fun R j h h' => second_rest x0 x1 x2 R j (by omega), ?_⟩
  refine List.forall_mem_cons.2 ⟨storeSecond_ok 0 1152 _ 2688 rfl (holds_right x0 x1 x2 0 _ 2560 2688 _ rfl) (outSecond x0 x1 x2) fun R j h h' => second_rest x0 x1 x2 R j (by omega), ?_⟩
  refine List.forall_mem_cons.2 ⟨storeSecond_ok 0 1024 _ 2560 rfl (holds_left x0 x1 x2 0 _ 2560 _) (outSecond x0 x1 x2) fun R j h h' => second_rest x0 x1 x2 R j (by omega), ?_⟩
  refine List.forall_mem_cons.2 ⟨storeSecond_ok 0 896 _ 2432 rfl (holds_right x0 x1 x2 0 _ 2304 2432 _ rfl) (outSecond x0 x1 x2) fun R j h h' => second_rest x0 x1 x2 R j (by omega), ?_⟩
  refine List.forall_mem_cons.2 ⟨storeSecond_ok 0 768 _ 2304 rfl (holds_left x0 x1 x2 0 _ 2304 _) (outSecond x0 x1 x2) fun R j h h' => second_rest x0 x1 x2 R j (by omega), ?_⟩
  refine List.forall_mem_cons.2 ⟨storeSecond_ok 0 640 _ 2176 rfl (holds_right x0 x1 x2 0 _ 2048 2176 _ rfl) (outSecond x0 x1 x2) fun R j h h' => second_rest x0 x1 x2 R j (by omega), ?_⟩
  refine List.forall_mem_cons.2 ⟨storeSecond_ok 0 512 _ 2048 rfl (holds_left x0 x1 x2 0 _ 2048 _) (outSecond x0 x1 x2) fun R j h h' => second_rest x0 x1 x2 R j (by omega), ?_⟩
  refine List.forall_mem_cons.2 ⟨storeSecond_ok 0 384 _ 1920 rfl (holds_scaled (holds_right x0 x1 x2 0 _ 1792 1920 _ rfl)) (outSecond x0 x1 x2) fun R j h h' => second_query x0 x1 x2 R j (by omega), ?_⟩
  refine List.forall_mem_cons.2 ⟨storeSecond_ok 0 256 _ 1792 rfl (holds_scaled (holds_left x0 x1 x2 0 _ 1792 _)) (outSecond x0 x1 x2) fun R j h h' => second_query x0 x1 x2 R j (by omega), ?_⟩
  refine List.forall_mem_cons.2 ⟨storeSecond_ok 0 128 _ 1664 rfl (holds_scaled (holds_right x0 x1 x2 0 _ 1536 1664 _ rfl)) (outSecond x0 x1 x2) fun R j h h' => second_query x0 x1 x2 R j (by omega), ?_⟩
  refine List.forall_mem_cons.2 ⟨storeSecond_ok 0 0 _ 1536 rfl (holds_scaled (holds_left x0 x1 x2 0 _ 1536 _)) (outSecond x0 x1 x2) fun R j h h' => second_query x0 x1 x2 R j (by omega), ?_⟩
  simp

end Rows

section Run

variable (c : Dev nD)
    (arg1 : Memref sig .tc .vmem S1024x1024 .f32) (harg1 : arg1.IsWhole)
    (arg2 : Memref sig .tc .vmem S1x1024 .f32) (harg2 : arg2.IsWhole)
    (arg3 : Memref sig .tc .vmem S1024x3072 .bf16) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x1536 .f32) (harg6 : arg6.IsWhole)
    (arg7 : Memref sig .tc .vmem S1024x1536 .bf16) (harg7 : arg7.IsWhole)
    (x0 : Vec Ideal S1024x1024 .f32) (x1 : Vec Ideal S1x1024 .f32) (x2 : Vec Ideal S1024x3072 .bf16) (x3 x4 : Vec Ideal S1024x128 .f32)

/-- What the body stores in the first output block. -/
theorem first_stores (i : grid0.Coords) : (kernelRun0_A (F := Ideal) c i arg1 harg1 arg2 harg2 arg3 harg3 arg4 harg4 arg5 harg5 arg6 harg6 arg7 harg7 x0 x1 x2 x3 x4).1
    = storesFirst x0 x1 x2 x3 x4 := by
  unfold storesFirst normAt colsAt tabAt
  simp only [← load_unread arg1 harg1 x0, ← load_unread arg2 harg2 x1, ← load_unread arg3 harg3 x2, ← load_unread arg4 harg4 x3, ← load_unread arg5 harg5 x4]
  rfl

/-- What the body stores in the second output block. -/
theorem second_stores (i : grid0.Coords) : (kernelRun0_A (F := Ideal) c i arg1 harg1 arg2 harg2 arg3 harg3 arg4 harg4 arg5 harg5 arg6 harg6 arg7 harg7 x0 x1 x2 x3 x4).2.1
    = storesSecond x0 x1 x2 := by
  unfold storesSecond normAt colsAt
  simp only [← load_unread arg1 harg1 x0, ← load_unread arg2 harg2 x1, ← load_unread arg3 harg3 x2]
  rfl

/-- The first output block a grid point leaves. -/
theorem first_spec (i : grid0.Coords) (y : S1024x1536.Idx) :
    out0_A_5 (F := Ideal) c i arg1 harg1 arg2 harg2 arg3 harg3 arg4 harg4 arg5 harg5 arg6 harg6 arg7 harg7 x0 x1 x2 x3 x4 y = outFirst x0 x1 x2 x3 x4 (y 0) (y 1) := by
  have hc := cover0_A_5 (F := Ideal) c i arg1 harg1 arg2 harg2 arg3 harg3 arg4 harg4 arg5 harg5 arg6 harg6 arg7 harg7 x0 x1 x2 x3 x4
  unfold out0_A_5
  rw [View.read_writes_eq_canon _ _ _ hc]
  rw [first_stores] at hc ⊢
  exact View.canon_apply_of_pieces (fun y : S1024x1536.Idx => outFirst x0 x1 x2 x3 x4 (y 0) (y 1)) _ (storesFirst_ok x0 x1 x2 x3 x4) y (hc y)

/-- The second output block a grid point leaves. -/
theorem second_spec (i : grid0.Coords) (y : S1024x1536.Idx) :
    out0_A_6 (F := Ideal) c i arg1 harg1 arg2 harg2 arg3 harg3 arg4 harg4 arg5 harg5 arg6 harg6 arg7 harg7 x0 x1 x2 x3 x4 y = outSecond x0 x1 x2 (y 0) (y 1) := by
  have hc := cover0_A_6 (F := Ideal) c i arg1 harg1 arg2 harg2 arg3 harg3 arg4 harg4 arg5 harg5 arg6 harg6 arg7 harg7 x0 x1 x2 x3 x4
  unfold out0_A_6
  rw [View.read_writes_eq_canon _ _ _ hc]
  rw [second_stores] at hc ⊢
  exact View.canon_apply_of_pieces (fun y : S1024x1536.Idx => outSecond x0 x1 x2 (y 0) (y 1)) _ (storesSecond_ok x0 x1 x2) y (hc y)

end Run

end Cert.Kernel5Ideal.Even

end
-- ==== Proof.Even.Value.lean ====
module

public import proofs.«01_k».proof.Proof.Even.Run
public import Idealize.ShloMosaic.Lib.IdealHost
public import Idealize.ShloMosaic.Lib.Claim

@[expose] public section

set_option maxRecDepth 16384

noncomputable section

/-! The two result arrays of the even layers' projection kernel. -/

namespace Cert.Kernel5Ideal.Even

open Cert.Kernel5Ideal Cert.Kernel5Ideal.Gen Idealize.ShloMosaic Idealize.ShloMosaic.TcCoe Idealize.SL.Sem Cert.Ffn Cert.Even

variable (m : (ℓ : Loc nD τ sig) → Buf (Elt Ideal) ℓ) (c : Dev nD)

/-! What the kernel finds in the arrays that the host prepares. -/

theorem entry1 (e : Fin 1024) : (V m c main_v51 : S1x1024.Idx → EReal) (ix2 0 e) = m ((c : Thread nD τ).loc main_arg1) (ix2 0 e) := by
  simp only [V, hostOps0, hostOps0_1, hostOps0_2, hostOps0_3, hostOps0_4, List.flatten_cons, List.flatten_nil, List.cons_append, List.nil_append, List.append_nil]
  entry_read
  pointwise []

theorem entry2 (e : Fin 1024) (j : Fin 3072) : (V m c main_v54 : S1024x3072.Idx → EReal) (ix2 e j) = m ((c : Thread nD τ).loc main_arg2) (ix3 0 e j) := by
  simp only [V, hostOps0, hostOps0_1, hostOps0_2, hostOps0_3, hostOps0_4, List.flatten_cons, List.flatten_nil, List.cons_append, List.nil_append, List.append_nil]
  entry_read
  pointwise []

theorem entry3 (s : Fin 4096) (l : Fin 128) : (V m c main_v21 : S4096x128.Idx → EReal) (ix2 s l) = cosRow s.val l := by
  unfold cosRow angle
  simp only [V, hostOps0, hostOps0_1, hostOps0_2, hostOps0_3, hostOps0_4, List.flatten_cons, List.flatten_nil, List.cons_append, List.nil_append, List.append_nil]
  entry_read
  pointwise []
  split_ifs <;> rfl

theorem entry4 (s : Fin 4096) (l : Fin 128) : (V m c main_v26 : S4096x128.Idx → EReal) (ix2 s l) = sinRow s.val l := by
  unfold sinRow angle
  simp only [V, hostOps0, hostOps0_1, hostOps0_2, hostOps0_3, hostOps0_4, List.flatten_cons, List.flatten_nil, List.cons_append, List.nil_append, List.append_nil]
  entry_read
  pointwise []
  split_ifs <;> rfl

/-- Where each window's block lies, from the first output's. -/
theorem places : ∀ t : Fin cfg0.N,
    (win0_0.index t = ![win0_5.index t 0, 0] ∧ win0_1.index t = ![0, 0] ∧ win0_2.index t = ![0, 0])
    ∧ (win0_3.index t = ![win0_5.index t 0 % 4, 0] ∧ win0_4.index t = ![win0_5.index t 0 % 4, 0])
    ∧ win0_5.index t 0 < 32 ∧ win0_5.index t 1 = 0 ∧ win0_6.index t 0 = win0_5.index t 0 ∧ win0_6.index t 1 = 0 :=
  (by decide +kernel : ∀ t : Fin grid0.N,
    (win0_0.index t = ![win0_5.index t 0, 0] ∧ win0_1.index t = ![0, 0] ∧ win0_2.index t = ![0, 0])
    ∧ (win0_3.index t = ![win0_5.index t 0 % 4, 0] ∧ win0_4.index t = ![win0_5.index t 0 % 4, 0])
    ∧ win0_5.index t 0 < 32 ∧ win0_5.index t 1 = 0 ∧ win0_6.index t 0 = win0_5.index t 0 ∧ win0_6.index t 1 = 0)

/-! The blocks that a grid point finds, from the arguments. -/

theorem block0 (t : Fin cfg0.N) (r : Fin 1024) (e : Fin 1024) (R : Fin 32768) (hR : R.val = win0_5.index t 0 * 1024 + r.val) :
    iblk m c 0 t (ix2 r e) = m ((c : Thread nD τ).loc main_arg0) (ix2 R e) := by
  obtain ⟨⟨p0, p1, p2⟩, ⟨p3, p4⟩, q0, q1, q2, q3⟩ := places t
  rw [← congrFun (V_main_arg0 m c) (ix2 R e)]
  blk_ext [iblk, p0]
  all_goals omega

theorem block1 (t : Fin cfg0.N) (e : Fin 1024) : iblk m c 1 t (ix2 0 e) = m ((c : Thread nD τ).loc main_arg1) (ix2 0 e) := by
  obtain ⟨⟨p0, p1, p2⟩, ⟨p3, p4⟩, q0, q1, q2, q3⟩ := places t
  rw [← entry1 m c e]
  blk_ext [iblk, p1]
  all_goals omega

theorem block2 (t : Fin cfg0.N) (e : Fin 1024) (j : Fin 3072) : iblk m c 2 t (ix2 e j) = m ((c : Thread nD τ).loc main_arg2) (ix3 0 e j) := by
  obtain ⟨⟨p0, p1, p2⟩, ⟨p3, p4⟩, q0, q1, q2, q3⟩ := places t
  rw [← entry2 m c e j]
  blk_ext [iblk, p2]
  all_goals omega

theorem block3 (t : Fin cfg0.N) (r : Fin 1024) (l : Fin 128) (R : Fin 32768) (hR : R.val = win0_5.index t 0 * 1024 + r.val) :
    iblk m c 3 t (ix2 r l) = cosRow (R.val % 4096) l := by
  obtain ⟨⟨p0, p1, p2⟩, ⟨p3, p4⟩, q0, q1, q2, q3⟩ := places t
  rw [← entry3 m c ⟨R.val % 4096, by omega⟩ l]
  blk_ext [iblk, p3]
  all_goals omega

theorem block4 (t : Fin cfg0.N) (r : Fin 1024) (l : Fin 128) (R : Fin 32768) (hR : R.val = win0_5.index t 0 * 1024 + r.val) :
    iblk m c 4 t (ix2 r l) = sinRow (R.val % 4096) l := by
  obtain ⟨⟨p0, p1, p2⟩, ⟨p3, p4⟩, q0, q1, q2, q3⟩ := places t
  rw [← entry4 m c ⟨R.val % 4096, by omega⟩ l]
  blk_ext [iblk, p4]
  all_goals omega

/-- Row `R`'s projection, from the arguments. -/
def row (R : Fin 32768) : Fin 3072 → EReal :=
  proj (fun e => m ((c : Thread nD τ).loc main_arg0) (ix2 R e)) (fun e => m ((c : Thread nD τ).loc main_arg1) (ix2 0 e)) fun e j => m ((c : Thread nD τ).loc main_arg2) (ix3 0 e j)

/-- The first output block of a grid point, from the arguments. -/
theorem firstBlock (t : Fin cfg0.N) (r : Fin 1024) (j : Fin 1536) (R : Fin 32768) (hR : R.val = win0_5.index t 0 * 1024 + r.val) :
    outFirst (iblk m c 0 t) (iblk m c 1 t) (iblk m c 2 t) (iblk m c 3 t) (iblk m c 4 t) r j
      = first scale (row m c R) (cosRow (R.val % 4096)) (sinRow (R.val % 4096)) j := by
  unfold outFirst
  rw [show prj (iblk m c 0 t) (iblk m c 1 t) (iblk m c 2 t) r = row m c R by
      unfold prj row
      simp only [fun e => block0 m c t r e R hR, block1 m c t, block2 m c t],
    show tab (iblk m c 3 t) r = cosRow (R.val % 4096) from funext fun l => block3 m c t r l R hR,
    show tab (iblk m c 4 t) r = sinRow (R.val % 4096) from funext fun l => block4 m c t r l R hR]

/-- The first output block of a grid point. -/
theorem outs_first (t : Fin cfg0.N) (y : S1024x1536.Idx) : (outsAt0 m c t).1 y = outFirst (iblk m c 0 t) (iblk m c 1 t) (iblk m c 2 t) (iblk m c 3 t) (iblk m c 4 t) (y 0) (y 1) := by
  unfold outsAt0
  dsimp only
  exact first_spec ..

theorem row_lt (t : Fin cfg0.N) (r : Fin 1024) : win0_5.index t 0 * 1024 + r.val < 32768 := by
  have := (places t).2.2.1
  omega

theorem place_first (t : Fin cfg0.N) (y : S1024x1536.Idx) :
    (ix2 (⟨win0_5.index t 0 * 1024 + (y 0).val, row_lt t (y 0)⟩ : Fin 32768) (y 1 : Fin 1536) : S32768x1536.Idx) = (win0_5.blk t).view.emb y := by
  have q := (places t).2.2.2.1
  refine funext fun a => Fin.ext ?_
  fin_cases a
  · blk_simp
    rfl
  · blk_simp [q]
    rfl

/-- The first result, from the arguments. -/
def firstArr (j : S32768x1536.Idx) : EReal := first scale (row m c (j 0)) (cosRow ((j 0).val % 4096)) (sinRow ((j 0).val % 4096)) (j 1)

theorem first_eq : (dats m 0 c).arrAt 5 cfg0.N = firstArr m c := by
  refine (dats m 0 c).arrAt_eq_of_covers 5 _ (by decide +kernel) fun t hf y => ?_
  blk_simp
  rw [after0_5]
  refine (outs_first m c t y).trans ((firstBlock m c t (y 0) (y 1) ⟨_, row_lt t (y 0)⟩ rfl).trans ?_)
  exact congrArg (firstArr m c) (place_first t y)

theorem second_eq : (dats m 0 c).arrAt 6 cfg0.N = fun j : S32768x1536.Idx => second scale (row m c (j 0)) (j 1) := by
  refine (dats m 0 c).arrAt_eq_of_covers 6 _ (by decide +kernel) fun t hf y => ?_
  blk_simp
  rw [after0_6]
  unfold outsAt0
  dsimp only
  refine Eq.trans (second_spec ..) ?_
  have l0 : (y 0).val < 1024 := (y 0).isLt
  have h0 : ((win0_6.blk t).view.emb y 0).val = win0_5.index t 0 * 1024 + (y 0).val := by
    blk_simp [(places t).2.2.2.2.1]
  have h1 : (win0_6.blk t).view.emb y 1 = (y 1 : Fin 1536) := Fin.ext (by
    blk_simp [(places t).2.2.2.2.2]
    try omega)
  unfold outSecond prj row
  simp only [fun e => block0 m c t (y 0) e _ h0, block1 m c t, block2 m c t]
  rw [h1]

end Cert.Kernel5Ideal.Even

end
-- ==== Proof.Even.Ref.lean ====
module

public import proofs.«01_k».proof.Proof.Gen.Reference5Ideal.Read
public import proofs.«01_k».proof.Proof.Even.Run
public import proofs.«01_k».proof.Proof.Mla.Soft
public import Idealize.ShloMosaic.Lib.IdealHost

@[expose] public section

set_option maxRecDepth 16384

noncomputable section

/-! The value of the reference of the even layers' projections. -/

namespace Cert.Reference5Ideal.RefValue

open Cert.Reference5Ideal Cert.Reference5Ideal.Read Idealize.ShloMosaic Cert.Ffn Cert.Even Cert.Kernel5Ideal.Even

/-- The queries' scale: an eighth over the logarithm of two. -/
theorem scale_eq : Ideal.div (Ideal.ofBits .f32 0x3E000000#32) (Ideal.log (Ideal.ofBits .f32 0x40000000#32)) = scale := by
  have h8 : Ideal.ofBits .f32 0x3E000000#32 = ((8⁻¹ : ℝ) : EReal) := by
    simp [Ideal.ofBits, Ideal.ieee, -EReal.coe_mul]; norm_num
  have hl : Real.log 256 = 8 * Real.log 2 := by
    rw [show (256 : ℝ) = 2 ^ 8 by norm_num, Real.log_pow]; norm_num
  have h0 : Real.log 2 ≠ 0 := (Real.log_pos (by norm_num)).ne'
  rw [h8, Soft.log_two_f32, show scale = (((Real.log 256)⁻¹ : ℝ) : EReal) from rfl, hl, mul_inv]
  unfold Ideal.div
  rw [if_neg (by exact_mod_cast h0), ← EReal.coe_inv, ← EReal.coe_mul]

variable (x0 : (⟨S32768x1024, .f32⟩ : BufTy).Contents (Elt Ideal)) (x1 : (⟨S4x1024, .f32⟩ : BufTy).Contents (Elt Ideal))
  (x2 : (⟨S2x1024x3072, .f32⟩ : BufTy).Contents (Elt Ideal))

theorem norm_at (R : Fin 32768) (d : Fin 1024) : val_main_v14 (F := Ideal) x0 x1 (ix2 R d)
    = rms (fun e => x0 (ix2 R e)) (fun e => x1 (ix2 0 e)) d := by
  unfold rms
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- Row `R`'s projection. -/
def row (R : Fin 32768) : Fin 3072 → EReal := proj (fun e => x0 (ix2 R e)) (fun e => x1 (ix2 0 e)) fun e j => x2 (ix3 0 e j)

theorem proj_at (R : Fin 32768) (j : Fin 3072) : val_main_v17 (F := Ideal) x0 x1 x2 (ix2 R j) = row x0 x1 x2 R j := by
  unfold row proj
  simp only [← norm_at]
  pointwise [val_main_v17, val_main_v16, val_main_v15]

/-- A position's angle at one of the 32 frequencies. -/
theorem angle_at (s : Fin 4096) (k : Fin 32) : val_main_v39 (F := Ideal) (ix2 s k) = angle s.val k.val := by
  unfold angle
  pointwise [val_main_v39, val_main_v38, val_main_v37, val_main_v36, val_main_v35, val_main_v34, val_main_v33, val_main_v32, val_main_v31, val_main_v30, val_main_v29, val_main_v28, val_main_v27, val_main_v26, val_main_v25, val_main_v24, val_main_cst_2, val_main_cst_3, val_main_cst_4, val_main_cst_5]

theorem cos_at (s : Fin 4096) (k : Fin 32) : val_main_v40 (F := Ideal) (ix2 s k) = Ideal.cos (angle s.val k.val) := by
  rw [← angle_at]
  rfl

theorem sin_at (s : Fin 4096) (k : Fin 32) : val_main_v41 (F := Ideal) (ix2 s k) = Ideal.sin (angle s.val k.val) := by
  rw [← angle_at]
  rfl

theorem scale_at (R : Fin 32768) (j : Fin 512) : val_main_v65 (F := Ideal) (ix2 R j) = scale := by
  rw [← scale_eq]
  pointwise [val_main_v65, val_main_v43, val_main_v42, val_main_cst_6, val_main_cst_7]

theorem queries_at (R : Fin 32768) (j : Fin 512) : val_main_v64 (F := Ideal) x0 x1 x2 (ix2 R j)
    = rope (row x0 x1 x2 R) (cosRow (R.val % 4096)) (sinRow (R.val % 4096)) ⟨j.val, by omega⟩ := by
  pointwise [val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v18]
  simp only [proj_at, cos_at, sin_at]
  unfold rope partner cosRow sinRow
  have e : j.val % 128 % 64 = j.val % 64 := by omega
  have e' : j.val % 64 = j.val % 64 := by omega
  simp only [e, e']
  by_cases h : j.val % 64 < 32
  · simp only [dif_pos h, if_pos h]
    rw [mul_neg, sub_eq_add_neg]
    exact congrArg (fun k => row x0 x1 x2 R _ * _ + -(row x0 x1 x2 R k * _)) (Fin.ext (show j.val / 64 * 64 + (32 + j.val % 64) = (j.val + 32) % 3072 by omega))
  · simp only [dif_neg h, if_neg h]
    exact congrArg₂ (fun k l => row x0 x1 x2 R k * _ + row x0 x1 x2 R l * _)
      (Fin.ext (show j.val / 64 * 64 + (32 + (j.val % 64 - 32)) = j.val by omega))
      (Fin.ext (show j.val / 64 * 64 + (j.val % 64 - 32) = j.val - 32 by omega))

theorem keys_at (R : Fin 32768) (j : Fin 512) : val_main_v87 (F := Ideal) x0 x1 x2 (ix2 R j)
    = rope (row x0 x1 x2 R) (cosRow (R.val % 4096)) (sinRow (R.val % 4096)) ⟨512 + j.val, by omega⟩ := by
  pointwise [val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v19]
  simp only [proj_at, cos_at, sin_at]
  unfold rope partner cosRow sinRow
  have e : (512 + j.val) % 128 % 64 = j.val % 64 := by omega
  have e' : (512 + j.val) % 64 = j.val % 64 := by omega
  simp only [e, e']
  by_cases h : j.val % 64 < 32
  · simp only [dif_pos h, if_pos h]
    rw [mul_neg, sub_eq_add_neg]
    exact congrArg (fun k => row x0 x1 x2 R _ * _ + -(row x0 x1 x2 R k * _)) (Fin.ext (show 512 + (j.val / 64 * 64 + (32 + j.val % 64)) = ((512 + j.val) + 32) % 3072 by omega))
  · simp only [dif_neg h, if_neg h]
    exact congrArg₂ (fun k l => row x0 x1 x2 R k * _ + row x0 x1 x2 R l * _)
      (Fin.ext (show 512 + (j.val / 64 * 64 + (32 + (j.val % 64 - 32))) = (512 + j.val) by omega))
      (Fin.ext (show 512 + (j.val / 64 * 64 + (j.val % 64 - 32)) = (512 + j.val) - 32 by omega))

theorem first_at (R : Fin 32768) (j : Fin 1536) : val_main_v88 (F := Ideal) x0 x1 x2 (ix2 R j)
    = first scale (row x0 x1 x2 R) (cosRow (R.val % 4096)) (sinRow (R.val % 4096)) j := by
  pointwise [val_main_v88, val_main_v66, val_main_v20]
  simp only [proj_at, queries_at, keys_at, scale_at]
  unfold first
  by_cases h : j.val < 512
  · simp only [dif_pos h, if_pos h]
  · by_cases h' : j.val - 512 < 512
    · simp only [dif_neg h, if_neg h, dif_pos h', if_pos (show j.val < 1024 by omega)]
      exact congrArg _ (Fin.ext (show 512 + (j.val - 512) = j.val by omega))
    · simp only [dif_neg h, if_neg h, dif_neg h', if_neg (show ¬ j.val < 1024 by omega)]
      exact congrArg _ (Fin.ext (show 1024 + (j.val - 512 - 512) = j.val by omega))

theorem second_at (R : Fin 32768) (j : Fin 1536) : val_main_v92 (F := Ideal) x0 x1 x2 (ix2 R j) = second scale (row x0 x1 x2 R) j := by
  rw [← scale_eq]
  pointwise [val_main_v92, val_main_v91, val_main_v90, val_main_v89, val_main_v43, val_main_v42, val_main_cst_6, val_main_cst_7, val_main_v21, val_main_v22, val_main_v23]
  simp only [proj_at]
  unfold second
  by_cases h : j.val < 512
  · simp only [dif_pos h, if_pos h]
  · by_cases h' : j.val - 512 < 512
    · simp only [dif_neg h, if_neg h, dif_pos h']
      exact congrArg _ (Fin.ext (show 2048 + (j.val - 512) = 1536 + j.val by omega))
    · simp only [dif_neg h, if_neg h, dif_neg h']
      exact congrArg _ (Fin.ext (show 2560 + (j.val - 512 - 512) = 1536 + j.val by omega))

end Cert.Reference5Ideal.RefValue

end
-- ==== Proof.Odd.Spec.lean ====
module

public import proofs.«01_k».proof.Proof.Even.Spec

@[expose] public section

noncomputable section

/-! The projections of an odd layer as functions of one row. Columns are natural numbers; only those that a row has are ever read. -/

namespace Cert.Odd

open Idealize.ShloMosaic Cert.Ffn Cert.Even

/-- A row of `n` numbers normalised to root mean square one, times `g`; `z` is `n` as a float32. -/
def rmsOf {n : ℕ} (z : BitVec 32) (h g : Fin n → EReal) (d : Fin n) : EReal :=
  h d * Ideal.rsqrt (Ideal.div (∑ e, h e * h e) (Ideal.ofBits .f32 z) + Ideal.ofBits .f32 0x358637BD#32) * g d

/-- Column `c` turned with the column 32 away in its head of 64. -/
def turn64 (p : ℕ → EReal) (co si : Fin 128 → EReal) (c : ℕ) : EReal :=
  p c * co ⟨c % 128, Nat.mod_lt _ (by decide)⟩ + (if c % 64 < 32 then p (c + 32) else p (c - 32)) * si ⟨c % 128, Nat.mod_lt _ (by decide)⟩

/-- Column `c` turned with the column 16 away in its block of 128. -/
def turn128 (p : ℕ → EReal) (co si : Fin 128 → EReal) (c : ℕ) : EReal :=
  p c * co ⟨c % 128, Nat.mod_lt _ (by decide)⟩ + (if c % 128 < 80 then p (c + 16) else p (c - 16)) * si ⟨c % 128, Nat.mod_lt _ (by decide)⟩

/-- Column `j` of the queries and keys, from the padded projections `P`, the padded latent queries `Q` and latent keys `K`. -/
def wide (sc lat : EReal) (P Q K : ℕ → EReal) (co si cr sr : Fin 128 → EReal) (j : ℕ) : EReal :=
  if j < 512 then turn64 P co si j * sc
  else if j < 768 then turn64 P co si j
  else if j < 1024 then 0
  else if j < 2048 then turn128 Q cr sr (j - 1024) * lat
  else K (j - 2048) + turn128 P cr sr (1664 + j % 128)

/-- The angle of position `s` at frequency `k` of the latent heads. -/
def latentAngle (s k : ℕ) : EReal := FloatOps.sitofp (F := Ideal) (φ := .f32) (BitVec.ofNat 32 s)
  * Ideal.pow (Ideal.ofBits .f32 0x461C4000#32) (Ideal.div (-(Ideal.ofBits .f32 0x40000000#32 * FloatOps.sitofp (F := Ideal) (φ := .f32) (BitVec.ofNat 32 k))) (Ideal.ofBits .f32 0x42000000#32))

/-- Position `s`'s cosines of the latent heads: one outside of the 32 columns that turn. -/
def latentCos (s : ℕ) (l : Fin 128) : EReal :=
  if l.val < 64 then 1 else if l.val < 80 then Ideal.cos (latentAngle s (l.val - 64)) else if l.val < 96 then Ideal.cos (latentAngle s (l.val - 80)) else 1

/-- Position `s`'s signed sines of the latent heads: zero outside of the 32 columns that turn. -/
def latentSin (s : ℕ) (l : Fin 128) : EReal :=
  if l.val < 64 then 0 else if l.val < 80 then -Ideal.sin (latentAngle s (l.val - 64)) else if l.val < 96 then Ideal.sin (latentAngle s (l.val - 80)) else 0

/-- Number `i` of the 32 numbers `f` turned at position `s`. -/
def turn32 (s : ℕ) (f : ℕ → EReal) (i : ℕ) : EReal :=
  if i < 16 then f i * Ideal.cos (latentAngle s i) + f (i + 16) * -Ideal.sin (latentAngle s i)
  else f i * Ideal.cos (latentAngle s (i - 16)) + f (i - 16) * Ideal.sin (latentAngle s (i - 16))

/-- A head's column `l` of 128: 64 as they are, 32 turned, 32 zeros. -/
def head (s : ℕ) (a f : ℕ → EReal) (l : ℕ) : EReal :=
  if l < 64 then a l else if l < 96 then turn32 s f (l - 64) else 0

/-- Column `j` of the queries and keys, from the projections `p`, the latent queries `q` and the latent keys and values `kv`. -/
def narrow (sc lat : EReal) (s : ℕ) (p q kv : ℕ → EReal) (j : ℕ) : EReal :=
  if j < 512 then turn64 p (cosRow s) (sinRow s) j * sc
  else if j < 768 then turn64 p (cosRow s) (sinRow s) (512 + (j - 512) / 128 * 64 + j % 64)
  else if j < 1024 then 0
  else if j < 2048 then head s (fun l => q ((j - 1024) / 128 * 96 + l)) (fun i => q ((j - 1024) / 128 * 96 + 64 + i)) (j % 128) * lat
  else head s (fun l => kv ((j - 2048) / 128 * 128 + l)) (fun i => p (1408 + i)) (j % 128)

section Row

variable (h g : Fin 1024 → EReal) (w : Fin 1024 → ℕ → EReal) (gq : Fin 384 → EReal) (wq : Fin 384 → ℕ → EReal) (gk : Fin 256 → EReal) (wk : Fin 256 → ℕ → EReal)

/-- Column `k` of a normalised row's projections. -/
def projCol (k : ℕ) : EReal := ∑ e, rms h g e * w e k

/-- The queries' latent, normalised. -/
def queryLatent : Fin 384 → EReal := rmsOf 0x43C00000#32 (fun k => projCol h g w (768 + k.val)) gq

/-- Column `k` of the latent queries. -/
def queryCol (k : ℕ) : EReal := ∑ e, queryLatent h g w gq e * wq e k

/-- The keys' and values' latent, normalised. -/
def kvLatent : Fin 256 → EReal := rmsOf 0x43800000#32 (fun k => projCol h g w (1152 + k.val)) gk

/-- Column `k` of the latent keys and values. -/
def kvCol (k : ℕ) : EReal := ∑ e, kvLatent h g w gk e * wk e k

end Row

section Match

variable {P Q K p q kv : ℕ → EReal} {s : ℕ}

theorem one_side (x y : EReal) : x * 1 + y * 0 = x := by rw [mul_one, mul_zero, add_zero]

/-- Turning a padded block is turning the 32 columns that turn. -/
theorem turn128_head {f a b : ℕ → EReal} {c : ℕ} (hc : c % 128 = 0)
    (h1 : ∀ l, l < 64 → f (c + l) = a l) (h2 : ∀ i, i < 32 → f (c + 64 + i) = b i) (h3 : ∀ l, 96 ≤ l → l < 128 → f (c + l) = 0) (l : ℕ) (hl : l < 128) :
    turn128 f (latentCos s) (latentSin s) (c + l) = head s a b l := by
  have e : (c + l) % 128 = l := by omega
  unfold turn128 head latentCos latentSin
  simp only [e]
  by_cases l1 : l < 64
  · simp only [if_pos l1]
    rw [one_side, h1 l l1]
  · by_cases l2 : l < 80
    · unfold turn32
      simp only [if_neg l1, if_pos l2, if_pos (show l < 96 by omega), if_pos (show l - 64 < 16 by omega)]
      rw [← h2 (l - 64) (by omega), ← h2 (l - 64 + 16) (by omega), show c + 64 + (l - 64) = c + l by omega, show c + 64 + (l - 64 + 16) = c + l + 16 by omega]
    · by_cases l3 : l < 96
      · unfold turn32
        simp only [if_neg l1, if_neg l2, if_pos l3, if_neg (show ¬ l - 64 < 16 by omega)]
        rw [← h2 (l - 64) (by omega), ← h2 (l - 64 - 16) (by omega), show c + 64 + (l - 64) = c + l by omega, show c + 64 + (l - 64 - 16) = c + l - 16 by omega,
          show l - 64 - 16 = l - 80 by omega]
      · simp only [if_neg l1, if_neg l2, if_neg l3]
        rw [one_side, h3 l (by omega) hl]

/-- The padded layout holds the same columns. -/
theorem wide_eq {sc lat : EReal} (hp1 : ∀ c, c < 512 → P c = p c) (hp2 : ∀ c, 512 ≤ c → c < 768 → P c = p (512 + (c - 512) / 128 * 64 + c % 64))
    (hp3 : ∀ i, i < 32 → P (1664 + 64 + i) = p (1408 + i)) (hp4 : ∀ l, l < 64 ∨ 96 ≤ l → l < 128 → P (1664 + l) = 0)
    (hq1 : ∀ h l, h < 8 → l < 96 → Q (h * 128 + l) = q (h * 96 + l)) (hq2 : ∀ h l, h < 8 → 96 ≤ l → l < 128 → Q (h * 128 + l) = 0)
    (hk1 : ∀ h l, h < 8 → l < 64 → K (h * 128 + l) = kv (h * 128 + l)) (hk2 : ∀ h l, h < 8 → 64 ≤ l → l < 128 → K (h * 128 + l) = 0) (j : ℕ) (hj : j < 3072) :
    wide sc lat P Q K (cosRow s) (sinRow s) (latentCos s) (latentSin s) j = narrow sc lat s p q kv j := by
  unfold wide narrow
  by_cases j1 : j < 512
  · simp only [if_pos j1]
    unfold turn64
    rw [hp1 j j1]
    by_cases h : j % 64 < 32
    · simp only [if_pos h]
      rw [hp1 (j + 32) (by omega)]
    · simp only [if_neg h]
      rw [hp1 (j - 32) (by omega)]
  · by_cases j2 : j < 768
    · simp only [if_neg j1, if_pos j2]
      unfold turn64 cosRow sinRow
      have e : (512 + (j - 512) / 128 * 64 + j % 64) % 64 = j % 64 := by omega
      have e1 : (512 + (j - 512) / 128 * 64 + j % 64) % 128 % 64 = j % 64 := by omega
      have e2 : j % 128 % 64 = j % 64 := by omega
      simp only [e, e1, e2]
      rw [hp2 j (by omega) j2]
      by_cases h : j % 64 < 32
      · simp only [if_pos h]
        rw [hp2 (j + 32) (by omega) (by omega), show 512 + (j + 32 - 512) / 128 * 64 + (j + 32) % 64 = 512 + (j - 512) / 128 * 64 + j % 64 + 32 by omega]
      · simp only [if_neg h]
        rw [hp2 (j - 32) (by omega) (by omega), show 512 + (j - 32 - 512) / 128 * 64 + (j - 32) % 64 = 512 + (j - 512) / 128 * 64 + j % 64 - 32 by omega]
    · by_cases j3 : j < 1024
      · simp only [if_neg j1, if_neg j2, if_pos j3]
      · by_cases j4 : j < 2048
        · simp only [if_neg j1, if_neg j2, if_neg j3, if_pos j4]
          have e : j - 1024 = (j - 1024) / 128 * 128 + j % 128 := by omega
          rw [e, turn128_head (s := s) (a := fun l => q ((j - 1024) / 128 * 96 + l)) (b := fun i => q ((j - 1024) / 128 * 96 + 64 + i)) (by omega)
            (fun l hl => hq1 _ l (by omega) (by omega)) (fun i hi => by rw [Nat.add_assoc, hq1 _ (64 + i) (by omega) (by omega), Nat.add_assoc])
            (fun l h1 h2 => hq2 _ l (by omega) h1 h2) (j % 128) (Nat.mod_lt _ (by decide)), ← e]
        · simp only [if_neg j1, if_neg j2, if_neg j3, if_neg j4]
          rw [turn128_head (s := s) (a := fun _ => 0) (b := fun i => p (1408 + i)) (c := 1664) rfl
            (fun l hl => hp4 l (.inl hl) (by omega)) hp3 (fun l h1 h2 => hp4 l (.inr h1) h2) (j % 128) (Nat.mod_lt _ (by decide))]
          have e : j - 2048 = (j - 2048) / 128 * 128 + j % 128 := by omega
          unfold head
          by_cases l1 : j % 128 < 64
          · simp only [if_pos l1]
            rw [add_zero]
            exact (congrArg K e).trans (hk1 _ _ (by omega) l1)
          · simp only [if_neg l1]
            rw [e, hk2 _ _ (by omega) (by omega) (Nat.mod_lt _ (by decide)), zero_add]

end Match

end Cert.Odd

end
-- ==== Proof.Odd.Run.lean ====
module

public import proofs.«01_k».proof.Proof.Gen.Kernel6Ideal.Value
public import proofs.«01_k».proof.Proof.Odd.Spec

@[expose] public section

set_option maxRecDepth 16384
set_option maxHeartbeats 1000000

noncomputable section

/-! What one grid point of the odd layers' projection kernel leaves in its three output blocks. -/

namespace Cert.Kernel6Ideal.Odd

open Cert.Kernel6Ideal Cert.Kernel6Ideal.Gen Idealize.ShloMosaic Idealize.ShloMosaic.TcCoe Idealize.SL.Sem Cert.Ffn Cert.Even Cert.Odd

/-- The scale of the queries. -/
abbrev scale : EReal := Named.named (F := Ideal) κ "scale" (φ := .f32) 0x3E38AA3B#32

/-- The scale of the latent queries. -/
abbrev latent : EReal := Named.named (F := Ideal) κ "latent" (φ := .f32) 0x3E16C740#32

theorem norm_apply (x : Vec Ideal S512x1024 .f32) (g : Vec Ideal S1x1024 .f32) (r : Fin 512) (d : Fin 1024) :
    k0_pay2 x g (ix2 r d) = rms (fun e => x (ix2 r e)) (fun e => g (ix2 0 e)) d := by
  unfold rms
  pointwise [k0_pay2]

/-- The mask of the first halves of the heads. -/
def mask64 : IVec S512x128 1 := k0_pay9 (Scalar.select (Scalar.cmpi .eq 64#32 0#32) 1#32 64#32) k0_pay7 k0_pay8

/-- The mask of the columns below 80. -/
def mask80 : IVec S512x128 1 := k0_pay10 (iota .tc S512x128 32 [1] iota_S512x128_d1_w32)

theorem mask64_apply (r : Fin 512) (l : Fin 128) : mask64 (ix2 r l) = if l.val % 64 < 32 then 1#1 else 0#1 := by
  pointwise [mask64, k0_pay9, k0_pay7, k0_pay8]
  revert l
  decide +kernel

theorem mask80_apply (r : Fin 512) (l : Fin 128) : mask80 (ix2 r l) = if l.val < 80 then 1#1 else 0#1 := by
  pointwise [mask80, k0_pay10]
  revert l
  decide +kernel

section Pieces

variable (n : Vec Ideal S512x1024 .bf16) (w : Vec Ideal S1024x256 .bf16) (w' : Vec Ideal S1024x768 .bf16) (lt : Vec Ideal S512x768 .f32)
  (a : Vec Ideal S512x384 .bf16) (wa : Vec Ideal S384x256 .bf16) (b : Vec Ideal S512x256 .bf16) (wb : Vec Ideal S256x256 .bf16) (r : Fin 512) (l : Fin 128)

theorem left_apply : k0_pay20 n w (ix2 r l) = ∑ e, n (ix2 r e) * w (ix2 e ⟨l.val, by omega⟩) := by
  pointwise [k0_pay20, k0_pay19]

theorem right_apply : k0_pay21 n w (ix2 r l) = ∑ e, n (ix2 r e) * w (ix2 e ⟨128 + l.val, by omega⟩) := by
  pointwise [k0_pay21, k0_pay19]

theorem rest_apply (j : Fin 768) : k0_pay11 n w' (ix2 r j) = ∑ e, n (ix2 r e) * w' (ix2 e j) := by
  pointwise [k0_pay11]

theorem qleft_apply : k0_pay41 a wa (ix2 r l) = ∑ e, a (ix2 r e) * wa (ix2 e ⟨l.val, by omega⟩) := by
  pointwise [k0_pay41, k0_pay40]

theorem qright_apply : k0_pay42 a wa (ix2 r l) = ∑ e, a (ix2 r e) * wa (ix2 e ⟨128 + l.val, by omega⟩) := by
  pointwise [k0_pay42, k0_pay40]

/-- The left half of a block of latent keys. -/
def kleft : Vec Ideal S512x128 .f32 := extractStridedSlice S512x128 ![0, 0] (k0_pay47 b wb) slices_S512x256_o0_0_S512x128

/-- The right half of a block of latent keys. -/
def kright : Vec Ideal S512x128 .f32 := extractStridedSlice S512x128 ![0, 128] (k0_pay47 b wb) slices_S512x256_o0_128_S512x128

theorem kleft_apply : kleft b wb (ix2 r l) = ∑ e, b (ix2 r e) * wb (ix2 e ⟨l.val, by omega⟩) := by
  pointwise [kleft, k0_pay47]

theorem kright_apply : kright b wb (ix2 r l) = ∑ e, b (ix2 r e) * wb (ix2 e ⟨128 + l.val, by omega⟩) := by
  pointwise [kright, k0_pay47]

theorem qan_apply (g : Vec Ideal S1x384 .f32) (k : Fin 384) : k0_pay24 lt g (ix2 r k)
    = rmsOf 0x43C00000#32 (fun k : Fin 384 => lt (ix2 r ⟨k.val, by omega⟩)) (fun k => g (ix2 0 k)) k := by
  unfold rmsOf
  pointwise [k0_pay24]

theorem kvan_apply (g : Vec Ideal S1x256 .f32) (k : Fin 256) : k0_pay28 (k0_pay25 lt) (k0_pay26 g) (k0_pay27 lt) (ix2 r k)
    = rmsOf 0x43800000#32 (fun k : Fin 256 => lt (ix2 r ⟨384 + k.val, by omega⟩)) (fun k => g (ix2 0 k)) k := by
  unfold rmsOf
  pointwise [k0_pay28, k0_pay25, k0_pay26, k0_pay27]

/-- The latent heads' shared key before its rotation. -/
def pe : Vec Ideal S512x128 .f32 := extractStridedSlice S512x128 ![0, 640] lt slices_S512x768_o0_640_S512x128

theorem pe_apply : pe lt (ix2 r l) = lt (ix2 r ⟨640 + l.val, by omega⟩) := by
  pointwise [pe]

theorem values_apply (d : Fin 512) (w : Vec Ideal S512x256 .bf16) : k0_pay63 (k0_pay62 b w) (ix3 0 d r) = ∑ e, w (ix2 d e) * b (ix2 r e) := by
  pointwise [k0_pay63, k0_pay62]

theorem slides_apply (w : Vec Ideal S128x1024 .bf16) : k0_pay61 n w (ix3 0 l r) = ∑ e, w (ix2 l e) * n (ix2 r e) := by
  pointwise [k0_pay61]

end Pieces

/-- A block of columns after the rotation within heads of 64. -/
def turned64 (b co si : Vec Ideal S512x128 .f32) : Vec Ideal S512x128 .f32 :=
  addf (F := Ideal) (φ := .f32) (mulf (F := Ideal) (φ := .f32) b co)
    (mulf (F := Ideal) (φ := .f32) (select mask64 (dynamicRotate 1 96#32 none b rotates_S512x128_d1) (dynamicRotate 1 32#32 none b rotates_S512x128_d1)) si)

theorem turned64_apply (b co si : Vec Ideal S512x128 .f32) (r : Fin 512) (l : Fin 128) : turned64 b co si (ix2 r l) = b (ix2 r l) * co (ix2 r l)
    + (if l.val % 64 < 32 then b (ix2 r ⟨(l.val + 128 - 96) % 128, Nat.mod_lt _ (by decide)⟩) else b (ix2 r ⟨(l.val + 128 - 32) % 128, Nat.mod_lt _ (by decide)⟩)) * si (ix2 r l) := by
  pointwise [turned64, mask64_apply]
  split_ifs <;> rfl

/-- A block of columns after the rotation of its columns 64 to 95. -/
def turned128 (b co si : Vec Ideal S512x128 .f32) : Vec Ideal S512x128 .f32 :=
  addf (F := Ideal) (φ := .f32) (mulf (F := Ideal) (φ := .f32) b co)
    (mulf (F := Ideal) (φ := .f32) (select mask80 (dynamicRotate 1 112#32 none b rotates_S512x128_d1) (dynamicRotate 1 16#32 none b rotates_S512x128_d1)) si)

theorem turned128_apply (b co si : Vec Ideal S512x128 .f32) (r : Fin 512) (l : Fin 128) : turned128 b co si (ix2 r l) = b (ix2 r l) * co (ix2 r l)
    + (if l.val < 80 then b (ix2 r ⟨(l.val + 128 - 112) % 128, Nat.mod_lt _ (by decide)⟩) else b (ix2 r ⟨(l.val + 128 - 16) % 128, Nat.mod_lt _ (by decide)⟩)) * si (ix2 r l) := by
  pointwise [turned128, mask80_apply]
  split_ifs <;> rfl

/-- A block of columns times a number. -/
def scaled (z : EReal) (b : Vec Ideal S512x128 .f32) : Vec Ideal S512x128 .f32 :=
  mulf (F := Ideal) (φ := .f32) b (broadcast S512x128 z)

theorem scaled_apply (z : EReal) (b : Vec Ideal S512x128 .f32) (i : S512x128.Idx) : scaled z b i = b i * z := rfl

/-- The sum of two blocks. -/
def plus (a b : Vec Ideal S512x128 .f32) : Vec Ideal S512x128 .f32 := addf (F := Ideal) (φ := .f32) a b

theorem plus_apply (a b : Vec Ideal S512x128 .f32) (i : S512x128.Idx) : plus a b i = a i + b i := rfl

section Rows

variable (x0 : Vec Ideal S1024x1024 .f32) (x1 : Vec Ideal S1x1024 .f32) (x2 : Vec Ideal S1024x1792 .bf16) (x3 : Vec Ideal S1x384 .f32) (x4 : Vec Ideal S384x1024 .bf16) (x5 : Vec Ideal S1x256 .f32) (x6 : Vec Ideal S256x1024 .bf16) (x7 : Vec Ideal S512x256 .bf16) (x8 : Vec Ideal S128x1024 .bf16) (x9 : Vec Ideal S1024x128 .f32) (x10 : Vec Ideal S1024x128 .f32) (x11 : Vec Ideal S1024x128 .f32) (x12 : Vec Ideal S1024x128 .f32)

/-- Row `R` of the block of rows, normalised. -/
def nrm (R : Fin 1024) : Fin 1024 → EReal := rms (fun e => x0 (ix2 R e)) fun e => x1 (ix2 0 e)

/-- Column `c` of row `R`'s projections. -/
def prj (R : Fin 1024) (c : ℕ) : EReal := ∑ e, nrm x0 x1 R e * x2 (ix2 e ⟨c % 1792, Nat.mod_lt _ (by decide)⟩)

/-- Row `R`'s latent of the queries, normalised. -/
def qan (R : Fin 1024) : Fin 384 → EReal := rmsOf 0x43C00000#32 (fun k : Fin 384 => prj x0 x1 x2 R (1024 + k.val)) fun k => x3 (ix2 0 k)

/-- Column `c` of row `R`'s latent queries. -/
def qry (R : Fin 1024) (c : ℕ) : EReal := ∑ e, qan x0 x1 x2 x3 R e * x4 (ix2 e ⟨c % 1024, Nat.mod_lt _ (by decide)⟩)

/-- Row `R`'s latent of the keys and values, normalised. -/
def kvan (R : Fin 1024) : Fin 256 → EReal := rmsOf 0x43800000#32 (fun k : Fin 256 => prj x0 x1 x2 R (1408 + k.val)) fun k => x5 (ix2 0 k)

/-- Column `c` of row `R`'s latent keys. -/
def ky (R : Fin 1024) (c : ℕ) : EReal := ∑ e, kvan x0 x1 x2 x5 R e * x6 (ix2 e ⟨c % 1024, Nat.mod_lt _ (by decide)⟩)

/-- Row `R` of a table. -/
def tab (x : Vec Ideal S1024x128 .f32) (R : Fin 1024) : Fin 128 → EReal := fun l => x (ix2 R l)

/-- The rows from `o` on, normalised. -/
def normAt (o : ℕ) (i : ∀ a, (![o, 0] : Fin 2 → ℕ) a + S512x1024.size a ≤ S1024x1024.size a) : Vec Ideal S512x1024 .bf16 :=
  k0_pay2 (View.ld x0 (Rect.unit (s := S1024x1024) ![o, 0] S512x1024.size i))
    (View.ld x1 (Rect.unit (s := S1x1024) ![0, 0] S1x1024.size inb_S1x1024_S1x1024_0_0))

/-- The rows from `o` on of a table. -/
def tabAt (x : Vec Ideal S1024x128 .f32) (o : ℕ) (i : ∀ a, (![o, 0] : Fin 2 → ℕ) a + S512x128.size a ≤ S1024x128.size a) : Vec Ideal S512x128 .f32 :=
  k0_pay3 (View.ld x (Rect.unit (s := S1024x128) ![o, 0] S512x128.size i))

/-- The weights' columns `o'` to `o' + 255`. -/
def colsAt (o' : ℕ) (i : ∀ a, (![0, o'] : Fin 2 → ℕ) a + S1024x256.size a ≤ S1024x1792.size a) : Vec Ideal S1024x256 .bf16 :=
  View.ld x2 (Rect.unit (s := S1024x1792) ![0, o'] S1024x256.size i)

/-- The latent queries' weights, columns `o'` to `o' + 255`. -/
def qcolsAt (o' : ℕ) (i : ∀ a, (![0, o'] : Fin 2 → ℕ) a + S384x256.size a ≤ S384x1024.size a) : Vec Ideal S384x256 .bf16 :=
  View.ld x4 (Rect.unit (s := S384x1024) ![0, o'] S384x256.size i)

/-- The latent keys' weights, columns `o'` to `o' + 255`. -/
def kcolsAt (o' : ℕ) (i : ∀ a, (![0, o'] : Fin 2 → ℕ) a + S256x256.size a ≤ S256x1024.size a) : Vec Ideal S256x256 .bf16 :=
  View.ld x6 (Rect.unit (s := S256x1024) ![0, o'] S256x256.size i)

/-- The latents of the rows from `o` on. -/
def latAt (o : ℕ) (i : ∀ a, (![o, 0] : Fin 2 → ℕ) a + S512x1024.size a ≤ S1024x1024.size a) : Vec Ideal S512x768 .f32 :=
  k0_pay11 (normAt x0 x1 o i) (View.ld x2 (Rect.unit (s := S1024x1792) ![0, 1024] S1024x768.size inb_S1024x1792_S1024x768_0_1024))

/-- The queries' latents of the rows from `o` on, normalised. -/
def qanAt (o : ℕ) (i : ∀ a, (![o, 0] : Fin 2 → ℕ) a + S512x1024.size a ≤ S1024x1024.size a) : Vec Ideal S512x384 .bf16 :=
  k0_pay24 (latAt x0 x1 x2 o i) (View.ld x3 (Rect.unit (s := S1x384) ![0, 0] S1x384.size inb_S1x384_S1x384_0_0))

/-- The keys' and values' latents of the rows from `o` on, normalised. -/
def kvanAt (o : ℕ) (i : ∀ a, (![o, 0] : Fin 2 → ℕ) a + S512x1024.size a ≤ S1024x1024.size a) : Vec Ideal S512x256 .bf16 :=
  k0_pay28 (k0_pay25 (latAt x0 x1 x2 o i)) (k0_pay26 (View.ld x5 (Rect.unit (s := S1x256) ![0, 0] S1x256.size inb_S1x256_S1x256_0_0))) (k0_pay27 (latAt x0 x1 x2 o i))

theorem normAt_apply (o : ℕ) (i) (r : Fin 512) (d : Fin 1024) (R : Fin 1024) (hR : R.val = o + r.val) :
    normAt x0 x1 o i (ix2 r d) = nrm x0 x1 R d := by
  obtain ⟨R, hlt⟩ := R
  obtain rfl : R = o + r.val := hR
  unfold normAt nrm
  rw [norm_apply]
  refine congrFun (congrArg₂ rms (funext fun e => ?_) (funext fun e => ?_)) d
  · pointwise []
  · pointwise []

theorem tabAt_apply (x : Vec Ideal S1024x128 .f32) (o : ℕ) (i) (r : Fin 512) (l : Fin 128) (R : Fin 1024) (hR : R.val = o + r.val) :
    tabAt x o i (ix2 r l) = tab x R l := by
  obtain ⟨R, hlt⟩ := R
  obtain rfl : R = o + r.val := hR
  unfold tabAt tab
  pointwise [k0_pay3]

theorem latAt_apply (o : ℕ) (i) (r : Fin 512) (j : Fin 768) (R : Fin 1024) (hR : R.val = o + r.val) :
    latAt x0 x1 x2 o i (ix2 r j) = prj x0 x1 x2 R (1024 + j.val) := by
  unfold latAt prj
  rw [rest_apply]
  refine Finset.sum_congr rfl fun e _ => ?_
  rw [normAt_apply x0 x1 o i r e R hR]
  refine congrArg (HMul.hMul _) ?_
  pointwise []
  exact congrArg x2 (congrArg (ix2 e) (Fin.ext (show 1024 + j.val = (1024 + j.val) % 1792 by omega)))

theorem qanAt_apply (o : ℕ) (i) (r : Fin 512) (k : Fin 384) (R : Fin 1024) (hR : R.val = o + r.val) :
    qanAt x0 x1 x2 x3 o i (ix2 r k) = qan x0 x1 x2 x3 R k := by
  unfold qanAt qan
  rw [qan_apply]
  refine congrFun (congrArg₂ (rmsOf _) (funext fun e => ?_) (funext fun e => ?_)) k
  · exact latAt_apply x0 x1 x2 o i r _ R hR
  · pointwise []

theorem kvanAt_apply (o : ℕ) (i) (r : Fin 512) (k : Fin 256) (R : Fin 1024) (hR : R.val = o + r.val) :
    kvanAt x0 x1 x2 x5 o i (ix2 r k) = kvan x0 x1 x2 x5 R k := by
  unfold kvanAt kvan
  rw [kvan_apply]
  refine congrFun (congrArg₂ (rmsOf _) (funext fun e => ?_) (funext fun e => ?_)) k
  · exact (latAt_apply x0 x1 x2 o i r _ R hR).trans (congrArg (prj x0 x1 x2 R) (show 1024 + (384 + e.val) = 1408 + e.val by omega))
  · pointwise []

/-- The block holds `G`'s columns from `j0` on of the rows from `o` on. -/
def Holds (b : Vec Ideal S512x128 .f32) (o j0 : ℕ) (G : Fin 1024 → ℕ → EReal) : Prop :=
  ∀ (r : Fin 512) (l : Fin 128) (R : Fin 1024), R.val = o + r.val → b (ix2 r l) = G R (j0 + l.val)

theorem holds_left (o : ℕ) (i) (o' j0 : ℕ) (i') (h : o' = j0) (ho : o' + 256 ≤ 1792) : Holds (k0_pay20 (normAt x0 x1 o i) (colsAt x2 o' i')) o j0 (prj x0 x1 x2) := by
  intro r l R hR
  subst h
  rw [left_apply]
  unfold prj colsAt
  refine Finset.sum_congr rfl fun e _ => ?_
  rw [normAt_apply x0 x1 o i r e R hR]
  refine congrArg (HMul.hMul _) ?_
  pointwise []
  exact congrArg x2 (congrArg (ix2 e) (Fin.ext (by show o' + l.val = (o' + l.val) % 1792; omega)))

theorem holds_qleft (o : ℕ) (i) (o' j0 : ℕ) (i') (h : o' = j0) (ho : o' + 256 ≤ 1024) : Holds (k0_pay41 (qanAt x0 x1 x2 x3 o i) (qcolsAt x4 o' i')) o j0 (qry x0 x1 x2 x3 x4) := by
  intro r l R hR
  subst h
  rw [qleft_apply]
  unfold qry qcolsAt
  refine Finset.sum_congr rfl fun e _ => ?_
  rw [qanAt_apply x0 x1 x2 x3 o i r e R hR]
  refine congrArg (HMul.hMul _) ?_
  pointwise []
  exact congrArg x4 (congrArg (ix2 e) (Fin.ext (by show o' + l.val = (o' + l.val) % 1024; omega)))

theorem holds_kleft (o : ℕ) (i) (o' j0 : ℕ) (i') (h : o' = j0) (ho : o' + 256 ≤ 1024) : Holds (kleft (kvanAt x0 x1 x2 x5 o i) (kcolsAt x6 o' i')) o j0 (ky x0 x1 x2 x5 x6) := by
  intro r l R hR
  subst h
  rw [kleft_apply]
  unfold ky kcolsAt
  refine Finset.sum_congr rfl fun e _ => ?_
  rw [kvanAt_apply x0 x1 x2 x5 o i r e R hR]
  refine congrArg (HMul.hMul _) ?_
  pointwise []
  exact congrArg x6 (congrArg (ix2 e) (Fin.ext (by show o' + l.val = (o' + l.val) % 1024; omega)))

theorem holds_right (o : ℕ) (i) (o' j0 : ℕ) (i') (h : j0 = o' + 128) (ho : o' + 256 ≤ 1792) : Holds (k0_pay21 (normAt x0 x1 o i) (colsAt x2 o' i')) o j0 (prj x0 x1 x2) := by
  intro r l R hR
  subst h
  rw [right_apply]
  unfold prj colsAt
  refine Finset.sum_congr rfl fun e _ => ?_
  rw [normAt_apply x0 x1 o i r e R hR]
  refine congrArg (HMul.hMul _) ?_
  pointwise []
  exact congrArg x2 (congrArg (ix2 e) (Fin.ext (by show o' + (128 + l.val) = (o' + 128 + l.val) % 1792; omega)))

theorem holds_qright (o : ℕ) (i) (o' j0 : ℕ) (i') (h : j0 = o' + 128) (ho : o' + 256 ≤ 1024) : Holds (k0_pay42 (qanAt x0 x1 x2 x3 o i) (qcolsAt x4 o' i')) o j0 (qry x0 x1 x2 x3 x4) := by
  intro r l R hR
  subst h
  rw [qright_apply]
  unfold qry qcolsAt
  refine Finset.sum_congr rfl fun e _ => ?_
  rw [qanAt_apply x0 x1 x2 x3 o i r e R hR]
  refine congrArg (HMul.hMul _) ?_
  pointwise []
  exact congrArg x4 (congrArg (ix2 e) (Fin.ext (by show o' + (128 + l.val) = (o' + 128 + l.val) % 1024; omega)))

theorem holds_kright (o : ℕ) (i) (o' j0 : ℕ) (i') (h : j0 = o' + 128) (ho : o' + 256 ≤ 1024) : Holds (kright (kvanAt x0 x1 x2 x5 o i) (kcolsAt x6 o' i')) o j0 (ky x0 x1 x2 x5 x6) := by
  intro r l R hR
  subst h
  rw [kright_apply]
  unfold ky kcolsAt
  refine Finset.sum_congr rfl fun e _ => ?_
  rw [kvanAt_apply x0 x1 x2 x5 o i r e R hR]
  refine congrArg (HMul.hMul _) ?_
  pointwise []
  exact congrArg x6 (congrArg (ix2 e) (Fin.ext (by show o' + (128 + l.val) = (o' + 128 + l.val) % 1024; omega)))

theorem holds_pe (o : ℕ) (i) : Holds (pe (latAt x0 x1 x2 o i)) o 1664 (prj x0 x1 x2) := by
  intro r l R hR
  rw [pe_apply, latAt_apply x0 x1 x2 o i r _ R hR]
  exact congrArg (prj x0 x1 x2 R) (show 1024 + (640 + l.val) = 1664 + l.val by omega)

theorem holds_turn64 (x y : Vec Ideal S1024x128 .f32) {b : Vec Ideal S512x128 .f32} {o j0 : ℕ} {G : Fin 1024 → ℕ → EReal} (hb : Holds b o j0 G) (hd : j0 % 128 = 0) (i) :
    Holds (turned64 b (tabAt x o i) (tabAt y o i)) o j0 fun R => turn64 (G R) (tab x R) (tab y R) := by
  intro r l R hR
  have hl := l.isLt
  have e : (⟨(j0 + l.val) % 128, Nat.mod_lt _ (by decide)⟩ : Fin 128) = l := Fin.ext (by show (j0 + l.val) % 128 = l.val; omega)
  have e' : (j0 + l.val) % 64 = l.val % 64 := by omega
  rw [turned64_apply, tabAt_apply x o i r l R hR, tabAt_apply y o i r l R hR, hb r l R hR]
  beta_reduce
  unfold turn64
  rw [e, e']
  split_ifs with h
  · rw [hb r _ R hR]
    exact congrArg (fun k => _ + G R k * _) (show j0 + (l.val + 128 - 96) % 128 = j0 + l.val + 32 by omega)
  · rw [hb r _ R hR]
    exact congrArg (fun k => _ + G R k * _) (show j0 + (l.val + 128 - 32) % 128 = j0 + l.val - 32 by omega)

theorem holds_turn128 (x y : Vec Ideal S1024x128 .f32) {b : Vec Ideal S512x128 .f32} {o j0 : ℕ} {G : Fin 1024 → ℕ → EReal} (hb : Holds b o j0 G) (hd : j0 % 128 = 0) (i) :
    Holds (turned128 b (tabAt x o i) (tabAt y o i)) o j0 fun R => turn128 (G R) (tab x R) (tab y R) := by
  intro r l R hR
  have hl := l.isLt
  have e : (⟨(j0 + l.val) % 128, Nat.mod_lt _ (by decide)⟩ : Fin 128) = l := Fin.ext (by show (j0 + l.val) % 128 = l.val; omega)
  have e' : (j0 + l.val) % 128 = l.val := by omega
  rw [turned128_apply, tabAt_apply x o i r l R hR, tabAt_apply y o i r l R hR, hb r l R hR]
  beta_reduce
  unfold turn128
  rw [e, e']
  split_ifs with h
  · rw [hb r _ R hR]
    exact congrArg (fun k => _ + G R k * _) (show j0 + (l.val + 128 - 112) % 128 = j0 + l.val + 16 by omega)
  · rw [hb r _ R hR]
    exact congrArg (fun k => _ + G R k * _) (show j0 + (l.val + 128 - 16) % 128 = j0 + l.val - 16 by omega)

theorem holds_scaled (z : EReal) {b : Vec Ideal S512x128 .f32} {o j0 : ℕ} {G : Fin 1024 → ℕ → EReal} (hb : Holds b o j0 G) :
    Holds (scaled z b) o j0 fun R j => G R j * z := fun r l R hR => by
  rw [scaled_apply, hb r l R hR]

theorem holds_plus {a b : Vec Ideal S512x128 .f32} {o j0 j1 : ℕ} {G H : Fin 1024 → ℕ → EReal} (ha : Holds a o j0 G) (hb : Holds b o j1 H) (hd : j0 % 128 = 0) :
    Holds (plus a b) o j0 fun R j => G R j + H R (j1 + j % 128) := fun r l R hR => by
  rw [plus_apply, ha r l R hR, hb r l R hR]
  exact congrArg (fun k => _ + H R (j1 + k)) (show l.val = (j0 + l.val) % 128 by omega)

/-- Row `R` of the block of queries and keys. -/
def outWide (R : Fin 1024) (j : Fin 3072) : EReal :=
  wide scale latent (prj x0 x1 x2 R) (qry x0 x1 x2 x3 x4 R) (ky x0 x1 x2 x5 x6 R) (tab x9 R) (tab x10 R) (tab x11 R) (tab x12 R) j.val

/-- Row `R`'s latent value `d`. -/
def outValue (R : Fin 1024) (d : Fin 512) : EReal := ∑ e, x7 (ix2 d e) * kvan x0 x1 x2 x5 R e

/-- Row `R`'s sliding value `d`. -/
def outSlide (R : Fin 1024) (d : Fin 128) : EReal := ∑ e, x8 (ix2 d e) * nrm x0 x1 R e

/-- A store of queries or keys. -/
def storeWide (o j0 : ℕ) (i : ∀ a, (![o, j0] : Fin 2 → ℕ) a + S512x128.size a ≤ S1024x3072.size a) (b : Vec Ideal S512x128 .f32) : View.Piece (Elt Ideal) S1024x3072 .bf16 :=
  ⟨Rect.unit (s := S1024x3072) ![o, j0] S512x128.size i, b⟩

/-- A store of zeros. -/
def storeZero (o : ℕ) (i : ∀ a, (![o, 768] : Fin 2 → ℕ) a + S512x256.size a ≤ S1024x3072.size a) : View.Piece (Elt Ideal) S1024x3072 .bf16 :=
  ⟨Rect.unit (s := S1024x3072) ![o, 768] S512x256.size i, k0_pay60 (F := Ideal)⟩

/-- A store of latent values. -/
def storeValue (o : ℕ) (i : ∀ a, (![0, 0, o] : Fin 3 → ℕ) a + S1x512x512.size a ≤ S1x512x1024.size a) (i' : ∀ a, (![o, 0] : Fin 2 → ℕ) a + S512x1024.size a ≤ S1024x1024.size a) : View.Piece (Elt Ideal) S1x512x1024 .bf16 :=
  ⟨Rect.unit (s := S1x512x1024) ![0, 0, o] S1x512x512.size i,
    k0_pay63 (F := Ideal) (k0_pay62 (kvanAt x0 x1 x2 x5 o i') (View.ld x7 (Rect.unit (s := S512x256) ![0, 0] S512x256.size inb_S512x256_S512x256_0_0)))⟩

/-- A store of sliding values. -/
def storeSlide (o : ℕ) (i : ∀ a, (![0, 0, o] : Fin 3 → ℕ) a + S1x128x512.size a ≤ S1x128x1024.size a) (i' : ∀ a, (![o, 0] : Fin 2 → ℕ) a + S512x1024.size a ≤ S1024x1024.size a) : View.Piece (Elt Ideal) S1x128x1024 .bf16 :=
  ⟨Rect.unit (s := S1x128x1024) ![0, 0, o] S1x128x512.size i,
    k0_pay61 (F := Ideal) (normAt x0 x1 o i') (View.ld x8 (Rect.unit (s := S128x1024) ![0, 0] S128x1024.size inb_S128x1024_S128x1024_0_0))⟩

theorem storeWide_ok (o j0 : ℕ) (i) {b : Vec Ideal S512x128 .f32} {G : Fin 1024 → ℕ → EReal} {j1 : ℕ} (hb : Holds b o j1 G) (H : Fin 1024 → Fin 3072 → EReal)
    (hG : ∀ (R : Fin 1024) (j : Fin 3072) (l : ℕ), l < 128 → j.val = j0 + l → G R (j1 + l) = H R j)
    (x : (storeWide o j0 i b).1.shape.Idx) : (storeWide o j0 i b).2 x = (fun y : S1024x3072.Idx => H (y 0) (y 1)) ((storeWide o j0 i b).1.emb x) := by
  have hx : x = ix2 (x 0 : Fin 512) (x 1 : Fin 128) := eq_ix2 x
  have l1 : (x 1).val < 128 := (x 1).isLt
  have h0 : ((storeWide o j0 i b).1.emb x 0).val = o + (x 0).val := by
    show o + 1 * (x 0).val = o + (x 0).val
    omega
  have h1 : ((storeWide o j0 i b).1.emb x 1).val = j0 + (x 1).val := by
    show j0 + 1 * (x 1).val = j0 + (x 1).val
    omega
  exact (congrArg b hx).trans ((hb (x 0) (x 1) _ h0).trans (hG _ _ _ l1 h1))

theorem zeros_apply (r : Fin 512) (l : Fin 256) : k0_pay60 (F := Ideal) (ix2 r l) = 0 := by
  pointwise [k0_pay60]

theorem storeZero_ok (o : ℕ) (i) (x : (storeZero o i).1.shape.Idx) :
    (storeZero o i).2 x = (fun y : S1024x3072.Idx => outWide x0 x1 x2 x3 x4 x5 x6 x9 x10 x11 x12 (y 0) (y 1)) ((storeZero o i).1.emb x) := by
  have hx : x = ix2 (x 0 : Fin 512) (x 1 : Fin 256) := eq_ix2 x
  have l1 : (x 1).val < 256 := (x 1).isLt
  have h1 : ((storeZero o i).1.emb x 1).val = 768 + (x 1).val := by
    show 768 + 1 * (x 1).val = 768 + (x 1).val
    omega
  refine (congrArg (k0_pay60 (F := Ideal)) hx).trans ((zeros_apply _ _).trans ?_)
  beta_reduce
  unfold outWide wide
  rw [h1, if_neg (by omega), if_neg (by omega), if_pos (by omega)]

theorem storeValue_ok (o : ℕ) (i) (i') (x : (storeValue x0 x1 x2 x5 x7 o i i').1.shape.Idx) :
    (storeValue x0 x1 x2 x5 x7 o i i').2 x = (fun y : S1x512x1024.Idx => outValue x0 x1 x2 x5 x7 (y 2) (y 1)) ((storeValue x0 x1 x2 x5 x7 o i i').1.emb x) := by
  have hx : x = ix3 (0 : Fin 1) (x 1 : Fin 512) (x 2 : Fin 512) := (eq_ix3 x).trans (congrArg (fun k : Fin 1 => ix3 k (x 1 : Fin 512) (x 2 : Fin 512)) (Subsingleton.elim _ _))
  have h2 : ((storeValue x0 x1 x2 x5 x7 o i i').1.emb x 2).val = o + (x 2).val := by
    show o + 1 * (x 2).val = o + (x 2).val
    omega
  have h1 : (storeValue x0 x1 x2 x5 x7 o i i').1.emb x 1 = (x 1 : Fin 512) := Fin.ext (by
    show 0 + 1 * (x 1).val = (x 1).val
    omega)
  refine (congrArg (storeValue x0 x1 x2 x5 x7 o i i').2 hx).trans ((values_apply _ _ _ _).trans ?_)
  beta_reduce
  rw [h1]
  unfold outValue
  refine Finset.sum_congr rfl fun e _ => ?_
  rw [kvanAt_apply x0 x1 x2 x5 o i' _ e _ h2]
  refine congrArg (fun k => k * _) ?_
  pointwise []

theorem storeSlide_ok (o : ℕ) (i) (i') (x : (storeSlide x0 x1 x8 o i i').1.shape.Idx) :
    (storeSlide x0 x1 x8 o i i').2 x = (fun y : S1x128x1024.Idx => outSlide x0 x1 x8 (y 2) (y 1)) ((storeSlide x0 x1 x8 o i i').1.emb x) := by
  have hx : x = ix3 (0 : Fin 1) (x 1 : Fin 128) (x 2 : Fin 512) := (eq_ix3 x).trans (congrArg (fun k : Fin 1 => ix3 k (x 1 : Fin 128) (x 2 : Fin 512)) (Subsingleton.elim _ _))
  have h2 : ((storeSlide x0 x1 x8 o i i').1.emb x 2).val = o + (x 2).val := by
    show o + 1 * (x 2).val = o + (x 2).val
    omega
  have h1 : (storeSlide x0 x1 x8 o i i').1.emb x 1 = (x 1 : Fin 128) := Fin.ext (by
    show 0 + 1 * (x 1).val = (x 1).val
    omega)
  refine (congrArg (storeSlide x0 x1 x8 o i i').2 hx).trans ((slides_apply _ _ _ _).trans ?_)
  beta_reduce
  rw [h1]
  unfold outSlide
  refine Finset.sum_congr rfl fun e _ => ?_
  rw [normAt_apply x0 x1 o i' _ e _ h2]
  refine congrArg (fun k => k * _) ?_
  pointwise []

section Columns

variable (R : Fin 1024) (j : Fin 3072)

theorem wide_query {c : ℕ} (e : j.val = c) (h : c < 512) : turn64 (prj x0 x1 x2 R) (tab x9 R) (tab x10 R) c * scale = outWide x0 x1 x2 x3 x4 x5 x6 x9 x10 x11 x12 R j := by
  subst e
  unfold outWide wide
  rw [if_pos h]

theorem wide_key {c : ℕ} (e : j.val = c) (h : 512 ≤ c) (h' : c < 768) : turn64 (prj x0 x1 x2 R) (tab x9 R) (tab x10 R) c = outWide x0 x1 x2 x3 x4 x5 x6 x9 x10 x11 x12 R j := by
  subst e
  unfold outWide wide
  rw [if_neg (by omega), if_pos h']

theorem wide_latent {c : ℕ} (e : j.val = 1024 + c) (h : c < 1024) : turn128 (qry x0 x1 x2 x3 x4 R) (tab x11 R) (tab x12 R) c * latent = outWide x0 x1 x2 x3 x4 x5 x6 x9 x10 x11 x12 R j := by
  obtain rfl : c = j.val - 1024 := by omega
  unfold outWide wide
  rw [if_neg (by omega), if_neg (by omega), if_neg (by omega), if_pos (by omega)]

theorem wide_shared {c : ℕ} (e : j.val = 2048 + c) :
    ky x0 x1 x2 x5 x6 R c + turn128 (prj x0 x1 x2 R) (tab x11 R) (tab x12 R) (1664 + c % 128) = outWide x0 x1 x2 x3 x4 x5 x6 x9 x10 x11 x12 R j := by
  obtain rfl : c = j.val - 2048 := by omega
  unfold outWide wide
  rw [if_neg (by omega), if_neg (by omega), if_neg (by omega), if_neg (by omega), show (j.val - 2048) % 128 = j.val % 128 by omega]

end Columns

/-- The stores of queries and keys, the last one first. -/
def storesWide : List (View.Piece (Elt Ideal) S1024x3072 .bf16) :=
  [storeZero 512 inb_S1024x3072_S512x256_512_768,
   storeWide 512 2944 inb_S1024x3072_S512x128_512_2944 (plus (kright (kvanAt x0 x1 x2 x5 512 inb_S1024x1024_S512x1024_512_0) (kcolsAt x6 768 inb_S256x1024_S256x256_0_768)) (turned128 (pe (latAt x0 x1 x2 512 inb_S1024x1024_S512x1024_512_0)) (tabAt x11 512 inb_S1024x128_S512x128_512_0) (tabAt x12 512 inb_S1024x128_S512x128_512_0))),
   storeWide 512 2816 inb_S1024x3072_S512x128_512_2816 (plus (kleft (kvanAt x0 x1 x2 x5 512 inb_S1024x1024_S512x1024_512_0) (kcolsAt x6 768 inb_S256x1024_S256x256_0_768)) (turned128 (pe (latAt x0 x1 x2 512 inb_S1024x1024_S512x1024_512_0)) (tabAt x11 512 inb_S1024x128_S512x128_512_0) (tabAt x12 512 inb_S1024x128_S512x128_512_0))),
   storeWide 512 2688 inb_S1024x3072_S512x128_512_2688 (plus (kright (kvanAt x0 x1 x2 x5 512 inb_S1024x1024_S512x1024_512_0) (kcolsAt x6 512 inb_S256x1024_S256x256_0_512)) (turned128 (pe (latAt x0 x1 x2 512 inb_S1024x1024_S512x1024_512_0)) (tabAt x11 512 inb_S1024x128_S512x128_512_0) (tabAt x12 512 inb_S1024x128_S512x128_512_0))),
   storeWide 512 2560 inb_S1024x3072_S512x128_512_2560 (plus (kleft (kvanAt x0 x1 x2 x5 512 inb_S1024x1024_S512x1024_512_0) (kcolsAt x6 512 inb_S256x1024_S256x256_0_512)) (turned128 (pe (latAt x0 x1 x2 512 inb_S1024x1024_S512x1024_512_0)) (tabAt x11 512 inb_S1024x128_S512x128_512_0) (tabAt x12 512 inb_S1024x128_S512x128_512_0))),
   storeWide 512 2432 inb_S1024x3072_S512x128_512_2432 (plus (kright (kvanAt x0 x1 x2 x5 512 inb_S1024x1024_S512x1024_512_0) (kcolsAt x6 256 inb_S256x1024_S256x256_0_256)) (turned128 (pe (latAt x0 x1 x2 512 inb_S1024x1024_S512x1024_512_0)) (tabAt x11 512 inb_S1024x128_S512x128_512_0) (tabAt x12 512 inb_S1024x128_S512x128_512_0))),
   storeWide 512 2304 inb_S1024x3072_S512x128_512_2304 (plus (kleft (kvanAt x0 x1 x2 x5 512 inb_S1024x1024_S512x1024_512_0) (kcolsAt x6 256 inb_S256x1024_S256x256_0_256)) (turned128 (pe (latAt x0 x1 x2 512 inb_S1024x1024_S512x1024_512_0)) (tabAt x11 512 inb_S1024x128_S512x128_512_0) (tabAt x12 512 inb_S1024x128_S512x128_512_0))),
   storeWide 512 2176 inb_S1024x3072_S512x128_512_2176 (plus (kright (kvanAt x0 x1 x2 x5 512 inb_S1024x1024_S512x1024_512_0) (kcolsAt x6 0 inb_S256x1024_S256x256_0_0)) (turned128 (pe (latAt x0 x1 x2 512 inb_S1024x1024_S512x1024_512_0)) (tabAt x11 512 inb_S1024x128_S512x128_512_0) (tabAt x12 512 inb_S1024x128_S512x128_512_0))),
   storeWide 512 2048 inb_S1024x3072_S512x128_512_2048 (plus (kleft (kvanAt x0 x1 x2 x5 512 inb_S1024x1024_S512x1024_512_0) (kcolsAt x6 0 inb_S256x1024_S256x256_0_0)) (turned128 (pe (latAt x0 x1 x2 512 inb_S1024x1024_S512x1024_512_0)) (tabAt x11 512 inb_S1024x128_S512x128_512_0) (tabAt x12 512 inb_S1024x128_S512x128_512_0))),
   storeWide 512 1920 inb_S1024x3072_S512x128_512_1920 (scaled latent (turned128 (k0_pay42 (qanAt x0 x1 x2 x3 512 inb_S1024x1024_S512x1024_512_0) (qcolsAt x4 768 inb_S384x1024_S384x256_0_768)) (tabAt x11 512 inb_S1024x128_S512x128_512_0) (tabAt x12 512 inb_S1024x128_S512x128_512_0))),
   storeWide 512 1792 inb_S1024x3072_S512x128_512_1792 (scaled latent (turned128 (k0_pay41 (qanAt x0 x1 x2 x3 512 inb_S1024x1024_S512x1024_512_0) (qcolsAt x4 768 inb_S384x1024_S384x256_0_768)) (tabAt x11 512 inb_S1024x128_S512x128_512_0) (tabAt x12 512 inb_S1024x128_S512x128_512_0))),
   storeWide 512 1664 inb_S1024x3072_S512x128_512_1664 (scaled latent (turned128 (k0_pay42 (qanAt x0 x1 x2 x3 512 inb_S1024x1024_S512x1024_512_0) (qcolsAt x4 512 inb_S384x1024_S384x256_0_512)) (tabAt x11 512 inb_S1024x128_S512x128_512_0) (tabAt x12 512 inb_S1024x128_S512x128_512_0))),
   storeWide 512 1536 inb_S1024x3072_S512x128_512_1536 (scaled latent (turned128 (k0_pay41 (qanAt x0 x1 x2 x3 512 inb_S1024x1024_S512x1024_512_0) (qcolsAt x4 512 inb_S384x1024_S384x256_0_512)) (tabAt x11 512 inb_S1024x128_S512x128_512_0) (tabAt x12 512 inb_S1024x128_S512x128_512_0))),
   storeWide 512 1408 inb_S1024x3072_S512x128_512_1408 (scaled latent (turned128 (k0_pay42 (qanAt x0 x1 x2 x3 512 inb_S1024x1024_S512x1024_512_0) (qcolsAt x4 256 inb_S384x1024_S384x256_0_256)) (tabAt x11 512 inb_S1024x128_S512x128_512_0) (tabAt x12 512 inb_S1024x128_S512x128_512_0))),
   storeWide 512 1280 inb_S1024x3072_S512x128_512_1280 (scaled latent (turned128 (k0_pay41 (qanAt x0 x1 x2 x3 512 inb_S1024x1024_S512x1024_512_0) (qcolsAt x4 256 inb_S384x1024_S384x256_0_256)) (tabAt x11 512 inb_S1024x128_S512x128_512_0) (tabAt x12 512 inb_S1024x128_S512x128_512_0))),
   storeWide 512 1152 inb_S1024x3072_S512x128_512_1152 (scaled latent (turned128 (k0_pay42 (qanAt x0 x1 x2 x3 512 inb_S1024x1024_S512x1024_512_0) (qcolsAt x4 0 inb_S384x1024_S384x256_0_0)) (tabAt x11 512 inb_S1024x128_S512x128_512_0) (tabAt x12 512 inb_S1024x128_S512x128_512_0))),
   storeWide 512 1024 inb_S1024x3072_S512x128_512_1024 (scaled latent (turned128 (k0_pay41 (qanAt x0 x1 x2 x3 512 inb_S1024x1024_S512x1024_512_0) (qcolsAt x4 0 inb_S384x1024_S384x256_0_0)) (tabAt x11 512 inb_S1024x128_S512x128_512_0) (tabAt x12 512 inb_S1024x128_S512x128_512_0))),
   storeWide 512 640 inb_S1024x3072_S512x128_512_640 (turned64 (k0_pay21 (normAt x0 x1 512 inb_S1024x1024_S512x1024_512_0) (colsAt x2 512 inb_S1024x1792_S1024x256_0_512)) (tabAt x9 512 inb_S1024x128_S512x128_512_0) (tabAt x10 512 inb_S1024x128_S512x128_512_0)),
   storeWide 512 512 inb_S1024x3072_S512x128_512_512 (turned64 (k0_pay20 (normAt x0 x1 512 inb_S1024x1024_S512x1024_512_0) (colsAt x2 512 inb_S1024x1792_S1024x256_0_512)) (tabAt x9 512 inb_S1024x128_S512x128_512_0) (tabAt x10 512 inb_S1024x128_S512x128_512_0)),
   storeWide 512 384 inb_S1024x3072_S512x128_512_384 (scaled scale (turned64 (k0_pay21 (normAt x0 x1 512 inb_S1024x1024_S512x1024_512_0) (colsAt x2 256 inb_S1024x1792_S1024x256_0_256)) (tabAt x9 512 inb_S1024x128_S512x128_512_0) (tabAt x10 512 inb_S1024x128_S512x128_512_0))),
   storeWide 512 256 inb_S1024x3072_S512x128_512_256 (scaled scale (turned64 (k0_pay20 (normAt x0 x1 512 inb_S1024x1024_S512x1024_512_0) (colsAt x2 256 inb_S1024x1792_S1024x256_0_256)) (tabAt x9 512 inb_S1024x128_S512x128_512_0) (tabAt x10 512 inb_S1024x128_S512x128_512_0))),
   storeWide 512 128 inb_S1024x3072_S512x128_512_128 (scaled scale (turned64 (k0_pay21 (normAt x0 x1 512 inb_S1024x1024_S512x1024_512_0) (colsAt x2 0 inb_S1024x1792_S1024x256_0_0)) (tabAt x9 512 inb_S1024x128_S512x128_512_0) (tabAt x10 512 inb_S1024x128_S512x128_512_0))),
   storeWide 512 0 inb_S1024x3072_S512x128_512_0 (scaled scale (turned64 (k0_pay20 (normAt x0 x1 512 inb_S1024x1024_S512x1024_512_0) (colsAt x2 0 inb_S1024x1792_S1024x256_0_0)) (tabAt x9 512 inb_S1024x128_S512x128_512_0) (tabAt x10 512 inb_S1024x128_S512x128_512_0))),
   storeZero 0 inb_S1024x3072_S512x256_0_768,
   storeWide 0 2944 inb_S1024x3072_S512x128_0_2944 (plus (kright (kvanAt x0 x1 x2 x5 0 inb_S1024x1024_S512x1024_0_0) (kcolsAt x6 768 inb_S256x1024_S256x256_0_768)) (turned128 (pe (latAt x0 x1 x2 0 inb_S1024x1024_S512x1024_0_0)) (tabAt x11 0 inb_S1024x128_S512x128_0_0) (tabAt x12 0 inb_S1024x128_S512x128_0_0))),
   storeWide 0 2816 inb_S1024x3072_S512x128_0_2816 (plus (kleft (kvanAt x0 x1 x2 x5 0 inb_S1024x1024_S512x1024_0_0) (kcolsAt x6 768 inb_S256x1024_S256x256_0_768)) (turned128 (pe (latAt x0 x1 x2 0 inb_S1024x1024_S512x1024_0_0)) (tabAt x11 0 inb_S1024x128_S512x128_0_0) (tabAt x12 0 inb_S1024x128_S512x128_0_0))),
   storeWide 0 2688 inb_S1024x3072_S512x128_0_2688 (plus (kright (kvanAt x0 x1 x2 x5 0 inb_S1024x1024_S512x1024_0_0) (kcolsAt x6 512 inb_S256x1024_S256x256_0_512)) (turned128 (pe (latAt x0 x1 x2 0 inb_S1024x1024_S512x1024_0_0)) (tabAt x11 0 inb_S1024x128_S512x128_0_0) (tabAt x12 0 inb_S1024x128_S512x128_0_0))),
   storeWide 0 2560 inb_S1024x3072_S512x128_0_2560 (plus (kleft (kvanAt x0 x1 x2 x5 0 inb_S1024x1024_S512x1024_0_0) (kcolsAt x6 512 inb_S256x1024_S256x256_0_512)) (turned128 (pe (latAt x0 x1 x2 0 inb_S1024x1024_S512x1024_0_0)) (tabAt x11 0 inb_S1024x128_S512x128_0_0) (tabAt x12 0 inb_S1024x128_S512x128_0_0))),
   storeWide 0 2432 inb_S1024x3072_S512x128_0_2432 (plus (kright (kvanAt x0 x1 x2 x5 0 inb_S1024x1024_S512x1024_0_0) (kcolsAt x6 256 inb_S256x1024_S256x256_0_256)) (turned128 (pe (latAt x0 x1 x2 0 inb_S1024x1024_S512x1024_0_0)) (tabAt x11 0 inb_S1024x128_S512x128_0_0) (tabAt x12 0 inb_S1024x128_S512x128_0_0))),
   storeWide 0 2304 inb_S1024x3072_S512x128_0_2304 (plus (kleft (kvanAt x0 x1 x2 x5 0 inb_S1024x1024_S512x1024_0_0) (kcolsAt x6 256 inb_S256x1024_S256x256_0_256)) (turned128 (pe (latAt x0 x1 x2 0 inb_S1024x1024_S512x1024_0_0)) (tabAt x11 0 inb_S1024x128_S512x128_0_0) (tabAt x12 0 inb_S1024x128_S512x128_0_0))),
   storeWide 0 2176 inb_S1024x3072_S512x128_0_2176 (plus (kright (kvanAt x0 x1 x2 x5 0 inb_S1024x1024_S512x1024_0_0) (kcolsAt x6 0 inb_S256x1024_S256x256_0_0)) (turned128 (pe (latAt x0 x1 x2 0 inb_S1024x1024_S512x1024_0_0)) (tabAt x11 0 inb_S1024x128_S512x128_0_0) (tabAt x12 0 inb_S1024x128_S512x128_0_0))),
   storeWide 0 2048 inb_S1024x3072_S512x128_0_2048 (plus (kleft (kvanAt x0 x1 x2 x5 0 inb_S1024x1024_S512x1024_0_0) (kcolsAt x6 0 inb_S256x1024_S256x256_0_0)) (turned128 (pe (latAt x0 x1 x2 0 inb_S1024x1024_S512x1024_0_0)) (tabAt x11 0 inb_S1024x128_S512x128_0_0) (tabAt x12 0 inb_S1024x128_S512x128_0_0))),
   storeWide 0 1920 inb_S1024x3072_S512x128_0_1920 (scaled latent (turned128 (k0_pay42 (qanAt x0 x1 x2 x3 0 inb_S1024x1024_S512x1024_0_0) (qcolsAt x4 768 inb_S384x1024_S384x256_0_768)) (tabAt x11 0 inb_S1024x128_S512x128_0_0) (tabAt x12 0 inb_S1024x128_S512x128_0_0))),
   storeWide 0 1792 inb_S1024x3072_S512x128_0_1792 (scaled latent (turned128 (k0_pay41 (qanAt x0 x1 x2 x3 0 inb_S1024x1024_S512x1024_0_0) (qcolsAt x4 768 inb_S384x1024_S384x256_0_768)) (tabAt x11 0 inb_S1024x128_S512x128_0_0) (tabAt x12 0 inb_S1024x128_S512x128_0_0))),
   storeWide 0 1664 inb_S1024x3072_S512x128_0_1664 (scaled latent (turned128 (k0_pay42 (qanAt x0 x1 x2 x3 0 inb_S1024x1024_S512x1024_0_0) (qcolsAt x4 512 inb_S384x1024_S384x256_0_512)) (tabAt x11 0 inb_S1024x128_S512x128_0_0) (tabAt x12 0 inb_S1024x128_S512x128_0_0))),
   storeWide 0 1536 inb_S1024x3072_S512x128_0_1536 (scaled latent (turned128 (k0_pay41 (qanAt x0 x1 x2 x3 0 inb_S1024x1024_S512x1024_0_0) (qcolsAt x4 512 inb_S384x1024_S384x256_0_512)) (tabAt x11 0 inb_S1024x128_S512x128_0_0) (tabAt x12 0 inb_S1024x128_S512x128_0_0))),
   storeWide 0 1408 inb_S1024x3072_S512x128_0_1408 (scaled latent (turned128 (k0_pay42 (qanAt x0 x1 x2 x3 0 inb_S1024x1024_S512x1024_0_0) (qcolsAt x4 256 inb_S384x1024_S384x256_0_256)) (tabAt x11 0 inb_S1024x128_S512x128_0_0) (tabAt x12 0 inb_S1024x128_S512x128_0_0))),
   storeWide 0 1280 inb_S1024x3072_S512x128_0_1280 (scaled latent (turned128 (k0_pay41 (qanAt x0 x1 x2 x3 0 inb_S1024x1024_S512x1024_0_0) (qcolsAt x4 256 inb_S384x1024_S384x256_0_256)) (tabAt x11 0 inb_S1024x128_S512x128_0_0) (tabAt x12 0 inb_S1024x128_S512x128_0_0))),
   storeWide 0 1152 inb_S1024x3072_S512x128_0_1152 (scaled latent (turned128 (k0_pay42 (qanAt x0 x1 x2 x3 0 inb_S1024x1024_S512x1024_0_0) (qcolsAt x4 0 inb_S384x1024_S384x256_0_0)) (tabAt x11 0 inb_S1024x128_S512x128_0_0) (tabAt x12 0 inb_S1024x128_S512x128_0_0))),
   storeWide 0 1024 inb_S1024x3072_S512x128_0_1024 (scaled latent (turned128 (k0_pay41 (qanAt x0 x1 x2 x3 0 inb_S1024x1024_S512x1024_0_0) (qcolsAt x4 0 inb_S384x1024_S384x256_0_0)) (tabAt x11 0 inb_S1024x128_S512x128_0_0) (tabAt x12 0 inb_S1024x128_S512x128_0_0))),
   storeWide 0 640 inb_S1024x3072_S512x128_0_640 (turned64 (k0_pay21 (normAt x0 x1 0 inb_S1024x1024_S512x1024_0_0) (colsAt x2 512 inb_S1024x1792_S1024x256_0_512)) (tabAt x9 0 inb_S1024x128_S512x128_0_0) (tabAt x10 0 inb_S1024x128_S512x128_0_0)),
   storeWide 0 512 inb_S1024x3072_S512x128_0_512 (turned64 (k0_pay20 (normAt x0 x1 0 inb_S1024x1024_S512x1024_0_0) (colsAt x2 512 inb_S1024x1792_S1024x256_0_512)) (tabAt x9 0 inb_S1024x128_S512x128_0_0) (tabAt x10 0 inb_S1024x128_S512x128_0_0)),
   storeWide 0 384 inb_S1024x3072_S512x128_0_384 (scaled scale (turned64 (k0_pay21 (normAt x0 x1 0 inb_S1024x1024_S512x1024_0_0) (colsAt x2 256 inb_S1024x1792_S1024x256_0_256)) (tabAt x9 0 inb_S1024x128_S512x128_0_0) (tabAt x10 0 inb_S1024x128_S512x128_0_0))),
   storeWide 0 256 inb_S1024x3072_S512x128_0_256 (scaled scale (turned64 (k0_pay20 (normAt x0 x1 0 inb_S1024x1024_S512x1024_0_0) (colsAt x2 256 inb_S1024x1792_S1024x256_0_256)) (tabAt x9 0 inb_S1024x128_S512x128_0_0) (tabAt x10 0 inb_S1024x128_S512x128_0_0))),
   storeWide 0 128 inb_S1024x3072_S512x128_0_128 (scaled scale (turned64 (k0_pay21 (normAt x0 x1 0 inb_S1024x1024_S512x1024_0_0) (colsAt x2 0 inb_S1024x1792_S1024x256_0_0)) (tabAt x9 0 inb_S1024x128_S512x128_0_0) (tabAt x10 0 inb_S1024x128_S512x128_0_0))),
   storeWide 0 0 inb_S1024x3072_S512x128_0_0 (scaled scale (turned64 (k0_pay20 (normAt x0 x1 0 inb_S1024x1024_S512x1024_0_0) (colsAt x2 0 inb_S1024x1792_S1024x256_0_0)) (tabAt x9 0 inb_S1024x128_S512x128_0_0) (tabAt x10 0 inb_S1024x128_S512x128_0_0)))]

/-- The stores of latent values, the last one first. -/
def storesValue : List (View.Piece (Elt Ideal) S1x512x1024 .bf16) :=
  [storeValue x0 x1 x2 x5 x7 512 inb_S1x512x1024_S1x512x512_0_0_512 inb_S1024x1024_S512x1024_512_0, storeValue x0 x1 x2 x5 x7 0 inb_S1x512x1024_S1x512x512_0_0_0 inb_S1024x1024_S512x1024_0_0]

/-- The stores of sliding values, the last one first. -/
def storesSlide : List (View.Piece (Elt Ideal) S1x128x1024 .bf16) :=
  [storeSlide x0 x1 x8 512 inb_S1x128x1024_S1x128x512_0_0_512 inb_S1024x1024_S512x1024_512_0, storeSlide x0 x1 x8 0 inb_S1x128x1024_S1x128x512_0_0_0 inb_S1024x1024_S512x1024_0_0]

theorem storesWide_ok : ∀ p ∈ storesWide x0 x1 x2 x3 x4 x5 x6 x9 x10 x11 x12, ∀ x : p.1.shape.Idx, p.2 x = (fun y : S1024x3072.Idx => outWide x0 x1 x2 x3 x4 x5 x6 x9 x10 x11 x12 (y 0) (y 1)) (p.1.emb x) := by
  unfold storesWide
  refine List.forall_mem_cons.2 ⟨storeZero_ok x0 x1 x2 x3 x4 x5 x6 x9 x10 x11 x12 512 _, ?_⟩
  refine List.forall_mem_cons.2 ⟨storeWide_ok 512 2944 _ (holds_plus (holds_kright x0 x1 x2 x5 x6 512 _ 768 896 _ rfl (by decide)) (holds_turn128 x11 x12 (holds_pe x0 x1 x2 512 _) rfl _) rfl) (outWide x0 x1 x2 x3 x4 x5 x6 x9 x10 x11 x12) fun R j l h e => wide_shared x0 x1 x2 x3 x4 x5 x6 x9 x10 x11 x12 R j (by omega), ?_⟩
  refine List.forall_mem_cons.2 ⟨storeWide_ok 512 2816 _ (holds_plus (holds_kleft x0 x1 x2 x5 x6 512 _ 768 768 _ rfl (by decide)) (holds_turn128 x11 x12 (holds_pe x0 x1 x2 512 _) rfl _) rfl) (outWide x0 x1 x2 x3 x4 x5 x6 x9 x10 x11 x12) fun R j l h e => wide_shared x0 x1 x2 x3 x4 x5 x6 x9 x10 x11 x12 R j (by omega), ?_⟩
  refine List.forall_mem_cons.2 ⟨storeWide_ok 512 2688 _ (holds_plus (holds_kright x0 x1 x2 x5 x6 512 _ 512 640 _ rfl (by decide)) (holds_turn128 x11 x12 (holds_pe x0 x1 x2 512 _) rfl _) rfl) (outWide x0 x1 x2 x3 x4 x5 x6 x9 x10 x11 x12) fun R j l h e => wide_shared x0 x1 x2 x3 x4 x5 x6 x9 x10 x11 x12 R j (by omega), ?_⟩
  refine List.forall_mem_cons.2 ⟨storeWide_ok 512 2560 _ (holds_plus (holds_kleft x0 x1 x2 x5 x6 512 _ 512 512 _ rfl (by decide)) (holds_turn128 x11 x12 (holds_pe x0 x1 x2 512 _) rfl _) rfl) (outWide x0 x1 x2 x3 x4 x5 x6 x9 x10 x11 x12) fun R j l h e => wide_shared x0 x1 x2 x3 x4 x5 x6 x9 x10 x11 x12 R j (by omega), ?_⟩
  refine List.forall_mem_cons.2 ⟨storeWide_ok 512 2432 _ (holds_plus (holds_kright x0 x1 x2 x5 x6 512 _ 256 384 _ rfl (by decide)) (holds_turn128 x11 x12 (holds_pe x0 x1 x2 512 _) rfl _) rfl) (outWide x0 x1 x2 x3 x4 x5 x6 x9 x10 x11 x12) fun R j l h e => wide_shared x0 x1 x2 x3 x4 x5 x6 x9 x10 x11 x12 R j (by omega), ?_⟩
  refine List.forall_mem_cons.2 ⟨storeWide_ok 512 2304 _ (holds_plus (holds_kleft x0 x1 x2 x5 x6 512 _ 256 256 _ rfl (by decide)) (holds_turn128 x11 x12 (holds_pe x0 x1 x2 512 _) rfl _) rfl) (outWide x0 x1 x2 x3 x4 x5 x6 x9 x10 x11 x12) fun R j l h e => wide_shared x0 x1 x2 x3 x4 x5 x6 x9 x10 x11 x12 R j (by omega), ?_⟩
  refine List.forall_mem_cons.2 ⟨storeWide_ok 512 2176 _ (holds_plus (holds_kright x0 x1 x2 x5 x6 512 _ 0 128 _ rfl (by decide)) (holds_turn128 x11 x12 (holds_pe x0 x1 x2 512 _) rfl _) rfl) (outWide x0 x1 x2 x3 x4 x5 x6 x9 x10 x11 x12) fun R j l h e => wide_shared x0 x1 x2 x3 x4 x5 x6 x9 x10 x11 x12 R j (by omega), ?_⟩
  refine List.forall_mem_cons.2 ⟨storeWide_ok 512 2048 _ (holds_plus (holds_kleft x0 x1 x2 x5 x6 512 _ 0 0 _ rfl (by decide)) (holds_turn128 x11 x12 (holds_pe x0 x1 x2 512 _) rfl _) rfl) (outWide x0 x1 x2 x3 x4 x5 x6 x9 x10 x11 x12) fun R j l h e => wide_shared x0 x1 x2 x3 x4 x5 x6 x9 x10 x11 x12 R j (by omega), ?_⟩
  refine List.forall_mem_cons.2 ⟨storeWide_ok 512 1920 _ (holds_scaled latent (holds_turn128 x11 x12 (holds_qright x0 x1 x2 x3 x4 512 _ 768 896 _ rfl (by decide)) rfl _)) (outWide x0 x1 x2 x3 x4 x5 x6 x9 x10 x11 x12) fun R j l h e => wide_latent x0 x1 x2 x3 x4 x5 x6 x9 x10 x11 x12 R j (by omega) (by omega), ?_⟩
  refine List.forall_mem_cons.2 ⟨storeWide_ok 512 1792 _ (holds_scaled latent (holds_turn128 x11 x12 (holds_qleft x0 x1 x2 x3 x4 512 _ 768 768 _ rfl (by decide)) rfl _)) (outWide x0 x1 x2 x3 x4 x5 x6 x9 x10 x11 x12) fun R j l h e => wide_latent x0 x1 x2 x3 x4 x5 x6 x9 x10 x11 x12 R j (by omega) (by omega), ?_⟩
  refine List.forall_mem_cons.2 ⟨storeWide_ok 512 1664 _ (holds_scaled latent (holds_turn128 x11 x12 (holds_qright x0 x1 x2 x3 x4 512 _ 512 640 _ rfl (by decide)) rfl _)) (outWide x0 x1 x2 x3 x4 x5 x6 x9 x10 x11 x12) fun R j l h e => wide_latent x0 x1 x2 x3 x4 x5 x6 x9 x10 x11 x12 R j (by omega) (by omega), ?_⟩
  refine List.forall_mem_cons.2 ⟨storeWide_ok 512 1536 _ (holds_scaled latent (holds_turn128 x11 x12 (holds_qleft x0 x1 x2 x3 x4 512 _ 512 512 _ rfl (by decide)) rfl _)) (outWide x0 x1 x2 x3 x4 x5 x6 x9 x10 x11 x12) fun R j l h e => wide_latent x0 x1 x2 x3 x4 x5 x6 x9 x10 x11 x12 R j (by omega) (by omega), ?_⟩
  refine List.forall_mem_cons.2 ⟨storeWide_ok 512 1408 _ (holds_scaled latent (holds_turn128 x11 x12 (holds_qright x0 x1 x2 x3 x4 512 _ 256 384 _ rfl (by decide)) rfl _)) (outWide x0 x1 x2 x3 x4 x5 x6 x9 x10 x11 x12) fun R j l h e => wide_latent x0 x1 x2 x3 x4 x5 x6 x9 x10 x11 x12 R j (by omega) (by omega), ?_⟩
  refine List.forall_mem_cons.2 ⟨storeWide_ok 512 1280 _ (holds_scaled latent (holds_turn128 x11 x12 (holds_qleft x0 x1 x2 x3 x4 512 _ 256 256 _ rfl (by decide)) rfl _)) (outWide x0 x1 x2 x3 x4 x5 x6 x9 x10 x11 x12) fun R j l h e => wide_latent x0 x1 x2 x3 x4 x5 x6 x9 x10 x11 x12 R j (by omega) (by omega), ?_⟩
  refine List.forall_mem_cons.2 ⟨storeWide_ok 512 1152 _ (holds_scaled latent (holds_turn128 x11 x12 (holds_qright x0 x1 x2 x3 x4 512 _ 0 128 _ rfl (by decide)) rfl _)) (outWide x0 x1 x2 x3 x4 x5 x6 x9 x10 x11 x12) fun R j l h e => wide_latent x0 x1 x2 x3 x4 x5 x6 x9 x10 x11 x12 R j (by omega) (by omega), ?_⟩
  refine List.forall_mem_cons.2 ⟨storeWide_ok 512 1024 _ (holds_scaled latent (holds_turn128 x11 x12 (holds_qleft x0 x1 x2 x3 x4 512 _ 0 0 _ rfl (by decide)) rfl _)) (outWide x0 x1 x2 x3 x4 x5 x6 x9 x10 x11 x12) fun R j l h e => wide_latent x0 x1 x2 x3 x4 x5 x6 x9 x10 x11 x12 R j (by omega) (by omega), ?_⟩
  refine List.forall_mem_cons.2 ⟨storeWide_ok 512 640 _ (holds_turn64 x9 x10 (holds_right x0 x1 x2 512 _ 512 640 _ rfl (by decide)) rfl _) (outWide x0 x1 x2 x3 x4 x5 x6 x9 x10 x11 x12) fun R j l h e => wide_key x0 x1 x2 x3 x4 x5 x6 x9 x10 x11 x12 R j e (by omega) (by omega), ?_⟩
  refine List.forall_mem_cons.2 ⟨storeWide_ok 512 512 _ (holds_turn64 x9 x10 (holds_left x0 x1 x2 512 _ 512 512 _ rfl (by decide)) rfl _) (outWide x0 x1 x2 x3 x4 x5 x6 x9 x10 x11 x12) fun R j l h e => wide_key x0 x1 x2 x3 x4 x5 x6 x9 x10 x11 x12 R j e (by omega) (by omega), ?_⟩
  refine List.forall_mem_cons.2 ⟨storeWide_ok 512 384 _ (holds_scaled scale (holds_turn64 x9 x10 (holds_right x0 x1 x2 512 _ 256 384 _ rfl (by decide)) rfl _)) (outWide x0 x1 x2 x3 x4 x5 x6 x9 x10 x11 x12) fun R j l h e => wide_query x0 x1 x2 x3 x4 x5 x6 x9 x10 x11 x12 R j e (by omega), ?_⟩
  refine List.forall_mem_cons.2 ⟨storeWide_ok 512 256 _ (holds_scaled scale (holds_turn64 x9 x10 (holds_left x0 x1 x2 512 _ 256 256 _ rfl (by decide)) rfl _)) (outWide x0 x1 x2 x3 x4 x5 x6 x9 x10 x11 x12) fun R j l h e => wide_query x0 x1 x2 x3 x4 x5 x6 x9 x10 x11 x12 R j e (by omega), ?_⟩
  refine List.forall_mem_cons.2 ⟨storeWide_ok 512 128 _ (holds_scaled scale (holds_turn64 x9 x10 (holds_right x0 x1 x2 512 _ 0 128 _ rfl (by decide)) rfl _)) (outWide x0 x1 x2 x3 x4 x5 x6 x9 x10 x11 x12) fun R j l h e => wide_query x0 x1 x2 x3 x4 x5 x6 x9 x10 x11 x12 R j e (by omega), ?_⟩
  refine List.forall_mem_cons.2 ⟨storeWide_ok 512 0 _ (holds_scaled scale (holds_turn64 x9 x10 (holds_left x0 x1 x2 512 _ 0 0 _ rfl (by decide)) rfl _)) (outWide x0 x1 x2 x3 x4 x5 x6 x9 x10 x11 x12) fun R j l h e => wide_query x0 x1 x2 x3 x4 x5 x6 x9 x10 x11 x12 R j e (by omega), ?_⟩
  refine List.forall_mem_cons.2 ⟨storeZero_ok x0 x1 x2 x3 x4 x5 x6 x9 x10 x11 x12 0 _, ?_⟩
  refine List.forall_mem_cons.2 ⟨storeWide_ok 0 2944 _ (holds_plus (holds_kright x0 x1 x2 x5 x6 0 _ 768 896 _ rfl (by decide)) (holds_turn128 x11 x12 (holds_pe x0 x1 x2 0 _) rfl _) rfl) (outWide x0 x1 x2 x3 x4 x5 x6 x9 x10 x11 x12) fun R j l h e => wide_shared x0 x1 x2 x3 x4 x5 x6 x9 x10 x11 x12 R j (by omega), ?_⟩
  refine List.forall_mem_cons.2 ⟨storeWide_ok 0 2816 _ (holds_plus (holds_kleft x0 x1 x2 x5 x6 0 _ 768 768 _ rfl (by decide)) (holds_turn128 x11 x12 (holds_pe x0 x1 x2 0 _) rfl _) rfl) (outWide x0 x1 x2 x3 x4 x5 x6 x9 x10 x11 x12) fun R j l h e => wide_shared x0 x1 x2 x3 x4 x5 x6 x9 x10 x11 x12 R j (by omega), ?_⟩
  refine List.forall_mem_cons.2 ⟨storeWide_ok 0 2688 _ (holds_plus (holds_kright x0 x1 x2 x5 x6 0 _ 512 640 _ rfl (by decide)) (holds_turn128 x11 x12 (holds_pe x0 x1 x2 0 _) rfl _) rfl) (outWide x0 x1 x2 x3 x4 x5 x6 x9 x10 x11 x12) fun R j l h e => wide_shared x0 x1 x2 x3 x4 x5 x6 x9 x10 x11 x12 R j (by omega), ?_⟩
  refine List.forall_mem_cons.2 ⟨storeWide_ok 0 2560 _ (holds_plus (holds_kleft x0 x1 x2 x5 x6 0 _ 512 512 _ rfl (by decide)) (holds_turn128 x11 x12 (holds_pe x0 x1 x2 0 _) rfl _) rfl) (outWide x0 x1 x2 x3 x4 x5 x6 x9 x10 x11 x12) fun R j l h e => wide_shared x0 x1 x2 x3 x4 x5 x6 x9 x10 x11 x12 R j (by omega), ?_⟩
  refine List.forall_mem_cons.2 ⟨storeWide_ok 0 2432 _ (holds_plus (holds_kright x0 x1 x2 x5 x6 0 _ 256 384 _ rfl (by decide)) (holds_turn128 x11 x12 (holds_pe x0 x1 x2 0 _) rfl _) rfl) (outWide x0 x1 x2 x3 x4 x5 x6 x9 x10 x11 x12) fun R j l h e => wide_shared x0 x1 x2 x3 x4 x5 x6 x9 x10 x11 x12 R j (by omega), ?_⟩
  refine List.forall_mem_cons.2 ⟨storeWide_ok 0 2304 _ (holds_plus (holds_kleft x0 x1 x2 x5 x6 0 _ 256 256 _ rfl (by decide)) (holds_turn128 x11 x12 (holds_pe x0 x1 x2 0 _) rfl _) rfl) (outWide x0 x1 x2 x3 x4 x5 x6 x9 x10 x11 x12) fun R j l h e => wide_shared x0 x1 x2 x3 x4 x5 x6 x9 x10 x11 x12 R j (by omega), ?_⟩
  refine List.forall_mem_cons.2 ⟨storeWide_ok 0 2176 _ (holds_plus (holds_kright x0 x1 x2 x5 x6 0 _ 0 128 _ rfl (by decide)) (holds_turn128 x11 x12 (holds_pe x0 x1 x2 0 _) rfl _) rfl) (outWide x0 x1 x2 x3 x4 x5 x6 x9 x10 x11 x12) fun R j l h e => wide_shared x0 x1 x2 x3 x4 x5 x6 x9 x10 x11 x12 R j (by omega), ?_⟩
  refine List.forall_mem_cons.2 ⟨storeWide_ok 0 2048 _ (holds_plus (holds_kleft x0 x1 x2 x5 x6 0 _ 0 0 _ rfl (by decide)) (holds_turn128 x11 x12 (holds_pe x0 x1 x2 0 _) rfl _) rfl) (outWide x0 x1 x2 x3 x4 x5 x6 x9 x10 x11 x12) fun R j l h e => wide_shared x0 x1 x2 x3 x4 x5 x6 x9 x10 x11 x12 R j (by omega), ?_⟩
  refine List.forall_mem_cons.2 ⟨storeWide_ok 0 1920 _ (holds_scaled latent (holds_turn128 x11 x12 (holds_qright x0 x1 x2 x3 x4 0 _ 768 896 _ rfl (by decide)) rfl _)) (outWide x0 x1 x2 x3 x4 x5 x6 x9 x10 x11 x12) fun R j l h e => wide_latent x0 x1 x2 x3 x4 x5 x6 x9 x10 x11 x12 R j (by omega) (by omega), ?_⟩
  refine List.forall_mem_cons.2 ⟨storeWide_ok 0 1792 _ (holds_scaled latent (holds_turn128 x11 x12 (holds_qleft x0 x1 x2 x3 x4 0 _ 768 768 _ rfl (by decide)) rfl _)) (outWide x0 x1 x2 x3 x4 x5 x6 x9 x10 x11 x12) fun R j l h e => wide_latent x0 x1 x2 x3 x4 x5 x6 x9 x10 x11 x12 R j (by omega) (by omega), ?_⟩
  refine List.forall_mem_cons.2 ⟨storeWide_ok 0 1664 _ (holds_scaled latent (holds_turn128 x11 x12 (holds_qright x0 x1 x2 x3 x4 0 _ 512 640 _ rfl (by decide)) rfl _)) (outWide x0 x1 x2 x3 x4 x5 x6 x9 x10 x11 x12) fun R j l h e => wide_latent x0 x1 x2 x3 x4 x5 x6 x9 x10 x11 x12 R j (by omega) (by omega), ?_⟩
  refine List.forall_mem_cons.2 ⟨storeWide_ok 0 1536 _ (holds_scaled latent (holds_turn128 x11 x12 (holds_qleft x0 x1 x2 x3 x4 0 _ 512 512 _ rfl (by decide)) rfl _)) (outWide x0 x1 x2 x3 x4 x5 x6 x9 x10 x11 x12) fun R j l h e => wide_latent x0 x1 x2 x3 x4 x5 x6 x9 x10 x11 x12 R j (by omega) (by omega), ?_⟩
  refine List.forall_mem_cons.2 ⟨storeWide_ok 0 1408 _ (holds_scaled latent (holds_turn128 x11 x12 (holds_qright x0 x1 x2 x3 x4 0 _ 256 384 _ rfl (by decide)) rfl _)) (outWide x0 x1 x2 x3 x4 x5 x6 x9 x10 x11 x12) fun R j l h e => wide_latent x0 x1 x2 x3 x4 x5 x6 x9 x10 x11 x12 R j (by omega) (by omega), ?_⟩
  refine List.forall_mem_cons.2 ⟨storeWide_ok 0 1280 _ (holds_scaled latent (holds_turn128 x11 x12 (holds_qleft x0 x1 x2 x3 x4 0 _ 256 256 _ rfl (by decide)) rfl _)) (outWide x0 x1 x2 x3 x4 x5 x6 x9 x10 x11 x12) fun R j l h e => wide_latent x0 x1 x2 x3 x4 x5 x6 x9 x10 x11 x12 R j (by omega) (by omega), ?_⟩
  refine List.forall_mem_cons.2 ⟨storeWide_ok 0 1152 _ (holds_scaled latent (holds_turn128 x11 x12 (holds_qright x0 x1 x2 x3 x4 0 _ 0 128 _ rfl (by decide)) rfl _)) (outWide x0 x1 x2 x3 x4 x5 x6 x9 x10 x11 x12) fun R j l h e => wide_latent x0 x1 x2 x3 x4 x5 x6 x9 x10 x11 x12 R j (by omega) (by omega), ?_⟩
  refine List.forall_mem_cons.2 ⟨storeWide_ok 0 1024 _ (holds_scaled latent (holds_turn128 x11 x12 (holds_qleft x0 x1 x2 x3 x4 0 _ 0 0 _ rfl (by decide)) rfl _)) (outWide x0 x1 x2 x3 x4 x5 x6 x9 x10 x11 x12) fun R j l h e => wide_latent x0 x1 x2 x3 x4 x5 x6 x9 x10 x11 x12 R j (by omega) (by omega), ?_⟩
  refine List.forall_mem_cons.2 ⟨storeWide_ok 0 640 _ (holds_turn64 x9 x10 (holds_right x0 x1 x2 0 _ 512 640 _ rfl (by decide)) rfl _) (outWide x0 x1 x2 x3 x4 x5 x6 x9 x10 x11 x12) fun R j l h e => wide_key x0 x1 x2 x3 x4 x5 x6 x9 x10 x11 x12 R j e (by omega) (by omega), ?_⟩
  refine List.forall_mem_cons.2 ⟨storeWide_ok 0 512 _ (holds_turn64 x9 x10 (holds_left x0 x1 x2 0 _ 512 512 _ rfl (by decide)) rfl _) (outWide x0 x1 x2 x3 x4 x5 x6 x9 x10 x11 x12) fun R j l h e => wide_key x0 x1 x2 x3 x4 x5 x6 x9 x10 x11 x12 R j e (by omega) (by omega), ?_⟩
  refine List.forall_mem_cons.2 ⟨storeWide_ok 0 384 _ (holds_scaled scale (holds_turn64 x9 x10 (holds_right x0 x1 x2 0 _ 256 384 _ rfl (by decide)) rfl _)) (outWide x0 x1 x2 x3 x4 x5 x6 x9 x10 x11 x12) fun R j l h e => wide_query x0 x1 x2 x3 x4 x5 x6 x9 x10 x11 x12 R j e (by omega), ?_⟩
  refine List.forall_mem_cons.2 ⟨storeWide_ok 0 256 _ (holds_scaled scale (holds_turn64 x9 x10 (holds_left x0 x1 x2 0 _ 256 256 _ rfl (by decide)) rfl _)) (outWide x0 x1 x2 x3 x4 x5 x6 x9 x10 x11 x12) fun R j l h e => wide_query x0 x1 x2 x3 x4 x5 x6 x9 x10 x11 x12 R j e (by omega), ?_⟩
  refine List.forall_mem_cons.2 ⟨storeWide_ok 0 128 _ (holds_scaled scale (holds_turn64 x9 x10 (holds_right x0 x1 x2 0 _ 0 128 _ rfl (by decide)) rfl _)) (outWide x0 x1 x2 x3 x4 x5 x6 x9 x10 x11 x12) fun R j l h e => wide_query x0 x1 x2 x3 x4 x5 x6 x9 x10 x11 x12 R j e (by omega), ?_⟩
  refine List.forall_mem_cons.2 ⟨storeWide_ok 0 0 _ (holds_scaled scale (holds_turn64 x9 x10 (holds_left x0 x1 x2 0 _ 0 0 _ rfl (by decide)) rfl _)) (outWide x0 x1 x2 x3 x4 x5 x6 x9 x10 x11 x12) fun R j l h e => wide_query x0 x1 x2 x3 x4 x5 x6 x9 x10 x11 x12 R j e (by omega), ?_⟩
  simp

theorem storesValue_ok : ∀ p ∈ storesValue x0 x1 x2 x5 x7, ∀ x : p.1.shape.Idx, p.2 x = (fun y : S1x512x1024.Idx => outValue x0 x1 x2 x5 x7 (y 2) (y 1)) (p.1.emb x) := by
  unfold storesValue
  refine List.forall_mem_cons.2 ⟨storeValue_ok x0 x1 x2 x5 x7 512 _ _, ?_⟩
  refine List.forall_mem_cons.2 ⟨storeValue_ok x0 x1 x2 x5 x7 0 _ _, ?_⟩
  simp

theorem storesSlide_ok : ∀ p ∈ storesSlide x0 x1 x8, ∀ x : p.1.shape.Idx, p.2 x = (fun y : S1x128x1024.Idx => outSlide x0 x1 x8 (y 2) (y 1)) (p.1.emb x) := by
  unfold storesSlide
  refine List.forall_mem_cons.2 ⟨storeSlide_ok x0 x1 x8 512 _ _, ?_⟩
  refine List.forall_mem_cons.2 ⟨storeSlide_ok x0 x1 x8 0 _ _, ?_⟩
  simp

end Rows

section Run

variable (c : Dev nD)
    (arg1 : Memref sig .tc .vmem S1024x1024 .f32) (harg1 : arg1.IsWhole)
    (arg2 : Memref sig .tc .vmem S1x1024 .f32) (harg2 : arg2.IsWhole)
    (arg3 : Memref sig .tc .vmem S1024x1792 .bf16) (harg3 : arg3.IsWhole)
    (arg4 : Memref sig .tc .vmem S1x384 .f32) (harg4 : arg4.IsWhole)
    (arg5 : Memref sig .tc .vmem S384x1024 .bf16) (harg5 : arg5.IsWhole)
    (arg6 : Memref sig .tc .vmem S1x256 .f32) (harg6 : arg6.IsWhole)
    (arg7 : Memref sig .tc .vmem S256x1024 .bf16) (harg7 : arg7.IsWhole)
    (arg8 : Memref sig .tc .vmem S512x256 .bf16) (harg8 : arg8.IsWhole)
    (arg9 : Memref sig .tc .vmem S128x1024 .bf16) (harg9 : arg9.IsWhole)
    (arg10 : Memref sig .tc .vmem S1024x128 .f32) (harg10 : arg10.IsWhole)
    (arg11 : Memref sig .tc .vmem S1024x128 .f32) (harg11 : arg11.IsWhole)
    (arg12 : Memref sig .tc .vmem S1024x128 .f32) (harg12 : arg12.IsWhole)
    (arg13 : Memref sig .tc .vmem S1024x128 .f32) (harg13 : arg13.IsWhole)
    (arg14 : Memref sig .tc .vmem S1024x3072 .bf16) (harg14 : arg14.IsWhole)
    (arg15 : Memref sig .tc .vmem S1x512x1024 .bf16) (harg15 : arg15.IsWhole)
    (arg16 : Memref sig .tc .vmem S1x128x1024 .bf16) (harg16 : arg16.IsWhole)
    (x0 : Vec Ideal S1024x1024 .f32) (x1 : Vec Ideal S1x1024 .f32) (x2 : Vec Ideal S1024x1792 .bf16) (x3 : Vec Ideal S1x384 .f32) (x4 : Vec Ideal S384x1024 .bf16) (x5 : Vec Ideal S1x256 .f32) (x6 : Vec Ideal S256x1024 .bf16) (x7 : Vec Ideal S512x256 .bf16) (x8 : Vec Ideal S128x1024 .bf16) (x9 : Vec Ideal S1024x128 .f32) (x10 : Vec Ideal S1024x128 .f32) (x11 : Vec Ideal S1024x128 .f32) (x12 : Vec Ideal S1024x128 .f32)

/-- What the body stores of queries and keys. -/
theorem wide_stores (i : grid0.Coords) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).1
    = storesWide x0 x1 x2 x3 x4 x5 x6 x9 x10 x11 x12 := by
  unfold storesWide colsAt qcolsAt kcolsAt tabAt qanAt kvanAt latAt normAt
  simp only [← load_unread arg1 harg1 x0, ← load_unread arg2 harg2 x1, ← load_unread arg3 harg3 x2, ← load_unread arg4 harg4 x3, ← load_unread arg5 harg5 x4, ← load_unread arg6 harg6 x5, ← load_unread arg7 harg7 x6, ← load_unread arg10 harg10 x9, ← load_unread arg11 harg11 x10, ← load_unread arg12 harg12 x11, ← load_unread arg13 harg13 x12]
  rfl

/-- The block of queries and keys that a grid point leaves. -/
theorem wide_spec (i : grid0.Coords) (y : S1024x3072.Idx) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 y = outWide x0 x1 x2 x3 x4 x5 x6 x9 x10 x11 x12 (y 0) (y 1) := by
  have hc := cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12
  unfold out0_A_13
  rw [View.read_writes_eq_canon _ _ _ hc]
  rw [wide_stores] at hc ⊢
  exact View.canon_apply_of_pieces (fun y : S1024x3072.Idx => outWide x0 x1 x2 x3 x4 x5 x6 x9 x10 x11 x12 (y 0) (y 1)) _ (storesWide_ok x0 x1 x2 x3 x4 x5 x6 x9 x10 x11 x12) y (hc y)

/-- What the body stores of latent values. -/
theorem value_stores (i : grid0.Coords) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).2.1
    = storesValue x0 x1 x2 x5 x7 := by
  unfold storesValue storeValue kvanAt latAt normAt
  simp only [← load_unread arg1 harg1 x0, ← load_unread arg2 harg2 x1, ← load_unread arg3 harg3 x2, ← load_unread arg6 harg6 x5, ← load_unread arg8 harg8 x7]
  rfl

/-- The block of latent values that a grid point leaves. -/
theorem value_spec (i : grid0.Coords) (y : S1x512x1024.Idx) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 y = outValue x0 x1 x2 x5 x7 (y 2) (y 1) := by
  have hc := cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12
  unfold out0_A_14
  rw [View.read_writes_eq_canon _ _ _ hc]
  rw [value_stores] at hc ⊢
  exact View.canon_apply_of_pieces (fun y : S1x512x1024.Idx => outValue x0 x1 x2 x5 x7 (y 2) (y 1)) _ (storesValue_ok x0 x1 x2 x5 x7) y (hc y)

/-- What the body stores of sliding values. -/
theorem slide_stores (i : grid0.Coords) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12).2.2.1
    = storesSlide x0 x1 x8 := by
  unfold storesSlide storeSlide normAt
  simp only [← load_unread arg1 harg1 x0, ← load_unread arg2 harg2 x1, ← load_unread arg9 harg9 x8]
  rfl

/-- The block of sliding values that a grid point leaves. -/
theorem slide_spec (i : grid0.Coords) (y : S1x128x1024.Idx) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 y = outSlide x0 x1 x8 (y 2) (y 1) := by
  have hc := cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12
  unfold out0_A_15
  rw [View.read_writes_eq_canon _ _ _ hc]
  rw [slide_stores] at hc ⊢
  exact View.canon_apply_of_pieces (fun y : S1x128x1024.Idx => outSlide x0 x1 x8 (y 2) (y 1)) _ (storesSlide_ok x0 x1 x8) y (hc y)

end Run

end Cert.Kernel6Ideal.Odd

end
-- ==== Proof.Odd.Entry.lean ====
module

public import proofs.«01_k».proof.Proof.Odd.Spec
public import proofs.«01_k».proof.Proof.Gen.Kernel6Ideal.Value
public import Idealize.ShloMosaic.Lib.IdealHost
public import Idealize.ShloMosaic.Lib.KernelVsHost
public import Idealize.ShloMosaic.Lib.StableHlo.RunRead

@[expose] public section

set_option maxRecDepth 16384
set_option maxHeartbeats 1000000

noncomputable section

/-! What the odd layers' projection kernel finds in the arrays that the host prepares. -/

namespace Cert.Kernel6Ideal.Odd

open Cert.Kernel6Ideal Cert.Kernel6Ideal.Gen Idealize.ShloMosaic Idealize.ShloMosaic.TcCoe Idealize.SL.Sem Cert.Ffn Cert.Even Cert.Odd

variable (m : (ℓ : Loc nD τ sig) → Buf (Elt Ideal) ℓ) (c : Dev nD)

/-- Weight `k` of column entry `e` of the odd layer's projection. -/
def win (e : Fin 1024) (k : ℕ) : EReal := m ((c : Thread nD τ).loc main_arg2) (ix3 0 e ⟨k % 1440, Nat.mod_lt _ (by decide)⟩)

/-- Weight `k` of entry `e` of the latent queries. -/
def wqb (e : Fin 384) (k : ℕ) : EReal := m ((c : Thread nD τ).loc main_arg4) (ix3 0 e ⟨k % 768, Nat.mod_lt _ (by decide)⟩)

/-- Weight `k` of entry `e` of the latent keys and values. -/
def wkvb (e : Fin 256) (k : ℕ) : EReal := m ((c : Thread nD τ).loc main_arg6) (ix3 0 e ⟨k % 1024, Nat.mod_lt _ (by decide)⟩)

theorem pad2 {n k w lo hi : ℕ} (x : (⟨2, ![n, k]⟩ : Shape).Idx → EReal) {u : Shape} (v : u.Idx → EReal) (h : (⟨2, ![n, k]⟩ : Shape).Pads ![0, lo] ![0, hi] ![0, 0] ⟨2, ![n, w]⟩)
    (hu : 0 < u.numel) (s : Fin n) (l : Fin w) :
    pad ⟨2, ![n, w]⟩ ![0, lo] ![0, hi] ![0, 0] x v h hu (ix2 s l)
      = if h : lo ≤ l.val ∧ l.val - lo < k then x (ix2 s ⟨l.val - lo, h.2⟩) else v (Shape.Idx.first hu) := by
  by_cases q : lo ≤ l.val ∧ l.val - lo < k
  · rw [dif_pos q]
    refine pad_apply_of_inside _ _ _ _ _ _ _ _ _ fun a => ?_
    fin_cases a
    · show s.val = 0 + s.val * 1
      omega
    · show l.val = lo + (l.val - lo) * 1
      omega
  · rw [dif_neg q]
    refine pad_apply_of_not_inside _ _ _ _ _ _ _ _ 1 fun h' => q ?_
    have h1 := h'.1
    have h2 := h'.2.2
    change lo ≤ l.val at h1
    change (l.val - lo) / 1 < k at h2
    omega

theorem pad3 {n n' k w hi : ℕ} (x : (⟨3, ![n, n', k]⟩ : Shape).Idx → EReal) {u : Shape} (v : u.Idx → EReal) (h : (⟨3, ![n, n', k]⟩ : Shape).Pads ![0, 0, 0] ![0, 0, hi] ![0, 0, 0] ⟨3, ![n, n', w]⟩)
    (hu : 0 < u.numel) (s : Fin n) (s' : Fin n') (l : Fin w) :
    pad ⟨3, ![n, n', w]⟩ ![0, 0, 0] ![0, 0, hi] ![0, 0, 0] x v h hu (ix3 s s' l)
      = if h : l.val < k then x (ix3 s s' ⟨l.val, h⟩) else v (Shape.Idx.first hu) := by
  by_cases q : l.val < k
  · rw [dif_pos q]
    refine pad_apply_of_inside _ _ _ _ _ _ _ _ _ fun a => ?_
    fin_cases a
    · show s.val = 0 + s.val * 1
      omega
    · show s'.val = 0 + s'.val * 1
      omega
    · show l.val = 0 + l.val * 1
      omega
  · rw [dif_neg q]
    refine pad_apply_of_not_inside _ _ _ _ _ _ _ _ 2 fun h' => q ?_
    have h2 := h'.2.2
    change (l.val - 0) / 1 < k at h2
    omega

theorem pad_zero : FloatOps.sitofp (F := Ideal) (φ := .f32) (0#32) = 0 := by
  show (((0#32 : BitVec 32).toInt : ℝ) : EReal) = 0
  simp

theorem one_f32 : Ideal.ofBits .f32 1065353216#32 = 1 := by
  simp [Ideal.ofBits, Ideal.ieee, -EReal.coe_mul]
  norm_num

theorem entry11 (s : Fin 4096) (l : Fin 128) : (V m c main_v45 : S4096x128.Idx → EReal) (ix2 s l) = latentCos s.val l := by
  unfold latentCos latentAngle
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  pointwise []
  refine Eq.trans (pad2 (n := 4096) (k := 32) (w := 128) (lo := 64) (hi := 32) _ _ pads_S4096x32_S4096x128_000_64320 h_S_ s l) ?_
  by_cases h : 64 ≤ l.val ∧ l.val - 64 < 32
  · refine (dif_pos h).trans ?_
    show concatenate S4096x32 1 [⟨S4096x16, _⟩, ⟨S4096x16, _⟩] concatenates_S4096x16_S4096x16_S4096x32_d1 (ix2 s _) = _
    pointwise []
    by_cases h' : l.val - 64 < 16
    · simp only [dif_pos h', if_neg (show ¬ l.val < 64 by omega), if_pos (show l.val < 80 by omega)]
    · simp only [dif_neg h', if_neg (show ¬ l.val < 64 by omega), if_neg (show ¬ l.val < 80 by omega), if_pos (show l.val < 96 by omega)]
      rw [show l.val - 64 - 16 = l.val - 80 by omega]
  · refine (dif_neg h).trans ?_
    show Ideal.ofBits .f32 1065353216#32 = _
    rw [one_f32]
    by_cases h' : l.val < 64
    · rw [if_pos h']
    · rw [if_neg h', if_neg (by omega), if_neg (by omega)]

theorem entry12 (s : Fin 4096) (l : Fin 128) : (V m c main_v48 : S4096x128.Idx → EReal) (ix2 s l) = latentSin s.val l := by
  unfold latentSin latentAngle
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  pointwise []
  refine Eq.trans (pad2 (n := 4096) (k := 32) (w := 128) (lo := 64) (hi := 32) _ _ pads_S4096x32_S4096x128_000_64320 h_S_ s l) ?_
  by_cases h : 64 ≤ l.val ∧ l.val - 64 < 32
  · refine (dif_pos h).trans ?_
    show concatenate S4096x32 1 [⟨S4096x16, _⟩, ⟨S4096x16, _⟩] concatenates_S4096x16_S4096x16_S4096x32_d1 (ix2 s _) = _
    pointwise []
    by_cases h' : l.val - 64 < 16
    · simp only [dif_pos h', if_neg (show ¬ l.val < 64 by omega), if_pos (show l.val < 80 by omega)]
    · simp only [dif_neg h', if_neg (show ¬ l.val < 64 by omega), if_neg (show ¬ l.val < 80 by omega), if_pos (show l.val < 96 by omega)]
      rw [show l.val - 64 - 16 = l.val - 80 by omega]
  · refine (dif_neg h).trans ?_
    show FloatOps.sitofp (F := Ideal) (φ := .f32) (0#32) = _
    rw [pad_zero]
    by_cases h' : l.val < 64
    · rw [if_pos h']
    · rw [if_neg h', if_neg (by omega), if_neg (by omega)]

theorem entry4 (e : Fin 384) (j : Fin 1024) : (V m c main_v73 : S384x1024.Idx → EReal) (ix2 e j) = if j.val % 128 < 96 then wqb m c e (j.val / 128 * 96 + j.val % 128) else 0 := by
  unfold wqb
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  pointwise []
  refine Eq.trans (pad3 (n := 384) (n' := 8) (k := 96) (w := 128) (hi := 32) _ _ pads_S384x8x96_S384x8x128_000_000_0320 h_S_ e ⟨j.val / 128, by omega⟩ ⟨j.val % 128, Nat.mod_lt _ (by decide)⟩) ?_
  by_cases q : j.val % 128 < 96
  · refine (dif_pos q).trans ?_
    rw [if_pos q]
    show shapeCast S384x8x96 (extractStridedSlice S1x384x768 ![0, 0, 0] (m ((c : Thread nD τ).loc main_arg4)) slices_S2x384x768_S1x384x768_0_0_0) _ (ix3 e _ _) = _
    pointwise []
    exact congrArg (fun k => m ((c : Thread nD τ).loc main_arg4) (ix3 0 e k)) (Fin.ext (show j.val / 128 * 96 + j.val % 128 = (j.val / 128 * 96 + j.val % 128) % 768 by omega))
  · refine (dif_neg q).trans ?_
    rw [if_neg q]
    exact pad_zero

theorem entry6 (e : Fin 256) (j : Fin 1024) : (V m c main_v78 : S256x1024.Idx → EReal) (ix2 e j) = if j.val % 128 < 64 then wkvb m c e j.val else 0 := by
  unfold wkvb
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  pointwise []
  refine Eq.trans (pad3 (n := 256) (n' := 8) (k := 64) (w := 128) (hi := 64) _ _ pads_S256x8x64_S256x8x128_000_000_0640 h_S_ e ⟨j.val / 128, by omega⟩ ⟨j.val % 128, Nat.mod_lt _ (by decide)⟩) ?_
  by_cases q : j.val % 128 < 64
  · refine (dif_pos q).trans ?_
    rw [if_pos q]
    show extractStridedSlice S256x8x64 ![0, 0, 0] (shapeCast S256x8x128 (extractStridedSlice S1x256x1024 ![0, 0, 0] (m ((c : Thread nD τ).loc main_arg6)) slices_S2x256x1024_S1x256x1024_0_0_0) _) slices_S256x8x128_S256x8x64_0_0_0 (ix3 e _ _) = _
    pointwise []
    exact congrArg (fun k => m ((c : Thread nD τ).loc main_arg6) (ix3 0 e k)) (Fin.ext (show j.val = j.val % 1024 by omega))
  · refine (dif_neg q).trans ?_
    rw [if_neg q]
    exact pad_zero

theorem entry7 (d : Fin 512) (e : Fin 256) : (V m c main_v82 : S512x256.Idx → EReal) (ix2 d e) = wkvb m c e (d.val / 64 * 128 + 64 + d.val % 64) := by
  unfold wkvb
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  pointwise []
  exact congrArg (fun k => m ((c : Thread nD τ).loc main_arg6) (ix3 0 e k)) (Fin.ext (show d.val / 64 * 128 + (64 + d.val % 64) = (d.val / 64 * 128 + 64 + d.val % 64) % 1024 by omega))

theorem entry8 (d : Fin 128) (e : Fin 1024) : (V m c main_v85 : S128x1024.Idx → EReal) (ix2 d e) = win m c e (640 + d.val) := by
  unfold win
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  pointwise []
  exact congrArg (fun k => m ((c : Thread nD τ).loc main_arg2) (ix3 0 e k)) (Fin.ext (show 640 + d.val = (640 + d.val) % 1440 by omega))

/-- The host's operations before the kernel. -/
abbrev line : List (HloOp τ sig (Elt Ideal)) :=
  List.flatten [hostOps0, hostOps0_1, hostOps0_2, hostOps0_3, hostOps0_4, hostOps0_5, hostOps0_6, hostOps0_7, hostOps0_8, hostOps0_9, hostOps0_10]

/-- What the line writes from the concatenation of the weights on. -/
abbrev later : List (Ref sig .tc) := [main_v68, main_v69, main_v70, main_c_9, main_call3_v0, main_v71, main_v72, main_v73, main_v74, main_v75, main_c_10, main_call4_v0, main_v76, main_v77, main_v78, main_v79, main_v80, main_v81, main_v82, main_v83, main_v84, main_v85, main_v86, main_v87, main_v88, main_v89, main_v90, main_v91, main_v92, main_v93, main_v94]

theorem before (r : Ref sig .tc) (hr : r ∉ later) : StableHlo.upto (line) (fun b => m (c, b)) 82 (Proc.devRef .tc r) = V m c r := by
  have h := StableHlo.after_append (line.take 82) (line.drop 82) fun b => m (c, b)
  rw [List.take_append_drop] at h
  refine Eq.trans ?_ (congrFun h (Proc.devRef .tc r)).symm
  exact (StableHlo.after_unwritten later rfl hr _).symm

theorem weights_eq : (V m c main_v69 : S1024x1792.Idx → EReal) = concatenate S1024x1792 1
    [⟨S1024x512, (V m c main_v57 : S1024x512.Idx → EReal)⟩, ⟨S1024x256, (V m c main_v61 : S1024x256.Idx → EReal)⟩, ⟨S1024x256, (V m c main_v65 : S1024x256.Idx → EReal)⟩,
     ⟨S1024x384, (V m c main_v66 : S1024x384.Idx → EReal)⟩, ⟨S1024x256, (V m c main_v67 : S1024x256.Idx → EReal)⟩, ⟨S1024x128, (V m c main_v56 : S1024x128.Idx → EReal)⟩]
    concatenates_S1024x512_S1024x256_S1024x256_S1024x384_S1024x256_S1024x128_S1024x1792_d1 := by
  have e1 : V m c main_v69 = _ := StableHlo.after_last_write (ops := line) (i := 83) [main_v70, main_c_9, main_call3_v0, main_v71, main_v72, main_v73, main_v74, main_v75, main_c_10, main_call4_v0, main_v76, main_v77, main_v78, main_v79, main_v80, main_v81, main_v82, main_v83, main_v84, main_v85, main_v86, main_v87, main_v88, main_v89, main_v90, main_v91, main_v92, main_v93, main_v94] rfl rfl (by decide) _
  rw [e1, StableHlo.unary_result', StableHlo.upto_last_write (ops := line) (n := 83) (i := 82) [] rfl rfl (by decide), StableHlo.nary_result']
  rw [← before m c main_v57 (by decide), ← before m c main_v61 (by decide), ← before m c main_v65 (by decide), ← before m c main_v66 (by decide), ← before m c main_v67 (by decide), ← before m c main_v56 (by decide)]
  rfl

theorem v57_at (e : Fin 1024) (j : Fin 512) : (V m c main_v57 : S1024x512.Idx → EReal) (ix2 e j) = win m c e j.val := by
  unfold win
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  pointwise []
  exact congrArg (fun k => m ((c : Thread nD τ).loc main_arg2) (ix3 0 e k)) (Fin.ext (show j.val = (j.val) % 1440 by omega))

theorem v61_at (e : Fin 1024) (j : Fin 256) : (V m c main_v61 : S1024x256.Idx → EReal) (ix2 e j) = win m c e (512 + j.val / 128 * 64 + j.val % 64) := by
  unfold win
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  pointwise []
  exact congrArg (fun k => m ((c : Thread nD τ).loc main_arg2) (ix3 0 e k)) (Fin.ext (show 512 + (j.val / 128 * 64 + j.val % 64) = (512 + j.val / 128 * 64 + j.val % 64) % 1440 by omega))

theorem v66_at (e : Fin 1024) (j : Fin 384) : (V m c main_v66 : S1024x384.Idx → EReal) (ix2 e j) = win m c e (768 + j.val) := by
  unfold win
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  pointwise []
  exact congrArg (fun k => m ((c : Thread nD τ).loc main_arg2) (ix3 0 e k)) (Fin.ext (show 768 + j.val = (768 + j.val) % 1440 by omega))

theorem v67_at (e : Fin 1024) (j : Fin 256) : (V m c main_v67 : S1024x256.Idx → EReal) (ix2 e j) = win m c e (1152 + j.val) := by
  unfold win
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  pointwise []
  exact congrArg (fun k => m ((c : Thread nD τ).loc main_arg2) (ix3 0 e k)) (Fin.ext (show 1152 + j.val = (1152 + j.val) % 1440 by omega))

theorem v56_at (e : Fin 1024) (l : Fin 128) : (V m c main_v56 : S1024x128.Idx → EReal) (ix2 e l) = if 64 ≤ l.val ∧ l.val - 64 < 32 then win m c e (1408 + (l.val - 64)) else 0 := by
  unfold win
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  pointwise []
  refine Eq.trans (pad2 (n := 1024) (k := 32) (w := 128) (lo := 64) (hi := 32) _ _ pads_S1024x32_S1024x128_000_64320 h_S_ e l) ?_
  by_cases h : 64 ≤ l.val ∧ l.val - 64 < 32
  · refine (dif_pos h).trans ?_
    rw [if_pos h]
    show extractStridedSlice S1024x32 ![0, 1408] (fun i : S1024x1440.Idx => m ((c : Thread nD τ).loc main_arg2) (ix3 0 (i 0) (i 1))) slices_S1024x1440_S1024x32_0_1408 (ix2 e _) = _
    pointwise []
    exact congrArg (fun k => m ((c : Thread nD τ).loc main_arg2) (ix3 0 e k)) (Fin.ext (show 1408 + (l.val - 64) = (1408 + (l.val - 64)) % 1440 by omega))
  · refine (dif_neg h).trans ?_
    rw [if_neg h]
    exact pad_zero

theorem six_at (x1 : S1024x512.Idx → EReal) (x2 x3 : S1024x256.Idx → EReal) (x4 : S1024x384.Idx → EReal) (x5 : S1024x256.Idx → EReal) (x6 : S1024x128.Idx → EReal) (e : Fin 1024) (j : Fin 1792) :
    concatenate S1024x1792 1 [⟨S1024x512, x1⟩, ⟨S1024x256, x2⟩, ⟨S1024x256, x3⟩, ⟨S1024x384, x4⟩, ⟨S1024x256, x5⟩, ⟨S1024x128, x6⟩] concatenates_S1024x512_S1024x256_S1024x256_S1024x384_S1024x256_S1024x128_S1024x1792_d1 (ix2 e j)
      = if h1 : j.val < 512 then x1 (ix2 e ⟨j.val, h1⟩)
        else if h2 : j.val - 512 < 256 then x2 (ix2 e ⟨j.val - 512, h2⟩)
        else if h3 : j.val - 512 - 256 < 256 then x3 (ix2 e ⟨j.val - 512 - 256, h3⟩)
        else if h4 : j.val - 512 - 256 - 256 < 384 then x4 (ix2 e ⟨j.val - 512 - 256 - 256, h4⟩)
        else if h5 : j.val - 512 - 256 - 256 - 384 < 256 then x5 (ix2 e ⟨j.val - 512 - 256 - 256 - 384, h5⟩)
        else x6 (ix2 e ⟨j.val - 512 - 256 - 256 - 384 - 256, by omega⟩) := by
  pointwise []

theorem entry2 (e : Fin 1024) (j : Fin 1792) : (V m c main_v69 : S1024x1792.Idx → EReal) (ix2 e j) =
    if j.val < 512 then win m c e j.val
    else if j.val < 768 then win m c e (512 + (j.val - 512) / 128 * 64 + j.val % 64)
    else if h : j.val < 1024 then (V m c main_v65 : S1024x256.Idx → EReal) (ix2 e ⟨(j.val - 768) % 256, Nat.mod_lt _ (by decide)⟩)
    else if j.val < 1664 then win m c e (j.val - 256)
    else if 1728 ≤ j.val ∧ j.val < 1760 then win m c e (j.val - 320) else 0 := by
  rw [weights_eq, six_at]
  by_cases h1 : j.val < 512
  · simp only [dif_pos h1, if_pos h1]
    exact v57_at m c e ⟨j.val, h1⟩
  · by_cases h2 : j.val - 512 < 256
    · simp only [dif_neg h1, if_neg h1, dif_pos h2, if_pos (show j.val < 768 by omega)]
      refine (v61_at m c e ⟨j.val - 512, h2⟩).trans (congrArg (win m c e) ?_)
      show 512 + (j.val - 512) / 128 * 64 + (j.val - 512) % 64 = 512 + (j.val - 512) / 128 * 64 + j.val % 64
      omega
    · by_cases h3 : j.val - 512 - 256 < 256
      · simp only [dif_neg h1, if_neg h1, dif_neg h2, dif_pos h3, if_neg (show ¬ j.val < 768 by omega), dif_pos (show j.val < 1024 by omega)]
        exact congrArg (fun k => (V m c main_v65 : S1024x256.Idx → EReal) (ix2 e k)) (Fin.ext (show j.val - 512 - 256 = (j.val - 768) % 256 by omega))
      · by_cases h4 : j.val - 512 - 256 - 256 < 384
        · simp only [dif_neg h1, if_neg h1, dif_neg h2, dif_neg h3, dif_pos h4, if_neg (show ¬ j.val < 768 by omega), dif_neg (show ¬ j.val < 1024 by omega), if_pos (show j.val < 1664 by omega)]
          refine (v66_at m c e ⟨j.val - 512 - 256 - 256, h4⟩).trans (congrArg (win m c e) ?_)
          show 768 + (j.val - 512 - 256 - 256) = j.val - 256
          omega
        · by_cases h5 : j.val - 512 - 256 - 256 - 384 < 256
          · simp only [dif_neg h1, if_neg h1, dif_neg h2, dif_neg h3, dif_neg h4, dif_pos h5, if_neg (show ¬ j.val < 768 by omega), dif_neg (show ¬ j.val < 1024 by omega), if_pos (show j.val < 1664 by omega)]
            refine (v67_at m c e ⟨j.val - 512 - 256 - 256 - 384, h5⟩).trans (congrArg (win m c e) ?_)
            show 1152 + (j.val - 512 - 256 - 256 - 384) = j.val - 256
            omega
          · simp only [dif_neg h1, if_neg h1, dif_neg h2, dif_neg h3, dif_neg h4, dif_neg h5, if_neg (show ¬ j.val < 768 by omega), dif_neg (show ¬ j.val < 1024 by omega), if_neg (show ¬ j.val < 1664 by omega)]
            refine (v56_at m c e ⟨j.val - 512 - 256 - 256 - 384 - 256, by omega⟩).trans ?_
            show (if 64 ≤ j.val - 512 - 256 - 256 - 384 - 256 ∧ j.val - 512 - 256 - 256 - 384 - 256 - 64 < 32 then win m c e (1408 + (j.val - 512 - 256 - 256 - 384 - 256 - 64)) else 0) = _
            by_cases h6 : 1728 ≤ j.val ∧ j.val < 1760
            · rw [if_pos h6, if_pos (by omega), show 1408 + (j.val - 512 - 256 - 256 - 384 - 256 - 64) = j.val - 320 by omega]
            · rw [if_neg h6, if_neg (by omega)]

theorem entry1 (e : Fin 1024) : (V m c main_v88 : S1x1024.Idx → EReal) (ix2 0 e) = m ((c : Thread nD τ).loc main_arg1) (ix2 1 e) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  pointwise []

theorem entry3 (e : Fin 384) : (V m c main_v91 : S1x384.Idx → EReal) (ix2 0 e) = m ((c : Thread nD τ).loc main_arg3) (ix2 0 e) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  pointwise []

theorem entry5 (e : Fin 256) : (V m c main_v94 : S1x256.Idx → EReal) (ix2 0 e) = m ((c : Thread nD τ).loc main_arg5) (ix2 0 e) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  pointwise []

theorem entry9 (s : Fin 4096) (l : Fin 128) : (V m c main_v21 : S4096x128.Idx → EReal) (ix2 s l) = cosRow s.val l := by
  unfold cosRow angle
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  pointwise []
  split_ifs <;> rfl

theorem entry10 (s : Fin 4096) (l : Fin 128) : (V m c main_v26 : S4096x128.Idx → EReal) (ix2 s l) = sinRow s.val l := by
  unfold sinRow angle
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  pointwise []
  split_ifs <;> rfl

end Cert.Kernel6Ideal.Odd

end
-- ==== Proof.Odd.Value.lean ====
module

public import proofs.«01_k».proof.Proof.Odd.Run
public import proofs.«01_k».proof.Proof.Odd.Entry
public import Idealize.ShloMosaic.Lib.IdealHost
public import Idealize.ShloMosaic.Lib.Claim

@[expose] public section

set_option maxRecDepth 16384
set_option maxHeartbeats 1000000

noncomputable section

/-! The three result arrays of the odd layers' projection kernel. -/

namespace Cert.Kernel6Ideal.Odd

open Cert.Kernel6Ideal Cert.Kernel6Ideal.Gen Idealize.ShloMosaic Idealize.ShloMosaic.TcCoe Idealize.SL.Sem Cert.Ffn Cert.Even Cert.Odd

variable (m : (ℓ : Loc nD τ sig) → Buf (Elt Ideal) ℓ) (c : Dev nD)

/-- Where each window's block lies, from the first output's. -/
theorem places : ∀ t : Fin cfg0.N,
    (win0_0.index t = ![win0_13.index t 0, 0] ∧ win0_1.index t = ![0, 0] ∧ win0_2.index t = ![0, 0] ∧ win0_3.index t = ![0, 0] ∧ win0_4.index t = ![0, 0])
    ∧ (win0_5.index t = ![0, 0] ∧ win0_6.index t = ![0, 0] ∧ win0_7.index t = ![0, 0] ∧ win0_8.index t = ![0, 0])
    ∧ (win0_9.index t = ![win0_13.index t 0 % 4, 0] ∧ win0_10.index t = ![win0_13.index t 0 % 4, 0] ∧ win0_11.index t = ![win0_13.index t 0 % 4, 0] ∧ win0_12.index t = ![win0_13.index t 0 % 4, 0])
    ∧ win0_13.index t 0 < 32 ∧ win0_13.index t 1 = 0
    ∧ (win0_14.index t 0 = win0_13.index t 0 / 4 ∧ win0_14.index t 1 = 0 ∧ win0_14.index t 2 = win0_13.index t 0 % 4)
    ∧ win0_15.index t 0 = win0_13.index t 0 / 4 ∧ win0_15.index t 1 = 0 ∧ win0_15.index t 2 = win0_13.index t 0 % 4 :=
  (by decide +kernel : ∀ t : Fin grid0.N,
    (win0_0.index t = ![win0_13.index t 0, 0] ∧ win0_1.index t = ![0, 0] ∧ win0_2.index t = ![0, 0] ∧ win0_3.index t = ![0, 0] ∧ win0_4.index t = ![0, 0])
    ∧ (win0_5.index t = ![0, 0] ∧ win0_6.index t = ![0, 0] ∧ win0_7.index t = ![0, 0] ∧ win0_8.index t = ![0, 0])
    ∧ (win0_9.index t = ![win0_13.index t 0 % 4, 0] ∧ win0_10.index t = ![win0_13.index t 0 % 4, 0] ∧ win0_11.index t = ![win0_13.index t 0 % 4, 0] ∧ win0_12.index t = ![win0_13.index t 0 % 4, 0])
    ∧ win0_13.index t 0 < 32 ∧ win0_13.index t 1 = 0
    ∧ (win0_14.index t 0 = win0_13.index t 0 / 4 ∧ win0_14.index t 1 = 0 ∧ win0_14.index t 2 = win0_13.index t 0 % 4)
    ∧ win0_15.index t 0 = win0_13.index t 0 / 4 ∧ win0_15.index t 1 = 0 ∧ win0_15.index t 2 = win0_13.index t 0 % 4)

/-! The blocks that a grid point finds, from the arguments. -/

theorem block0 (t : Fin cfg0.N) (r e : Fin 1024) (R : Fin 32768) (hR : R.val = win0_13.index t 0 * 1024 + r.val) : iblk m c 0 t (ix2 r e) = m ((c : Thread nD τ).loc main_arg0) (ix2 R e) := by
  obtain ⟨⟨p0, p1, p2, p3, p4⟩, ⟨p5, p6, p7, p8⟩, ⟨p9, p10, p11, p12⟩, q0, q1, q2, q3⟩ := places t
  rw [← congrFun (V_main_arg0 m c) (ix2 R e)]
  blk_ext [iblk, p0]
  all_goals omega

theorem block1 (t : Fin cfg0.N) (e : Fin 1024) : iblk m c 1 t (ix2 0 e) = m ((c : Thread nD τ).loc main_arg1) (ix2 1 e) := by
  obtain ⟨⟨p0, p1, p2, p3, p4⟩, ⟨p5, p6, p7, p8⟩, ⟨p9, p10, p11, p12⟩, q0, q1, q2, q3⟩ := places t
  rw [← entry1 m c e]
  blk_ext [iblk, p1]
  all_goals omega

/-- The prepared weights' column `k`. -/
def padded (e : Fin 1024) (k : ℕ) : EReal :=
    if k < 512 then win m c e k
    else if k < 768 then win m c e (512 + (k - 512) / 128 * 64 + k % 64)
    else if h : k < 1024 then (V m c main_v65 : S1024x256.Idx → EReal) (ix2 e ⟨(k - 768) % 256, Nat.mod_lt _ (by decide)⟩)
    else if k < 1664 then win m c e (k - 256)
    else if 1728 ≤ k ∧ k < 1760 then win m c e (k - 320) else 0

theorem block2 (t : Fin cfg0.N) (e : Fin 1024) (j : Fin 1792) : iblk m c 2 t (ix2 e j) = padded m c e j.val := by
  obtain ⟨⟨p0, p1, p2, p3, p4⟩, ⟨p5, p6, p7, p8⟩, ⟨p9, p10, p11, p12⟩, q0, q1, q2, q3⟩ := places t
  rw [← (show (V m c main_v69 : S1024x1792.Idx → EReal) (ix2 e j) = padded m c e j.val from entry2 m c e j)]
  blk_ext [iblk, p2]
  all_goals omega

theorem block3 (t : Fin cfg0.N) (e : Fin 384) : iblk m c 3 t (ix2 0 e) = m ((c : Thread nD τ).loc main_arg3) (ix2 0 e) := by
  obtain ⟨⟨p0, p1, p2, p3, p4⟩, ⟨p5, p6, p7, p8⟩, ⟨p9, p10, p11, p12⟩, q0, q1, q2, q3⟩ := places t
  rw [← entry3 m c e]
  blk_ext [iblk, p3]
  all_goals omega

theorem block4 (t : Fin cfg0.N) (e : Fin 384) (j : Fin 1024) : iblk m c 4 t (ix2 e j) = if j.val % 128 < 96 then wqb m c e (j.val / 128 * 96 + j.val % 128) else 0 := by
  obtain ⟨⟨p0, p1, p2, p3, p4⟩, ⟨p5, p6, p7, p8⟩, ⟨p9, p10, p11, p12⟩, q0, q1, q2, q3⟩ := places t
  rw [← entry4 m c e j]
  blk_ext [iblk, p4]
  all_goals omega

theorem block5 (t : Fin cfg0.N) (e : Fin 256) : iblk m c 5 t (ix2 0 e) = m ((c : Thread nD τ).loc main_arg5) (ix2 0 e) := by
  obtain ⟨⟨p0, p1, p2, p3, p4⟩, ⟨p5, p6, p7, p8⟩, ⟨p9, p10, p11, p12⟩, q0, q1, q2, q3⟩ := places t
  rw [← entry5 m c e]
  blk_ext [iblk, p5]
  all_goals omega

theorem block6 (t : Fin cfg0.N) (e : Fin 256) (j : Fin 1024) : iblk m c 6 t (ix2 e j) = if j.val % 128 < 64 then wkvb m c e j.val else 0 := by
  obtain ⟨⟨p0, p1, p2, p3, p4⟩, ⟨p5, p6, p7, p8⟩, ⟨p9, p10, p11, p12⟩, q0, q1, q2, q3⟩ := places t
  rw [← entry6 m c e j]
  blk_ext [iblk, p6]
  all_goals omega

theorem block7 (t : Fin cfg0.N) (d : Fin 512) (e : Fin 256) : iblk m c 7 t (ix2 d e) = wkvb m c e (d.val / 64 * 128 + 64 + d.val % 64) := by
  obtain ⟨⟨p0, p1, p2, p3, p4⟩, ⟨p5, p6, p7, p8⟩, ⟨p9, p10, p11, p12⟩, q0, q1, q2, q3⟩ := places t
  rw [← entry7 m c d e]
  blk_ext [iblk, p7]
  all_goals omega

theorem block8 (t : Fin cfg0.N) (d : Fin 128) (e : Fin 1024) : iblk m c 8 t (ix2 d e) = win m c e (640 + d.val) := by
  obtain ⟨⟨p0, p1, p2, p3, p4⟩, ⟨p5, p6, p7, p8⟩, ⟨p9, p10, p11, p12⟩, q0, q1, q2, q3⟩ := places t
  rw [← entry8 m c d e]
  blk_ext [iblk, p8]
  all_goals omega

theorem block9 (t : Fin cfg0.N) (r : Fin 1024) (l : Fin 128) (R : Fin 32768) (hR : R.val = win0_13.index t 0 * 1024 + r.val) : iblk m c 9 t (ix2 r l) = cosRow (R.val % 4096) l := by
  obtain ⟨⟨p0, p1, p2, p3, p4⟩, ⟨p5, p6, p7, p8⟩, ⟨p9, p10, p11, p12⟩, q0, q1, q2, q3⟩ := places t
  rw [← entry9 m c ⟨R.val % 4096, by omega⟩ l]
  blk_ext [iblk, p9]
  all_goals omega

theorem block10 (t : Fin cfg0.N) (r : Fin 1024) (l : Fin 128) (R : Fin 32768) (hR : R.val = win0_13.index t 0 * 1024 + r.val) : iblk m c 10 t (ix2 r l) = sinRow (R.val % 4096) l := by
  obtain ⟨⟨p0, p1, p2, p3, p4⟩, ⟨p5, p6, p7, p8⟩, ⟨p9, p10, p11, p12⟩, q0, q1, q2, q3⟩ := places t
  rw [← entry10 m c ⟨R.val % 4096, by omega⟩ l]
  blk_ext [iblk, p10]
  all_goals omega

theorem block11 (t : Fin cfg0.N) (r : Fin 1024) (l : Fin 128) (R : Fin 32768) (hR : R.val = win0_13.index t 0 * 1024 + r.val) : iblk m c 11 t (ix2 r l) = latentCos (R.val % 4096) l := by
  obtain ⟨⟨p0, p1, p2, p3, p4⟩, ⟨p5, p6, p7, p8⟩, ⟨p9, p10, p11, p12⟩, q0, q1, q2, q3⟩ := places t
  rw [← entry11 m c ⟨R.val % 4096, by omega⟩ l]
  blk_ext [iblk, p11]
  all_goals omega

theorem block12 (t : Fin cfg0.N) (r : Fin 1024) (l : Fin 128) (R : Fin 32768) (hR : R.val = win0_13.index t 0 * 1024 + r.val) : iblk m c 12 t (ix2 r l) = latentSin (R.val % 4096) l := by
  obtain ⟨⟨p0, p1, p2, p3, p4⟩, ⟨p5, p6, p7, p8⟩, ⟨p9, p10, p11, p12⟩, q0, q1, q2, q3⟩ := places t
  rw [← entry12 m c ⟨R.val % 4096, by omega⟩ l]
  blk_ext [iblk, p12]
  all_goals omega

/-- Column `k` of row `R`'s projections, from the arguments. -/
def colP (R : Fin 32768) : ℕ → EReal :=
  projCol (fun e => m ((c : Thread nD τ).loc main_arg0) (ix2 R e)) (fun e => m ((c : Thread nD τ).loc main_arg1) (ix2 1 e)) (win m c)

/-- Column `k` of row `R`'s latent queries, from the arguments. -/
def colQ (R : Fin 32768) : ℕ → EReal :=
  queryCol (fun e => m ((c : Thread nD τ).loc main_arg0) (ix2 R e)) (fun e => m ((c : Thread nD τ).loc main_arg1) (ix2 1 e)) (win m c)
    (fun e => m ((c : Thread nD τ).loc main_arg3) (ix2 0 e)) (wqb m c)

/-- Column `k` of row `R`'s latent keys and values, from the arguments. -/
def colK (R : Fin 32768) : ℕ → EReal :=
  kvCol (fun e => m ((c : Thread nD τ).loc main_arg0) (ix2 R e)) (fun e => m ((c : Thread nD τ).loc main_arg1) (ix2 1 e)) (win m c)
    (fun e => m ((c : Thread nD τ).loc main_arg5) (ix2 0 e)) (wkvb m c)

section Block

variable {t : Fin cfg0.N} {r : Fin 1024} {R : Fin 32768} (hR : R.val = win0_13.index t 0 * 1024 + r.val)

include hR

theorem nrm_block : nrm (iblk m c 0 t) (iblk m c 1 t) r = rms (fun e => m ((c : Thread nD τ).loc main_arg0) (ix2 R e)) fun e => m ((c : Thread nD τ).loc main_arg1) (ix2 1 e) := by
  unfold nrm
  simp only [fun e => block0 m c t r e R hR, block1 m c t]

theorem prj_block (k : ℕ) (hk : k < 1792) : prj (iblk m c 0 t) (iblk m c 1 t) (iblk m c 2 t) r k
    = ∑ e, rms (fun e => m ((c : Thread nD τ).loc main_arg0) (ix2 R e)) (fun e => m ((c : Thread nD τ).loc main_arg1) (ix2 1 e)) e * padded m c e k := by
  unfold prj
  rw [nrm_block m c hR]
  refine Finset.sum_congr rfl fun e _ => congrArg (HMul.hMul _) ?_
  exact (block2 m c t e ⟨k % 1792, _⟩).trans (congrArg (padded m c e) (Nat.mod_eq_of_lt hk))

theorem prj_col (k k' : ℕ) (hk : k < 1792) (h : ∀ e, padded m c e k = win m c e k') : prj (iblk m c 0 t) (iblk m c 1 t) (iblk m c 2 t) r k = colP m c R k' := by
  rw [prj_block m c hR k hk]
  unfold colP projCol
  simp only [h]

theorem prj_low (k : ℕ) (hk : k < 512) : prj (iblk m c 0 t) (iblk m c 1 t) (iblk m c 2 t) r k = colP m c R k :=
  prj_col m c hR k k (by omega) fun e => by
    unfold padded
    rw [if_pos hk]

theorem prj_key (k : ℕ) (hk : 512 ≤ k) (hk' : k < 768) : prj (iblk m c 0 t) (iblk m c 1 t) (iblk m c 2 t) r k = colP m c R (512 + (k - 512) / 128 * 64 + k % 64) :=
  prj_col m c hR k _ (by omega) fun e => by
    unfold padded
    rw [if_neg (by omega), if_pos hk']

theorem prj_latent (k : ℕ) (hk : 1024 ≤ k) (hk' : k < 1664) : prj (iblk m c 0 t) (iblk m c 1 t) (iblk m c 2 t) r k = colP m c R (k - 256) :=
  prj_col m c hR k _ (by omega) fun e => by
    unfold padded
    rw [if_neg (by omega), if_neg (by omega), dif_neg (by omega), if_pos hk']

theorem prj_pe (k : ℕ) (hk : 1728 ≤ k) (hk' : k < 1760) : prj (iblk m c 0 t) (iblk m c 1 t) (iblk m c 2 t) r k = colP m c R (k - 320) :=
  prj_col m c hR k _ (by omega) fun e => by
    unfold padded
    rw [if_neg (by omega), if_neg (by omega), dif_neg (by omega), if_neg (by omega), if_pos ⟨hk, hk'⟩]

theorem prj_zero (k : ℕ) (hk : 1664 ≤ k) (hk' : k < 1792) (h : ¬ (1728 ≤ k ∧ k < 1760)) : prj (iblk m c 0 t) (iblk m c 1 t) (iblk m c 2 t) r k = 0 := by
  rw [prj_block m c hR k hk']
  refine Finset.sum_eq_zero fun e _ => ?_
  unfold padded
  rw [if_neg (by omega), if_neg (by omega), dif_neg (by omega), if_neg (by omega), if_neg h, mul_zero]

theorem qan_block : qan (iblk m c 0 t) (iblk m c 1 t) (iblk m c 2 t) (iblk m c 3 t) r = queryLatent (fun e => m ((c : Thread nD τ).loc main_arg0) (ix2 R e)) (fun e => m ((c : Thread nD τ).loc main_arg1) (ix2 1 e)) (win m c)
    fun e => m ((c : Thread nD τ).loc main_arg3) (ix2 0 e) := by
  unfold qan queryLatent
  refine congrArg₂ (rmsOf _) (funext fun k => ?_) (funext fun e => block3 m c t e)
  exact (prj_latent m c hR _ (by omega) (by omega)).trans (congrArg (colP m c R) (show 1024 + k.val - 256 = 768 + k.val by omega))

theorem kvan_block : kvan (iblk m c 0 t) (iblk m c 1 t) (iblk m c 2 t) (iblk m c 5 t) r = kvLatent (fun e => m ((c : Thread nD τ).loc main_arg0) (ix2 R e)) (fun e => m ((c : Thread nD τ).loc main_arg1) (ix2 1 e)) (win m c)
    fun e => m ((c : Thread nD τ).loc main_arg5) (ix2 0 e) := by
  unfold kvan kvLatent
  refine congrArg₂ (rmsOf _) (funext fun k => ?_) (funext fun e => block5 m c t e)
  exact (prj_latent m c hR _ (by omega) (by omega)).trans (congrArg (colP m c R) (show 1408 + k.val - 256 = 1152 + k.val by omega))

theorem qry_block (h l : ℕ) (hh : h < 8) (hl : l < 96) : qry (iblk m c 0 t) (iblk m c 1 t) (iblk m c 2 t) (iblk m c 3 t) (iblk m c 4 t) r (h * 128 + l) = colQ m c R (h * 96 + l) := by
  unfold qry colQ queryCol
  rw [qan_block m c hR]
  refine Finset.sum_congr rfl fun e _ => congrArg (HMul.hMul _) ?_
  refine (block4 m c t e _).trans ?_
  dsimp only
  rw [if_pos (by omega)]
  exact congrArg (wqb m c e) (by omega)

theorem qry_zero (h l : ℕ) (hh : h < 8) (hl : 96 ≤ l) (hl' : l < 128) : qry (iblk m c 0 t) (iblk m c 1 t) (iblk m c 2 t) (iblk m c 3 t) (iblk m c 4 t) r (h * 128 + l) = 0 := by
  unfold qry
  refine Finset.sum_eq_zero fun e _ => ?_
  rw [block4 m c t e]
  dsimp only
  rw [if_neg (by omega), mul_zero]

theorem ky_block (h l : ℕ) (hh : h < 8) (hl : l < 64) : ky (iblk m c 0 t) (iblk m c 1 t) (iblk m c 2 t) (iblk m c 5 t) (iblk m c 6 t) r (h * 128 + l) = colK m c R (h * 128 + l) := by
  unfold ky colK kvCol
  rw [kvan_block m c hR]
  refine Finset.sum_congr rfl fun e _ => congrArg (HMul.hMul _) ?_
  refine (block6 m c t e _).trans ?_
  dsimp only
  rw [if_pos (by omega)]
  exact congrArg (wkvb m c e) (by omega)

theorem ky_zero (h l : ℕ) (hh : h < 8) (hl : 64 ≤ l) (hl' : l < 128) : ky (iblk m c 0 t) (iblk m c 1 t) (iblk m c 2 t) (iblk m c 5 t) (iblk m c 6 t) r (h * 128 + l) = 0 := by
  unfold ky
  refine Finset.sum_eq_zero fun e _ => ?_
  rw [block6 m c t e]
  dsimp only
  rw [if_neg (by omega), mul_zero]

/-- A block of queries and keys, from the arguments. -/
theorem wideBlock (j : Fin 3072) : outWide (iblk m c 0 t) (iblk m c 1 t) (iblk m c 2 t) (iblk m c 3 t) (iblk m c 4 t) (iblk m c 5 t) (iblk m c 6 t) (iblk m c 9 t) (iblk m c 10 t) (iblk m c 11 t) (iblk m c 12 t) r j
    = narrow scale latent (R.val % 4096) (colP m c R) (colQ m c R) (colK m c R) j.val := by
  unfold outWide
  rw [show tab (iblk m c 9 t) r = cosRow (R.val % 4096) from funext fun l => block9 m c t r l R hR,
    show tab (iblk m c 10 t) r = sinRow (R.val % 4096) from funext fun l => block10 m c t r l R hR,
    show tab (iblk m c 11 t) r = latentCos (R.val % 4096) from funext fun l => block11 m c t r l R hR,
    show tab (iblk m c 12 t) r = latentSin (R.val % 4096) from funext fun l => block12 m c t r l R hR]
  refine wide_eq (prj_low m c hR) (prj_key m c hR) ?_ ?_ (qry_block m c hR) (qry_zero m c hR) (ky_block m c hR) (ky_zero m c hR) j.val j.isLt
  · intro i hi
    exact (prj_pe m c hR _ (by omega) (by omega)).trans (congrArg (colP m c R) (show 1664 + 64 + i - 320 = 1408 + i by omega))
  · intro l h hl
    exact prj_zero m c hR _ (by omega) (by omega) (by omega)

/-- A block of latent values, from the arguments. -/
theorem valueBlock (d : Fin 512) : outValue (iblk m c 0 t) (iblk m c 1 t) (iblk m c 2 t) (iblk m c 5 t) (iblk m c 7 t) r d = colK m c R (d.val / 64 * 128 + 64 + d.val % 64) := by
  unfold outValue colK kvCol
  rw [kvan_block m c hR]
  refine Finset.sum_congr rfl fun e _ => ?_
  rw [block7 m c t d e, mul_comm]

/-- A block of sliding values, from the arguments. -/
theorem slideBlock (d : Fin 128) : outSlide (iblk m c 0 t) (iblk m c 1 t) (iblk m c 8 t) r d = colP m c R (640 + d.val) := by
  unfold outSlide colP projCol
  rw [nrm_block m c hR]
  refine Finset.sum_congr rfl fun e _ => ?_
  rw [block8 m c t d e, mul_comm]

end Block

theorem row_lt (t : Fin cfg0.N) (r : Fin 1024) : win0_13.index t 0 * 1024 + r.val < 32768 := by
  have := (places t).2.2.2.1
  omega

/-- The queries and keys, from the arguments. -/
def wideArr (j : S32768x3072.Idx) : EReal := narrow scale latent ((j 0).val % 4096) (colP m c (j 0)) (colQ m c (j 0)) (colK m c (j 0)) (j 1).val

/-- The row of a batch's position. -/
def rowAt (b : Fin 8) (s : Fin 4096) : Fin 32768 := ⟨b.val * 4096 + s.val, by omega⟩

/-- The latent values, from the arguments. -/
def valueArr (j : S8x512x4096.Idx) : EReal := colK m c (rowAt (j 0) (j 2)) ((j 1).val / 64 * 128 + 64 + (j 1).val % 64)

/-- The sliding values, from the arguments. -/
def slideArr (j : S8x128x4096.Idx) : EReal := colP m c (rowAt (j 0) (j 2)) (640 + (j 1).val)

theorem wide_arr : (dats m 0 c).arrAt 13 cfg0.N = wideArr m c := by
  refine (dats m 0 c).arrAt_eq_of_covers 13 _ (by decide +kernel) fun t hf y => ?_
  blk_simp
  rw [after0_13]
  unfold outsAt0
  dsimp only
  refine Eq.trans (wide_spec ..) ?_
  have h0 : ((win0_13.blk t).view.emb y 0).val = win0_13.index t 0 * 1024 + (y 0).val := by
    blk_simp
    try omega
  have h1 : (win0_13.blk t).view.emb y 1 = (y 1 : Fin 3072) := Fin.ext (by
    blk_simp [(places t).2.2.2.2.1]
    try omega)
  refine (wideBlock m c h0 (y 1)).trans ?_
  unfold wideArr
  rw [h1]

theorem value_arr : (dats m 0 c).arrAt 14 cfg0.N = valueArr m c := by
  refine (dats m 0 c).arrAt_eq_of_covers 14 _ (by decide +kernel) fun t hf y => ?_
  blk_simp
  rw [after0_14]
  unfold outsAt0
  dsimp only
  refine Eq.trans (value_spec ..) ?_
  obtain ⟨e0, e1, e2⟩ := (places t).2.2.2.2.2.1
  have l0 : (y 0).val < 1 := (y 0).isLt
  have h0 : ((win0_14.blk t).view.emb y 0).val = win0_13.index t 0 / 4 := by
    blk_simp [e0]
    try omega
  have h2 : ((win0_14.blk t).view.emb y 2).val = win0_13.index t 0 % 4 * 1024 + (y 2).val := by
    blk_simp [e2]
    try omega
  have h1 : (win0_14.blk t).view.emb y 1 = (y 1 : Fin 512) := Fin.ext (by
    blk_simp [e1]
    try omega)
  have hR : (rowAt ((win0_14.blk t).view.emb y 0) ((win0_14.blk t).view.emb y 2)).val = win0_13.index t 0 * 1024 + (y 2).val := by
    show ((win0_14.blk t).view.emb y 0).val * 4096 + ((win0_14.blk t).view.emb y 2).val = _
    rw [h0, h2]
    omega
  refine (valueBlock m c hR (y 1)).trans ?_
  unfold valueArr
  rw [h1]

theorem slide_arr : (dats m 0 c).arrAt 15 cfg0.N = slideArr m c := by
  refine (dats m 0 c).arrAt_eq_of_covers 15 _ (by decide +kernel) fun t hf y => ?_
  blk_simp
  rw [after0_15]
  unfold outsAt0
  dsimp only
  refine Eq.trans (slide_spec ..) ?_
  obtain ⟨e0, e1, e2⟩ := (places t).2.2.2.2.2.2
  have l0 : (y 0).val < 1 := (y 0).isLt
  have h0 : ((win0_15.blk t).view.emb y 0).val = win0_13.index t 0 / 4 := by
    blk_simp [e0]
    try omega
  have h2 : ((win0_15.blk t).view.emb y 2).val = win0_13.index t 0 % 4 * 1024 + (y 2).val := by
    blk_simp [e2]
    try omega
  have h1 : (win0_15.blk t).view.emb y 1 = (y 1 : Fin 128) := Fin.ext (by
    blk_simp [e1]
    try omega)
  have hR : (rowAt ((win0_15.blk t).view.emb y 0) ((win0_15.blk t).view.emb y 2)).val = win0_13.index t 0 * 1024 + (y 2).val := by
    show ((win0_15.blk t).view.emb y 0).val * 4096 + ((win0_15.blk t).view.emb y 2).val = _
    rw [h0, h2]
    omega
  refine (slideBlock m c hR (y 1)).trans ?_
  unfold slideArr
  rw [h1]

end Cert.Kernel6Ideal.Odd

end
-- ==== Proof.Odd.Ref.lean ====
module

public import proofs.«01_k».proof.Proof.Gen.Reference6Ideal.Read
public import proofs.«01_k».proof.Proof.Odd.Run
public import proofs.«01_k».proof.Proof.Mla.Soft
public import Idealize.ShloMosaic.Lib.IdealHost

@[expose] public section

set_option maxRecDepth 16384
set_option maxHeartbeats 1000000

noncomputable section

/-! The value of the reference of the odd layers' projections. -/

namespace Cert.Reference6Ideal.RefValue

open Cert.Reference6Ideal Cert.Reference6Ideal.Read Idealize.ShloMosaic Cert.Ffn Cert.Even Cert.Odd Cert.Kernel6Ideal.Odd

/-- The queries' scale: an eighth over the logarithm of two. -/
theorem scale_eq : Ideal.div (Ideal.ofBits .f32 0x3E000000#32) (Ideal.log (Ideal.ofBits .f32 0x40000000#32)) = scale := by
  have h8 : Ideal.ofBits .f32 0x3E000000#32 = ((8⁻¹ : ℝ) : EReal) := by
    simp [Ideal.ofBits, Ideal.ieee, -EReal.coe_mul]; norm_num
  have hl : Real.log 256 = 8 * Real.log 2 := by
    rw [show (256 : ℝ) = 2 ^ 8 by norm_num, Real.log_pow]; norm_num
  have h0 : Real.log 2 ≠ 0 := (Real.log_pos (by norm_num)).ne'
  rw [h8, Soft.log_two_f32, show scale = (((Real.log 256)⁻¹ : ℝ) : EReal) from rfl, hl, mul_inv]
  unfold Ideal.div
  rw [if_neg (by exact_mod_cast h0), ← EReal.coe_inv, ← EReal.coe_mul]

/-- The latent queries' scale: one over the root of 96, over the logarithm of two. -/
theorem latent_eq : Ideal.div (Ideal.div 1 (Ideal.sqrt (Ideal.ofBits .f32 0x42C00000#32))) (Ideal.log (Ideal.ofBits .f32 0x40000000#32)) = latent := by
  have h96 : Ideal.ofBits .f32 0x42C00000#32 = ((96 : ℝ) : EReal) := by
    simp [Ideal.ofBits, Ideal.ieee, -EReal.coe_mul]; norm_num
  have h0 : Real.log 2 ≠ 0 := (Real.log_pos (by norm_num)).ne'
  have hs : Ideal.sqrt ((96 : ℝ) : EReal) = ((Real.sqrt 96 : ℝ) : EReal) := by
    show (if (96 : ℝ) < 0 then ⊥ else ((Real.sqrt 96 : ℝ) : EReal)) = _
    rw [if_neg (by norm_num)]
  have hs0 : Real.sqrt 96 ≠ 0 := (Real.sqrt_pos.2 (by norm_num)).ne'
  rw [h96, hs, Soft.log_two_f32, show latent = (((Real.sqrt 96)⁻¹ * (Real.log 2)⁻¹ : ℝ) : EReal) from rfl]
  unfold Ideal.div
  rw [if_neg (by exact_mod_cast h0), if_neg (by exact_mod_cast hs0), one_mul, ← EReal.coe_inv, ← EReal.coe_inv, ← EReal.coe_mul]

variable (x0 : (⟨S32768x1024, .f32⟩ : BufTy).Contents (Elt Ideal)) (x1 : (⟨S4x1024, .f32⟩ : BufTy).Contents (Elt Ideal))
  (x2 : (⟨S2x1024x1440, .f32⟩ : BufTy).Contents (Elt Ideal)) (x3 : (⟨S2x384, .f32⟩ : BufTy).Contents (Elt Ideal))
  (x4 : (⟨S2x384x768, .f32⟩ : BufTy).Contents (Elt Ideal)) (x5 : (⟨S2x256, .f32⟩ : BufTy).Contents (Elt Ideal))
  (x6 : (⟨S2x256x1024, .f32⟩ : BufTy).Contents (Elt Ideal))

/-- The row of a batch's position. -/
def place (b : Fin 8) (s : Fin 4096) : Fin 32768 := ⟨b.val * 4096 + s.val, by omega⟩

/-- Column `k` of row `R`'s projections. -/
def rowP (R : Fin 32768) : ℕ → EReal :=
  projCol (fun e => x0 (ix2 R e)) (fun e => x1 (ix2 1 e)) fun e k => x2 (ix3 0 e ⟨k % 1440, Nat.mod_lt _ (by decide)⟩)

/-- Row `R`'s latent of the queries. -/
def rowA (R : Fin 32768) : Fin 384 → EReal :=
  queryLatent (fun e => x0 (ix2 R e)) (fun e => x1 (ix2 1 e)) (fun e k => x2 (ix3 0 e ⟨k % 1440, Nat.mod_lt _ (by decide)⟩)) fun e => x3 (ix2 0 e)

/-- Column `k` of row `R`'s latent queries. -/
def rowQ (R : Fin 32768) : ℕ → EReal :=
  queryCol (fun e => x0 (ix2 R e)) (fun e => x1 (ix2 1 e)) (fun e k => x2 (ix3 0 e ⟨k % 1440, Nat.mod_lt _ (by decide)⟩)) (fun e => x3 (ix2 0 e))
    fun e k => x4 (ix3 0 e ⟨k % 768, Nat.mod_lt _ (by decide)⟩)

/-- Row `R`'s latent of the keys and values. -/
def rowB (R : Fin 32768) : Fin 256 → EReal :=
  kvLatent (fun e => x0 (ix2 R e)) (fun e => x1 (ix2 1 e)) (fun e k => x2 (ix3 0 e ⟨k % 1440, Nat.mod_lt _ (by decide)⟩)) fun e => x5 (ix2 0 e)

/-- Column `k` of row `R`'s latent keys and values. -/
def rowK (R : Fin 32768) : ℕ → EReal :=
  kvCol (fun e => x0 (ix2 R e)) (fun e => x1 (ix2 1 e)) (fun e k => x2 (ix3 0 e ⟨k % 1440, Nat.mod_lt _ (by decide)⟩)) (fun e => x5 (ix2 0 e))
    fun e k => x6 (ix3 0 e ⟨k % 1024, Nat.mod_lt _ (by decide)⟩)

theorem norm_at (R : Fin 32768) (d : Fin 1024) : val_main_v14 (F := Ideal) x0 x1 (ix2 R d)
    = rms (fun e => x0 (ix2 R e)) (fun e => x1 (ix2 1 e)) d := by
  unfold rms
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem proj_at (R : Fin 32768) (j : Fin 1440) : val_main_v17 (F := Ideal) x0 x1 x2 (ix2 R j) = rowP x0 x1 x2 R j.val := by
  unfold rowP projCol
  simp only [← norm_at, Nat.mod_eq_of_lt j.isLt]
  pointwise [val_main_v17, val_main_v16, val_main_v15]

theorem split_at (b : Fin 8) (s : Fin 4096) (j : Fin 1440) : val_main_v18 (F := Ideal) x0 x1 x2 (ix3 b s j) = rowP x0 x1 x2 (place b s) j.val := by
  rw [← proj_at]
  unfold place
  pointwise [val_main_v18]

theorem angle_at (s : Fin 4096) (k : Fin 32) : val_main_v40 (F := Ideal) (ix2 s k) = angle s.val k.val := by
  unfold angle
  pointwise [val_main_v40, val_main_v39, val_main_v38, val_main_v37, val_main_v36, val_main_v35, val_main_v34, val_main_v33, val_main_v32, val_main_v31, val_main_v30, val_main_v29, val_main_v28, val_main_v27, val_main_v26, val_main_v25, val_main_cst_2, val_main_cst_3, val_main_cst_4, val_main_cst_5]

theorem cos_at (s : Fin 4096) (k : Fin 32) : val_main_v41 (F := Ideal) (ix2 s k) = Ideal.cos (angle s.val k.val) := by
  rw [← angle_at]
  rfl

theorem sin_at (s : Fin 4096) (k : Fin 32) : val_main_v42 (F := Ideal) (ix2 s k) = Ideal.sin (angle s.val k.val) := by
  rw [← angle_at]
  rfl

theorem latentAngle_at (s : Fin 4096) (k : Fin 16) : val_main_v58 (F := Ideal) (ix2 s k) = latentAngle s.val k.val := by
  unfold latentAngle
  pointwise [val_main_v58, val_main_v57, val_main_v56, val_main_v55, val_main_v54, val_main_v53, val_main_v52, val_main_v51, val_main_v50, val_main_v49, val_main_v48, val_main_v47, val_main_v46, val_main_v45, val_main_v44, val_main_v43, val_main_cst_6, val_main_cst_7, val_main_cst_8, val_main_cst_9]

theorem latentCos_at (s : Fin 4096) (k : Fin 16) : val_main_v59 (F := Ideal) (ix2 s k) = Ideal.cos (latentAngle s.val k.val) := by
  rw [← latentAngle_at]
  rfl

theorem latentSin_at (s : Fin 4096) (k : Fin 16) : val_main_v60 (F := Ideal) (ix2 s k) = Ideal.sin (latentAngle s.val k.val) := by
  rw [← latentAngle_at]
  rfl

theorem qan_at (b : Fin 8) (s : Fin 4096) (d : Fin 384) : val_main_v120 (F := Ideal) x0 x1 x2 x3 (ix3 b s d) = rowA x0 x1 x2 x3 (place b s) d := by
  unfold rowA queryLatent rmsOf
  pointwise [val_main_v120, val_main_v119, val_main_v118, val_main_v117, val_main_v116, val_main_v115, val_main_v114, val_main_v113, val_main_v112, val_main_v111, val_main_v110, val_main_v109, val_main_v108, val_main_v107, val_main_v106, val_main_v22, val_main_cst_12, val_main_cst_13, val_main_cst_14]
  simp only [split_at]
  rfl

theorem kvan_at (b : Fin 8) (s : Fin 4096) (d : Fin 256) : val_main_v166 (F := Ideal) x0 x1 x2 x5 (ix3 b s d) = rowB x0 x1 x2 x5 (place b s) d := by
  unfold rowB kvLatent rmsOf
  pointwise [val_main_v166, val_main_v165, val_main_v164, val_main_v163, val_main_v162, val_main_v161, val_main_v160, val_main_v159, val_main_v158, val_main_v157, val_main_v156, val_main_v155, val_main_v154, val_main_v153, val_main_v152, val_main_v23, val_main_cst_17, val_main_cst_18, val_main_cst_19]
  simp only [split_at]
  rfl

theorem query_at (b : Fin 8) (s : Fin 4096) (j : Fin 768) : val_main_v123 (F := Ideal) x0 x1 x2 x3 x4 (ix3 b s j) = rowQ x0 x1 x2 x3 x4 (place b s) j.val := by
  unfold rowQ queryCol
  simp only [Nat.mod_eq_of_lt j.isLt]
  refine Eq.trans ?_ (Finset.sum_congr rfl fun e _ => congrArg (fun z => z * x4 (ix3 0 e j)) (qan_at x0 x1 x2 x3 b s e))
  pointwise [val_main_v123, val_main_v122, val_main_v121]

theorem kv_at (b : Fin 8) (s : Fin 4096) (j : Fin 1024) : val_main_v169 (F := Ideal) x0 x1 x2 x5 x6 (ix3 b s j) = rowK x0 x1 x2 x5 x6 (place b s) j.val := by
  unfold rowK kvCol
  simp only [Nat.mod_eq_of_lt j.isLt]
  refine Eq.trans ?_ (Finset.sum_congr rfl fun e _ => congrArg (fun z => z * x6 (ix3 0 e j)) (kvan_at x0 x1 x2 x5 b s e))
  pointwise [val_main_v169, val_main_v168, val_main_v167]

/-- A head of 64 turned, as the reference has it. -/
theorem pair64 (p : ℕ → EReal) (s c l : ℕ) (hc : c % 64 = 0) (hl : l < 64) :
    (if _h : l < 32 then p (c + l) * Ideal.cos (angle s l) - p (c + (32 + l)) * Ideal.sin (angle s l)
      else p (c + (32 + (l - 32))) * Ideal.cos (angle s (l - 32)) + p (c + (l - 32)) * Ideal.sin (angle s (l - 32)))
    = turn64 p (cosRow s) (sinRow s) (c + l) := by
  unfold turn64 cosRow sinRow
  have e : (c + l) % 128 % 64 = l := by omega
  have e' : (c + l) % 64 = l := by omega
  simp only [e, e']
  by_cases h : l < 32
  · simp only [dif_pos h, if_pos h]
    rw [mul_neg, sub_eq_add_neg, show c + (32 + l) = c + l + 32 by omega]
  · simp only [dif_neg h, if_neg h]
    rw [show c + (32 + (l - 32)) = c + l by omega, show c + (l - 32) = c + l - 32 by omega]

/-- The 32 numbers that turn, as the reference has them. -/
theorem pair32 (f : ℕ → EReal) (s i : ℕ) :
    (if _h : i < 16 then f i * Ideal.cos (latentAngle s i) - f (16 + i) * Ideal.sin (latentAngle s i)
      else f (16 + (i - 16)) * Ideal.cos (latentAngle s (i - 16)) + f (i - 16) * Ideal.sin (latentAngle s (i - 16)))
    = turn32 s f i := by
  unfold turn32
  by_cases h : i < 16
  · simp only [dif_pos h, if_pos h]
    rw [mul_neg, sub_eq_add_neg, Nat.add_comm 16 i]
  · simp only [dif_neg h, if_neg h]
    rw [show 16 + (i - 16) = i by omega]

theorem swa_query_at (b : Fin 8) (s : Fin 4096) (h : Fin 8) (l : Fin 64) : val_main_v81 (F := Ideal) x0 x1 x2 (ix4 b s h l)
    = turn64 (rowP x0 x1 x2 (place b s)) (cosRow s.val) (sinRow s.val) (h.val * 64 + l.val) := by
  refine Eq.trans ?_ (pair64 _ s.val (h.val * 64) l.val (by omega) l.isLt)
  pointwise [val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v19]
  simp only [split_at, cos_at, sin_at]

theorem swa_key_at (b : Fin 8) (s : Fin 4096) (h : Fin 2) (l : Fin 64) : val_main_v104 (F := Ideal) x0 x1 x2 (ix4 b s h l)
    = turn64 (rowP x0 x1 x2 (place b s)) (cosRow s.val) (sinRow s.val) (512 + h.val * 64 + l.val) := by
  refine Eq.trans ?_ (pair64 _ s.val (512 + h.val * 64) l.val (by omega) l.isLt)
  pointwise [val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v20]
  simp only [split_at, cos_at, sin_at, Nat.add_assoc]

theorem turned_query_at (b : Fin 8) (s : Fin 4096) (h : Fin 8) (i : Fin 32) : val_main_v145 (F := Ideal) x0 x1 x2 x3 x4 (ix4 b s h i)
    = turn32 s.val (fun k => rowQ x0 x1 x2 x3 x4 (place b s) (h.val * 96 + 64 + k)) i.val := by
  refine Eq.trans ?_ (pair32 _ s.val i.val)
  pointwise [val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124]
  simp only [query_at, latentCos_at, latentSin_at, Nat.add_assoc]

theorem turned_key_at (b : Fin 8) (s : Fin 4096) (i : Fin 32) : val_main_v190 (F := Ideal) x0 x1 x2 (ix4 b s 0 i)
    = turn32 s.val (fun k => rowP x0 x1 x2 (place b s) (1408 + k)) i.val := by
  refine Eq.trans ?_ (pair32 _ s.val i.val)
  pointwise [val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v24]
  simp only [split_at, latentCos_at, latentSin_at, Nat.add_assoc]

/-- A latent head's query, padded and scaled. -/
theorem latent_query_at (b : Fin 8) (s : Fin 4096) (h : Fin 8) (l : Fin 128) : val_main_v198 (F := Ideal) x0 x1 x2 x3 x4 (ix4 b s h l)
    = head s.val (fun l => rowQ x0 x1 x2 x3 x4 (place b s) (h.val * 96 + l)) (fun i => rowQ x0 x1 x2 x3 x4 (place b s) (h.val * 96 + 64 + i)) l.val * latent := by
  rw [← latent_eq]
  pointwise [val_main_v198, val_main_v197, val_main_v151, val_main_v150, val_main_v149, val_main_v148, val_main_v147, val_main_v146, val_main_v125, val_main_v124, val_main_v61, val_main_cst_10, val_main_cst_15, val_main_cst_16, val_main_cst_21]
  simp only [query_at, turned_query_at]
  unfold head
  by_cases h1 : l.val < 96
  · by_cases h2 : l.val < 64
    · simp only [dif_pos h1, dif_pos h2, if_pos h2]
    · simp only [dif_pos h1, dif_neg h2, if_neg h2, if_pos h1]
  · simp only [dif_neg h1, if_neg h1, if_neg (show ¬ l.val < 64 by omega)]
    rw [zero_mul]

/-- A latent head's key, padded. -/
theorem latent_key_at (b : Fin 8) (s : Fin 4096) (h : Fin 8) (l : Fin 128) : val_main_v201 (F := Ideal) x0 x1 x2 x5 x6 (ix4 b s h l)
    = head s.val (fun l => rowK x0 x1 x2 x5 x6 (place b s) (h.val * 128 + l)) (fun i => rowP x0 x1 x2 (place b s) (1408 + i)) l.val := by
  pointwise [val_main_v193, val_main_v192, val_main_v191, val_main_v201, val_main_v200, val_main_v170, val_main_cst_22]
  simp only [kv_at, turned_key_at]
  unfold head
  by_cases h1 : l.val < 96
  · by_cases h2 : l.val < 64
    · simp only [dif_pos h1, dif_pos h2, if_pos h2]
    · simp only [dif_pos h1, dif_neg h2, if_neg h2, if_pos h1]
  · simp only [dif_neg h1, if_neg h1, if_neg (show ¬ l.val < 64 by omega)]

theorem place_eq (R : Fin 32768) (h : R.val / 4096 < 8) (h' : R.val % 4096 < 4096) : place ⟨R.val / 4096, h⟩ ⟨R.val % 4096, h'⟩ = R :=
  Fin.ext (show R.val / 4096 * 4096 + R.val % 4096 = R.val by omega)

theorem queries_keys_at (R : Fin 32768) (j : Fin 3072) : val_main_v206 (F := Ideal) x0 x1 x2 x3 x4 x5 x6 (ix2 R j)
    = narrow scale latent (R.val % 4096) (rowP x0 x1 x2 R) (rowQ x0 x1 x2 x3 x4 R) (rowK x0 x1 x2 x5 x6 R) j.val := by
  rw [← scale_eq]
  pointwise [val_main_v206, val_main_v203, val_main_v202, val_main_v199, val_main_v196, val_main_v195, val_main_v194, val_main_v105, val_main_v84, val_main_v83, val_main_v82, val_main_v61, val_main_cst_10, val_main_cst_11, val_main_cst_20]
  simp only [swa_query_at, swa_key_at, latent_query_at, latent_key_at, place_eq]
  unfold narrow
  by_cases h1 : j.val < 512
  · simp only [dif_pos h1, if_pos h1]
    rw [show j.val / 64 * 64 + j.val % 64 = j.val by omega]
  · by_cases h2 : j.val < 768
    · simp only [dif_neg h1, if_neg h1, if_pos h2, dif_pos (show j.val - 512 < 256 by omega)]
      by_cases h : (j.val - 512) % 128 < 64
      · simp only [dif_pos h]
        exact congrArg (turn64 _ _ _) (by omega)
      · simp only [dif_neg h]
        exact congrArg (turn64 _ _ _) (by omega)
    · by_cases h3 : j.val < 1024
      · simp only [dif_neg h1, if_neg h1, if_neg h2, if_pos h3, dif_neg (show ¬ j.val - 512 < 256 by omega), dif_pos (show j.val - 512 - 256 < 256 by omega)]
      · by_cases h4 : j.val < 2048
        · simp only [dif_neg h1, if_neg h1, if_neg h2, if_neg h3, if_pos h4, dif_neg (show ¬ j.val - 512 < 256 by omega), dif_neg (show ¬ j.val - 512 - 256 < 256 by omega),
            show j.val - 512 - 256 - 256 = j.val - 1024 by omega, dif_pos (show j.val - 1024 < 1024 by omega)]
          rw [show (j.val - 1024) % 128 = j.val % 128 by omega]
        · simp only [dif_neg h1, if_neg h1, if_neg h2, if_neg h3, if_neg h4, dif_neg (show ¬ j.val - 512 < 256 by omega), dif_neg (show ¬ j.val - 512 - 256 < 256 by omega),
            show j.val - 512 - 256 - 256 = j.val - 1024 by omega, dif_neg (show ¬ j.val - 1024 < 1024 by omega), show j.val - 1024 - 1024 = j.val - 2048 by omega]
          rw [show (j.val - 2048) % 128 = j.val % 128 by omega]

theorem value_at (b : Fin 8) (d : Fin 512) (s : Fin 4096) : val_main_v208 (F := Ideal) x0 x1 x2 x5 x6 (ix3 b d s)
    = rowK x0 x1 x2 x5 x6 (place b s) (d.val / 64 * 128 + 64 + d.val % 64) := by
  pointwise [val_main_v208, val_main_v207, val_main_v205, val_main_v204, val_main_v170]
  simp only [kv_at, Nat.add_assoc]

theorem slide_at (b : Fin 8) (d : Fin 128) (s : Fin 4096) : val_main_v210 (F := Ideal) x0 x1 x2 (ix3 b d s)
    = rowP x0 x1 x2 (place b s) (640 + d.val) := by
  pointwise [val_main_v210, val_main_v209, val_main_v21]
  simp only [split_at]

theorem queries_keys_all : val_main_v206 (F := Ideal) x0 x1 x2 x3 x4 x5 x6 = fun j : S32768x3072.Idx =>
    narrow scale latent ((j 0).val % 4096) (rowP x0 x1 x2 (j 0)) (rowQ x0 x1 x2 x3 x4 (j 0)) (rowK x0 x1 x2 x5 x6 (j 0)) (j 1).val :=
  funext fun j => (congrArg (val_main_v206 (F := Ideal) x0 x1 x2 x3 x4 x5 x6) (eq_ix2 j)).trans (queries_keys_at x0 x1 x2 x3 x4 x5 x6 (j 0) (j 1))

theorem value_all : val_main_v208 (F := Ideal) x0 x1 x2 x5 x6 = fun j : S8x512x4096.Idx =>
    rowK x0 x1 x2 x5 x6 (place (j 0) (j 2)) ((j 1).val / 64 * 128 + 64 + (j 1).val % 64) :=
  funext fun j => (congrArg (val_main_v208 (F := Ideal) x0 x1 x2 x5 x6) (eq_ix3 j)).trans (value_at x0 x1 x2 x5 x6 (j 0) (j 1) (j 2))

theorem slide_all : val_main_v210 (F := Ideal) x0 x1 x2 = fun j : S8x128x4096.Idx => rowP x0 x1 x2 (place (j 0) (j 2)) (640 + (j 1).val) :=
  funext fun j => (congrArg (val_main_v210 (F := Ideal) x0 x1 x2) (eq_ix3 j)).trans (slide_at x0 x1 x2 (j 0) (j 1) (j 2))

end Cert.Reference6Ideal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Read
public import proofs.«01_k».proof.Proof.Gen.ReferenceIdeal.Run
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Reference3Ideal.Run
public import proofs.«01_k».proof.Proof.Gen.Kernel4
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Reference6Ideal.Run
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Reference4Ideal.Run
public import proofs.«01_k».proof.Proof.Mla.Value
public import proofs.«01_k».proof.Proof.Ffn.LastValue
public import proofs.«01_k».proof.Proof.Ffn.LastRef
public import proofs.«01_k».proof.Proof.Ffn.PlainValue
public import proofs.«01_k».proof.Proof.Ffn.PlainRef
public import proofs.«01_k».proof.Proof.Ffn.MixValue
public import proofs.«01_k».proof.Proof.Ffn.MixRef
public import proofs.«01_k».proof.Proof.Even.Value
public import proofs.«01_k».proof.Proof.Even.Ref
public import proofs.«01_k».proof.Proof.Odd.Value
public import proofs.«01_k».proof.Proof.Odd.Ref
public import Idealize.ShloMosaic.Adequacy
public import Idealize.ShloMosaic.Init

@[expose] public section

noncomputable section

namespace Cert.Proof

open Idealize.ShloMosaic Idealize.SL.Sem

/-- The attention's kernel and its reference end with the same array. -/
theorem attention : Cert.algebraic_KernelIdeal_ReferenceIdeal := by
  intro m g m' g' _ hm
  refine ⟨fun c => fun j : Cert.KernelIdeal.S8x4096x512.Idx => Soft.spec (m ((c.tc : Thread _ _).loc Cert.KernelIdeal.main_arg0))
    (m ((c.tc : Thread _ _).loc Cert.KernelIdeal.main_arg1)) (j 0) (j 1) (j 2),
    (θ_run _ _ _).mono (fun r h c => ⟨(h c).1.trans (Cert.KernelIdeal.Mla.arr_eq m c), (h c).2⟩) (Cert.KernelIdeal.Value.run_blocks m g),
    (θ_run _ _ _).mono (fun r h c => ⟨(h c).1.trans ?_, (h c).2⟩) (Cert.ReferenceIdeal.Value.run m' g')⟩
  rw [Cert.ReferenceIdeal.Read.val_main_v24_eq, (hm c).1, (hm c).2]
  funext j
  rw [eq_ix3 j]
  exact Cert.ReferenceIdeal.RefValue.v24_at _ _ _ _ _

/-- The last feed-forward's kernel and its reference end with the same array. -/
theorem lastFeedForward : Cert.algebraic_Kernel2Ideal_Reference2Ideal := by
  intro m g m' g' _ hm
  refine ⟨fun c => (Cert.Kernel2Ideal.Gen.dats m 0 c).arrAt 10 Cert.Kernel2Ideal.cfg0.N, Cert.Kernel2Ideal.Value.run_blocks m g,
    (θ_run _ _ _).mono (fun r h c => ⟨(h c).1.trans ?_, (h c).2⟩) (Cert.Reference2Ideal.Value.run m' g')⟩
  obtain ⟨h0, h1, h2, h3, h4, h5, h6, h7, h8⟩ := hm c
  rw [Cert.Reference2Ideal.Read.val_main_v48_eq, h0, h1, h2, h3, h4, h5, h6, h7, h8]
  refine Eq.trans ?_ (Cert.Kernel2Ideal.Ffn.arr_eq m c).symm
  funext j
  rw [eq_ix2 j]
  exact Cert.Reference2Ideal.RefValue.result_at _ _ _ _ _ _ _ _ _ _ _

/-- The first feed-forward's kernel and its reference end with the same array. -/
theorem plainFeedForward : Cert.algebraic_Kernel3Ideal_Reference3Ideal := by
  intro m g m' g' _ hm
  refine ⟨fun c => (Cert.Kernel3Ideal.Gen.dats m 0 c).arrAt 6 Cert.Kernel3Ideal.cfg0.N, Cert.Kernel3Ideal.Value.run_blocks m g,
    (θ_run _ _ _).mono (fun r h c => ⟨(h c).1.trans ?_, (h c).2⟩) (Cert.Reference3Ideal.Value.run m' g')⟩
  obtain ⟨h0, h1, h2, h3, h4, h5⟩ := hm c
  rw [Cert.Reference3Ideal.Read.val_main_v29_eq, h0, h1, h2, h3, h4]
  refine Eq.trans ?_ (Cert.Kernel3Ideal.Ffn.arr_eq m c).symm
  funext j
  rw [eq_ix2 j]
  exact Cert.Reference3Ideal.RefValue.result_at _ _ _ _ _ _ _

/-- The feed-forward's kernel after the first mixer and its reference end with the same array. -/
theorem mixFeedForward : Cert.algebraic_Kernel4Ideal_Reference4Ideal := by
  intro m g m' g' _ hm
  refine ⟨fun c => (Cert.Kernel4Ideal.Gen.dats m 0 c).arrAt 10 Cert.Kernel4Ideal.cfg0.N, Cert.Kernel4Ideal.Value.run_blocks m g,
    (θ_run _ _ _).mono (fun r h c => ⟨(h c).1.trans ?_, (h c).2⟩) (Cert.Reference4Ideal.Value.run m' g')⟩
  obtain ⟨h0, h1, h2, h3, h4, h5, h6, h7, h8⟩ := hm c
  rw [Cert.Reference4Ideal.Read.val_main_v35_eq, h0, h1, h2, h3, h4, h5, h6, h7]
  refine Eq.trans ?_ (Cert.Kernel4Ideal.Ffn.arr_eq m c).symm
  funext j
  rw [eq_ix2 j]
  exact Cert.Reference4Ideal.RefValue.result_at _ _ _ _ _ _ _ _ _ _

/-- The even layers' projection kernel and its reference end with the same two arrays. -/
theorem evenProjections : Cert.algebraic_Kernel5Ideal_Reference5Ideal := by
  intro m g m' g' _ hm
  refine ⟨fun c => (Cert.Kernel5Ideal.Gen.dats m 0 c).arrAt 5 Cert.Kernel5Ideal.cfg0.N,
    fun c => (Cert.Kernel5Ideal.Gen.dats m 0 c).arrAt 6 Cert.Kernel5Ideal.cfg0.N, Cert.Kernel5Ideal.Value.run_blocks m g,
    (θ_run _ _ _).mono (fun r h c => ⟨(h c).1.trans ?_, (h c).2.1.trans ?_, (h c).2.2⟩) (Cert.Reference5Ideal.Value.run m' g')⟩
  · obtain ⟨h0, h1, h2⟩ := hm c
    rw [Cert.Reference5Ideal.Read.val_main_v88_eq, h0, h1, h2]
    refine Eq.trans ?_ (Cert.Kernel5Ideal.Even.first_eq m c).symm
    funext j
    rw [eq_ix2 j]
    exact Cert.Reference5Ideal.RefValue.first_at _ _ _ _ _
  · obtain ⟨h0, h1, h2⟩ := hm c
    rw [Cert.Reference5Ideal.Read.val_main_v92_eq, h0, h1, h2]
    refine Eq.trans ?_ (Cert.Kernel5Ideal.Even.second_eq m c).symm
    funext j
    rw [eq_ix2 j]
    exact Cert.Reference5Ideal.RefValue.second_at _ _ _ _ _

/-- The reference's queries and keys on the kernel's arguments are the kernel's. -/
theorem oddWide (m : (ℓ : Loc Cert.Kernel6Ideal.nD Cert.Kernel6Ideal.τ Cert.Kernel6Ideal.sig) → Buf (Elt Ideal) ℓ) (c : Dev Cert.Kernel6Ideal.nD) :
    Cert.Reference6Ideal.Read.val_main_v206 (F := Ideal) (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg3)) (m ((c.tc : Thread _ _).loc Cert.Kernel6Ideal.main_arg4)) (m ((c.tc : Thread _ _).loc Cert.Kernel6Ideal.main_arg5)) (m ((c.tc : Thread _ _).loc Cert.Kernel6Ideal.main_arg6))
      = (Cert.Kernel6Ideal.Gen.dats m 0 c).arrAt 13 Cert.Kernel6Ideal.cfg0.N :=
  (Cert.Reference6Ideal.RefValue.queries_keys_all _ _ _ _ _ _ _).trans (Eq.trans rfl (Cert.Kernel6Ideal.Odd.wide_arr m c).symm)

/-- The reference's transposed latent values on the kernel's arguments are the kernel's. -/
theorem oddValues (m : (ℓ : Loc Cert.Kernel6Ideal.nD Cert.Kernel6Ideal.τ Cert.Kernel6Ideal.sig) → Buf (Elt Ideal) ℓ) (c : Dev Cert.Kernel6Ideal.nD) :
    Cert.Reference6Ideal.Read.val_main_v208 (F := Ideal) (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg5)) (m ((c.tc : Thread _ _).loc Cert.Kernel6Ideal.main_arg6))
      = (Cert.Kernel6Ideal.Gen.dats m 0 c).arrAt 14 Cert.Kernel6Ideal.cfg0.N :=
  (Cert.Reference6Ideal.RefValue.value_all _ _ _ _ _).trans (Eq.trans rfl (Cert.Kernel6Ideal.Odd.value_arr m c).symm)

/-- The reference's transposed sliding values on the kernel's arguments are the kernel's. -/
theorem oddSlide (m : (ℓ : Loc Cert.Kernel6Ideal.nD Cert.Kernel6Ideal.τ Cert.Kernel6Ideal.sig) → Buf (Elt Ideal) ℓ) (c : Dev Cert.Kernel6Ideal.nD) :
    Cert.Reference6Ideal.Read.val_main_v210 (F := Ideal) (m ((c.tc : Thread _ _).loc Cert.Kernel6Ideal.main_arg0)) (m ((c.tc : Thread _ _).loc Cert.Kernel6Ideal.main_arg1)) (m ((c.tc : Thread _ _).loc Cert.Kernel6Ideal.main_arg2))
      = (Cert.Kernel6Ideal.Gen.dats m 0 c).arrAt 15 Cert.Kernel6Ideal.cfg0.N :=
  (Cert.Reference6Ideal.RefValue.slide_all _ _ _).trans (Eq.trans rfl (Cert.Kernel6Ideal.Odd.slide_arr m c).symm)

set_option maxHeartbeats 1000000 in
/-- The odd layers' projection kernel and its reference end with the same three arrays. -/
theorem oddProjections : Cert.algebraic_Kernel6Ideal_Reference6Ideal := by
  intro m g m' g' _ hm
  refine ⟨fun c => (Cert.Kernel6Ideal.Gen.dats m 0 c).arrAt 13 Cert.Kernel6Ideal.cfg0.N,
    fun c => (Cert.Kernel6Ideal.Gen.dats m 0 c).arrAt 14 Cert.Kernel6Ideal.cfg0.N,
    fun c => (Cert.Kernel6Ideal.Gen.dats m 0 c).arrAt 15 Cert.Kernel6Ideal.cfg0.N, Cert.Kernel6Ideal.Value.run_blocks m g,
    (θ_run _ _ _).mono (fun r h c => ⟨(h c).1.trans ?_, (h c).2.1.trans ?_, (h c).2.2.1.trans ?_, (h c).2.2.2⟩) (Cert.Reference6Ideal.Value.run m' g')⟩
  · obtain ⟨h0, h1, h2, h3, h4, h5, h6⟩ := hm c
    have e0 : StableHlo.launchContents m' c (Proc.devRef .tc Cert.Reference6Ideal.main_arg0) = m ((c.tc : Thread _ _).loc Cert.Kernel6Ideal.main_arg0) := h0
    have e1 : StableHlo.launchContents m' c (Proc.devRef .tc Cert.Reference6Ideal.main_arg1) = m ((c.tc : Thread _ _).loc Cert.Kernel6Ideal.main_arg1) := h1
    have e2 : StableHlo.launchContents m' c (Proc.devRef .tc Cert.Reference6Ideal.main_arg2) = m ((c.tc : Thread _ _).loc Cert.Kernel6Ideal.main_arg2) := h2
    have e3 : StableHlo.launchContents m' c (Proc.devRef .tc Cert.Reference6Ideal.main_arg3) = m ((c.tc : Thread _ _).loc Cert.Kernel6Ideal.main_arg3) := h3
    have e4 : StableHlo.launchContents m' c (Proc.devRef .tc Cert.Reference6Ideal.main_arg4) = m ((c.tc : Thread _ _).loc Cert.Kernel6Ideal.main_arg4) := h4
    have e5 : StableHlo.launchContents m' c (Proc.devRef .tc Cert.Reference6Ideal.main_arg5) = m ((c.tc : Thread _ _).loc Cert.Kernel6Ideal.main_arg5) := h5
    have e6 : StableHlo.launchContents m' c (Proc.devRef .tc Cert.Reference6Ideal.main_arg6) = m ((c.tc : Thread _ _).loc Cert.Kernel6Ideal.main_arg6) := h6
    refine (Cert.Reference6Ideal.Read.val_main_v206_eq _).trans ?_
    rw [e0, e1, e2, e3, e4, e5, e6]
    exact oddWide m c
  · obtain ⟨h0, h1, h2, h3, h4, h5, h6⟩ := hm c
    have e0 : StableHlo.launchContents m' c (Proc.devRef .tc Cert.Reference6Ideal.main_arg0) = m ((c.tc : Thread _ _).loc Cert.Kernel6Ideal.main_arg0) := h0
    have e1 : StableHlo.launchContents m' c (Proc.devRef .tc Cert.Reference6Ideal.main_arg1) = m ((c.tc : Thread _ _).loc Cert.Kernel6Ideal.main_arg1) := h1
    have e2 : StableHlo.launchContents m' c (Proc.devRef .tc Cert.Reference6Ideal.main_arg2) = m ((c.tc : Thread _ _).loc Cert.Kernel6Ideal.main_arg2) := h2
    have e5 : StableHlo.launchContents m' c (Proc.devRef .tc Cert.Reference6Ideal.main_arg5) = m ((c.tc : Thread _ _).loc Cert.Kernel6Ideal.main_arg5) := h5
    have e6 : StableHlo.launchContents m' c (Proc.devRef .tc Cert.Reference6Ideal.main_arg6) = m ((c.tc : Thread _ _).loc Cert.Kernel6Ideal.main_arg6) := h6
    refine (Cert.Reference6Ideal.Read.val_main_v208_eq _).trans ?_
    rw [e0, e1, e2, e5, e6]
    exact oddValues m c
  · obtain ⟨h0, h1, h2, h3, h4, h5, h6⟩ := hm c
    have e0 : StableHlo.launchContents m' c (Proc.devRef .tc Cert.Reference6Ideal.main_arg0) = m ((c.tc : Thread _ _).loc Cert.Kernel6Ideal.main_arg0) := h0
    have e1 : StableHlo.launchContents m' c (Proc.devRef .tc Cert.Reference6Ideal.main_arg1) = m ((c.tc : Thread _ _).loc Cert.Kernel6Ideal.main_arg1) := h1
    have e2 : StableHlo.launchContents m' c (Proc.devRef .tc Cert.Reference6Ideal.main_arg2) = m ((c.tc : Thread _ _).loc Cert.Kernel6Ideal.main_arg2) := h2
    refine (Cert.Reference6Ideal.Read.val_main_v210_eq _).trans ?_
    rw [e0, e1, e2]
    exact oddSlide m c

theorem referenceFrame : Cert.quiescent_ReferenceIdeal := fun m g _ =>
  (θ_run _ _ _).mono (fun r h => ⟨fun c => (h c).2, sem_eq_zero_of_no_sems (by decide) r.2⟩) (Cert.ReferenceIdeal.Value.run m g)

theorem referenceFrame2 : Cert.quiescent_Reference2Ideal := fun m g _ =>
  (θ_run _ _ _).mono (fun r h => ⟨fun c => (h c).2, sem_eq_zero_of_no_sems (by decide) r.2⟩) (Cert.Reference2Ideal.Value.run m g)

theorem referenceFrame3 : Cert.quiescent_Reference3Ideal := fun m g _ =>
  (θ_run _ _ _).mono (fun r h => ⟨fun c => (h c).2, sem_eq_zero_of_no_sems (by decide) r.2⟩) (Cert.Reference3Ideal.Value.run m g)

theorem referenceFrame4 : Cert.quiescent_Reference4Ideal := fun m g _ =>
  (θ_run _ _ _).mono (fun r h => ⟨fun c => (h c).2, sem_eq_zero_of_no_sems (by decide) r.2⟩) (Cert.Reference4Ideal.Value.run m g)

theorem referenceFrame5 : Cert.quiescent_Reference5Ideal := fun m g _ =>
  (θ_run _ _ _).mono (fun r h => ⟨fun c => (h c).2.2, sem_eq_zero_of_no_sems (by decide) r.2⟩) (Cert.Reference5Ideal.Value.run m g)

theorem referenceFrame6 : Cert.quiescent_Reference6Ideal := fun m g _ =>
  (θ_run _ _ _).mono (fun r h => ⟨fun c => (h c).2.2.2, sem_eq_zero_of_no_sems (by decide) r.2⟩) (Cert.Reference6Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ, fun m ρ _ => Cert.KernelIdeal.Gen.frame m ρ, referenceFrame,
  fun m ρ _ => Cert.Kernel2.Gen.frame m ρ, fun m ρ _ => Cert.Kernel2Ideal.Gen.frame m ρ, referenceFrame2,
  fun m ρ _ => Cert.Kernel3.Gen.frame m ρ, fun m ρ _ => Cert.Kernel3Ideal.Gen.frame m ρ, referenceFrame3,
  fun m ρ _ => Cert.Kernel4.Gen.frame m ρ, fun m ρ _ => Cert.Kernel4Ideal.Gen.frame m ρ, referenceFrame4,
  fun m ρ _ => Cert.Kernel5.Gen.frame m ρ, fun m ρ _ => Cert.Kernel5Ideal.Gen.frame m ρ, referenceFrame5,
  fun m ρ _ => Cert.Kernel6.Gen.frame m ρ, fun m ρ _ => Cert.Kernel6Ideal.Gen.frame m ρ, referenceFrame6,
  IdealRules.named_const.statement Cert.KernelIdeal.κ "mask" .f32 0xF149F2CA#32 ⊥ rfl, attention, trivial, lastFeedForward,
  trivial, plainFeedForward, trivial, mixFeedForward,
  IdealRules.named_const.statement Cert.Kernel5Ideal.κ "scale" .f32 0x3E38AA3B#32 (((Real.log 256)⁻¹ : ℝ) : EReal) rfl, evenProjections,
  ⟨IdealRules.named_const.statement Cert.Kernel6Ideal.κ "scale" .f32 0x3E38AA3B#32 (((Real.log 256)⁻¹ : ℝ) : EReal) rfl,
    IdealRules.named_const.statement Cert.Kernel6Ideal.κ "latent" .f32 0x3E16C740#32 (((Real.sqrt 96)⁻¹ * (Real.log 2)⁻¹ : ℝ) : EReal) rfl⟩,
  oddProjections⟩

end Cert.Proof

end
